-- ==== Defs.lean ====
def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_scores [hPre_finite_scores : Cert.Pre_finite_scores.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_scores.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).1 = (fun _ => 1#1)
    ∧ (Cert.Pre_finite_scores.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3)) (m ((c.tc : Thread Cert.AttnBIdeal.nD Cert.AttnBIdeal.τ).loc Cert.AttnBIdeal.main_arg4)) (m ((c.tc : Thread Cert.AttnBIdeal.nD Cert.AttnBIdeal.τ).loc Cert.AttnBIdeal.main_arg5)) (m ((c.tc : Thread Cert.AttnBIdeal.nD Cert.AttnBIdeal.τ).loc Cert.AttnBIdeal.main_arg6)) (m ((c.tc : Thread Cert.AttnBIdeal.nD Cert.AttnBIdeal.τ).loc Cert.AttnBIdeal.main_arg7))).2 = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_scores [hPre_finite_scores : Cert.Pre_finite_scores.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_scores.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).1 = (fun _ => 1#1)
    ∧ (Cert.Pre_finite_scores.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3)) (m ((c.tc : Thread Cert.AttnBRefIdeal.nD Cert.AttnBRefIdeal.τ).loc Cert.AttnBRefIdeal.main_arg4)) (m ((c.tc : Thread Cert.AttnBRefIdeal.nD Cert.AttnBRefIdeal.τ).loc Cert.AttnBRefIdeal.main_arg5)) (m ((c.tc : Thread Cert.AttnBRefIdeal.nD Cert.AttnBRefIdeal.τ).loc Cert.AttnBRefIdeal.main_arg6)) (m ((c.tc : Thread Cert.AttnBRefIdeal.nD Cert.AttnBRefIdeal.τ).loc Cert.AttnBRefIdeal.main_arg7))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_CtxB (m : (ℓ : Loc Cert.CtxB.nD Cert.CtxB.τ Cert.CtxB.sig) → Buf (Elt Bits) ℓ) : Prop :=
  True

def Pre_CtxBIdeal (m : (ℓ : Loc Cert.CtxBIdeal.nD Cert.CtxBIdeal.τ Cert.CtxBIdeal.sig) → Buf (Elt Ideal) ℓ) : Prop :=
  True

def Pre_CtxBRefIdeal (m : (ℓ : Loc Cert.CtxBRefIdeal.nD Cert.CtxBRefIdeal.τ Cert.CtxBRefIdeal.sig) → Buf (Elt Ideal) ℓ) : Prop :=
  True

def Pre_CtxA (m : (ℓ : Loc Cert.CtxA.nD Cert.CtxA.τ Cert.CtxA.sig) → Buf (Elt Bits) ℓ) : Prop :=
  True

def Pre_CtxAIdeal (m : (ℓ : Loc Cert.CtxAIdeal.nD Cert.CtxAIdeal.τ Cert.CtxAIdeal.sig) → Buf (Elt Ideal) ℓ) : Prop :=
  True

def Pre_CtxARefIdeal (m : (ℓ : Loc Cert.CtxARefIdeal.nD Cert.CtxARefIdeal.τ Cert.CtxARefIdeal.sig) → Buf (Elt Ideal) ℓ) : Prop :=
  True

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3)
      ∧ r.2.mem ((c.tc : Thread Cert.AttnB.nD Cert.AttnB.τ).loc Cert.AttnB.main_arg4) = m ((c.tc : Thread Cert.AttnB.nD Cert.AttnB.τ).loc Cert.AttnB.main_arg4)
      ∧ r.2.mem ((c.tc : Thread Cert.AttnB.nD Cert.AttnB.τ).loc Cert.AttnB.main_arg5) = m ((c.tc : Thread Cert.AttnB.nD Cert.AttnB.τ).loc Cert.AttnB.main_arg5)
      ∧ r.2.mem ((c.tc : Thread Cert.AttnB.nD Cert.AttnB.τ).loc Cert.AttnB.main_arg6) = m ((c.tc : Thread Cert.AttnB.nD Cert.AttnB.τ).loc Cert.AttnB.main_arg6)
      ∧ r.2.mem ((c.tc : Thread Cert.AttnB.nD Cert.AttnB.τ).loc Cert.AttnB.main_arg7) = m ((c.tc : Thread Cert.AttnB.nD Cert.AttnB.τ).loc Cert.AttnB.main_arg7))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
      ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
      ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ r.2.sem = fun _ => 0)

def quiescent_AttnBIdeal_pre_finite_scores [hAttnBIdeal : Cert.AttnBIdeal.Facts] [hPre_finite_scores : Cert.Pre_finite_scores.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_scores m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
      ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
      ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
      ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
      ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5)
      ∧ r.2.mem ((c.tc : Thread Cert.AttnBRefIdeal.nD Cert.AttnBRefIdeal.τ).loc Cert.AttnBRefIdeal.main_arg6) = m ((c.tc : Thread Cert.AttnBRefIdeal.nD Cert.AttnBRefIdeal.τ).loc Cert.AttnBRefIdeal.main_arg6)
      ∧ r.2.mem ((c.tc : Thread Cert.AttnBRefIdeal.nD Cert.AttnBRefIdeal.τ).loc Cert.AttnBRefIdeal.main_arg7) = m ((c.tc : Thread Cert.AttnBRefIdeal.nD Cert.AttnBRefIdeal.τ).loc Cert.AttnBRefIdeal.main_arg7))
      ∧ r.2.sem = fun _ => 0)

def quiescent_AttnBRefIdeal_pre_finite_scores [hAttnBRefIdeal : Cert.AttnBRefIdeal.Facts] [hPre_finite_scores : Cert.Pre_finite_scores.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_scores m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3)
      ∧ r.2.mem ((c.tc : Thread Cert.AttnBRefIdeal.nD Cert.AttnBRefIdeal.τ).loc Cert.AttnBRefIdeal.main_arg4) = m ((c.tc : Thread Cert.AttnBRefIdeal.nD Cert.AttnBRefIdeal.τ).loc Cert.AttnBRefIdeal.main_arg4)
      ∧ r.2.mem ((c.tc : Thread Cert.AttnBRefIdeal.nD Cert.AttnBRefIdeal.τ).loc Cert.AttnBRefIdeal.main_arg5) = m ((c.tc : Thread Cert.AttnBRefIdeal.nD Cert.AttnBRefIdeal.τ).loc Cert.AttnBRefIdeal.main_arg5)
      ∧ r.2.mem ((c.tc : Thread Cert.AttnBRefIdeal.nD Cert.AttnBRefIdeal.τ).loc Cert.AttnBRefIdeal.main_arg6) = m ((c.tc : Thread Cert.AttnBRefIdeal.nD Cert.AttnBRefIdeal.τ).loc Cert.AttnBRefIdeal.main_arg6)
      ∧ r.2.mem ((c.tc : Thread Cert.AttnBRefIdeal.nD Cert.AttnBRefIdeal.τ).loc Cert.AttnBRefIdeal.main_arg7) = m ((c.tc : Thread Cert.AttnBRefIdeal.nD Cert.AttnBRefIdeal.τ).loc Cert.AttnBRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4)
      ∧ r.2.mem ((c.tc : Thread Cert.ProjB.nD Cert.ProjB.τ).loc Cert.ProjB.main_arg5) = m ((c.tc : Thread Cert.ProjB.nD Cert.ProjB.τ).loc Cert.ProjB.main_arg5)
      ∧ r.2.mem ((c.tc : Thread Cert.ProjB.nD Cert.ProjB.τ).loc Cert.ProjB.main_arg6) = m ((c.tc : Thread Cert.ProjB.nD Cert.ProjB.τ).loc Cert.ProjB.main_arg6))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4)
      ∧ r.2.mem ((c.tc : Thread Cert.ProjBIdeal.nD Cert.ProjBIdeal.τ).loc Cert.ProjBIdeal.main_arg5) = m ((c.tc : Thread Cert.ProjBIdeal.nD Cert.ProjBIdeal.τ).loc Cert.ProjBIdeal.main_arg5)
      ∧ r.2.mem ((c.tc : Thread Cert.ProjBIdeal.nD Cert.ProjBIdeal.τ).loc Cert.ProjBIdeal.main_arg6) = m ((c.tc : Thread Cert.ProjBIdeal.nD Cert.ProjBIdeal.τ).loc Cert.ProjBIdeal.main_arg6))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3)
      ∧ r.2.mem ((c.tc : Thread Cert.ProjBRefIdeal.nD Cert.ProjBRefIdeal.τ).loc Cert.ProjBRefIdeal.main_arg4) = m ((c.tc : Thread Cert.ProjBRefIdeal.nD Cert.ProjBRefIdeal.τ).loc Cert.ProjBRefIdeal.main_arg4)
      ∧ r.2.mem ((c.tc : Thread Cert.ProjBRefIdeal.nD Cert.ProjBRefIdeal.τ).loc Cert.ProjBRefIdeal.main_arg5) = m ((c.tc : Thread Cert.ProjBRefIdeal.nD Cert.ProjBRefIdeal.τ).loc Cert.ProjBRefIdeal.main_arg5)
      ∧ r.2.mem ((c.tc : Thread Cert.ProjBRefIdeal.nD Cert.ProjBRefIdeal.τ).loc Cert.ProjBRefIdeal.main_arg6) = m ((c.tc : Thread Cert.ProjBRefIdeal.nD Cert.ProjBRefIdeal.τ).loc Cert.ProjBRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4)
      ∧ r.2.mem ((c.tc : Thread Cert.ProjA.nD Cert.ProjA.τ).loc Cert.ProjA.main_arg5) = m ((c.tc : Thread Cert.ProjA.nD Cert.ProjA.τ).loc Cert.ProjA.main_arg5)
      ∧ r.2.mem ((c.tc : Thread Cert.ProjA.nD Cert.ProjA.τ).loc Cert.ProjA.main_arg6) = m ((c.tc : Thread Cert.ProjA.nD Cert.ProjA.τ).loc Cert.ProjA.main_arg6))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
      ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5)
      ∧ r.2.mem ((c.tc : Thread Cert.ProjAIdeal.nD Cert.ProjAIdeal.τ).loc Cert.ProjAIdeal.main_arg6) = m ((c.tc : Thread Cert.ProjAIdeal.nD Cert.ProjAIdeal.τ).loc Cert.ProjAIdeal.main_arg6))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4)
      ∧ r.2.mem ((c.tc : Thread Cert.ProjARefIdeal.nD Cert.ProjARefIdeal.τ).loc Cert.ProjARefIdeal.main_arg5) = m ((c.tc : Thread Cert.ProjARefIdeal.nD Cert.ProjARefIdeal.τ).loc Cert.ProjARefIdeal.main_arg5)
      ∧ r.2.mem ((c.tc : Thread Cert.ProjARefIdeal.nD Cert.ProjARefIdeal.τ).loc Cert.ProjARefIdeal.main_arg6) = m ((c.tc : Thread Cert.ProjARefIdeal.nD Cert.ProjARefIdeal.τ).loc Cert.ProjARefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_CtxB [hCtxB : Cert.CtxB.Facts] : Prop :=
  ∀ (m : (ℓ : Loc Cert.CtxB.nD Cert.CtxB.τ Cert.CtxB.sig) → Buf (Elt Bits) ℓ) (g : Dev Cert.CtxB.nD → PrngReg), Pre_CtxB m →
    θ_run (Cert.CtxB.defs (F := Bits)) (onTc (τ := Cert.CtxB.τ) (Cert.CtxB.main (F := Bits))) ⟨m, fun _ => 0, g⟩ (fun r => (∀ c : Dev Cert.CtxB.nD,
      r.2.mem ((c.tc : Thread Cert.CtxB.nD Cert.CtxB.τ).loc Cert.CtxB.main_arg0) = m ((c.tc : Thread Cert.CtxB.nD Cert.CtxB.τ).loc Cert.CtxB.main_arg0)
      ∧ r.2.mem ((c.tc : Thread Cert.CtxB.nD Cert.CtxB.τ).loc Cert.CtxB.main_arg1) = m ((c.tc : Thread Cert.CtxB.nD Cert.CtxB.τ).loc Cert.CtxB.main_arg1)
      ∧ r.2.mem ((c.tc : Thread Cert.CtxB.nD Cert.CtxB.τ).loc Cert.CtxB.main_arg2) = m ((c.tc : Thread Cert.CtxB.nD Cert.CtxB.τ).loc Cert.CtxB.main_arg2)
      ∧ r.2.mem ((c.tc : Thread Cert.CtxB.nD Cert.CtxB.τ).loc Cert.CtxB.main_arg3) = m ((c.tc : Thread Cert.CtxB.nD Cert.CtxB.τ).loc Cert.CtxB.main_arg3)
      ∧ r.2.mem ((c.tc : Thread Cert.CtxB.nD Cert.CtxB.τ).loc Cert.CtxB.main_arg4) = m ((c.tc : Thread Cert.CtxB.nD Cert.CtxB.τ).loc Cert.CtxB.main_arg4)
      ∧ r.2.mem ((c.tc : Thread Cert.CtxB.nD Cert.CtxB.τ).loc Cert.CtxB.main_arg5) = m ((c.tc : Thread Cert.CtxB.nD Cert.CtxB.τ).loc Cert.CtxB.main_arg5)
      ∧ r.2.mem ((c.tc : Thread Cert.CtxB.nD Cert.CtxB.τ).loc Cert.CtxB.main_arg6) = m ((c.tc : Thread Cert.CtxB.nD Cert.CtxB.τ).loc Cert.CtxB.main_arg6))
      ∧ r.2.sem = fun _ => 0)

def quiescent_CtxBIdeal [hCtxBIdeal : Cert.CtxBIdeal.Facts] : Prop :=
  ∀ (m : (ℓ : Loc Cert.CtxBIdeal.nD Cert.CtxBIdeal.τ Cert.CtxBIdeal.sig) → Buf (Elt Ideal) ℓ) (g : Dev Cert.CtxBIdeal.nD → PrngReg), Pre_CtxBIdeal m →
    θ_run (Cert.CtxBIdeal.defs (F := Ideal)) (onTc (τ := Cert.CtxBIdeal.τ) (Cert.CtxBIdeal.main (F := Ideal))) ⟨m, fun _ => 0, g⟩ (fun r => (∀ c : Dev Cert.CtxBIdeal.nD,
      r.2.mem ((c.tc : Thread Cert.CtxBIdeal.nD Cert.CtxBIdeal.τ).loc Cert.CtxBIdeal.main_arg0) = m ((c.tc : Thread Cert.CtxBIdeal.nD Cert.CtxBIdeal.τ).loc Cert.CtxBIdeal.main_arg0)
      ∧ r.2.mem ((c.tc : Thread Cert.CtxBIdeal.nD Cert.CtxBIdeal.τ).loc Cert.CtxBIdeal.main_arg1) = m ((c.tc : Thread Cert.CtxBIdeal.nD Cert.CtxBIdeal.τ).loc Cert.CtxBIdeal.main_arg1)
      ∧ r.2.mem ((c.tc : Thread Cert.CtxBIdeal.nD Cert.CtxBIdeal.τ).loc Cert.CtxBIdeal.main_arg2) = m ((c.tc : Thread Cert.CtxBIdeal.nD Cert.CtxBIdeal.τ).loc Cert.CtxBIdeal.main_arg2)
      ∧ r.2.mem ((c.tc : Thread Cert.CtxBIdeal.nD Cert.CtxBIdeal.τ).loc Cert.CtxBIdeal.main_arg3) = m ((c.tc : Thread Cert.CtxBIdeal.nD Cert.CtxBIdeal.τ).loc Cert.CtxBIdeal.main_arg3)
      ∧ r.2.mem ((c.tc : Thread Cert.CtxBIdeal.nD Cert.CtxBIdeal.τ).loc Cert.CtxBIdeal.main_arg4) = m ((c.tc : Thread Cert.CtxBIdeal.nD Cert.CtxBIdeal.τ).loc Cert.CtxBIdeal.main_arg4)
      ∧ r.2.mem ((c.tc : Thread Cert.CtxBIdeal.nD Cert.CtxBIdeal.τ).loc Cert.CtxBIdeal.main_arg5) = m ((c.tc : Thread Cert.CtxBIdeal.nD Cert.CtxBIdeal.τ).loc Cert.CtxBIdeal.main_arg5)
      ∧ r.2.mem ((c.tc : Thread Cert.CtxBIdeal.nD Cert.CtxBIdeal.τ).loc Cert.CtxBIdeal.main_arg6) = m ((c.tc : Thread Cert.CtxBIdeal.nD Cert.CtxBIdeal.τ).loc Cert.CtxBIdeal.main_arg6))
      ∧ r.2.sem = fun _ => 0)

def quiescent_CtxBRefIdeal [hCtxBRefIdeal : Cert.CtxBRefIdeal.Facts] : Prop :=
  ∀ (m : (ℓ : Loc Cert.CtxBRefIdeal.nD Cert.CtxBRefIdeal.τ Cert.CtxBRefIdeal.sig) → Buf (Elt Ideal) ℓ) (g : Dev Cert.CtxBRefIdeal.nD → PrngReg), Pre_CtxBRefIdeal m →
    θ_run (Cert.CtxBRefIdeal.defs (F := Ideal)) (onTc (τ := Cert.CtxBRefIdeal.τ) (Cert.CtxBRefIdeal.main (F := Ideal))) ⟨m, fun _ => 0, g⟩ (fun r => (∀ c : Dev Cert.CtxBRefIdeal.nD,
      r.2.mem ((c.tc : Thread Cert.CtxBRefIdeal.nD Cert.CtxBRefIdeal.τ).loc Cert.CtxBRefIdeal.main_arg0) = m ((c.tc : Thread Cert.CtxBRefIdeal.nD Cert.CtxBRefIdeal.τ).loc Cert.CtxBRefIdeal.main_arg0)
      ∧ r.2.mem ((c.tc : Thread Cert.CtxBRefIdeal.nD Cert.CtxBRefIdeal.τ).loc Cert.CtxBRefIdeal.main_arg1) = m ((c.tc : Thread Cert.CtxBRefIdeal.nD Cert.CtxBRefIdeal.τ).loc Cert.CtxBRefIdeal.main_arg1)
      ∧ r.2.mem ((c.tc : Thread Cert.CtxBRefIdeal.nD Cert.CtxBRefIdeal.τ).loc Cert.CtxBRefIdeal.main_arg2) = m ((c.tc : Thread Cert.CtxBRefIdeal.nD Cert.CtxBRefIdeal.τ).loc Cert.CtxBRefIdeal.main_arg2)
      ∧ r.2.mem ((c.tc : Thread Cert.CtxBRefIdeal.nD Cert.CtxBRefIdeal.τ).loc Cert.CtxBRefIdeal.main_arg3) = m ((c.tc : Thread Cert.CtxBRefIdeal.nD Cert.CtxBRefIdeal.τ).loc Cert.CtxBRefIdeal.main_arg3)
      ∧ r.2.mem ((c.tc : Thread Cert.CtxBRefIdeal.nD Cert.CtxBRefIdeal.τ).loc Cert.CtxBRefIdeal.main_arg4) = m ((c.tc : Thread Cert.CtxBRefIdeal.nD Cert.CtxBRefIdeal.τ).loc Cert.CtxBRefIdeal.main_arg4)
      ∧ r.2.mem ((c.tc : Thread Cert.CtxBRefIdeal.nD Cert.CtxBRefIdeal.τ).loc Cert.CtxBRefIdeal.main_arg5) = m ((c.tc : Thread Cert.CtxBRefIdeal.nD Cert.CtxBRefIdeal.τ).loc Cert.CtxBRefIdeal.main_arg5)
      ∧ r.2.mem ((c.tc : Thread Cert.CtxBRefIdeal.nD Cert.CtxBRefIdeal.τ).loc Cert.CtxBRefIdeal.main_arg6) = m ((c.tc : Thread Cert.CtxBRefIdeal.nD Cert.CtxBRefIdeal.τ).loc Cert.CtxBRefIdeal.main_arg6))
      ∧ r.2.sem = fun _ => 0)

def quiescent_CtxA [hCtxA : Cert.CtxA.Facts] : Prop :=
  ∀ (m : (ℓ : Loc Cert.CtxA.nD Cert.CtxA.τ Cert.CtxA.sig) → Buf (Elt Bits) ℓ) (g : Dev Cert.CtxA.nD → PrngReg), Pre_CtxA m →
    θ_run (Cert.CtxA.defs (F := Bits)) (onTc (τ := Cert.CtxA.τ) (Cert.CtxA.main (F := Bits))) ⟨m, fun _ => 0, g⟩ (fun r => (∀ c : Dev Cert.CtxA.nD,
      r.2.mem ((c.tc : Thread Cert.CtxA.nD Cert.CtxA.τ).loc Cert.CtxA.main_arg0) = m ((c.tc : Thread Cert.CtxA.nD Cert.CtxA.τ).loc Cert.CtxA.main_arg0)
      ∧ r.2.mem ((c.tc : Thread Cert.CtxA.nD Cert.CtxA.τ).loc Cert.CtxA.main_arg1) = m ((c.tc : Thread Cert.CtxA.nD Cert.CtxA.τ).loc Cert.CtxA.main_arg1)
      ∧ r.2.mem ((c.tc : Thread Cert.CtxA.nD Cert.CtxA.τ).loc Cert.CtxA.main_arg2) = m ((c.tc : Thread Cert.CtxA.nD Cert.CtxA.τ).loc Cert.CtxA.main_arg2)
      ∧ r.2.mem ((c.tc : Thread Cert.CtxA.nD Cert.CtxA.τ).loc Cert.CtxA.main_arg3) = m ((c.tc : Thread Cert.CtxA.nD Cert.CtxA.τ).loc Cert.CtxA.main_arg3)
      ∧ r.2.mem ((c.tc : Thread Cert.CtxA.nD Cert.CtxA.τ).loc Cert.CtxA.main_arg4) = m ((c.tc : Thread Cert.CtxA.nD Cert.CtxA.τ).loc Cert.CtxA.main_arg4)
      ∧ r.2.mem ((c.tc : Thread Cert.CtxA.nD Cert.CtxA.τ).loc Cert.CtxA.main_arg5) = m ((c.tc : Thread Cert.CtxA.nD Cert.CtxA.τ).loc Cert.CtxA.main_arg5)
      ∧ r.2.mem ((c.tc : Thread Cert.CtxA.nD Cert.CtxA.τ).loc Cert.CtxA.main_arg6) = m ((c.tc : Thread Cert.CtxA.nD Cert.CtxA.τ).loc Cert.CtxA.main_arg6))
      ∧ r.2.sem = fun _ => 0)

def quiescent_CtxAIdeal [hCtxAIdeal : Cert.CtxAIdeal.Facts] : Prop :=
  ∀ (m : (ℓ : Loc Cert.CtxAIdeal.nD Cert.CtxAIdeal.τ Cert.CtxAIdeal.sig) → Buf (Elt Ideal) ℓ) (g : Dev Cert.CtxAIdeal.nD → PrngReg), Pre_CtxAIdeal m →
    θ_run (Cert.CtxAIdeal.defs (F := Ideal)) (onTc (τ := Cert.CtxAIdeal.τ) (Cert.CtxAIdeal.main (F := Ideal))) ⟨m, fun _ => 0, g⟩ (fun r => (∀ c : Dev Cert.CtxAIdeal.nD,
      r.2.mem ((c.tc : Thread Cert.CtxAIdeal.nD Cert.CtxAIdeal.τ).loc Cert.CtxAIdeal.main_arg0) = m ((c.tc : Thread Cert.CtxAIdeal.nD Cert.CtxAIdeal.τ).loc Cert.CtxAIdeal.main_arg0)
      ∧ r.2.mem ((c.tc : Thread Cert.CtxAIdeal.nD Cert.CtxAIdeal.τ).loc Cert.CtxAIdeal.main_arg1) = m ((c.tc : Thread Cert.CtxAIdeal.nD Cert.CtxAIdeal.τ).loc Cert.CtxAIdeal.main_arg1)
      ∧ r.2.mem ((c.tc : Thread Cert.CtxAIdeal.nD Cert.CtxAIdeal.τ).loc Cert.CtxAIdeal.main_arg2) = m ((c.tc : Thread Cert.CtxAIdeal.nD Cert.CtxAIdeal.τ).loc Cert.CtxAIdeal.main_arg2)
      ∧ r.2.mem ((c.tc : Thread Cert.CtxAIdeal.nD Cert.CtxAIdeal.τ).loc Cert.CtxAIdeal.main_arg3) = m ((c.tc : Thread Cert.CtxAIdeal.nD Cert.CtxAIdeal.τ).loc Cert.CtxAIdeal.main_arg3)
      ∧ r.2.mem ((c.tc : Thread Cert.CtxAIdeal.nD Cert.CtxAIdeal.τ).loc Cert.CtxAIdeal.main_arg4) = m ((c.tc : Thread Cert.CtxAIdeal.nD Cert.CtxAIdeal.τ).loc Cert.CtxAIdeal.main_arg4)
      ∧ r.2.mem ((c.tc : Thread Cert.CtxAIdeal.nD Cert.CtxAIdeal.τ).loc Cert.CtxAIdeal.main_arg5) = m ((c.tc : Thread Cert.CtxAIdeal.nD Cert.CtxAIdeal.τ).loc Cert.CtxAIdeal.main_arg5)
      ∧ r.2.mem ((c.tc : Thread Cert.CtxAIdeal.nD Cert.CtxAIdeal.τ).loc Cert.CtxAIdeal.main_arg6) = m ((c.tc : Thread Cert.CtxAIdeal.nD Cert.CtxAIdeal.τ).loc Cert.CtxAIdeal.main_arg6))
      ∧ r.2.sem = fun _ => 0)

def quiescent_CtxARefIdeal [hCtxARefIdeal : Cert.CtxARefIdeal.Facts] : Prop :=
  ∀ (m : (ℓ : Loc Cert.CtxARefIdeal.nD Cert.CtxARefIdeal.τ Cert.CtxARefIdeal.sig) → Buf (Elt Ideal) ℓ) (g : Dev Cert.CtxARefIdeal.nD → PrngReg), Pre_CtxARefIdeal m →
    θ_run (Cert.CtxARefIdeal.defs (F := Ideal)) (onTc (τ := Cert.CtxARefIdeal.τ) (Cert.CtxARefIdeal.main (F := Ideal))) ⟨m, fun _ => 0, g⟩ (fun r => (∀ c : Dev Cert.CtxARefIdeal.nD,
      r.2.mem ((c.tc : Thread Cert.CtxARefIdeal.nD Cert.CtxARefIdeal.τ).loc Cert.CtxARefIdeal.main_arg0) = m ((c.tc : Thread Cert.CtxARefIdeal.nD Cert.CtxARefIdeal.τ).loc Cert.CtxARefIdeal.main_arg0)
      ∧ r.2.mem ((c.tc : Thread Cert.CtxARefIdeal.nD Cert.CtxARefIdeal.τ).loc Cert.CtxARefIdeal.main_arg1) = m ((c.tc : Thread Cert.CtxARefIdeal.nD Cert.CtxARefIdeal.τ).loc Cert.CtxARefIdeal.main_arg1)
      ∧ r.2.mem ((c.tc : Thread Cert.CtxARefIdeal.nD Cert.CtxARefIdeal.τ).loc Cert.CtxARefIdeal.main_arg2) = m ((c.tc : Thread Cert.CtxARefIdeal.nD Cert.CtxARefIdeal.τ).loc Cert.CtxARefIdeal.main_arg2)
      ∧ r.2.mem ((c.tc : Thread Cert.CtxARefIdeal.nD Cert.CtxARefIdeal.τ).loc Cert.CtxARefIdeal.main_arg3) = m ((c.tc : Thread Cert.CtxARefIdeal.nD Cert.CtxARefIdeal.τ).loc Cert.CtxARefIdeal.main_arg3)
      ∧ r.2.mem ((c.tc : Thread Cert.CtxARefIdeal.nD Cert.CtxARefIdeal.τ).loc Cert.CtxARefIdeal.main_arg4) = m ((c.tc : Thread Cert.CtxARefIdeal.nD Cert.CtxARefIdeal.τ).loc Cert.CtxARefIdeal.main_arg4)
      ∧ r.2.mem ((c.tc : Thread Cert.CtxARefIdeal.nD Cert.CtxARefIdeal.τ).loc Cert.CtxARefIdeal.main_arg5) = m ((c.tc : Thread Cert.CtxARefIdeal.nD Cert.CtxARefIdeal.τ).loc Cert.CtxARefIdeal.main_arg5)
      ∧ r.2.mem ((c.tc : Thread Cert.CtxARefIdeal.nD Cert.CtxARefIdeal.τ).loc Cert.CtxARefIdeal.main_arg6) = m ((c.tc : Thread Cert.CtxARefIdeal.nD Cert.CtxARefIdeal.τ).loc Cert.CtxARefIdeal.main_arg6))
      ∧ r.2.sem = fun _ => 0)

def preserves_AttnB_AttnBIdeal : Prop :=
  True

def algebraic_AttnBIdeal_AttnBRefIdeal_pre_finite_scores [hAttnBIdeal : Cert.AttnBIdeal.Facts] [hAttnBRefIdeal : Cert.AttnBRefIdeal.Facts] [hPre_finite_scores : Cert.Pre_finite_scores.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_scores m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)
      ∧ m' ((c.tc : Thread Cert.AttnBRefIdeal.nD Cert.AttnBRefIdeal.τ).loc Cert.AttnBRefIdeal.main_arg4) = m ((c.tc : Thread Cert.AttnBIdeal.nD Cert.AttnBIdeal.τ).loc Cert.AttnBIdeal.main_arg4)
      ∧ m' ((c.tc : Thread Cert.AttnBRefIdeal.nD Cert.AttnBRefIdeal.τ).loc Cert.AttnBRefIdeal.main_arg5) = m ((c.tc : Thread Cert.AttnBIdeal.nD Cert.AttnBIdeal.τ).loc Cert.AttnBIdeal.main_arg5)
      ∧ m' ((c.tc : Thread Cert.AttnBRefIdeal.nD Cert.AttnBRefIdeal.τ).loc Cert.AttnBRefIdeal.main_arg6) = m ((c.tc : Thread Cert.AttnBIdeal.nD Cert.AttnBIdeal.τ).loc Cert.AttnBIdeal.main_arg6)
      ∧ m' ((c.tc : Thread Cert.AttnBRefIdeal.nD Cert.AttnBRefIdeal.τ).loc Cert.AttnBRefIdeal.main_arg7) = m ((c.tc : Thread Cert.AttnBIdeal.nD Cert.AttnBIdeal.τ).loc Cert.AttnBIdeal.main_arg7)) →
    ∃ (v0 : (c : Dev Cert.AttnBIdeal.nD) → Buf (Elt Ideal) ((c.tc : Thread Cert.AttnBIdeal.nD Cert.AttnBIdeal.τ).loc Cert.AttnBIdeal.main_v14)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v14) = v0 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3)
          ∧ r.2.mem ((c.tc : Thread Cert.AttnBIdeal.nD Cert.AttnBIdeal.τ).loc Cert.AttnBIdeal.main_arg4) = m ((c.tc : Thread Cert.AttnBIdeal.nD Cert.AttnBIdeal.τ).loc Cert.AttnBIdeal.main_arg4)
          ∧ r.2.mem ((c.tc : Thread Cert.AttnBIdeal.nD Cert.AttnBIdeal.τ).loc Cert.AttnBIdeal.main_arg5) = m ((c.tc : Thread Cert.AttnBIdeal.nD Cert.AttnBIdeal.τ).loc Cert.AttnBIdeal.main_arg5)
          ∧ r.2.mem ((c.tc : Thread Cert.AttnBIdeal.nD Cert.AttnBIdeal.τ).loc Cert.AttnBIdeal.main_arg6) = m ((c.tc : Thread Cert.AttnBIdeal.nD Cert.AttnBIdeal.τ).loc Cert.AttnBIdeal.main_arg6)
          ∧ r.2.mem ((c.tc : Thread Cert.AttnBIdeal.nD Cert.AttnBIdeal.τ).loc Cert.AttnBIdeal.main_arg7) = m ((c.tc : Thread Cert.AttnBIdeal.nD Cert.AttnBIdeal.τ).loc Cert.AttnBIdeal.main_arg7))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v55) = v0 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3)
          ∧ r.2.mem ((c.tc : Thread Cert.AttnBRefIdeal.nD Cert.AttnBRefIdeal.τ).loc Cert.AttnBRefIdeal.main_arg4) = m' ((c.tc : Thread Cert.AttnBRefIdeal.nD Cert.AttnBRefIdeal.τ).loc Cert.AttnBRefIdeal.main_arg4)
          ∧ r.2.mem ((c.tc : Thread Cert.AttnBRefIdeal.nD Cert.AttnBRefIdeal.τ).loc Cert.AttnBRefIdeal.main_arg5) = m' ((c.tc : Thread Cert.AttnBRefIdeal.nD Cert.AttnBRefIdeal.τ).loc Cert.AttnBRefIdeal.main_arg5)
          ∧ r.2.mem ((c.tc : Thread Cert.AttnBRefIdeal.nD Cert.AttnBRefIdeal.τ).loc Cert.AttnBRefIdeal.main_arg6) = m' ((c.tc : Thread Cert.AttnBRefIdeal.nD Cert.AttnBRefIdeal.τ).loc Cert.AttnBRefIdeal.main_arg6)
          ∧ r.2.mem ((c.tc : Thread Cert.AttnBRefIdeal.nD Cert.AttnBRefIdeal.τ).loc Cert.AttnBRefIdeal.main_arg7) = m' ((c.tc : Thread Cert.AttnBRefIdeal.nD Cert.AttnBRefIdeal.τ).loc Cert.AttnBRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)
      ∧ m' ((c.tc : Thread Cert.ProjBRefIdeal.nD Cert.ProjBRefIdeal.τ).loc Cert.ProjBRefIdeal.main_arg3) = m ((c.tc : Thread Cert.ProjBIdeal.nD Cert.ProjBIdeal.τ).loc Cert.ProjBIdeal.main_arg3)
      ∧ m' ((c.tc : Thread Cert.ProjBRefIdeal.nD Cert.ProjBRefIdeal.τ).loc Cert.ProjBRefIdeal.main_arg4) = m ((c.tc : Thread Cert.ProjBIdeal.nD Cert.ProjBIdeal.τ).loc Cert.ProjBIdeal.main_arg4)
      ∧ m' ((c.tc : Thread Cert.ProjBRefIdeal.nD Cert.ProjBRefIdeal.τ).loc Cert.ProjBRefIdeal.main_arg5) = m ((c.tc : Thread Cert.ProjBIdeal.nD Cert.ProjBIdeal.τ).loc Cert.ProjBIdeal.main_arg5)
      ∧ m' ((c.tc : Thread Cert.ProjBRefIdeal.nD Cert.ProjBRefIdeal.τ).loc Cert.ProjBRefIdeal.main_arg6) = m ((c.tc : Thread Cert.ProjBIdeal.nD Cert.ProjBIdeal.τ).loc Cert.ProjBIdeal.main_arg6)) →
    ∃ (v0 : (c : Dev Cert.ProjBIdeal.nD) → Buf (Elt Ideal) ((c.tc : Thread Cert.ProjBIdeal.nD Cert.ProjBIdeal.τ).loc Cert.ProjBIdeal.main_v55)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v55) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4)
          ∧ r.2.mem ((c.tc : Thread Cert.ProjBIdeal.nD Cert.ProjBIdeal.τ).loc Cert.ProjBIdeal.main_arg5) = m ((c.tc : Thread Cert.ProjBIdeal.nD Cert.ProjBIdeal.τ).loc Cert.ProjBIdeal.main_arg5)
          ∧ r.2.mem ((c.tc : Thread Cert.ProjBIdeal.nD Cert.ProjBIdeal.τ).loc Cert.ProjBIdeal.main_arg6) = m ((c.tc : Thread Cert.ProjBIdeal.nD Cert.ProjBIdeal.τ).loc Cert.ProjBIdeal.main_arg6))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v163) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2)
          ∧ r.2.mem ((c.tc : Thread Cert.ProjBRefIdeal.nD Cert.ProjBRefIdeal.τ).loc Cert.ProjBRefIdeal.main_arg3) = m' ((c.tc : Thread Cert.ProjBRefIdeal.nD Cert.ProjBRefIdeal.τ).loc Cert.ProjBRefIdeal.main_arg3)
          ∧ r.2.mem ((c.tc : Thread Cert.ProjBRefIdeal.nD Cert.ProjBRefIdeal.τ).loc Cert.ProjBRefIdeal.main_arg4) = m' ((c.tc : Thread Cert.ProjBRefIdeal.nD Cert.ProjBRefIdeal.τ).loc Cert.ProjBRefIdeal.main_arg4)
          ∧ r.2.mem ((c.tc : Thread Cert.ProjBRefIdeal.nD Cert.ProjBRefIdeal.τ).loc Cert.ProjBRefIdeal.main_arg5) = m' ((c.tc : Thread Cert.ProjBRefIdeal.nD Cert.ProjBRefIdeal.τ).loc Cert.ProjBRefIdeal.main_arg5)
          ∧ r.2.mem ((c.tc : Thread Cert.ProjBRefIdeal.nD Cert.ProjBRefIdeal.τ).loc Cert.ProjBRefIdeal.main_arg6) = m' ((c.tc : Thread Cert.ProjBRefIdeal.nD Cert.ProjBRefIdeal.τ).loc Cert.ProjBRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)
      ∧ m' ((c.tc : Thread Cert.ProjARefIdeal.nD Cert.ProjARefIdeal.τ).loc Cert.ProjARefIdeal.main_arg5) = m ((c.tc : Thread Cert.ProjAIdeal.nD Cert.ProjAIdeal.τ).loc Cert.ProjAIdeal.main_arg5)
      ∧ m' ((c.tc : Thread Cert.ProjARefIdeal.nD Cert.ProjARefIdeal.τ).loc Cert.ProjARefIdeal.main_arg6) = m ((c.tc : Thread Cert.ProjAIdeal.nD Cert.ProjAIdeal.τ).loc Cert.ProjAIdeal.main_arg6)) →
    ∃ (v0 : (c : Dev Cert.ProjAIdeal.nD) → Buf (Elt Ideal) ((c.tc : Thread Cert.ProjAIdeal.nD Cert.ProjAIdeal.τ).loc Cert.ProjAIdeal.main_v55)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v55) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4)
          ∧ r.2.mem ((c.tc : Thread Cert.ProjAIdeal.nD Cert.ProjAIdeal.τ).loc Cert.ProjAIdeal.main_arg5) = m ((c.tc : Thread Cert.ProjAIdeal.nD Cert.ProjAIdeal.τ).loc Cert.ProjAIdeal.main_arg5)
          ∧ r.2.mem ((c.tc : Thread Cert.ProjAIdeal.nD Cert.ProjAIdeal.τ).loc Cert.ProjAIdeal.main_arg6) = m ((c.tc : Thread Cert.ProjAIdeal.nD Cert.ProjAIdeal.τ).loc Cert.ProjAIdeal.main_arg6))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v163) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4)
          ∧ r.2.mem ((c.tc : Thread Cert.ProjARefIdeal.nD Cert.ProjARefIdeal.τ).loc Cert.ProjARefIdeal.main_arg5) = m' ((c.tc : Thread Cert.ProjARefIdeal.nD Cert.ProjARefIdeal.τ).loc Cert.ProjARefIdeal.main_arg5)
          ∧ r.2.mem ((c.tc : Thread Cert.ProjARefIdeal.nD Cert.ProjARefIdeal.τ).loc Cert.ProjARefIdeal.main_arg6) = m' ((c.tc : Thread Cert.ProjARefIdeal.nD Cert.ProjARefIdeal.τ).loc Cert.ProjARefIdeal.main_arg6))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_CtxB_CtxBIdeal : Prop :=
  True

def algebraic_CtxBIdeal_CtxBRefIdeal [hCtxBIdeal : Cert.CtxBIdeal.Facts] [hCtxBRefIdeal : Cert.CtxBRefIdeal.Facts] : Prop :=
  ∀ (m : (ℓ : Loc Cert.CtxBIdeal.nD Cert.CtxBIdeal.τ Cert.CtxBIdeal.sig) → Buf (Elt Ideal) ℓ) (g : Dev Cert.CtxBIdeal.nD → PrngReg)
    (m' : (ℓ : Loc Cert.CtxBRefIdeal.nD Cert.CtxBRefIdeal.τ Cert.CtxBRefIdeal.sig) → Buf (Elt Ideal) ℓ) (g' : Dev Cert.CtxBRefIdeal.nD → PrngReg), Pre_CtxBIdeal m →
    (∀ c : Dev Cert.CtxBIdeal.nD,
      m' ((c.tc : Thread Cert.CtxBRefIdeal.nD Cert.CtxBRefIdeal.τ).loc Cert.CtxBRefIdeal.main_arg0) = m ((c.tc : Thread Cert.CtxBIdeal.nD Cert.CtxBIdeal.τ).loc Cert.CtxBIdeal.main_arg0)
      ∧ m' ((c.tc : Thread Cert.CtxBRefIdeal.nD Cert.CtxBRefIdeal.τ).loc Cert.CtxBRefIdeal.main_arg1) = m ((c.tc : Thread Cert.CtxBIdeal.nD Cert.CtxBIdeal.τ).loc Cert.CtxBIdeal.main_arg1)
      ∧ m' ((c.tc : Thread Cert.CtxBRefIdeal.nD Cert.CtxBRefIdeal.τ).loc Cert.CtxBRefIdeal.main_arg2) = m ((c.tc : Thread Cert.CtxBIdeal.nD Cert.CtxBIdeal.τ).loc Cert.CtxBIdeal.main_arg2)
      ∧ m' ((c.tc : Thread Cert.CtxBRefIdeal.nD Cert.CtxBRefIdeal.τ).loc Cert.CtxBRefIdeal.main_arg3) = m ((c.tc : Thread Cert.CtxBIdeal.nD Cert.CtxBIdeal.τ).loc Cert.CtxBIdeal.main_arg3)
      ∧ m' ((c.tc : Thread Cert.CtxBRefIdeal.nD Cert.CtxBRefIdeal.τ).loc Cert.CtxBRefIdeal.main_arg4) = m ((c.tc : Thread Cert.CtxBIdeal.nD Cert.CtxBIdeal.τ).loc Cert.CtxBIdeal.main_arg4)
      ∧ m' ((c.tc : Thread Cert.CtxBRefIdeal.nD Cert.CtxBRefIdeal.τ).loc Cert.CtxBRefIdeal.main_arg5) = m ((c.tc : Thread Cert.CtxBIdeal.nD Cert.CtxBIdeal.τ).loc Cert.CtxBIdeal.main_arg5)
      ∧ m' ((c.tc : Thread Cert.CtxBRefIdeal.nD Cert.CtxBRefIdeal.τ).loc Cert.CtxBRefIdeal.main_arg6) = m ((c.tc : Thread Cert.CtxBIdeal.nD Cert.CtxBIdeal.τ).loc Cert.CtxBIdeal.main_arg6)) →
    ∃ (v0 : (c : Dev Cert.CtxBIdeal.nD) → Buf (Elt Ideal) ((c.tc : Thread Cert.CtxBIdeal.nD Cert.CtxBIdeal.τ).loc Cert.CtxBIdeal.main_v16)),
      θ_run (Cert.CtxBIdeal.defs (F := Ideal)) (onTc (τ := Cert.CtxBIdeal.τ) (Cert.CtxBIdeal.main (F := Ideal))) ⟨m, fun _ => 0, g⟩ (fun r => ∀ c : Dev Cert.CtxBIdeal.nD,
          r.2.mem ((c.tc : Thread Cert.CtxBIdeal.nD Cert.CtxBIdeal.τ).loc Cert.CtxBIdeal.main_v16) = v0 c
          ∧ r.2.mem ((c.tc : Thread Cert.CtxBIdeal.nD Cert.CtxBIdeal.τ).loc Cert.CtxBIdeal.main_arg0) = m ((c.tc : Thread Cert.CtxBIdeal.nD Cert.CtxBIdeal.τ).loc Cert.CtxBIdeal.main_arg0)
          ∧ r.2.mem ((c.tc : Thread Cert.CtxBIdeal.nD Cert.CtxBIdeal.τ).loc Cert.CtxBIdeal.main_arg1) = m ((c.tc : Thread Cert.CtxBIdeal.nD Cert.CtxBIdeal.τ).loc Cert.CtxBIdeal.main_arg1)
          ∧ r.2.mem ((c.tc : Thread Cert.CtxBIdeal.nD Cert.CtxBIdeal.τ).loc Cert.CtxBIdeal.main_arg2) = m ((c.tc : Thread Cert.CtxBIdeal.nD Cert.CtxBIdeal.τ).loc Cert.CtxBIdeal.main_arg2)
          ∧ r.2.mem ((c.tc : Thread Cert.CtxBIdeal.nD Cert.CtxBIdeal.τ).loc Cert.CtxBIdeal.main_arg3) = m ((c.tc : Thread Cert.CtxBIdeal.nD Cert.CtxBIdeal.τ).loc Cert.CtxBIdeal.main_arg3)
          ∧ r.2.mem ((c.tc : Thread Cert.CtxBIdeal.nD Cert.CtxBIdeal.τ).loc Cert.CtxBIdeal.main_arg4) = m ((c.tc : Thread Cert.CtxBIdeal.nD Cert.CtxBIdeal.τ).loc Cert.CtxBIdeal.main_arg4)
          ∧ r.2.mem ((c.tc : Thread Cert.CtxBIdeal.nD Cert.CtxBIdeal.τ).loc Cert.CtxBIdeal.main_arg5) = m ((c.tc : Thread Cert.CtxBIdeal.nD Cert.CtxBIdeal.τ).loc Cert.CtxBIdeal.main_arg5)
          ∧ r.2.mem ((c.tc : Thread Cert.CtxBIdeal.nD Cert.CtxBIdeal.τ).loc Cert.CtxBIdeal.main_arg6) = m ((c.tc : Thread Cert.CtxBIdeal.nD Cert.CtxBIdeal.τ).loc Cert.CtxBIdeal.main_arg6))
      ∧ θ_run (Cert.CtxBRefIdeal.defs (F := Ideal)) (onTc (τ := Cert.CtxBRefIdeal.τ) (Cert.CtxBRefIdeal.main (F := Ideal))) ⟨m', fun _ => 0, g'⟩ (fun r => ∀ c : Dev Cert.CtxBRefIdeal.nD,
          r.2.mem ((c.tc : Thread Cert.CtxBRefIdeal.nD Cert.CtxBRefIdeal.τ).loc Cert.CtxBRefIdeal.main_v58) = v0 c
          ∧ r.2.mem ((c.tc : Thread Cert.CtxBRefIdeal.nD Cert.CtxBRefIdeal.τ).loc Cert.CtxBRefIdeal.main_arg0) = m' ((c.tc : Thread Cert.CtxBRefIdeal.nD Cert.CtxBRefIdeal.τ).loc Cert.CtxBRefIdeal.main_arg0)
          ∧ r.2.mem ((c.tc : Thread Cert.CtxBRefIdeal.nD Cert.CtxBRefIdeal.τ).loc Cert.CtxBRefIdeal.main_arg1) = m' ((c.tc : Thread Cert.CtxBRefIdeal.nD Cert.CtxBRefIdeal.τ).loc Cert.CtxBRefIdeal.main_arg1)
          ∧ r.2.mem ((c.tc : Thread Cert.CtxBRefIdeal.nD Cert.CtxBRefIdeal.τ).loc Cert.CtxBRefIdeal.main_arg2) = m' ((c.tc : Thread Cert.CtxBRefIdeal.nD Cert.CtxBRefIdeal.τ).loc Cert.CtxBRefIdeal.main_arg2)
          ∧ r.2.mem ((c.tc : Thread Cert.CtxBRefIdeal.nD Cert.CtxBRefIdeal.τ).loc Cert.CtxBRefIdeal.main_arg3) = m' ((c.tc : Thread Cert.CtxBRefIdeal.nD Cert.CtxBRefIdeal.τ).loc Cert.CtxBRefIdeal.main_arg3)
          ∧ r.2.mem ((c.tc : Thread Cert.CtxBRefIdeal.nD Cert.CtxBRefIdeal.τ).loc Cert.CtxBRefIdeal.main_arg4) = m' ((c.tc : Thread Cert.CtxBRefIdeal.nD Cert.CtxBRefIdeal.τ).loc Cert.CtxBRefIdeal.main_arg4)
          ∧ r.2.mem ((c.tc : Thread Cert.CtxBRefIdeal.nD Cert.CtxBRefIdeal.τ).loc Cert.CtxBRefIdeal.main_arg5) = m' ((c.tc : Thread Cert.CtxBRefIdeal.nD Cert.CtxBRefIdeal.τ).loc Cert.CtxBRefIdeal.main_arg5)
          ∧ r.2.mem ((c.tc : Thread Cert.CtxBRefIdeal.nD Cert.CtxBRefIdeal.τ).loc Cert.CtxBRefIdeal.main_arg6) = m' ((c.tc : Thread Cert.CtxBRefIdeal.nD Cert.CtxBRefIdeal.τ).loc Cert.CtxBRefIdeal.main_arg6))

def preserves_CtxA_CtxAIdeal : Prop :=
  True

def algebraic_CtxAIdeal_CtxARefIdeal [hCtxAIdeal : Cert.CtxAIdeal.Facts] [hCtxARefIdeal : Cert.CtxARefIdeal.Facts] : Prop :=
  ∀ (m : (ℓ : Loc Cert.CtxAIdeal.nD Cert.CtxAIdeal.τ Cert.CtxAIdeal.sig) → Buf (Elt Ideal) ℓ) (g : Dev Cert.CtxAIdeal.nD → PrngReg)
    (m' : (ℓ : Loc Cert.CtxARefIdeal.nD Cert.CtxARefIdeal.τ Cert.CtxARefIdeal.sig) → Buf (Elt Ideal) ℓ) (g' : Dev Cert.CtxARefIdeal.nD → PrngReg), Pre_CtxAIdeal m →
    (∀ c : Dev Cert.CtxAIdeal.nD,
      m' ((c.tc : Thread Cert.CtxARefIdeal.nD Cert.CtxARefIdeal.τ).loc Cert.CtxARefIdeal.main_arg0) = m ((c.tc : Thread Cert.CtxAIdeal.nD Cert.CtxAIdeal.τ).loc Cert.CtxAIdeal.main_arg0)
      ∧ m' ((c.tc : Thread Cert.CtxARefIdeal.nD Cert.CtxARefIdeal.τ).loc Cert.CtxARefIdeal.main_arg1) = m ((c.tc : Thread Cert.CtxAIdeal.nD Cert.CtxAIdeal.τ).loc Cert.CtxAIdeal.main_arg1)
      ∧ m' ((c.tc : Thread Cert.CtxARefIdeal.nD Cert.CtxARefIdeal.τ).loc Cert.CtxARefIdeal.main_arg2) = m ((c.tc : Thread Cert.CtxAIdeal.nD Cert.CtxAIdeal.τ).loc Cert.CtxAIdeal.main_arg2)
      ∧ m' ((c.tc : Thread Cert.CtxARefIdeal.nD Cert.CtxARefIdeal.τ).loc Cert.CtxARefIdeal.main_arg3) = m ((c.tc : Thread Cert.CtxAIdeal.nD Cert.CtxAIdeal.τ).loc Cert.CtxAIdeal.main_arg3)
      ∧ m' ((c.tc : Thread Cert.CtxARefIdeal.nD Cert.CtxARefIdeal.τ).loc Cert.CtxARefIdeal.main_arg4) = m ((c.tc : Thread Cert.CtxAIdeal.nD Cert.CtxAIdeal.τ).loc Cert.CtxAIdeal.main_arg4)
      ∧ m' ((c.tc : Thread Cert.CtxARefIdeal.nD Cert.CtxARefIdeal.τ).loc Cert.CtxARefIdeal.main_arg5) = m ((c.tc : Thread Cert.CtxAIdeal.nD Cert.CtxAIdeal.τ).loc Cert.CtxAIdeal.main_arg5)
      ∧ m' ((c.tc : Thread Cert.CtxARefIdeal.nD Cert.CtxARefIdeal.τ).loc Cert.CtxARefIdeal.main_arg6) = m ((c.tc : Thread Cert.CtxAIdeal.nD Cert.CtxAIdeal.τ).loc Cert.CtxAIdeal.main_arg6)) →
    ∃ (v0 : (c : Dev Cert.CtxAIdeal.nD) → Buf (Elt Ideal) ((c.tc : Thread Cert.CtxAIdeal.nD Cert.CtxAIdeal.τ).loc Cert.CtxAIdeal.main_v16)),
      θ_run (Cert.CtxAIdeal.defs (F := Ideal)) (onTc (τ := Cert.CtxAIdeal.τ) (Cert.CtxAIdeal.main (F := Ideal))) ⟨m, fun _ => 0, g⟩ (fun r => ∀ c : Dev Cert.CtxAIdeal.nD,
          r.2.mem ((c.tc : Thread Cert.CtxAIdeal.nD Cert.CtxAIdeal.τ).loc Cert.CtxAIdeal.main_v16) = v0 c
          ∧ r.2.mem ((c.tc : Thread Cert.CtxAIdeal.nD Cert.CtxAIdeal.τ).loc Cert.CtxAIdeal.main_arg0) = m ((c.tc : Thread Cert.CtxAIdeal.nD Cert.CtxAIdeal.τ).loc Cert.CtxAIdeal.main_arg0)
          ∧ r.2.mem ((c.tc : Thread Cert.CtxAIdeal.nD Cert.CtxAIdeal.τ).loc Cert.CtxAIdeal.main_arg1) = m ((c.tc : Thread Cert.CtxAIdeal.nD Cert.CtxAIdeal.τ).loc Cert.CtxAIdeal.main_arg1)
          ∧ r.2.mem ((c.tc : Thread Cert.CtxAIdeal.nD Cert.CtxAIdeal.τ).loc Cert.CtxAIdeal.main_arg2) = m ((c.tc : Thread Cert.CtxAIdeal.nD Cert.CtxAIdeal.τ).loc Cert.CtxAIdeal.main_arg2)
          ∧ r.2.mem ((c.tc : Thread Cert.CtxAIdeal.nD Cert.CtxAIdeal.τ).loc Cert.CtxAIdeal.main_arg3) = m ((c.tc : Thread Cert.CtxAIdeal.nD Cert.CtxAIdeal.τ).loc Cert.CtxAIdeal.main_arg3)
          ∧ r.2.mem ((c.tc : Thread Cert.CtxAIdeal.nD Cert.CtxAIdeal.τ).loc Cert.CtxAIdeal.main_arg4) = m ((c.tc : Thread Cert.CtxAIdeal.nD Cert.CtxAIdeal.τ).loc Cert.CtxAIdeal.main_arg4)
          ∧ r.2.mem ((c.tc : Thread Cert.CtxAIdeal.nD Cert.CtxAIdeal.τ).loc Cert.CtxAIdeal.main_arg5) = m ((c.tc : Thread Cert.CtxAIdeal.nD Cert.CtxAIdeal.τ).loc Cert.CtxAIdeal.main_arg5)
          ∧ r.2.mem ((c.tc : Thread Cert.CtxAIdeal.nD Cert.CtxAIdeal.τ).loc Cert.CtxAIdeal.main_arg6) = m ((c.tc : Thread Cert.CtxAIdeal.nD Cert.CtxAIdeal.τ).loc Cert.CtxAIdeal.main_arg6))
      ∧ θ_run (Cert.CtxARefIdeal.defs (F := Ideal)) (onTc (τ := Cert.CtxARefIdeal.τ) (Cert.CtxARefIdeal.main (F := Ideal))) ⟨m', fun _ => 0, g'⟩ (fun r => ∀ c : Dev Cert.CtxARefIdeal.nD,
          r.2.mem ((c.tc : Thread Cert.CtxARefIdeal.nD Cert.CtxARefIdeal.τ).loc Cert.CtxARefIdeal.main_v58) = v0 c
          ∧ r.2.mem ((c.tc : Thread Cert.CtxARefIdeal.nD Cert.CtxARefIdeal.τ).loc Cert.CtxARefIdeal.main_arg0) = m' ((c.tc : Thread Cert.CtxARefIdeal.nD Cert.CtxARefIdeal.τ).loc Cert.CtxARefIdeal.main_arg0)
          ∧ r.2.mem ((c.tc : Thread Cert.CtxARefIdeal.nD Cert.CtxARefIdeal.τ).loc Cert.CtxARefIdeal.main_arg1) = m' ((c.tc : Thread Cert.CtxARefIdeal.nD Cert.CtxARefIdeal.τ).loc Cert.CtxARefIdeal.main_arg1)
          ∧ r.2.mem ((c.tc : Thread Cert.CtxARefIdeal.nD Cert.CtxARefIdeal.τ).loc Cert.CtxARefIdeal.main_arg2) = m' ((c.tc : Thread Cert.CtxARefIdeal.nD Cert.CtxARefIdeal.τ).loc Cert.CtxARefIdeal.main_arg2)
          ∧ r.2.mem ((c.tc : Thread Cert.CtxARefIdeal.nD Cert.CtxARefIdeal.τ).loc Cert.CtxARefIdeal.main_arg3) = m' ((c.tc : Thread Cert.CtxARefIdeal.nD Cert.CtxARefIdeal.τ).loc Cert.CtxARefIdeal.main_arg3)
          ∧ r.2.mem ((c.tc : Thread Cert.CtxARefIdeal.nD Cert.CtxARefIdeal.τ).loc Cert.CtxARefIdeal.main_arg4) = m' ((c.tc : Thread Cert.CtxARefIdeal.nD Cert.CtxARefIdeal.τ).loc Cert.CtxARefIdeal.main_arg4)
          ∧ r.2.mem ((c.tc : Thread Cert.CtxARefIdeal.nD Cert.CtxARefIdeal.τ).loc Cert.CtxARefIdeal.main_arg5) = m' ((c.tc : Thread Cert.CtxARefIdeal.nD Cert.CtxARefIdeal.τ).loc Cert.CtxARefIdeal.main_arg5)
          ∧ r.2.mem ((c.tc : Thread Cert.CtxARefIdeal.nD Cert.CtxARefIdeal.τ).loc Cert.CtxARefIdeal.main_arg6) = m' ((c.tc : Thread Cert.CtxARefIdeal.nD Cert.CtxARefIdeal.τ).loc Cert.CtxARefIdeal.main_arg6))

def Claim : Prop :=
  ∃ (hAttnB : Cert.AttnB.Facts) (hAttnBIdeal : Cert.AttnBIdeal.Facts) (hAttnBRefIdeal : Cert.AttnBRefIdeal.Facts) (hFfn : Cert.Ffn.Facts) (hFfnIdeal : Cert.FfnIdeal.Facts) (hFfnRefIdeal : Cert.FfnRefIdeal.Facts) (hProjB : Cert.ProjB.Facts) (hProjBIdeal : Cert.ProjBIdeal.Facts) (hProjBRefIdeal : Cert.ProjBRefIdeal.Facts) (hOutProj : Cert.OutProj.Facts) (hOutProjIdeal : Cert.OutProjIdeal.Facts) (hOutProjRefIdeal : Cert.OutProjRefIdeal.Facts) (hProjA : Cert.ProjA.Facts) (hProjAIdeal : Cert.ProjAIdeal.Facts) (hProjARefIdeal : Cert.ProjARefIdeal.Facts) (hMod : Cert.Mod.Facts) (hModIdeal : Cert.ModIdeal.Facts) (hModRefIdeal : Cert.ModRefIdeal.Facts) (hCtxB : Cert.CtxB.Facts) (hCtxBIdeal : Cert.CtxBIdeal.Facts) (hCtxBRefIdeal : Cert.CtxBRefIdeal.Facts) (hCtxA : Cert.CtxA.Facts) (hCtxAIdeal : Cert.CtxAIdeal.Facts) (hCtxARefIdeal : Cert.CtxARefIdeal.Facts) (hPre_finite_scores : Cert.Pre_finite_scores.Facts),
    quiescent_AttnB (hAttnB := hAttnB)
    ∧ quiescent_AttnBIdeal (hAttnBIdeal := hAttnBIdeal)
    ∧ quiescent_AttnBIdeal_pre_finite_scores (hAttnBIdeal := hAttnBIdeal) (hPre_finite_scores := hPre_finite_scores)
    ∧ quiescent_AttnBRefIdeal (hAttnBRefIdeal := hAttnBRefIdeal)
    ∧ quiescent_AttnBRefIdeal_pre_finite_scores (hAttnBRefIdeal := hAttnBRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjA (hProjA := hProjA)
    ∧ quiescent_ProjAIdeal (hProjAIdeal := hProjAIdeal)
    ∧ quiescent_ProjARefIdeal (hProjARefIdeal := hProjARefIdeal)
    ∧ quiescent_Mod (hMod := hMod)
    ∧ quiescent_ModIdeal (hModIdeal := hModIdeal)
    ∧ quiescent_ModRefIdeal (hModRefIdeal := hModRefIdeal)
    ∧ quiescent_CtxB (hCtxB := hCtxB)
    ∧ quiescent_CtxBIdeal (hCtxBIdeal := hCtxBIdeal)
    ∧ quiescent_CtxBRefIdeal (hCtxBRefIdeal := hCtxBRefIdeal)
    ∧ quiescent_CtxA (hCtxA := hCtxA)
    ∧ quiescent_CtxAIdeal (hCtxAIdeal := hCtxAIdeal)
    ∧ quiescent_CtxARefIdeal (hCtxARefIdeal := hCtxARefIdeal)
    ∧ preserves_AttnB_AttnBIdeal
    ∧ algebraic_AttnBIdeal_AttnBRefIdeal_pre_finite_scores (hAttnBIdeal := hAttnBIdeal) (hAttnBRefIdeal := hAttnBRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_ProjB_ProjBIdeal
    ∧ algebraic_ProjBIdeal_ProjBRefIdeal (hProjBIdeal := hProjBIdeal) (hProjBRefIdeal := hProjBRefIdeal)
    ∧ preserves_OutProj_OutProjIdeal
    ∧ algebraic_OutProjIdeal_OutProjRefIdeal (hOutProjIdeal := hOutProjIdeal) (hOutProjRefIdeal := hOutProjRefIdeal)
    ∧ preserves_ProjA_ProjAIdeal
    ∧ algebraic_ProjAIdeal_ProjARefIdeal (hProjAIdeal := hProjAIdeal) (hProjARefIdeal := hProjARefIdeal)
    ∧ preserves_Mod_ModIdeal
    ∧ algebraic_ModIdeal_ModRefIdeal (hModIdeal := hModIdeal) (hModRefIdeal := hModRefIdeal)
    ∧ preserves_CtxB_CtxBIdeal
    ∧ algebraic_CtxBIdeal_CtxBRefIdeal (hCtxBIdeal := hCtxBIdeal) (hCtxBRefIdeal := hCtxBRefIdeal)
    ∧ preserves_CtxA_CtxAIdeal
    ∧ algebraic_CtxAIdeal_CtxARefIdeal (hCtxAIdeal := hCtxAIdeal) (hCtxARefIdeal := hCtxARefIdeal)
-- ==== Pre_finite_scores.lean ====
abbrev S32768x6144 : Shape := ⟨2, ![32768, 6144]⟩
abbrev S8x512x8x2x128 : Shape := ⟨5, ![8, 512, 8, 2, 128]⟩
abbrev S8x512x8x256 : Shape := ⟨4, ![8, 512, 8, 256]⟩
abbrev S128 : Shape := ⟨1, ![128]⟩
abbrev S256 : Shape := ⟨1, ![256]⟩
abbrev S32768x4096 : Shape := ⟨2, ![32768, 4096]⟩
abbrev S_ : Shape := ⟨0, ![]⟩

class Facts : Prop where
  slices_S32768x6144_S32768x4096_0_0 : S32768x6144.Slices ![0, 0] S32768x4096
  bitsLt_bf16_f32 : FTy.bits .bf16 < FTy.bits .f32
  bcast_S_S32768x4096 : S_.BroadcastsInDim S32768x4096 (![] : Fin 0 → Fin S32768x4096.rank)
  bcast_S_S8x512x8x2x128 : S_.BroadcastsInDim S8x512x8x2x128 (![] : Fin 0 → Fin S8x512x8x2x128.rank)

variable [Facts]

def fn {F : FTy → Type} [FloatOps F] (main_arg0 : FVec F S32768x6144 .bf16) (main_arg1 : FVec F S8x512x8x2x128 .f32) (main_arg2 : FVec F S8x512x8x256 .f32) (main_arg3 : FVec F S128 .f32) (main_arg4 : FVec F S128 .f32) (main_arg5 : FVec F S128 .f32) (main_arg6 : FVec F S128 .f32) (main_arg7 : FVec F S256 .f32) : IVec S32768x4096 1 × IVec S8x512x8x2x128 1 :=
  let main_v0 : FVec F S32768x4096 .bf16 := (extractStridedSlice S32768x4096 ![0, 0] · slices_S32768x6144_S32768x4096_0_0) main_arg0
  let main_v1 : FVec F S32768x4096 .f32 := (extf .f32 · bitsLt_bf16_f32) main_v0
  let main_v2 : FVec F S32768x4096 .f32 := Host.absf main_v1
  let main_cst : FVec F S_ .f32 := constant S_ .f32 0x7F800000#32
  let main_v3 : FVec F S32768x4096 .f32 := broadcastInDim S32768x4096 ![] bcast_S_S32768x4096 main_cst
  let main_v4 : IVec S32768x4096 1 := cmpf .olt main_v2 main_v3
  let main_v5 : FVec F S8x512x8x2x128 .f32 := Host.absf main_arg1
  let main_cst_0 : FVec F S_ .f32 := constant S_ .f32 0x7F800000#32
  let main_v6 : FVec F S8x512x8x2x128 .f32 := broadcastInDim S8x512x8x2x128 ![] bcast_S_S8x512x8x2x128 main_cst_0
  let main_v7 : IVec S8x512x8x2x128 1 := cmpf .olt main_v5 main_v6
  (main_v4, main_v7)
-- ==== AttnB.lean ====
abbrev S32768x6144 : Shape := ⟨2, ![32768, 6144]⟩
abbrev S8x512x8x2x128 : Shape := ⟨5, ![8, 512, 8, 2, 128]⟩
abbrev S8x512x8x256 : Shape := ⟨4, ![8, 512, 8, 256]⟩
abbrev S128 : Shape := ⟨1, ![128]⟩
abbrev S256 : Shape := ⟨1, ![256]⟩
abbrev S_ : Shape := ⟨0, ![]⟩
abbrev S1x1 : Shape := ⟨2, ![1, 1]⟩
abbrev S1x256 : Shape := ⟨2, ![1, 256]⟩
abbrev S8x512x2048 : Shape := ⟨3, ![8, 512, 2048]⟩
abbrev S32768x2048 : Shape := ⟨2, ![32768, 2048]⟩
abbrev S256x256 : Shape := ⟨2, ![256, 256]⟩
abbrev S4096x256 : Shape := ⟨2, ![4096, 256]⟩
abbrev S1x512x256 : Shape := ⟨3, ![1, 512, 256]⟩
abbrev S512x256 : Shape := ⟨2, ![512, 256]⟩
abbrev S256x128 : Shape := ⟨2, ![256, 128]⟩
abbrev S4096x128 : Shape := ⟨2, ![4096, 128]⟩
abbrev S256x4096 : Shape := ⟨2, ![256, 4096]⟩
abbrev S512x128 : Shape := ⟨2, ![512, 128]⟩
abbrev S256x512 : Shape := ⟨2, ![256, 512]⟩
abbrev S256x1 : Shape := ⟨2, ![256, 1]⟩

abbrev nBuf : Space → Nat
  | .hbm => 26
  | .vmem => 13
  | .smem => 1
  | _ => 0

abbrev bufTy : (tb : Table) → Fin (tcTables nBuf tb) → BufTy
  | .hbm, ⟨0, _⟩ => ⟨S32768x6144, .bf16⟩
  | .hbm, ⟨1, _⟩ => ⟨S8x512x8x2x128, .f32⟩
  | .hbm, ⟨2, _⟩ => ⟨S8x512x8x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x256, .f32⟩
  | .hbm, ⟨21, _⟩ => ⟨S8x512x2048, .f32⟩
  | .hbm, ⟨22, _⟩ => ⟨S8x512x2048, .bf16⟩
  | .hbm, ⟨23, _⟩ => ⟨S8x512x2048, .f32⟩
  | .hbm, ⟨24, _⟩ => ⟨S8x512x2048, .bf16⟩
  | .hbm, ⟨25, _⟩ => ⟨S32768x2048, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x256, .f32⟩
  | .local _ .vmem, ⟨11, _⟩ => ⟨S256x256, .bf16⟩
  | .local _ .vmem, ⟨12, _⟩ => ⟨S256x256, .bf16⟩
  | .local _ .smem, ⟨0, _⟩ => ⟨S1x1, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnBRefIdeal.lean ====
abbrev S32768x6144 : Shape := ⟨2, ![32768, 6144]⟩
abbrev S8x512x8x2x128 : Shape := ⟨5, ![8, 512, 8, 2, 128]⟩
abbrev S8x512x8x256 : Shape := ⟨4, ![8, 512, 8, 256]⟩
abbrev S128 : Shape := ⟨1, ![128]⟩
abbrev S256 : Shape := ⟨1, ![256]⟩
abbrev S_ : Shape := ⟨0, ![]⟩
abbrev S8x4096x6144 : Shape := ⟨3, ![8, 4096, 6144]⟩
abbrev S8x4096x2048 : Shape := ⟨3, ![8, 4096, 2048]⟩
abbrev S8x4096x8x2x128 : Shape := ⟨5, ![8, 4096, 8, 2, 128]⟩
abbrev S8x4608x8x2x128 : Shape := ⟨5, ![8, 4608, 8, 2, 128]⟩
abbrev S8x4096x8x256 : Shape := ⟨4, ![8, 4096, 8, 256]⟩
abbrev S8x4608x8x256 : Shape := ⟨4, ![8, 4608, 8, 256]⟩
abbrev S8x8x2x4096x4608 : Shape := ⟨5, ![8, 8, 2, 4096, 4608]⟩
abbrev S8x8x2x4096 : Shape := ⟨4, ![8, 8, 2, 4096]⟩
abbrev S8x8x2x4096x1 : Shape := ⟨5, ![8, 8, 2, 4096, 1]⟩
abbrev S8x8x1x4096x4608 : Shape := ⟨5, ![8, 8, 1, 4096, 4608]⟩
abbrev S8x8x4096x4608 : Shape := ⟨4, ![8, 8, 4096, 4608]⟩
abbrev S8x8x256x4096 : Shape := ⟨4, ![8, 8, 256, 4096]⟩
abbrev S8x4096x8 : Shape := ⟨3, ![8, 4096, 8]⟩
abbrev S8x4096x8x1 : Shape := ⟨4, ![8, 4096, 8, 1]⟩
abbrev S1x1x1x256 : Shape := ⟨4, ![1, 1, 1, 256]⟩
abbrev S32768x2048 : Shape := ⟨2, ![32768, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S8x512x8x2x128, .f32⟩
  | .hbm, ⟨2, _⟩ => ⟨S8x512x8x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32768x6144, .f32⟩
  | .hbm, ⟨20, _⟩ => ⟨S8x4096x6144, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x8x2x128, .f32⟩
  | .hbm, ⟨25, _⟩ => ⟨S8x4096x8x2x128, .f32⟩
  | .hbm, ⟨26, _⟩ => ⟨S8x4608x8x2x128, .f32⟩
  | .hbm, ⟨27, _⟩ => ⟨S8x4096x8x256, .f32⟩
  | .hbm, ⟨28, _⟩ => ⟨S8x4608x8x256, .f32⟩
  | .hbm, ⟨29, _⟩ => ⟨S8x8x2x4096x4608, .f32⟩
  | .hbm, ⟨30, _⟩ => ⟨S_, .f32⟩
  | .hbm, ⟨31, _⟩ => ⟨S8x8x2x4096, .f32⟩
  | .hbm, ⟨32, _⟩ => ⟨S_, .f32⟩
  | .hbm, ⟨33, _⟩ => ⟨S8x8x2x4096, .f32⟩
  | .hbm, ⟨34, _⟩ => ⟨S8x8x2x4096, .f32⟩
  | .hbm, ⟨35, _⟩ => ⟨S8x8x2x4096x1, .f32⟩
  | .hbm, ⟨36, _⟩ => ⟨S8x8x2x4096x4608, .f32⟩
  | .hbm, ⟨37, _⟩ => ⟨S8x8x2x4096x4608, .f32⟩
  | .hbm, ⟨38, _⟩ => ⟨S8x8x2x4096x4608, .f32⟩
  | .hbm, ⟨39, _⟩ => ⟨S_, .f32⟩
  | .hbm, ⟨40, _⟩ => ⟨S8x8x2x4096, .f32⟩
  | .hbm, ⟨41, _⟩ => ⟨S8x8x2x4096x1, .f32⟩
  | .hbm, ⟨42, _⟩ => ⟨S8x8x2x4096x4608, .f32⟩
  | .hbm, ⟨43, _⟩ => ⟨S8x8x2x4096x4608, .f32⟩
  | .hbm, ⟨44, _⟩ => ⟨S8x8x1x4096x4608, .f32⟩
  | .hbm, ⟨45, _⟩ => ⟨S8x8x4096x4608, .f32⟩
  | .hbm, ⟨46, _⟩ => ⟨S8x8x1x4096x4608, .f32⟩
  | .hbm, ⟨47, _⟩ => ⟨S8x8x4096x4608, .f32⟩
  | .hbm, ⟨48, _⟩ => ⟨S8x8x4096x4608, .f32⟩
  | .hbm, ⟨49, _⟩ => ⟨S8x8x4096x4608, .f32⟩
  | .hbm, ⟨50, _⟩ => ⟨S8x8x4096x4608, .f32⟩
  | .hbm, ⟨51, _⟩ => ⟨S8x8x256x4096, .f32⟩
  | .hbm, ⟨52, _⟩ => ⟨S8x4096x8x256, .f32⟩
  | .hbm, ⟨53, _⟩ => ⟨S8x4096x8x256, .f32⟩
  | .hbm, ⟨54, _⟩ => ⟨S_, .f32⟩
  | .hbm, ⟨55, _⟩ => ⟨S8x4096x8, .f32⟩
  | .hbm, ⟨56, _⟩ => ⟨S8x4096x8x1, .f32⟩
  | .hbm, ⟨57, _⟩ => ⟨S_, .f32⟩
  | .hbm, ⟨58, _⟩ => ⟨S8x4096x8x1, .f32⟩
  | .hbm, ⟨59, _⟩ => ⟨S8x4096x8x1, .f32⟩
  | .hbm, ⟨60, _⟩ => ⟨S_, .f32⟩
  | .hbm, ⟨61, _⟩ => ⟨S8x4096x8x1, .f32⟩
  | .hbm, ⟨62, _⟩ => ⟨S8x4096x8x1, .f32⟩
  | .hbm, ⟨63, _⟩ => ⟨S8x4096x8x1, .f32⟩
  | .hbm, ⟨64, _⟩ => ⟨S8x4096x8x256, .f32⟩
  | .hbm, ⟨65, _⟩ => ⟨S8x4096x8x256, .f32⟩
  | .hbm, ⟨66, _⟩ => ⟨S1x1x1x256, .f32⟩
  | .hbm, ⟨67, _⟩ => ⟨S8x4096x8x256, .f32⟩
  | .hbm, ⟨68, _⟩ => ⟨S8x4096x8x256, .f32⟩
  | .hbm, ⟨69, _⟩ => ⟨S_, .f32⟩
  | .hbm, ⟨70, _⟩ => ⟨S8x4096x8x256, .f32⟩
  | .hbm, ⟨71, _⟩ => ⟨S8x4096x8x256, .f32⟩
  | .hbm, ⟨72, _⟩ => ⟨S32768x2048, .f32⟩
  | .hbm, ⟨73, _⟩ => ⟨S32768x2048, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Ffn.lean ====
abbrev S8x4096x2048 : Shape := ⟨3, ![8, 4096, 2048]⟩
abbrev S2048 : Shape := ⟨1, ![2048]⟩
abbrev S8x2048 : Shape := ⟨2, ![8, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S32768x2048 : Shape := ⟨2, ![32768, 2048]⟩
abbrev S1x2048 : Shape := ⟨2, ![1, 2048]⟩
abbrev S1x5632 : Shape := ⟨2, ![1, 5632]⟩
abbrev S8x1x2048 : Shape := ⟨3, ![8, 1, 2048]⟩
abbrev S16x2048 : Shape := ⟨2, ![16, 2048]⟩
abbrev S512x2048 : Shape := ⟨2, ![512, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S544x2048 : Shape := ⟨2, ![544, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x512 : Shape := ⟨2, ![544, 512]⟩
abbrev S512x512 : Shape := ⟨2, ![512, 512]⟩

abbrev nBuf : Space → Nat
  | .hbm => 18
  | .vmem => 27
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S2048x11264, .f32⟩
  | .hbm, ⟨6, _⟩ => ⟨S3x5632, .f32⟩
  | .hbm, ⟨7, _⟩ => ⟨S5632, .f32⟩
  | .hbm, ⟨8, _⟩ => ⟨S5632x2048, .f32⟩
  | .hbm, ⟨9, _⟩ => ⟨S32768x2048, .f32⟩
  | .hbm, ⟨10, _⟩ => ⟨S1x2048, .f32⟩
  | .hbm, ⟨11, _⟩ => ⟨S2048x11264, .bf16⟩
  | .hbm, ⟨12, _⟩ => ⟨S5632x2048, .bf16⟩
  | .hbm, ⟨13, _⟩ => ⟨S1x5632, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S32768x2048, .f32⟩
  | .local _ .vmem, ⟨0, _⟩ => ⟨S16x2048, .f32⟩
  | .local _ .vmem, ⟨1, _⟩ => ⟨S16x2048, .f32⟩
  | .local _ .vmem, ⟨2, _⟩ => ⟨S512x2048, .f32⟩
  | .local _ .vmem, ⟨3, _⟩ => ⟨S512x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S3x512, .f32⟩
  | .local _ .vmem, ⟨18, _⟩ => ⟨S3x512, .f32⟩
  | .local _ .vmem, ⟨19, _⟩ => ⟨S1x512, .f32⟩
  | .local _ .vmem, ⟨20, _⟩ => ⟨S1x512, .f32⟩
  | .local _ .vmem, ⟨21, _⟩ => ⟨S512x2048, .bf16⟩
  | .local _ .vmem, ⟨22, _⟩ => ⟨S512x2048, .bf16⟩
  | .local _ .vmem, ⟨23, _⟩ => ⟨S512x2048, .f32⟩
  | .local _ .vmem, ⟨24, _⟩ => ⟨S512x2048, .f32⟩
  | .local _ .vmem, ⟨25, _⟩ => ⟨S544x2048, .bf16⟩
  | .local _ .vmem, ⟨26, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v63 : BitVec 1 := Scalar.cmpi .eq arg1 c10_i32
  let v64 : BitVec 32 := Scalar.extui v63
  let c0_i32_27 : BitVec 32 := 0#32
  let v65 : BitVec 1 := Scalar.cmpi .ne v64 c0_i32_27
  v65

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnRefIdeal.lean ====
abbrev S8x4096x2048 : Shape := ⟨3, ![8, 4096, 2048]⟩
abbrev S2048 : Shape := ⟨1, ![2048]⟩
abbrev S8x2048 : Shape := ⟨2, ![8, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x11264 : Shape := ⟨3, ![8, 4096, 11264]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S32768x2048 : Shape := ⟨2, ![32768, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S2048x11264, .f32⟩
  | .hbm, ⟨6, _⟩ => ⟨S3x5632, .f32⟩
  | .hbm, ⟨7, _⟩ => ⟨S5632, .f32⟩
  | .hbm, ⟨8, _⟩ => ⟨S5632x2048, .f32⟩
  | .hbm, ⟨9, _⟩ => ⟨S8x4096x2048, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x2048, .f32⟩
  | .hbm, ⟨21, _⟩ => ⟨S8x4096x2048, .f32⟩
  | .hbm, ⟨22, _⟩ => ⟨S1x1x2048, .f32⟩
  | .hbm, ⟨23, _⟩ => ⟨S8x4096x2048, .f32⟩
  | .hbm, ⟨24, _⟩ => ⟨S8x4096x2048, .f32⟩
  | .hbm, ⟨25, _⟩ => ⟨S8x1x2048, .f32⟩
  | .hbm, ⟨26, _⟩ => ⟨S_, .f32⟩
  | .hbm, ⟨27, _⟩ => ⟨S8x1x2048, .f32⟩
  | .hbm, ⟨28, _⟩ => ⟨S8x1x2048, .f32⟩
  | .hbm, ⟨29, _⟩ => ⟨S8x4096x2048, .f32⟩
  | .hbm, ⟨30, _⟩ => ⟨S8x4096x2048, .f32⟩
  | .hbm, ⟨31, _⟩ => ⟨S8x1x2048, .f32⟩
  | .hbm, ⟨32, _⟩ => ⟨S8x4096x2048, .f32⟩
  | .hbm, ⟨33, _⟩ => ⟨S8x4096x2048, .f32⟩
  | .hbm, ⟨34, _⟩ => ⟨S8x4096x11264, .f32⟩
  | .hbm, ⟨35, _⟩ => ⟨S8x4096x5632, .f32⟩
  | .hbm, ⟨36, _⟩ => ⟨S8x4096x5632, .f32⟩
  | .hbm, ⟨37, _⟩ => ⟨S_, .i32⟩
  | .hbm, ⟨38, _⟩ => ⟨S_, .f32⟩
  | .hbm, ⟨39, _⟩ => ⟨S8x4098x5632, .f32⟩
  | .hbm, ⟨40, _⟩ => ⟨S8x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S8x4096x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S1x1x5632, .f32⟩
  | .hbm, ⟨61, _⟩ => ⟨S8x4096x5632, .f32⟩
  | .hbm, ⟨62, _⟩ => ⟨S8x4096x5632, .f32⟩
  | .hbm, ⟨63, _⟩ => ⟨S8x1x2048, .f32⟩
  | .hbm, ⟨64, _⟩ => ⟨S8x4096x5632, .f32⟩
  | .hbm, ⟨65, _⟩ => ⟨S8x4096x5632, .f32⟩
  | .hbm, ⟨66, _⟩ => ⟨S_, .f32⟩
  | .hbm, ⟨67, _⟩ => ⟨S8x4096x5632, .f32⟩
  | .hbm, ⟨68, _⟩ => ⟨S8x4096x5632, .f32⟩
  | .hbm, ⟨69, _⟩ => ⟨S_, .f32⟩
  | .hbm, ⟨70, _⟩ => ⟨S8x4096x5632, .f32⟩
  | .hbm, ⟨71, _⟩ => ⟨S8x4096x5632, .f32⟩
  | .hbm, ⟨72, _⟩ => ⟨S8x4096x5632, .f32⟩
  | .hbm, ⟨73, _⟩ => ⟨S8x4096x5632, .f32⟩
  | .hbm, ⟨74, _⟩ => ⟨S8x4096x2048, .f32⟩
  | .hbm, ⟨75, _⟩ => ⟨S8x4096x2048, .f32⟩
  | .hbm, ⟨76, _⟩ => ⟨S8x4096x2048, .f32⟩
  | .hbm, ⟨77, _⟩ => ⟨S8x4096x2048, .f32⟩
  | .hbm, ⟨78, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== ProjB.lean ====
abbrev S8x4096x2048 : Shape := ⟨3, ![8, 4096, 2048]⟩
abbrev S2048 : Shape := ⟨1, ![2048]⟩
abbrev S8x2048 : Shape := ⟨2, ![8, 2048]⟩
abbrev S2048x6144 : Shape := ⟨2, ![2048, 6144]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S32768x2048 : Shape := ⟨2, ![32768, 2048]⟩
abbrev S1x2048 : Shape := ⟨2, ![1, 2048]⟩
abbrev S1x128 : Shape := ⟨2, ![1, 128]⟩
abbrev S16x128 : Shape := ⟨2, ![16, 128]⟩
abbrev S6144 : Shape := ⟨1, ![6144]⟩
abbrev S1x6144 : Shape := ⟨2, ![1, 6144]⟩
abbrev S8x1x2048 : Shape := ⟨3, ![8, 1, 2048]⟩
abbrev S32768x6144 : Shape := ⟨2, ![32768, 6144]⟩
abbrev S1024x2048 : Shape := ⟨2, ![1024, 2048]⟩
abbrev S1x1x2048 : Shape := ⟨3, ![1, 1, 2048]⟩
abbrev S2048x512 : Shape := ⟨2, ![2048, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 69
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6144, .f32⟩
  | .hbm, ⟨5, _⟩ => ⟨S128, .f32⟩
  | .hbm, ⟨6, _⟩ => ⟨S128, .f32⟩
  | .hbm, ⟨7, _⟩ => ⟨S64, .f32⟩
  | .hbm, ⟨8, _⟩ => ⟨S64x64, .f32⟩
  | .hbm, ⟨9, _⟩ => ⟨S4096, .f32⟩
  | .hbm, ⟨10, _⟩ => ⟨S64, .f32⟩
  | .hbm, ⟨11, _⟩ => ⟨S1x64, .f32⟩
  | .hbm, ⟨12, _⟩ => ⟨S64x64, .f32⟩
  | .hbm, ⟨13, _⟩ => ⟨S4096, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x128, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x128, .f32⟩
  | .hbm, ⟨50, _⟩ => ⟨S32768x2048, .f32⟩
  | .hbm, ⟨51, _⟩ => ⟨S1x2048, .f32⟩
  | .hbm, ⟨52, _⟩ => ⟨S2048x6144, .bf16⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S16x128, .f32⟩
  | .hbm, ⟨58, _⟩ => ⟨S2048, .f32⟩
  | .hbm, ⟨59, _⟩ => ⟨S1x128, .f32⟩
  | .hbm, ⟨60, _⟩ => ⟨S16x128, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S6144, .f32⟩
  | .hbm, ⟨65, _⟩ => ⟨S1x6144, .f32⟩
  | .hbm, ⟨66, _⟩ => ⟨S8x1x2048, .f32⟩
  | .hbm, ⟨67, _⟩ => ⟨S8x1x2048, .f32⟩
  | .hbm, ⟨68, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c8_i32 : BitVec 32 := 8#32
  let v7 : BitVec 1 := Scalar.cmpi .slt arg1 c8_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32_5 : BitVec 32 := 8#32
  let v10 : BitVec 1 := Scalar.cmpi .sge arg1 c8_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjBRefIdeal.lean ====
abbrev S8x4096x2048 : Shape := ⟨3, ![8, 4096, 2048]⟩
abbrev S2048 : Shape := ⟨1, ![2048]⟩
abbrev S8x2048 : Shape := ⟨2, ![8, 2048]⟩
abbrev S2048x6144 : Shape := ⟨2, ![2048, 6144]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x6144 : Shape := ⟨3, ![8, 4096, 6144]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S8x4096x16x64 : Shape := ⟨4, ![8, 4096, 16, 64]⟩
abbrev S8x4096x16x32 : Shape := ⟨4, ![8, 4096, 16, 32]⟩
abbrev S1x4096x1x32 : Shape := ⟨4, ![1, 4096, 1, 32]⟩
abbrev S32768x6144 : Shape := ⟨2, ![32768, 6144]⟩

abbrev nBuf : Space → Nat
  | .hbm => 186
  | .vmem => 0
  | .smem => 0
  | _ => 0

abbrev hbmTy0_0 (i : Nat) : BufTy := match i % 128 with
  | 0 => ⟨S8x4096x2048, .f32⟩
  | 1 => ⟨S2048, .f32⟩
  | 2 => ⟨S8x2048, .f32⟩
  | 3 => ⟨S8x2048, .f32⟩
  | 4 => ⟨S2048x6144, .f32⟩
  | 5 => ⟨S128, .f32⟩
  | 6 => ⟨S128, .f32⟩
  | 7 => ⟨S64, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4096x1, .f32⟩
  | 29 => ⟨S1x32, .f32⟩
  | 30 => ⟨S4096x32, .f32⟩
  | 31 => ⟨S4096x32, .f32⟩
  | 32 => ⟨S4096x32, .f32⟩
  | 33 => ⟨S4096x1, .f32⟩
  | 34 => ⟨S1x32, .f32⟩
  | 35 => ⟨S4096x32, .f32⟩
  | 36 => ⟨S4096x32, .f32⟩
  | 37 => ⟨S4096x32, .f32⟩
  | 38 => ⟨S4096x64, .f32⟩
  | 39 => ⟨S4096x64, .f32⟩
  | 40 => ⟨S4096x64, .f32⟩
  | 41 => ⟨S8x4096x2048, .f32⟩
  | 42 => ⟨S_, .f32⟩
  | 43 => ⟨S8x4096, .f32⟩
  | 44 => ⟨S8x4096x1, .f32⟩
  | 45 => ⟨S_, .f32⟩
  | 46 => ⟨S8x4096x1, .f32⟩
  | 47 => ⟨S8x4096x1, .f32⟩
  | 48 => ⟨S_, .f32⟩
  | 49 => ⟨S8x4096x1, .f32⟩
  | 50 => ⟨S8x4096x1, .f32⟩
  | 51 => ⟨S8x4096x1, .f32⟩
  | 52 => ⟨S8x4096x2048, .f32⟩
  | 53 => ⟨S8x4096x2048, .f32⟩
  | 54 => ⟨S1x1x2048, .f32⟩
  | 55 => ⟨S8x4096x2048, .f32⟩
  | 56 => ⟨S8x4096x2048, .f32⟩
  | 57 => ⟨S8x1x2048, .f32⟩
  | 58 => ⟨S_, .f32⟩
  | 59 => ⟨S8x1x2048, .f32⟩
  | 60 => ⟨S8x1x2048, .f32⟩
  | 61 => ⟨S8x4096x2048, .f32⟩
  | 62 => ⟨S8x4096x2048, .f32⟩
  | 63 => ⟨S8x1x2048, .f32⟩
  | 64 => ⟨S8x4096x2048, .f32⟩
  | 65 => ⟨S8x4096x2048, .f32⟩
  | 66 => ⟨S8x4096x6144, .f32⟩
  | 67 => ⟨S8x4096x2048, .f32⟩
  | 68 => ⟨S8x4096x2048, .f32⟩
  | 69 => ⟨S8x4096x2048, .f32⟩
  | 70 => ⟨S8x4096x16x128, .f32⟩
  | 71 => ⟨S8x4096x16x128, .f32⟩
  | 72 => ⟨S_, .f32⟩
  | 73 => ⟨S8x4096x16, .f32⟩
  | 74 => ⟨S8x4096x16x1, .f32⟩
  | 75 => ⟨S_, .f32⟩
  | 76 => ⟨S8x4096x16x1, .f32⟩
  | 77 => ⟨S8x4096x16x1, .f32⟩
  | 78 => ⟨S_, .f32⟩
  | 79 => ⟨S8x4096x16x1, .f32⟩
  | 80 => ⟨S8x4096x16x1, .f32⟩
  | 81 => ⟨S8x4096x16x1, .f32⟩
  | 82 => ⟨S8x4096x16x128, .f32⟩
  | 83 => ⟨S8x4096x16x128, .f32⟩
  | 84 => ⟨S1x1x1x128, .f32⟩
  | 85 => ⟨S8x4096x16x128, .f32⟩
  | 86 => ⟨S8x4096x16x128, .f32⟩
  | 87 => ⟨S8x4096x16x64, .f32⟩
  | 88 => ⟨S4096x32, .f32⟩
  | 89 => ⟨S4096x32, .f32⟩
  | 90 => ⟨S8x4096x16x32, .f32⟩
  | 91 => ⟨S8x4096x16x32, .f32⟩
  | 92 => ⟨S1x4096x1x32, .f32⟩
  | 93 => ⟨S1x4096x1x32, .f32⟩
  | 94 => ⟨S8x4096x16x32, .f32⟩
  | 95 => ⟨S8x4096x16x32, .f32⟩
  | 96 => ⟨S8x4096x16x32, .f32⟩
  | 97 => ⟨S8x4096x16x32, .f32⟩
  | 98 => ⟨S8x4096x16x32, .f32⟩
  | 99 => ⟨S8x4096x16x32, .f32⟩
  | 100 => ⟨S8x4096x16x32, .f32⟩
  | 101 => ⟨S8x4096x16x32, .f32⟩
  | 102 => ⟨S8x4096x16x32, .f32⟩
  | 103 => ⟨S8x4096x16x32, .f32⟩
  | 104 => ⟨S8x4096x16x64, .f32⟩
  | 105 => ⟨S8x4096x16x64, .f32⟩
  | 106 => ⟨S4096x32, .f32⟩
  | 107 => ⟨S4096x32, .f32⟩
  | 108 => ⟨S8x4096x16x32, .f32⟩
  | 109 => ⟨S8x4096x16x32, .f32⟩
  | 110 => ⟨S1x4096x1x32, .f32⟩
  | 111 => ⟨S1x4096x1x32, .f32⟩
  | 112 => ⟨S8x4096x16x32, .f32⟩
  | 113 => ⟨S8x4096x16x32, .f32⟩
  | 114 => ⟨S8x4096x16x32, .f32⟩
  | 115 => ⟨S8x4096x16x32, .f32⟩
  | 116 => ⟨S8x4096x16x32, .f32⟩
  | 117 => ⟨S8x4096x16x32, .f32⟩
  | 118 => ⟨S8x4096x16x32, .f32⟩
  | 119 => ⟨S8x4096x16x32, .f32⟩
  | 120 => ⟨S8x4096x16x32, .f32⟩
  | 121 => ⟨S8x4096x16x32, .f32⟩
  | 122 => ⟨S8x4096x16x64, .f32⟩
  | 123 => ⟨S8x4096x16x128, .f32⟩
  | 124 => ⟨S_, .f32⟩
  | 125 => ⟨S8x4096x16x128, .f32⟩
  | 126 => ⟨S8x4096x16x128, .f32⟩
  | 127 => ⟨S8x4096x16x128, .f32⟩
  | _ => ⟨S8x4096x2048, .f32⟩

abbrev hbmTy0_1 (i : Nat) : BufTy := match i % 128 with
  | 0 => ⟨S8x4096x16x128, .f32⟩
  | 1 => ⟨S_, .f32⟩
  | 2 => ⟨S8x4096x16, .f32⟩
  | 3 => ⟨S8x4096x16x1, .f32⟩
  | 4 => ⟨S_, .f32⟩
  | 5 => ⟨S8x4096x16x1, .f32⟩
  | 6 => ⟨S8x4096x16x1, .f32⟩
  | 7 => ⟨S_, .f32⟩
  | 8 => ⟨S8x4096x16x1, .f32⟩
  | 9 => ⟨S8x4096x16x1, .f32⟩
  | 10 => ⟨S8x4096x16x1, .f32⟩
  | 11 => ⟨S8x4096x16x128, .f32⟩
  | 12 => ⟨S8x4096x16x128, .f32⟩
  | 13 => ⟨S1x1x1x128, .f32⟩
  | 14 => ⟨S8x4096x16x128, .f32⟩
  | 15 => ⟨S8x4096x16x128, .f32⟩
  | 16 => ⟨S8x4096x16x64, .f32⟩
  | 17 => ⟨S4096x32, .f32⟩
  | 18 => ⟨S4096x32, .f32⟩
  | 19 => ⟨S8x4096x16x32, .f32⟩
  | 20 => ⟨S8x4096x16x32, .f32⟩
  | 21 => ⟨S1x4096x1x32, .f32⟩
  | 22 => ⟨S1x4096x1x32, .f32⟩
  | 23 => ⟨S8x4096x16x32, .f32⟩
  | 24 => ⟨S8x4096x16x32, .f32⟩
  | 25 => ⟨S8x4096x16x32, .f32⟩
  | 26 => ⟨S8x4096x16x32, .f32⟩
  | 27 => ⟨S8x4096x16x32, .f32⟩
  | 28 => ⟨S8x4096x16x32, .f32⟩
  | 29 => ⟨S8x4096x16x32, .f32⟩
  | 30 => ⟨S8x4096x16x32, .f32⟩
  | 31 => ⟨S8x4096x16x32, .f32⟩
  | 32 => ⟨S8x4096x16x32, .f32⟩
  | 33 => ⟨S8x4096x16x64, .f32⟩
  | 34 => ⟨S8x4096x16x64, .f32⟩
  | 35 => ⟨S4096x32, .f32⟩
  | 36 => ⟨S4096x32, .f32⟩
  | 37 => ⟨S8x4096x16x32, .f32⟩
  | 38 => ⟨S8x4096x16x32, .f32⟩
  | 39 => ⟨S1x4096x1x32, .f32⟩
  | 40 => ⟨S1x4096x1x32, .f32⟩
  | 41 => ⟨S8x4096x16x32, .f32⟩
  | 42 => ⟨S8x4096x16x32, .f32⟩
  | 43 => ⟨S8x4096x16x32, .f32⟩
  | 44 => ⟨S8x4096x16x32, .f32⟩
  | 45 => ⟨S8x4096x16x32, .f32⟩
  | 46 => ⟨S8x4096x16x32, .f32⟩
  | 47 => ⟨S8x4096x16x32, .f32⟩
  | 48 => ⟨S8x4096x16x32, .f32⟩
  | 49 => ⟨S8x4096x16x32, .f32⟩
  | 50 => ⟨S8x4096x16x32, .f32⟩
  | 51 => ⟨S8x4096x16x64, .f32⟩
  | 52 => ⟨S8x4096x16x128, .f32⟩
  | 53 => ⟨S8x4096x2048, .f32⟩
  | 54 => ⟨S8x4096x2048, .f32⟩
  | 55 => ⟨S8x4096x6144, .f32⟩
  | 56 => ⟨S32768x6144, .f32⟩
  | 57 => ⟨S32768x6144, .bf16⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_v110 : Ref sig .tc := ⟨.hbm, 130, rfl⟩
abbrev main_v111 : Ref sig .tc := ⟨.hbm, 131, rfl⟩
abbrev main_cst_12 : Ref sig .tc := ⟨.hbm, 132, rfl⟩
abbrev main_v112 : Ref sig .tc := ⟨.hbm, 133, rfl⟩
abbrev main_v113 : Ref sig .tc := ⟨.hbm, 134, rfl⟩
abbrev main_cst_13 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩

abbrev nD : Nat := 1
abbrev τ : Topo := Topo.v7x

variable {F : FTy → Type} [FloatOps F]
-- ==== OutProj.lean ====
abbrev S32768x2048 : Shape := ⟨2, ![32768, 2048]⟩
abbrev S2048x2048 : Shape := ⟨2, ![2048, 2048]⟩
abbrev S8x4096x2048 : Shape := ⟨3, ![8, 4096, 2048]⟩
abbrev S8x2048 : Shape := ⟨2, ![8, 2048]⟩
abbrev S8x1x2048 : Shape := ⟨3, ![8, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S32768x2048, .f32⟩
  | .hbm, ⟨5, _⟩ => ⟨S2048x2048, .bf16⟩
  | .hbm, ⟨6, _⟩ => ⟨S8x1x2048, .f32⟩
  | .hbm, ⟨7, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S32768x2048 : Shape := ⟨2, ![32768, 2048]⟩
abbrev S2048x2048 : Shape := ⟨2, ![2048, 2048]⟩
abbrev S8x4096x2048 : Shape := ⟨3, ![8, 4096, 2048]⟩
abbrev S8x2048 : Shape := ⟨2, ![8, 2048]⟩
abbrev S8x1x2048 : Shape := ⟨3, ![8, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S8x1x2048, .f32⟩
  | .hbm, ⟨5, _⟩ => ⟨S32768x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ProjA.lean ====
abbrev S8x4096x2048 : Shape := ⟨3, ![8, 4096, 2048]⟩
abbrev S2048 : Shape := ⟨1, ![2048]⟩
abbrev S8x2048 : Shape := ⟨2, ![8, 2048]⟩
abbrev S2048x3072 : Shape := ⟨2, ![2048, 3072]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S32768x2048 : Shape := ⟨2, ![32768, 2048]⟩
abbrev S1x2048 : Shape := ⟨2, ![1, 2048]⟩
abbrev S1x128 : Shape := ⟨2, ![1, 128]⟩
abbrev S16x128 : Shape := ⟨2, ![16, 128]⟩
abbrev S4x128 : Shape := ⟨2, ![4, 128]⟩
abbrev S512 : Shape := ⟨1, ![512]⟩
abbrev S3072 : Shape := ⟨1, ![3072]⟩
abbrev S1x3072 : Shape := ⟨2, ![1, 3072]⟩
abbrev S8x1x2048 : Shape := ⟨3, ![8, 1, 2048]⟩
abbrev S32768x3072 : Shape := ⟨2, ![32768, 3072]⟩
abbrev S1024x2048 : Shape := ⟨2, ![1024, 2048]⟩
abbrev S1x1x2048 : Shape := ⟨3, ![1, 1, 2048]⟩
abbrev S2048x512 : Shape := ⟨2, ![2048, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 69
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x3072, .f32⟩
  | .hbm, ⟨5, _⟩ => ⟨S128, .f32⟩
  | .hbm, ⟨6, _⟩ => ⟨S128, .f32⟩
  | .hbm, ⟨7, _⟩ => ⟨S64, .f32⟩
  | .hbm, ⟨8, _⟩ => ⟨S64x64, .f32⟩
  | .hbm, ⟨9, _⟩ => ⟨S4096, .f32⟩
  | .hbm, ⟨10, _⟩ => ⟨S64, .f32⟩
  | .hbm, ⟨11, _⟩ => ⟨S1x64, .f32⟩
  | .hbm, ⟨12, _⟩ => ⟨S64x64, .f32⟩
  | .hbm, ⟨13, _⟩ => ⟨S4096, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x128, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x128, .f32⟩
  | .hbm, ⟨50, _⟩ => ⟨S32768x2048, .f32⟩
  | .hbm, ⟨51, _⟩ => ⟨S1x2048, .f32⟩
  | .hbm, ⟨52, _⟩ => ⟨S2048x3072, .bf16⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S16x128, .f32⟩
  | .hbm, ⟨58, _⟩ => ⟨S2048, .f32⟩
  | .hbm, ⟨59, _⟩ => ⟨S1x128, .f32⟩
  | .hbm, ⟨60, _⟩ => ⟨S4x128, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S3072, .f32⟩
  | .hbm, ⟨65, _⟩ => ⟨S1x3072, .f32⟩
  | .hbm, ⟨66, _⟩ => ⟨S8x1x2048, .f32⟩
  | .hbm, ⟨67, _⟩ => ⟨S8x1x2048, .f32⟩
  | .hbm, ⟨68, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c5_i32 : BitVec 32 := 5#32
  let v7 : BitVec 1 := Scalar.cmpi .slt arg1 c5_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c5_i32_5 : BitVec 32 := 5#32
  let v10 : BitVec 1 := Scalar.cmpi .sge arg1 c5_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjARefIdeal.lean ====
abbrev S8x4096x2048 : Shape := ⟨3, ![8, 4096, 2048]⟩
abbrev S2048 : Shape := ⟨1, ![2048]⟩
abbrev S8x2048 : Shape := ⟨2, ![8, 2048]⟩
abbrev S2048x3072 : Shape := ⟨2, ![2048, 3072]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x3072 : Shape := ⟨3, ![8, 4096, 3072]⟩
abbrev S8x4096x512 : Shape := ⟨3, ![8, 4096, 512]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S8x4096x16x64 : Shape := ⟨4, ![8, 4096, 16, 64]⟩
abbrev S8x4096x16x32 : Shape := ⟨4, ![8, 4096, 16, 32]⟩
abbrev S1x4096x1x32 : Shape := ⟨4, ![1, 4096, 1, 32]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S8x4096x4x64 : Shape := ⟨4, ![8, 4096, 4, 64]⟩
abbrev S8x4096x4x32 : Shape := ⟨4, ![8, 4096, 4, 32]⟩
abbrev S32768x3072 : Shape := ⟨2, ![32768, 3072]⟩

abbrev nBuf : Space → Nat
  | .hbm => 186
  | .vmem => 0
  | .smem => 0
  | _ => 0

abbrev hbmTy0_0 (i : Nat) : BufTy := match i % 128 with
  | 0 => ⟨S8x4096x2048, .f32⟩
  | 1 => ⟨S2048, .f32⟩
  | 2 => ⟨S8x2048, .f32⟩
  | 3 => ⟨S8x2048, .f32⟩
  | 4 => ⟨S2048x3072, .f32⟩
  | 5 => ⟨S128, .f32⟩
  | 6 => ⟨S128, .f32⟩
  | 7 => ⟨S64, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4096x1, .f32⟩
  | 29 => ⟨S1x32, .f32⟩
  | 30 => ⟨S4096x32, .f32⟩
  | 31 => ⟨S4096x32, .f32⟩
  | 32 => ⟨S4096x32, .f32⟩
  | 33 => ⟨S4096x1, .f32⟩
  | 34 => ⟨S1x32, .f32⟩
  | 35 => ⟨S4096x32, .f32⟩
  | 36 => ⟨S4096x32, .f32⟩
  | 37 => ⟨S4096x32, .f32⟩
  | 38 => ⟨S4096x64, .f32⟩
  | 39 => ⟨S4096x64, .f32⟩
  | 40 => ⟨S4096x64, .f32⟩
  | 41 => ⟨S8x4096x2048, .f32⟩
  | 42 => ⟨S_, .f32⟩
  | 43 => ⟨S8x4096, .f32⟩
  | 44 => ⟨S8x4096x1, .f32⟩
  | 45 => ⟨S_, .f32⟩
  | 46 => ⟨S8x4096x1, .f32⟩
  | 47 => ⟨S8x4096x1, .f32⟩
  | 48 => ⟨S_, .f32⟩
  | 49 => ⟨S8x4096x1, .f32⟩
  | 50 => ⟨S8x4096x1, .f32⟩
  | 51 => ⟨S8x4096x1, .f32⟩
  | 52 => ⟨S8x4096x2048, .f32⟩
  | 53 => ⟨S8x4096x2048, .f32⟩
  | 54 => ⟨S1x1x2048, .f32⟩
  | 55 => ⟨S8x4096x2048, .f32⟩
  | 56 => ⟨S8x4096x2048, .f32⟩
  | 57 => ⟨S8x1x2048, .f32⟩
  | 58 => ⟨S_, .f32⟩
  | 59 => ⟨S8x1x2048, .f32⟩
  | 60 => ⟨S8x1x2048, .f32⟩
  | 61 => ⟨S8x4096x2048, .f32⟩
  | 62 => ⟨S8x4096x2048, .f32⟩
  | 63 => ⟨S8x1x2048, .f32⟩
  | 64 => ⟨S8x4096x2048, .f32⟩
  | 65 => ⟨S8x4096x2048, .f32⟩
  | 66 => ⟨S8x4096x3072, .f32⟩
  | 67 => ⟨S8x4096x2048, .f32⟩
  | 68 => ⟨S8x4096x512, .f32⟩
  | 69 => ⟨S8x4096x512, .f32⟩
  | 70 => ⟨S8x4096x16x128, .f32⟩
  | 71 => ⟨S8x4096x16x128, .f32⟩
  | 72 => ⟨S_, .f32⟩
  | 73 => ⟨S8x4096x16, .f32⟩
  | 74 => ⟨S8x4096x16x1, .f32⟩
  | 75 => ⟨S_, .f32⟩
  | 76 => ⟨S8x4096x16x1, .f32⟩
  | 77 => ⟨S8x4096x16x1, .f32⟩
  | 78 => ⟨S_, .f32⟩
  | 79 => ⟨S8x4096x16x1, .f32⟩
  | 80 => ⟨S8x4096x16x1, .f32⟩
  | 81 => ⟨S8x4096x16x1, .f32⟩
  | 82 => ⟨S8x4096x16x128, .f32⟩
  | 83 => ⟨S8x4096x16x128, .f32⟩
  | 84 => ⟨S1x1x1x128, .f32⟩
  | 85 => ⟨S8x4096x16x128, .f32⟩
  | 86 => ⟨S8x4096x16x128, .f32⟩
  | 87 => ⟨S8x4096x16x64, .f32⟩
  | 88 => ⟨S4096x32, .f32⟩
  | 89 => ⟨S4096x32, .f32⟩
  | 90 => ⟨S8x4096x16x32, .f32⟩
  | 91 => ⟨S8x4096x16x32, .f32⟩
  | 92 => ⟨S1x4096x1x32, .f32⟩
  | 93 => ⟨S1x4096x1x32, .f32⟩
  | 94 => ⟨S8x4096x16x32, .f32⟩
  | 95 => ⟨S8x4096x16x32, .f32⟩
  | 96 => ⟨S8x4096x16x32, .f32⟩
  | 97 => ⟨S8x4096x16x32, .f32⟩
  | 98 => ⟨S8x4096x16x32, .f32⟩
  | 99 => ⟨S8x4096x16x32, .f32⟩
  | 100 => ⟨S8x4096x16x32, .f32⟩
  | 101 => ⟨S8x4096x16x32, .f32⟩
  | 102 => ⟨S8x4096x16x32, .f32⟩
  | 103 => ⟨S8x4096x16x32, .f32⟩
  | 104 => ⟨S8x4096x16x64, .f32⟩
  | 105 => ⟨S8x4096x16x64, .f32⟩
  | 106 => ⟨S4096x32, .f32⟩
  | 107 => ⟨S4096x32, .f32⟩
  | 108 => ⟨S8x4096x16x32, .f32⟩
  | 109 => ⟨S8x4096x16x32, .f32⟩
  | 110 => ⟨S1x4096x1x32, .f32⟩
  | 111 => ⟨S1x4096x1x32, .f32⟩
  | 112 => ⟨S8x4096x16x32, .f32⟩
  | 113 => ⟨S8x4096x16x32, .f32⟩
  | 114 => ⟨S8x4096x16x32, .f32⟩
  | 115 => ⟨S8x4096x16x32, .f32⟩
  | 116 => ⟨S8x4096x16x32, .f32⟩
  | 117 => ⟨S8x4096x16x32, .f32⟩
  | 118 => ⟨S8x4096x16x32, .f32⟩
  | 119 => ⟨S8x4096x16x32, .f32⟩
  | 120 => ⟨S8x4096x16x32, .f32⟩
  | 121 => ⟨S8x4096x16x32, .f32⟩
  | 122 => ⟨S8x4096x16x64, .f32⟩
  | 123 => ⟨S8x4096x16x128, .f32⟩
  | 124 => ⟨S_, .f32⟩
  | 125 => ⟨S8x4096x16x128, .f32⟩
  | 126 => ⟨S8x4096x16x128, .f32⟩
  | 127 => ⟨S8x4096x4x128, .f32⟩
  | _ => ⟨S8x4096x2048, .f32⟩

abbrev hbmTy0_1 (i : Nat) : BufTy := match i % 128 with
  | 0 => ⟨S8x4096x4x128, .f32⟩
  | 1 => ⟨S_, .f32⟩
  | 2 => ⟨S8x4096x4, .f32⟩
  | 3 => ⟨S8x4096x4x1, .f32⟩
  | 4 => ⟨S_, .f32⟩
  | 5 => ⟨S8x4096x4x1, .f32⟩
  | 6 => ⟨S8x4096x4x1, .f32⟩
  | 7 => ⟨S_, .f32⟩
  | 8 => ⟨S8x4096x4x1, .f32⟩
  | 9 => ⟨S8x4096x4x1, .f32⟩
  | 10 => ⟨S8x4096x4x1, .f32⟩
  | 11 => ⟨S8x4096x4x128, .f32⟩
  | 12 => ⟨S8x4096x4x128, .f32⟩
  | 13 => ⟨S1x1x1x128, .f32⟩
  | 14 => ⟨S8x4096x4x128, .f32⟩
  | 15 => ⟨S8x4096x4x128, .f32⟩
  | 16 => ⟨S8x4096x4x64, .f32⟩
  | 17 => ⟨S4096x32, .f32⟩
  | 18 => ⟨S4096x32, .f32⟩
  | 19 => ⟨S8x4096x4x32, .f32⟩
  | 20 => ⟨S8x4096x4x32, .f32⟩
  | 21 => ⟨S1x4096x1x32, .f32⟩
  | 22 => ⟨S1x4096x1x32, .f32⟩
  | 23 => ⟨S8x4096x4x32, .f32⟩
  | 24 => ⟨S8x4096x4x32, .f32⟩
  | 25 => ⟨S8x4096x4x32, .f32⟩
  | 26 => ⟨S8x4096x4x32, .f32⟩
  | 27 => ⟨S8x4096x4x32, .f32⟩
  | 28 => ⟨S8x4096x4x32, .f32⟩
  | 29 => ⟨S8x4096x4x32, .f32⟩
  | 30 => ⟨S8x4096x4x32, .f32⟩
  | 31 => ⟨S8x4096x4x32, .f32⟩
  | 32 => ⟨S8x4096x4x32, .f32⟩
  | 33 => ⟨S8x4096x4x64, .f32⟩
  | 34 => ⟨S8x4096x4x64, .f32⟩
  | 35 => ⟨S4096x32, .f32⟩
  | 36 => ⟨S4096x32, .f32⟩
  | 37 => ⟨S8x4096x4x32, .f32⟩
  | 38 => ⟨S8x4096x4x32, .f32⟩
  | 39 => ⟨S1x4096x1x32, .f32⟩
  | 40 => ⟨S1x4096x1x32, .f32⟩
  | 41 => ⟨S8x4096x4x32, .f32⟩
  | 42 => ⟨S8x4096x4x32, .f32⟩
  | 43 => ⟨S8x4096x4x32, .f32⟩
  | 44 => ⟨S8x4096x4x32, .f32⟩
  | 45 => ⟨S8x4096x4x32, .f32⟩
  | 46 => ⟨S8x4096x4x32, .f32⟩
  | 47 => ⟨S8x4096x4x32, .f32⟩
  | 48 => ⟨S8x4096x4x32, .f32⟩
  | 49 => ⟨S8x4096x4x32, .f32⟩
  | 50 => ⟨S8x4096x4x32, .f32⟩
  | 51 => ⟨S8x4096x4x64, .f32⟩
  | 52 => ⟨S8x4096x4x128, .f32⟩
  | 53 => ⟨S8x4096x2048, .f32⟩
  | 54 => ⟨S8x4096x512, .f32⟩
  | 55 => ⟨S8x4096x3072, .f32⟩
  | 56 => ⟨S32768x3072, .f32⟩
  | 57 => ⟨S32768x3072, .bf16⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_v110 : Ref sig .tc := ⟨.hbm, 130, rfl⟩
abbrev main_v111 : Ref sig .tc := ⟨.hbm, 131, rfl⟩
abbrev main_cst_12 : Ref sig .tc := ⟨.hbm, 132, rfl⟩
abbrev main_v112 : Ref sig .tc := ⟨.hbm, 133, rfl⟩
abbrev main_v113 : Ref sig .tc := ⟨.hbm, 134, rfl⟩
abbrev main_cst_13 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩

abbrev nD : Nat := 1
abbrev τ : Topo := Topo.v7x

variable {F : FTy → Type} [FloatOps F]
-- ==== Mod.lean ====
abbrev S16x2048 : Shape := ⟨2, ![16, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x2048 : Shape := ⟨2, ![16, 2048]⟩
abbrev S4x2048x12288 : Shape := ⟨3, ![4, 2048, 12288]⟩
abbrev S4x12288 : Shape := ⟨2, ![4, 12288]⟩
abbrev S_ : Shape := ⟨0, ![]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x12288x16, .f32⟩
  | .hbm, ⟨13, _⟩ => ⟨S4x16x12288, .f32⟩
  | .hbm, ⟨14, _⟩ => ⟨S4x1x12288, .f32⟩
  | .hbm, ⟨15, _⟩ => ⟨S4x16x12288, .f32⟩
  | .hbm, ⟨16, _⟩ => ⟨S4x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== CtxB.lean ====
abbrev S32x256x2048 : Shape := ⟨3, ![32, 256, 2048]⟩
abbrev S2048 : Shape := ⟨1, ![2048]⟩
abbrev S1x2048 : Shape := ⟨2, ![1, 2048]⟩
abbrev S2048x6144 : Shape := ⟨2, ![2048, 6144]⟩
abbrev S128 : Shape := ⟨1, ![128]⟩
abbrev S8192x2048 : Shape := ⟨2, ![8192, 2048]⟩
abbrev S_ : Shape := ⟨0, ![]⟩
abbrev S1x128 : Shape := ⟨2, ![1, 128]⟩
abbrev S16x128 : Shape := ⟨2, ![16, 128]⟩
abbrev S6144 : Shape := ⟨1, ![6144]⟩
abbrev S1x6144 : Shape := ⟨2, ![1, 6144]⟩
abbrev S1x1x2048 : Shape := ⟨3, ![1, 1, 2048]⟩
abbrev S8192x6144 : Shape := ⟨2, ![8192, 6144]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 26
  | .vmem => 12
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x6144, .f32⟩
  | .hbm, ⟨5, _⟩ => ⟨S128, .f32⟩
  | .hbm, ⟨6, _⟩ => ⟨S128, .f32⟩
  | .hbm, ⟨7, _⟩ => ⟨S8192x2048, .f32⟩
  | .hbm, ⟨8, _⟩ => ⟨S1x2048, .f32⟩
  | .hbm, ⟨9, _⟩ => ⟨S2048x6144, .bf16⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S1x128, .f32⟩
  | .hbm, ⟨17, _⟩ => ⟨S16x128, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S6144, .f32⟩
  | .hbm, ⟨22, _⟩ => ⟨S1x6144, .f32⟩
  | .hbm, ⟨23, _⟩ => ⟨S1x1x2048, .f32⟩
  | .hbm, ⟨24, _⟩ => ⟨S1x1x2048, .f32⟩
  | .hbm, ⟨25, _⟩ => ⟨S8192x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c8_i32 : BitVec 32 := 8#32
  let v7 : BitVec 1 := Scalar.cmpi .slt arg1 c8_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32_5 : BitVec 32 := 8#32
  let v10 : BitVec 1 := Scalar.cmpi .sge arg1 c8_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CtxBRefIdeal.lean ====
abbrev S32x256x2048 : Shape := ⟨3, ![32, 256, 2048]⟩
abbrev S2048 : Shape := ⟨1, ![2048]⟩
abbrev S1x2048 : Shape := ⟨2, ![1, 2048]⟩
abbrev S2048x6144 : Shape := ⟨2, ![2048, 6144]⟩
abbrev S128 : Shape := ⟨1, ![128]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S32x256x6144 : Shape := ⟨3, ![32, 256, 6144]⟩
abbrev S32x256x16x128 : Shape := ⟨4, ![32, 256, 16, 128]⟩
abbrev S32x256x16 : Shape := ⟨3, ![32, 256, 16]⟩
abbrev S32x256x16x1 : Shape := ⟨4, ![32, 256, 16, 1]⟩
abbrev S1x1x1x128 : Shape := ⟨4, ![1, 1, 1, 128]⟩
abbrev S8192x6144 : Shape := ⟨2, ![8192, 6144]⟩

abbrev nBuf : Space → Nat
  | .hbm => 77
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x6144, .f32⟩
  | .hbm, ⟨5, _⟩ => ⟨S128, .f32⟩
  | .hbm, ⟨6, _⟩ => ⟨S128, .f32⟩
  | .hbm, ⟨7, _⟩ => ⟨S32x256x2048, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x2048, .f32⟩
  | .hbm, ⟨19, _⟩ => ⟨S32x256x2048, .f32⟩
  | .hbm, ⟨20, _⟩ => ⟨S1x1x2048, .f32⟩
  | .hbm, ⟨21, _⟩ => ⟨S32x256x2048, .f32⟩
  | .hbm, ⟨22, _⟩ => ⟨S32x256x2048, .f32⟩
  | .hbm, ⟨23, _⟩ => ⟨S1x1x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S32x256x2048, .f32⟩
  | .hbm, ⟨28, _⟩ => ⟨S32x256x2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S32x256x6144, .f32⟩
  | .hbm, ⟨33, _⟩ => ⟨S32x256x2048, .f32⟩
  | .hbm, ⟨34, _⟩ => ⟨S32x256x2048, .f32⟩
  | .hbm, ⟨35, _⟩ => ⟨S32x256x2048, .f32⟩
  | .hbm, ⟨36, _⟩ => ⟨S32x256x16x128, .f32⟩
  | .hbm, ⟨37, _⟩ => ⟨S32x256x16x128, .f32⟩
  | .hbm, ⟨38, _⟩ => ⟨S_, .f32⟩
  | .hbm, ⟨39, _⟩ => ⟨S32x256x16, .f32⟩
  | .hbm, ⟨40, _⟩ => ⟨S32x256x16x1, .f32⟩
  | .hbm, ⟨41, _⟩ => ⟨S_, .f32⟩
  | .hbm, ⟨42, _⟩ => ⟨S32x256x16x1, .f32⟩
  | .hbm, ⟨43, _⟩ => ⟨S32x256x16x1, .f32⟩
  | .hbm, ⟨44, _⟩ => ⟨S_, .f32⟩
  | .hbm, ⟨45, _⟩ => ⟨S32x256x16x1, .f32⟩
  | .hbm, ⟨46, _⟩ => ⟨S32x256x16x1, .f32⟩
  | .hbm, ⟨47, _⟩ => ⟨S32x256x16x1, .f32⟩
  | .hbm, ⟨48, _⟩ => ⟨S32x256x16x128, .f32⟩
  | .hbm, ⟨49, _⟩ => ⟨S32x256x16x128, .f32⟩
  | .hbm, ⟨50, _⟩ => ⟨S1x1x1x128, .f32⟩
  | .hbm, ⟨51, _⟩ => ⟨S32x256x16x128, .f32⟩
  | .hbm, ⟨52, _⟩ => ⟨S32x256x16x128, .f32⟩
  | .hbm, ⟨53, _⟩ => ⟨S_, .f32⟩
  | .hbm, ⟨54, _⟩ => ⟨S32x256x16x128, .f32⟩
  | .hbm, ⟨55, _⟩ => ⟨S32x256x16x128, .f32⟩
  | .hbm, ⟨56, _⟩ => ⟨S32x256x16x128, .f32⟩
  | .hbm, ⟨57, _⟩ => ⟨S32x256x16x128, .f32⟩
  | .hbm, ⟨58, _⟩ => ⟨S_, .f32⟩
  | .hbm, ⟨59, _⟩ => ⟨S32x256x16, .f32⟩
  | .hbm, ⟨60, _⟩ => ⟨S32x256x16x1, .f32⟩
  | .hbm, ⟨61, _⟩ => ⟨S_, .f32⟩
  | .hbm, ⟨62, _⟩ => ⟨S32x256x16x1, .f32⟩
  | .hbm, ⟨63, _⟩ => ⟨S32x256x16x1, .f32⟩
  | .hbm, ⟨64, _⟩ => ⟨S_, .f32⟩
  | .hbm, ⟨65, _⟩ => ⟨S32x256x16x1, .f32⟩
  | .hbm, ⟨66, _⟩ => ⟨S32x256x16x1, .f32⟩
  | .hbm, ⟨67, _⟩ => ⟨S32x256x16x1, .f32⟩
  | .hbm, ⟨68, _⟩ => ⟨S32x256x16x128, .f32⟩
  | .hbm, ⟨69, _⟩ => ⟨S32x256x16x128, .f32⟩
  | .hbm, ⟨70, _⟩ => ⟨S1x1x1x128, .f32⟩
  | .hbm, ⟨71, _⟩ => ⟨S32x256x16x128, .f32⟩
  | .hbm, ⟨72, _⟩ => ⟨S32x256x16x128, .f32⟩
  | .hbm, ⟨73, _⟩ => ⟨S32x256x2048, .f32⟩
  | .hbm, ⟨74, _⟩ => ⟨S32x256x2048, .f32⟩
  | .hbm, ⟨75, _⟩ => ⟨S32x256x6144, .f32⟩
  | .hbm, ⟨76, _⟩ => ⟨S8192x6144, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== CtxA.lean ====
abbrev S32x256x2048 : Shape := ⟨3, ![32, 256, 2048]⟩
abbrev S2048 : Shape := ⟨1, ![2048]⟩
abbrev S1x2048 : Shape := ⟨2, ![1, 2048]⟩
abbrev S2048x3072 : Shape := ⟨2, ![2048, 3072]⟩
abbrev S128 : Shape := ⟨1, ![128]⟩
abbrev S8192x2048 : Shape := ⟨2, ![8192, 2048]⟩
abbrev S_ : Shape := ⟨0, ![]⟩
abbrev S1x128 : Shape := ⟨2, ![1, 128]⟩
abbrev S16x128 : Shape := ⟨2, ![16, 128]⟩
abbrev S4x128 : Shape := ⟨2, ![4, 128]⟩
abbrev S512 : Shape := ⟨1, ![512]⟩
abbrev S3072 : Shape := ⟨1, ![3072]⟩
abbrev S1x3072 : Shape := ⟨2, ![1, 3072]⟩
abbrev S1x1x2048 : Shape := ⟨3, ![1, 1, 2048]⟩
abbrev S8192x3072 : Shape := ⟨2, ![8192, 3072]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩

abbrev nBuf : Space → Nat
  | .hbm => 26
  | .vmem => 12
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x3072, .f32⟩
  | .hbm, ⟨5, _⟩ => ⟨S128, .f32⟩
  | .hbm, ⟨6, _⟩ => ⟨S128, .f32⟩
  | .hbm, ⟨7, _⟩ => ⟨S8192x2048, .f32⟩
  | .hbm, ⟨8, _⟩ => ⟨S1x2048, .f32⟩
  | .hbm, ⟨9, _⟩ => ⟨S2048x3072, .bf16⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S1x128, .f32⟩
  | .hbm, ⟨17, _⟩ => ⟨S4x128, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S3072, .f32⟩
  | .hbm, ⟨22, _⟩ => ⟨S1x3072, .f32⟩
  | .hbm, ⟨23, _⟩ => ⟨S1x1x2048, .f32⟩
  | .hbm, ⟨24, _⟩ => ⟨S1x1x2048, .f32⟩
  | .hbm, ⟨25, _⟩ => ⟨S8192x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v7 : BitVec 1 := Scalar.cmpi .slt arg1 c5_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c5_i32_5 : BitVec 32 := 5#32
  let v10 : BitVec 1 := Scalar.cmpi .sge arg1 c5_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CtxARefIdeal.lean ====
abbrev S32x256x2048 : Shape := ⟨3, ![32, 256, 2048]⟩
abbrev S2048 : Shape := ⟨1, ![2048]⟩
abbrev S1x2048 : Shape := ⟨2, ![1, 2048]⟩
abbrev S2048x3072 : Shape := ⟨2, ![2048, 3072]⟩
abbrev S128 : Shape := ⟨1, ![128]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S32x256x3072 : Shape := ⟨3, ![32, 256, 3072]⟩
abbrev S32x256x512 : Shape := ⟨3, ![32, 256, 512]⟩
abbrev S32x256x16x128 : Shape := ⟨4, ![32, 256, 16, 128]⟩
abbrev S32x256x16 : Shape := ⟨3, ![32, 256, 16]⟩
abbrev S32x256x16x1 : Shape := ⟨4, ![32, 256, 16, 1]⟩
abbrev S1x1x1x128 : Shape := ⟨4, ![1, 1, 1, 128]⟩
abbrev S32x256x4x128 : Shape := ⟨4, ![32, 256, 4, 128]⟩
abbrev S32x256x4 : Shape := ⟨3, ![32, 256, 4]⟩
abbrev S32x256x4x1 : Shape := ⟨4, ![32, 256, 4, 1]⟩
abbrev S8192x3072 : Shape := ⟨2, ![8192, 3072]⟩

abbrev nBuf : Space → Nat
  | .hbm => 77
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x3072, .f32⟩
  | .hbm, ⟨5, _⟩ => ⟨S128, .f32⟩
  | .hbm, ⟨6, _⟩ => ⟨S128, .f32⟩
  | .hbm, ⟨7, _⟩ => ⟨S32x256x2048, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x2048, .f32⟩
  | .hbm, ⟨19, _⟩ => ⟨S32x256x2048, .f32⟩
  | .hbm, ⟨20, _⟩ => ⟨S1x1x2048, .f32⟩
  | .hbm, ⟨21, _⟩ => ⟨S32x256x2048, .f32⟩
  | .hbm, ⟨22, _⟩ => ⟨S32x256x2048, .f32⟩
  | .hbm, ⟨23, _⟩ => ⟨S1x1x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S32x256x2048, .f32⟩
  | .hbm, ⟨28, _⟩ => ⟨S32x256x2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S32x256x3072, .f32⟩
  | .hbm, ⟨33, _⟩ => ⟨S32x256x2048, .f32⟩
  | .hbm, ⟨34, _⟩ => ⟨S32x256x512, .f32⟩
  | .hbm, ⟨35, _⟩ => ⟨S32x256x512, .f32⟩
  | .hbm, ⟨36, _⟩ => ⟨S32x256x16x128, .f32⟩
  | .hbm, ⟨37, _⟩ => ⟨S32x256x16x128, .f32⟩
  | .hbm, ⟨38, _⟩ => ⟨S_, .f32⟩
  | .hbm, ⟨39, _⟩ => ⟨S32x256x16, .f32⟩
  | .hbm, ⟨40, _⟩ => ⟨S32x256x16x1, .f32⟩
  | .hbm, ⟨41, _⟩ => ⟨S_, .f32⟩
  | .hbm, ⟨42, _⟩ => ⟨S32x256x16x1, .f32⟩
  | .hbm, ⟨43, _⟩ => ⟨S32x256x16x1, .f32⟩
  | .hbm, ⟨44, _⟩ => ⟨S_, .f32⟩
  | .hbm, ⟨45, _⟩ => ⟨S32x256x16x1, .f32⟩
  | .hbm, ⟨46, _⟩ => ⟨S32x256x16x1, .f32⟩
  | .hbm, ⟨47, _⟩ => ⟨S32x256x16x1, .f32⟩
  | .hbm, ⟨48, _⟩ => ⟨S32x256x16x128, .f32⟩
  | .hbm, ⟨49, _⟩ => ⟨S32x256x16x128, .f32⟩
  | .hbm, ⟨50, _⟩ => ⟨S1x1x1x128, .f32⟩
  | .hbm, ⟨51, _⟩ => ⟨S32x256x16x128, .f32⟩
  | .hbm, ⟨52, _⟩ => ⟨S32x256x16x128, .f32⟩
  | .hbm, ⟨53, _⟩ => ⟨S_, .f32⟩
  | .hbm, ⟨54, _⟩ => ⟨S32x256x16x128, .f32⟩
  | .hbm, ⟨55, _⟩ => ⟨S32x256x16x128, .f32⟩
  | .hbm, ⟨56, _⟩ => ⟨S32x256x4x128, .f32⟩
  | .hbm, ⟨57, _⟩ => ⟨S32x256x4x128, .f32⟩
  | .hbm, ⟨58, _⟩ => ⟨S_, .f32⟩
  | .hbm, ⟨59, _⟩ => ⟨S32x256x4, .f32⟩
  | .hbm, ⟨60, _⟩ => ⟨S32x256x4x1, .f32⟩
  | .hbm, ⟨61, _⟩ => ⟨S_, .f32⟩
  | .hbm, ⟨62, _⟩ => ⟨S32x256x4x1, .f32⟩
  | .hbm, ⟨63, _⟩ => ⟨S32x256x4x1, .f32⟩
  | .hbm, ⟨64, _⟩ => ⟨S_, .f32⟩
  | .hbm, ⟨65, _⟩ => ⟨S32x256x4x1, .f32⟩
  | .hbm, ⟨66, _⟩ => ⟨S32x256x4x1, .f32⟩
  | .hbm, ⟨67, _⟩ => ⟨S32x256x4x1, .f32⟩
  | .hbm, ⟨68, _⟩ => ⟨S32x256x4x128, .f32⟩
  | .hbm, ⟨69, _⟩ => ⟨S32x256x4x128, .f32⟩
  | .hbm, ⟨70, _⟩ => ⟨S1x1x1x128, .f32⟩
  | .hbm, ⟨71, _⟩ => ⟨S32x256x4x128, .f32⟩
  | .hbm, ⟨72, _⟩ => ⟨S32x256x4x128, .f32⟩
  | .hbm, ⟨73, _⟩ => ⟨S32x256x2048, .f32⟩
  | .hbm, ⟨74, _⟩ => ⟨S32x256x512, .f32⟩
  | .hbm, ⟨75, _⟩ => ⟨S32x256x3072, .f32⟩
  | .hbm, ⟨76, _⟩ => ⟨S8192x3072, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Proof.AttnB.Blocks.lean ====
/- Differential attention: the blocks that a grid point stages, read off the operands. -/
module

public import proofs.«01_k».proof.Proof.Gen.AttnBIdeal.Value
public import proofs.«01_k».proof.Proof.Gen.AttnBRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnBIdeal.RefValue

open Cert.AttnBIdeal Cert.AttnBIdeal.Gen
open Cert.AttnBRefIdeal.Read

variable (m : (ℓ : Loc nD τ sig) → Buf (Elt Ideal) ℓ)

/-- The block that each window stages at a grid point, as arithmetic on the point's number: the grid walks the sixteen
    groups of queries inside the heads inside the samples. -/
theorem idx : ∀ t : Fin cfg0.N, win0_0.index t = ![0, 0] ∧ win0_1.index t = ![t.val / 128 * 16 + t.val % 16, t.val / 16 % 8]
    ∧ win0_2.index t = ![t.val / 128, 8 + t.val / 16 % 8] ∧ win0_3.index t = ![t.val / 128, 16 + t.val / 16 % 8]
    ∧ win0_4.index t = ![t.val / 128, 0, t.val / 16 % 8] ∧ win0_5.index t = ![t.val / 128, 0, t.val / 16 % 8]
    ∧ win0_6.index t = ![0, 0] ∧ win0_7.index t = ![t.val / 128 * 16 + t.val % 16, t.val / 16 % 8] :=
  (by decide +kernel : ∀ t : Fin grid0.N, _)

/-- The queries staged at a point. -/
theorem blk1 (c : Dev nD) (t : Fin cfg0.N) (y : S256x256.Idx) (i : S32768x6144.Idx)
    (h0 : (i 0).val = (t.val / 128 * 16 + t.val % 16) * 256 + (y 0).val) (h1 : (i 1).val = t.val / 16 % 8 * 256 + (y 1).val) :
    iblk m c 1 t y = m ((c : Thread nD τ).loc main_arg0) i := by
  show V m c main_arg0 (((cfg0.win 1).blk t).view.emb y) = _
  rw [V_main_arg0]
  refine congrArg _ (funext fun a => Fin.ext ?_)
  match a with
  | ⟨0, _⟩ => blk_simp [idx t]; exact h0.symm
  | ⟨1, _⟩ => blk_simp [idx t]; exact h1.symm

/-- The latent keys staged at a point. -/
theorem blk2 (c : Dev nD) (t : Fin cfg0.N) (y : S4096x256.Idx) (i : S32768x6144.Idx)
    (h0 : (i 0).val = t.val / 128 * 4096 + (y 0).val) (h1 : (i 1).val = (8 + t.val / 16 % 8) * 256 + (y 1).val) :
    iblk m c 2 t y = m ((c : Thread nD τ).loc main_arg0) i := by
  show V m c main_arg0 (((cfg0.win 2).blk t).view.emb y) = _
  rw [V_main_arg0]
  refine congrArg _ (funext fun a => Fin.ext ?_)
  match a with
  | ⟨0, _⟩ => blk_simp [idx t]; exact h0.symm
  | ⟨1, _⟩ => blk_simp [idx t]; exact h1.symm

/-- The latent values staged at a point. -/
theorem blk3 (c : Dev nD) (t : Fin cfg0.N) (y : S4096x256.Idx) (i : S32768x6144.Idx)
    (h0 : (i 0).val = t.val / 128 * 4096 + (y 0).val) (h1 : (i 1).val = (16 + t.val / 16 % 8) * 256 + (y 1).val) :
    iblk m c 3 t y = m ((c : Thread nD τ).loc main_arg0) i := by
  show V m c main_arg0 (((cfg0.win 3).blk t).view.emb y) = _
  rw [V_main_arg0]
  refine congrArg _ (funext fun a => Fin.ext ?_)
  match a with
  | ⟨0, _⟩ => blk_simp [idx t]; exact h0.symm
  | ⟨1, _⟩ => blk_simp [idx t]; exact h1.symm

/-- The context's keys staged at a point. -/
theorem blk4 (c : Dev nD) (t : Fin cfg0.N) (k : Fin 512) (j : Fin 256) (b h : Fin 8) (s : Fin 2) (d : Fin 128)
    (hb : b.val = t.val / 128) (hh : h.val = t.val / 16 % 8) (hj : j.val = s.val * 128 + d.val) :
    iblk m c 4 t (ix3 0 k j) = m ((c : Thread nD τ).loc main_arg1) (ix5 b k h s d) := by
  show V m c main_v11 (((cfg0.win 4).blk t).view.emb (ix3 0 k j)) = _
  entry_read
  generalize he : ((cfg0.win 4).blk t).view.emb (ix3 0 k j) = e
  have e0 : (e 0).val = t.val / 128 := by rw [← he]; blk_simp [idx t]; rfl
  have e1 : (e 1).val = k.val := by rw [← he]; blk_simp [idx t]
  have e2 : (e 2).val = t.val / 16 % 8 * 256 + j.val := by rw [← he]; blk_simp [idx t]
  clear he
  generalize m _ = A
  pointwise
  refine congrArg _ (funext fun a => Fin.ext ?_)
  match a with
  | ⟨0, _⟩ => exact (e0.trans hb.symm)
  | ⟨1, _⟩ => exact e1
  | ⟨2, _⟩ => exact (show (e 2).val / 256 = h.val by omega)
  | ⟨3, _⟩ => exact (show (e 2).val / 128 % 2 = s.val by omega)
  | ⟨4, _⟩ => exact (show (e 2).val % 128 = d.val by omega)

/-- The context's values staged at a point. -/
theorem blk5 (c : Dev nD) (t : Fin cfg0.N) (k : Fin 512) (j : Fin 256) (b h : Fin 8)
    (hb : b.val = t.val / 128) (hh : h.val = t.val / 16 % 8) :
    iblk m c 5 t (ix3 0 k j) = m ((c : Thread nD τ).loc main_arg2) (ix4 b k h j) := by
  show V m c main_v13 (((cfg0.win 5).blk t).view.emb (ix3 0 k j)) = _
  entry_read
  generalize he : ((cfg0.win 5).blk t).view.emb (ix3 0 k j) = e
  have e0 : (e 0).val = t.val / 128 := by rw [← he]; blk_simp [idx t]; rfl
  have e1 : (e 1).val = k.val := by rw [← he]; blk_simp [idx t]
  have e2 : (e 2).val = t.val / 16 % 8 * 256 + j.val := by rw [← he]; blk_simp [idx t]
  clear he
  generalize m _ = A
  pointwise
  refine congrArg _ (funext fun a => Fin.ext ?_)
  match a with
  | ⟨0, _⟩ => exact (e0.trans hb.symm)
  | ⟨1, _⟩ => exact e1
  | ⟨2, _⟩ => exact (show (e 2).val / 256 = h.val by omega)
  | ⟨3, _⟩ => exact (show (e 2).val % 256 = j.val by omega)

/-- The gain staged at a point. -/
theorem blk6 (c : Dev nD) (t : Fin cfg0.N) (j : Fin 256) :
    iblk m c 6 t (ix2 0 j) = m ((c : Thread nD τ).loc main_arg7) (ix1 j) := by
  show V m c main_v9 (((cfg0.win 6).blk t).view.emb (ix2 0 j)) = _
  entry_read
  generalize he : ((cfg0.win 6).blk t).view.emb (ix2 0 j) = e
  have e1 : (e 1).val = j.val := by rw [← he]; blk_simp [idx t]
  clear he
  generalize m _ = A
  pointwise
  exact congrArg A (congrArg ix1 (Fin.ext e1))

/-- The factor of the second attention map staged at a point. -/
theorem blk0 (c : Dev nD) (t : Fin cfg0.N) (y : S1x1.Idx) :
    iblk m c 0 t y = val_main_v7 (F := Ideal) (m ((c : Thread nD τ).loc main_arg3)) (m ((c : Thread nD τ).loc main_arg4))
      (m ((c : Thread nD τ).loc main_arg5)) (m ((c : Thread nD τ).loc main_arg6)) ix0 := by
  show V m c main_v8 (((cfg0.win 0).blk t).view.emb y) = _
  entry_read
  generalize ((cfg0.win 0).blk t).view.emb y = e
  exact congrArg (val_main_v7 (F := Ideal) (m ((c : Thread nD τ).loc main_arg3)) (m ((c : Thread nD τ).loc main_arg4))
    (m ((c : Thread nD τ).loc main_arg5)) (m ((c : Thread nD τ).loc main_arg6))) (funext fun a => a.elim0)

end Cert.AttnBIdeal.RefValue

end
-- ==== Proof.AttnB.Rows.lean ====
module
public import Idealize.ShloMosaic.Lib.Pipeline.ValueKit
@[expose] public section
noncomputable section
open Idealize.ShloMosaic
namespace Cert.AttnRows

/-- The greatest score of a row, over its latent and its context keys. -/
def rowMax (s : Fin 4096 → EReal) (t : Fin 512 → EReal) : EReal :=
  max (Finset.univ.fold max (Ideal.ofBits .f32 0xFF800000#32) s) (Finset.univ.fold max (Ideal.ofBits .f32 0xFF800000#32) t)

/-- The sum of a row's exponentials. -/
def rowSum (s : Fin 4096 → EReal) (t : Fin 512 → EReal) : EReal :=
  ∑ i, Ideal.exp (s i - rowMax s t) + ∑ i, Ideal.exp (t i - rowMax s t)

/-- The difference of the two attention maps applied to the values, the first map given by its exponentials and its
    normalizer, the second by its scores. -/
def mix (p : Fin 4096 → EReal) (p' : Fin 512 → EReal) (l lam : EReal) (s : Fin 4096 → EReal) (t : Fin 512 → EReal)
    (V : Fin 4096 → Fin 256 → EReal) (W : Fin 512 → Fin 256 → EReal) (j : Fin 256) : EReal :=
  (∑ i, (p i * Ideal.div 1 l - Ideal.exp (s i - rowMax s t) * Ideal.div lam (rowSum s t)) * V i j)
    + ∑ i, (p' i * Ideal.div 1 l - Ideal.exp (t i - rowMax s t) * Ideal.div lam (rowSum s t)) * W i j

/-- A vector divided by its root mean square. -/
def rms (o : Fin 256 → EReal) (j : Fin 256) : EReal :=
  o j * Ideal.rsqrt (Ideal.div (∑ x, o x * o x) (Ideal.ofBits .f32 0x43800000#32) + Ideal.ofBits .f32 0x358637BD#32)

/-- The word of minus infinity is minus infinity. -/
theorem ofBits_ninf : Ideal.ofBits .f32 0xFF800000#32 = ⊥ := by
  simp [Ideal.ofBits, Ideal.ieee]

/-- The greatest of finitely many numbers, from minus infinity, is one of them or minus infinity. -/
theorem fold_mem {n : ℕ} (f : Fin n → EReal) : Finset.univ.fold max ⊥ f = ⊥ ∨ ∃ i, f i = Finset.univ.fold max ⊥ f := by
  refine Finset.induction_on (motive := fun s : Finset (Fin n) => s.fold max ⊥ f = ⊥ ∨ ∃ i, f i = s.fold max ⊥ f) _ (Or.inl rfl) ?_
  intro a s ha ih
  rw [Finset.fold_insert ha]
  rcases le_total (f a) (s.fold max ⊥ f) with h | h
  · rwa [max_eq_right h]
  · rw [max_eq_left h]; exact Or.inr ⟨a, rfl⟩

/-- An exponential is not negative. -/
theorem exp_nonneg (x : EReal) : 0 ≤ Ideal.exp x := by
  induction x with
  | bot => exact le_rfl
  | top => exact le_top
  | coe r => exact EReal.coe_nonneg.2 (Real.exp_pos r).le

/-- A finite number's distance to itself has exponential one. -/
theorem exp_sub_self {x : EReal} (h : x ≠ ⊥) (h' : x ≠ ⊤) : Ideal.exp (x - x) = 1 := by
  lift x to ℝ using ⟨h', h⟩
  rw [← EReal.coe_sub, sub_self, Ideal.exp_coe, Real.exp_zero, EReal.coe_one]

/-- A row of finite scores has a positive sum of exponentials: its greatest score contributes one. -/
theorem rowSum_pos (s : Fin 4096 → EReal) (t : Fin 512 → EReal) (hs : ∀ i, s i ≠ ⊥ ∧ s i ≠ ⊤) (ht : ∀ i, t i ≠ ⊥ ∧ t i ≠ ⊤) :
    0 < rowSum s t := by
  have hn : ∀ i, 0 ≤ Ideal.exp (s i - rowMax s t) := fun i => exp_nonneg _
  have hn' : ∀ i, 0 ≤ Ideal.exp (t i - rowMax s t) := fun i => exp_nonneg _
  have h1 : ∀ i, s i = rowMax s t → 0 < rowSum s t := fun i h => by
    have : (1 : EReal) ≤ rowSum s t :=
      calc (1 : EReal) = Ideal.exp (s i - rowMax s t) := by rw [← h, exp_sub_self (hs i).1 (hs i).2]
        _ ≤ ∑ i, Ideal.exp (s i - rowMax s t) := Finset.single_le_sum (f := fun i => Ideal.exp (s i - rowMax s t)) (fun i _ => hn i) (Finset.mem_univ i)
        _ ≤ rowSum s t := le_add_of_nonneg_right (Finset.sum_nonneg fun i _ => hn' i)
    exact lt_of_lt_of_le zero_lt_one this
  have h2 : ∀ i, t i = rowMax s t → 0 < rowSum s t := fun i h => by
    have : (1 : EReal) ≤ rowSum s t :=
      calc (1 : EReal) = Ideal.exp (t i - rowMax s t) := by rw [← h, exp_sub_self (ht i).1 (ht i).2]
        _ ≤ ∑ i, Ideal.exp (t i - rowMax s t) := Finset.single_le_sum (f := fun i => Ideal.exp (t i - rowMax s t)) (fun i _ => hn' i) (Finset.mem_univ i)
        _ ≤ rowSum s t := le_add_of_nonneg_left (Finset.sum_nonneg fun i _ => hn i)
    exact lt_of_lt_of_le zero_lt_one this
  have hle : s 0 ≤ rowMax s t := by
    refine le_max_of_le_left ?_
    rw [Finset.le_fold_max]
    exact Or.inr ⟨0, Finset.mem_univ _, le_rfl⟩
  have hb : rowMax s t ≠ ⊥ := fun h => (hs 0).1 (le_bot_iff.1 (h ▸ hle))
  have e : rowMax s t = max (Finset.univ.fold max ⊥ s) (Finset.univ.fold max ⊥ t) := by unfold rowMax; rw [ofBits_ninf]
  rcases le_total (Finset.univ.fold max ⊥ s) (Finset.univ.fold max ⊥ t) with h | h
  · rw [max_eq_right h] at e
    rcases fold_mem t with h' | ⟨i, h'⟩
    · exact absurd (e.trans h') hb
    · exact h2 i (h'.trans e.symm)
  · rw [max_eq_left h] at e
    rcases fold_mem s with h' | ⟨i, h'⟩
    · exact absurd (e.trans h') hb
    · exact h1 i (h'.trans e.symm)

/-- The weight of a value: the first softmax less the factor times the second. -/
theorem weight_eq {p q l l' lam : EReal} (h : l ≠ 0) (h' : l' ≠ 0) :
    p * Ideal.div 1 l - q * Ideal.div lam l' = Ideal.div p l - lam * Ideal.div q l' := by
  simp only [Ideal.div, if_neg h, if_neg h', one_mul]
  rw [mul_left_comm]

/-- The mixed values of a row, with the weights divided after the exponentials. -/
theorem mix_eq (s1 s : Fin 4096 → EReal) (t1 t : Fin 512 → EReal) (lam : EReal) (V : Fin 4096 → Fin 256 → EReal) (W : Fin 512 → Fin 256 → EReal)
    (j : Fin 256) (h1 : rowSum s1 t1 ≠ 0) (h : rowSum s t ≠ 0) :
    mix (fun i => Ideal.exp (s1 i - rowMax s1 t1)) (fun i => Ideal.exp (t1 i - rowMax s1 t1)) (rowSum s1 t1) lam s t V W j
      = (∑ i, V i j * (Ideal.div (Ideal.exp (s1 i - rowMax s1 t1)) (rowSum s1 t1) - lam * Ideal.div (Ideal.exp (s i - rowMax s t)) (rowSum s t)))
        + ∑ i, W i j * (Ideal.div (Ideal.exp (t1 i - rowMax s1 t1)) (rowSum s1 t1) - lam * Ideal.div (Ideal.exp (t i - rowMax s t)) (rowSum s t)) := by
  unfold mix
  simp only [weight_eq h1 h]
  exact congrArg₂ (· + ·) (Finset.sum_congr rfl fun i _ => mul_comm _ _) (Finset.sum_congr rfl fun i _ => mul_comm _ _)

/-- A sum of products of finite numbers is finite. -/
theorem sum_finite {n : ℕ} (a b : Fin n → EReal) (ha : ∀ d, a d ≠ ⊥ ∧ a d ≠ ⊤) (hb : ∀ d, b d ≠ ⊥ ∧ b d ≠ ⊤) :
    (∑ d, a d * b d) ≠ ⊥ ∧ (∑ d, a d * b d) ≠ ⊤ := by
  have e : (∑ d, a d * b d) = ((∑ d, (a d).toReal * (b d).toReal : ℝ) : EReal) := by
    have h : ∀ s : Finset (Fin n), ∑ d ∈ s, a d * b d = ((∑ d ∈ s, (a d).toReal * (b d).toReal : ℝ) : EReal) := fun s => by
      induction s using Finset.induction_on with
      | empty => simp
      | insert d s hd ih =>
        rw [Finset.sum_insert hd, Finset.sum_insert hd, ih, EReal.coe_add, EReal.coe_mul, EReal.coe_toReal (ha d).2 (ha d).1,
          EReal.coe_toReal (hb d).2 (hb d).1]
    exact h _
  rw [e]
  exact ⟨EReal.coe_ne_bot _, EReal.coe_ne_top _⟩

end Cert.AttnRows

end
-- ==== Proof.AttnB.Kernel.lean ====
/- Differential attention: what the body computes from its blocks, read at one element. -/
module

public import proofs.«01_k».proof.Proof.Gen.AttnBIdeal.Value
public import Idealize.ShloMosaic.Lib.Pipeline.ValueKit
public import proofs.«01_k».proof.Proof.AttnB.Rows

@[expose] public section

set_option maxRecDepth 16384

noncomputable section

open Idealize.ShloMosaic Idealize.ShloMosaic.TcCoe Idealize.SL.Sem
open Idealize.ShloMosaic.Pipeline (Dat)

namespace Cert.AttnBIdeal.RefValue

open Cert.AttnBIdeal Cert.AttnBIdeal.Gen Cert.AttnRows

/-- A score of component 0 of a row against a latent key. -/
theorem pay4_apply (v0 : Vec Ideal S4096x256 .bf16) (v7 : Vec Ideal S256x128 .bf16) (r : Fin 256) (i : Fin 4096) :
    k0_pay4 v0 v7 (ix2 r i) = ∑ d : Fin 128, v7 (ix2 r d) * v0 (ix2 i ⟨d.val, by omega⟩) := by
  pointwise [k0_pay4]

/-- A score of component 1 of a row against a latent key. -/
theorem pay10_apply (v0 : Vec Ideal S4096x256 .bf16) (v7 : Vec Ideal S256x128 .bf16) (r : Fin 256) (i : Fin 4096) :
    k0_pay10 v0 v7 (ix2 r i) = ∑ d : Fin 128, v7 (ix2 r d) * v0 (ix2 i ⟨128 + d.val, by omega⟩) := by
  pointwise [k0_pay10]

/-- A score of component 0 of a row against a key of the context. -/
theorem pay5_apply (v1 : Vec Ideal S1x512x256 .bf16) (v7 : Vec Ideal S256x128 .bf16) (r : Fin 256) (i : Fin 512) :
    k0_pay5 v1 v7 (ix2 r i) = ∑ d : Fin 128, v7 (ix2 r d) * v1 (ix3 0 i ⟨d.val, by omega⟩) := by
  pointwise [k0_pay5, k0_pay2]

/-- A score of component 1 of a row against a key of the context. -/
theorem pay11_apply (v1 : Vec Ideal S1x512x256 .bf16) (v7 : Vec Ideal S256x128 .bf16) (r : Fin 256) (i : Fin 512) :
    k0_pay11 v1 v7 (ix2 r i) = ∑ d : Fin 128, v7 (ix2 r d) * v1 (ix3 0 i ⟨128 + d.val, by omega⟩) := by
  pointwise [k0_pay11, k0_pay2]

theorem pay6_apply (v0 : Vec Ideal S4096x256 .bf16) (v1 : Vec Ideal S1x512x256 .bf16) (v7 : Vec Ideal S256x128 .bf16) (r : Fin 256) :
    k0_pay6 v0 v1 v7 (ix2 r 0) = rowMax (fun i => k0_pay4 v0 v7 (ix2 r i)) (fun i => k0_pay5 v1 v7 (ix2 r i)) := by
  pointwise [k0_pay6]
  rfl

theorem pay7_apply (v0 : Vec Ideal S4096x256 .bf16) (v1 : Vec Ideal S1x512x256 .bf16) (v7 : Vec Ideal S256x128 .bf16) (r : Fin 256) (i : Fin 4096) :
    k0_pay7 v0 v1 v7 (ix2 r i) = Ideal.exp (k0_pay4 v0 v7 (ix2 r i) - rowMax (fun i => k0_pay4 v0 v7 (ix2 r i)) (fun i => k0_pay5 v1 v7 (ix2 r i))) := by
  pointwise [k0_pay7]
  rw [pay6_apply]

theorem pay8_apply (v0 : Vec Ideal S4096x256 .bf16) (v1 : Vec Ideal S1x512x256 .bf16) (v7 : Vec Ideal S256x128 .bf16) (r : Fin 256) (i : Fin 512) :
    k0_pay8 v0 v1 v7 (ix2 r i) = Ideal.exp (k0_pay5 v1 v7 (ix2 r i) - rowMax (fun i => k0_pay4 v0 v7 (ix2 r i)) (fun i => k0_pay5 v1 v7 (ix2 r i))) := by
  pointwise [k0_pay8]
  rw [pay6_apply]

theorem pay9_apply (v0 : Vec Ideal S4096x256 .bf16) (v1 : Vec Ideal S1x512x256 .bf16) (v7 : Vec Ideal S256x128 .bf16) (r : Fin 256) :
    k0_pay9 v0 v1 v7 (ix2 r 0) = rowSum (fun i => k0_pay4 v0 v7 (ix2 r i)) (fun i => k0_pay5 v1 v7 (ix2 r i)) := by
  pointwise [k0_pay9]
  unfold rowSum
  exact congrArg₂ (· + ·) (Finset.sum_congr rfl fun k _ => pay7_apply v0 v1 v7 r k) (Finset.sum_congr rfl fun k _ => pay8_apply v0 v1 v7 r k)

end Cert.AttnBIdeal.RefValue

end
-- ==== Proof.AttnB.KernelOut.lean ====
/- Differential attention: what the body computes from its blocks, read at one element. -/
module

public import proofs.«01_k».proof.Proof.Gen.AttnBIdeal.Value
public import Idealize.ShloMosaic.Lib.Pipeline.ValueKit
public import proofs.«01_k».proof.Proof.AttnB.Rows

@[expose] public section

set_option maxRecDepth 16384

noncomputable section

open Idealize.ShloMosaic Idealize.ShloMosaic.TcCoe Idealize.SL.Sem
open Idealize.ShloMosaic.Pipeline (Dat)

namespace Cert.AttnBIdeal.RefValue

open Cert.AttnBIdeal Cert.AttnBIdeal.Gen Cert.AttnRows

/-- The normalized head output of a row. -/
theorem pay12_apply (v3 : Vec Ideal S4096x256 .bf16) (v5 : FVec Ideal S512x256 .bf16) (v6 : Elt Ideal .f32) (v19 : FVec Ideal S256x4096 .f32)
    (v22 : FVec Ideal S256x512 .f32) (v27 : FVec Ideal S256x1 .f32) (v30 : FVec Ideal S256x4096 .f32) (v32 : FVec Ideal S256x512 .f32) (r : Fin 256) (j : Fin 256) :
    k0_pay12 v3 v5 v6 v19 v22 v27 v30 v32 (ix2 r j)
      = rms (mix (fun i => v19 (ix2 r i)) (fun i => v22 (ix2 r i)) (v27 (ix2 r 0)) v6 (fun i => v30 (ix2 r i)) (fun i => v32 (ix2 r i))
          (fun i j => v3 (ix2 i j)) (fun i j => v5 (ix2 i j))) j := by
  pointwise [k0_pay12]
  rfl

end Cert.AttnBIdeal.RefValue

end
-- ==== Proof.AttnB.Ref.lean ====
module
public import proofs.«01_k».proof.Proof.Gen.AttnBRefIdeal.Read
public import Idealize.ShloMosaic.Lib.Pipeline.ValueKit
@[expose] public section
set_option maxRecDepth 16384
noncomputable section
open Idealize.ShloMosaic Idealize.ShloMosaic.TcCoe Idealize.SL.Sem
namespace Cert.AttnBRefIdeal.Rows
open Cert.AttnBRefIdeal Cert.AttnBRefIdeal.Gen Cert.AttnBRefIdeal.Read

/-- A bound of a fold of maxima bounds the start and every term. -/
theorem fold_le {n : ℕ} (e : EReal) (f : Fin n → EReal) (c : EReal) :
    Finset.univ.fold max e f ≤ c ↔ e ≤ c ∧ ∀ x, f x ≤ c := by
  rw [Finset.fold_max_le]; simp

/-- The greatest of 4608 numbers is the greater of the greatest of the first 4096 and the greatest of the last 512. -/
theorem fold_split (e : EReal) (f : Fin 4608 → EReal) :
    Finset.univ.fold max e f = max (Finset.univ.fold max e fun i : Fin 4096 => f ⟨i.val, by omega⟩)
      (Finset.univ.fold max e fun i : Fin 512 => f ⟨4096 + i.val, by omega⟩) := by
  refine eq_of_forall_ge_iff fun c => ?_
  rw [max_le_iff, fold_le, fold_le, fold_le]
  refine ⟨fun h => ⟨⟨h.1, fun x => h.2 _⟩, h.1, fun x => h.2 _⟩, fun h => ⟨h.1.1, fun x => ?_⟩⟩
  by_cases hx : x.val < 4096
  · exact h.1.2 ⟨x.val, hx⟩
  · have := h.2.2 ⟨x.val - 4096, by omega⟩
    rwa [show (⟨4096 + (⟨x.val - 4096, by omega⟩ : Fin 512).val, by simp only; omega⟩ : Fin 4608) = x from Fin.ext (by simp only; omega)] at this

/-- A sum of 4608 numbers is the sum of the first 4096 and the sum of the last 512. -/
theorem sum_split (f : Fin 4608 → EReal) :
    ∑ k, f k = (∑ i : Fin 4096, f ⟨i.val, by omega⟩) + ∑ i : Fin 512, f ⟨4096 + i.val, by omega⟩ :=
  Fin.sum_univ_add (a := 4096) (b := 512) f

variable (x0 : (⟨S32768x6144, .bf16⟩ : BufTy).Contents (Elt Ideal)) (x1 : (⟨S8x512x8x2x128, .f32⟩ : BufTy).Contents (Elt Ideal))
  (x2 : (⟨S8x512x8x256, .f32⟩ : BufTy).Contents (Elt Ideal)) (x3 x4 x5 x6 : (⟨S128, .f32⟩ : BufTy).Contents (Elt Ideal)) (x7 : (⟨S256, .f32⟩ : BufTy).Contents (Elt Ideal))

/-- A number of the projections, split by sample. -/
theorem v9_apply (b : Fin 8) (r : Fin 4096) (j : Fin 6144) :
    val_main_v9 (F := Ideal) x0 (ix3 b r j) = x0 (ix2 ⟨b.val * 4096 + r.val, by omega⟩ j) := by
  rw [val_main_v9_apply]
  refine congrArg x0 (funext fun a => Fin.ext ?_)
  match a with
  | ⟨0, _⟩ => show ((b.val * 4096 + r.val) * 6144 + j.val) / 6144 = b.val * 4096 + r.val; omega
  | ⟨1, _⟩ => show ((b.val * 4096 + r.val) * 6144 + j.val) % 6144 = j.val; omega

/-- A query. -/
theorem v13_apply (b h : Fin 8) (c : Fin 2) (r : Fin 4096) (d : Fin 128) :
    val_main_v13 (F := Ideal) x0 (ix5 b r h c d)
      = x0 (ix2 ⟨b.val * 4096 + r.val, by omega⟩ ⟨h.val * 256 + c.val * 128 + d.val, by omega⟩) := by
  rw [val_main_v13_apply, val_main_v10_apply, ← v9_apply x0]
  refine congrArg (val_main_v9 (F := Ideal) x0) (funext fun a => Fin.ext ?_)
  match a with
  | ⟨0, _⟩ => show ((((b.val * 4096 + r.val) * 8 + h.val) * 2 + c.val) * 128 + d.val) / 8388608 = b.val; omega
  | ⟨1, _⟩ => show ((((b.val * 4096 + r.val) * 8 + h.val) * 2 + c.val) * 128 + d.val) / 2048 % 4096 = r.val; omega
  | ⟨2, _⟩ => show ((((b.val * 4096 + r.val) * 8 + h.val) * 2 + c.val) * 128 + d.val) % 2048 = h.val * 256 + c.val * 128 + d.val; omega

/-- A key of the latents. -/
theorem v14_apply (b h : Fin 8) (c : Fin 2) (r : Fin 4096) (d : Fin 128) :
    val_main_v14 (F := Ideal) x0 (ix5 b r h c d)
      = x0 (ix2 ⟨b.val * 4096 + r.val, by omega⟩ ⟨2048 + h.val * 256 + c.val * 128 + d.val, by omega⟩) := by
  rw [val_main_v14_apply, val_main_v11_apply, ← v9_apply x0]
  refine congrArg (val_main_v9 (F := Ideal) x0) (funext fun a => Fin.ext ?_)
  match a with
  | ⟨0, _⟩ => show ((((b.val * 4096 + r.val) * 8 + h.val) * 2 + c.val) * 128 + d.val) / 8388608 = b.val; omega
  | ⟨1, _⟩ => show ((((b.val * 4096 + r.val) * 8 + h.val) * 2 + c.val) * 128 + d.val) / 2048 % 4096 = r.val; omega
  | ⟨2, _⟩ => show 2048 + ((((b.val * 4096 + r.val) * 8 + h.val) * 2 + c.val) * 128 + d.val) % 2048 = 2048 + h.val * 256 + c.val * 128 + d.val; omega

/-- A value of the latents. -/
theorem v16_apply (b h : Fin 8) (r : Fin 4096) (j : Fin 256) :
    val_main_v16 (F := Ideal) x0 (ix4 b r h j)
      = x0 (ix2 ⟨b.val * 4096 + r.val, by omega⟩ ⟨4096 + h.val * 256 + j.val, by omega⟩) := by
  rw [val_main_v16_apply, val_main_v12_apply, ← v9_apply x0]
  refine congrArg (val_main_v9 (F := Ideal) x0) (funext fun a => Fin.ext ?_)
  match a with
  | ⟨0, _⟩ => show (((b.val * 4096 + r.val) * 8 + h.val) * 256 + j.val) / 8388608 = b.val; omega
  | ⟨1, _⟩ => show (((b.val * 4096 + r.val) * 8 + h.val) * 256 + j.val) / 2048 % 4096 = r.val; omega
  | ⟨2, _⟩ => show 4096 + (((b.val * 4096 + r.val) * 8 + h.val) * 256 + j.val) % 2048 = 4096 + h.val * 256 + j.val; omega

/-- A value of the latents among all values. -/
theorem v17_lat (b h : Fin 8) (i : Fin 4096) (j : Fin 256) :
    val_main_v17 (F := Ideal) x0 x2 (ix4 b ⟨i.val, by omega⟩ h j)
      = x0 (ix2 ⟨b.val * 4096 + i.val, by omega⟩ ⟨4096 + h.val * 256 + j.val, by omega⟩) := by
  rw [← v16_apply x0]
  unfold val_main_v17
  generalize val_main_v16 (F := Ideal) x0 = y
  exact concatenate_pair_apply_left (t := S8x4608x8x256) (s₁ := S8x4096x8x256) (s₂ := S8x512x8x256) 1 y x2 concatenates_S8x4096x8x256_S8x512x8x256_S8x4608x8x256_d1 (ix4 b ⟨i.val, by omega⟩ h j) rfl (ix4 b i h j) fun a => match a with
    | ⟨0, _⟩ => rfl | ⟨1, _⟩ => rfl | ⟨2, _⟩ => rfl | ⟨3, _⟩ => rfl

/-- A value of the context among all values. -/
theorem v17_ctx (b h : Fin 8) (i : Fin 512) (j : Fin 256) :
    val_main_v17 (F := Ideal) x0 x2 (ix4 b ⟨4096 + i.val, by omega⟩ h j) = x2 (ix4 b i h j) := by
  unfold val_main_v17
  generalize val_main_v16 (F := Ideal) x0 = y
  refine concatenate_pair_apply_right (t := S8x4608x8x256) (s₁ := S8x4096x8x256) (s₂ := S8x512x8x256) 1 y x2 concatenates_S8x4096x8x256_S8x512x8x256_S8x4608x8x256_d1 (ix4 b ⟨4096 + i.val, by omega⟩ h j) rfl rfl (ix4 b i h j) ?_ (show i.val + 4096 = 4096 + i.val by omega)
  exact (fun a => match a with
    | ⟨0, _⟩ => fun _ => rfl | ⟨1, _⟩ => fun hn => absurd rfl hn | ⟨2, _⟩ => fun _ => rfl | ⟨3, _⟩ => fun _ => rfl)

/-- A key of the latents among all keys. -/
theorem v15_lat (b h : Fin 8) (c : Fin 2) (i : Fin 4096) (d : Fin 128) :
    val_main_v15 (F := Ideal) x0 x1 (ix5 b ⟨i.val, by omega⟩ h c d)
      = x0 (ix2 ⟨b.val * 4096 + i.val, by omega⟩ ⟨2048 + h.val * 256 + c.val * 128 + d.val, by omega⟩) := by
  rw [← v14_apply x0]
  unfold val_main_v15
  generalize val_main_v14 (F := Ideal) x0 = y
  exact concatenate_pair_apply_left (t := S8x4608x8x2x128) (s₁ := S8x4096x8x2x128) (s₂ := S8x512x8x2x128) 1 y x1 concatenates_S8x4096x8x2x128_S8x512x8x2x128_S8x4608x8x2x128_d1 (ix5 b ⟨i.val, by omega⟩ h c d) rfl (ix5 b i h c d) fun a => match a with
    | ⟨0, _⟩ => rfl | ⟨1, _⟩ => rfl | ⟨2, _⟩ => rfl | ⟨3, _⟩ => rfl | ⟨4, _⟩ => rfl

/-- A key of the context among all keys. -/
theorem v15_ctx (b h : Fin 8) (c : Fin 2) (i : Fin 512) (d : Fin 128) :
    val_main_v15 (F := Ideal) x0 x1 (ix5 b ⟨4096 + i.val, by omega⟩ h c d) = x1 (ix5 b i h c d) := by
  unfold val_main_v15
  generalize val_main_v14 (F := Ideal) x0 = y
  refine concatenate_pair_apply_right (t := S8x4608x8x2x128) (s₁ := S8x4096x8x2x128) (s₂ := S8x512x8x2x128) 1 y x1 concatenates_S8x4096x8x2x128_S8x512x8x2x128_S8x4608x8x2x128_d1 (ix5 b ⟨4096 + i.val, by omega⟩ h c d) rfl rfl (ix5 b i h c d) ?_ (show i.val + 4096 = 4096 + i.val by omega)
  exact (fun a => match a with
    | ⟨0, _⟩ => fun _ => rfl | ⟨1, _⟩ => fun hn => absurd rfl hn | ⟨2, _⟩ => fun _ => rfl | ⟨3, _⟩ => fun _ => rfl | ⟨4, _⟩ => fun _ => rfl)

/-- A score is the sum of the products of a query and a key. -/
theorem v18_apply (b h : Fin 8) (c : Fin 2) (r : Fin 4096) (k : Fin 4608) :
    val_main_v18 (F := Ideal) x0 x1 (ix5 b h c r k)
      = ∑ d : Fin 128, val_main_v13 (F := Ideal) x0 (ix5 b r h c d) * val_main_v15 (F := Ideal) x0 x1 (ix5 b k h c d) := by
  rw [val_main_v18_apply]
  refine Finset.sum_congr rfl fun d _ => Ideal.mul_congr (congrArg _ (funext fun a => ?_)) (congrArg _ (funext fun a => ?_))
  · match a with
    | ⟨0, _⟩ => rfl | ⟨1, _⟩ => rfl | ⟨2, _⟩ => rfl | ⟨3, _⟩ => rfl | ⟨4, _⟩ => rfl
  · match a with
    | ⟨0, _⟩ => rfl | ⟨1, _⟩ => rfl | ⟨2, _⟩ => rfl | ⟨3, _⟩ => rfl | ⟨4, _⟩ => rfl

/-- The scores of a row against the latent keys, written with the operands. -/
def lat (b h : Fin 8) (c : Fin 2) (r i : Fin 4096) : EReal :=
  ∑ d : Fin 128, x0 (ix2 ⟨b.val * 4096 + r.val, by omega⟩ ⟨h.val * 256 + c.val * 128 + d.val, by omega⟩)
    * x0 (ix2 ⟨b.val * 4096 + i.val, by omega⟩ ⟨2048 + h.val * 256 + c.val * 128 + d.val, by omega⟩)

/-- The scores of a row against the context's keys, written with the operands. -/
def ctx (b h : Fin 8) (c : Fin 2) (r : Fin 4096) (i : Fin 512) : EReal :=
  ∑ d : Fin 128, x0 (ix2 ⟨b.val * 4096 + r.val, by omega⟩ ⟨h.val * 256 + c.val * 128 + d.val, by omega⟩) * x1 (ix5 b i h c d)

/-- A score against a latent key. -/
theorem v18_lat (b h : Fin 8) (c : Fin 2) (r i : Fin 4096) :
    val_main_v18 (F := Ideal) x0 x1 (ix5 b h c r ⟨i.val, by omega⟩) = lat x0 b h c r i := by
  rw [v18_apply]
  exact Finset.sum_congr rfl fun d _ => Ideal.mul_congr (v13_apply x0 b h c r d) (v15_lat x0 x1 b h c i d)

/-- A score against a key of the context. -/
theorem v18_ctx (b h : Fin 8) (c : Fin 2) (r : Fin 4096) (i : Fin 512) :
    val_main_v18 (F := Ideal) x0 x1 (ix5 b h c r ⟨4096 + i.val, by omega⟩) = ctx x0 x1 b h c r i := by
  rw [v18_apply]
  exact Finset.sum_congr rfl fun d _ => Ideal.mul_congr (v13_apply x0 b h c r d) (v15_ctx x0 x1 b h c i d)

/-- The greatest score of a row, from the scores. -/
theorem v19_apply (b h : Fin 8) (c : Fin 2) (r : Fin 4096) :
    val_main_v19 (F := Ideal) x0 x1 (ix4 b h c r)
      = Finset.univ.fold max (Ideal.ofBits .f32 0xFF800000#32) fun k => val_main_v18 (F := Ideal) x0 x1 (ix5 b h c r k) := by
  unfold val_main_v19
  generalize val_main_v18 (F := Ideal) x0 x1 = y
  simp only [pointwise]
  rfl

/-- The greatest score of a row. -/
theorem v21_apply (b h : Fin 8) (c : Fin 2) (r : Fin 4096) :
    val_main_v21 (F := Ideal) x0 x1 (ix4 b h c r)
      = max (Finset.univ.fold max (Ideal.ofBits .f32 0xFF800000#32) fun i => lat x0 b h c r i)
          (Finset.univ.fold max (Ideal.ofBits .f32 0xFF800000#32) fun i => ctx x0 x1 b h c r i) := by
  rw [val_main_v21_apply, v19_apply, fold_split]
  simp only [v18_lat, v18_ctx]
  refine max_eq_right (le_max_of_le_left ?_)
  exact ((fold_le _ _ _).1 le_rfl).1

/-- The softmax of a row at a position. -/
theorem v29_apply (b h : Fin 8) (c : Fin 2) (r : Fin 4096) (k : Fin 4608) :
    val_main_v29 (F := Ideal) x0 x1 (ix5 b h c r k)
      = Ideal.div (Ideal.exp (val_main_v18 (F := Ideal) x0 x1 (ix5 b h c r k) - val_main_v21 (F := Ideal) x0 x1 (ix4 b h c r)))
        (∑ k, Ideal.exp (val_main_v18 (F := Ideal) x0 x1 (ix5 b h c r k) - val_main_v21 (F := Ideal) x0 x1 (ix4 b h c r))) := by
  have e25 : ∀ k, val_main_v25 (F := Ideal) x0 x1 (ix5 b h c r k)
      = Ideal.exp (val_main_v18 (F := Ideal) x0 x1 (ix5 b h c r k) - val_main_v21 (F := Ideal) x0 x1 (ix4 b h c r)) := fun k => by
    rw [val_main_v25_apply, val_main_v24_apply, val_main_v23_apply, val_main_v22_apply]
    show Ideal.exp (_ - val_main_v21 (F := Ideal) x0 x1 _) = _
    refine congrArg (fun z => Ideal.exp (_ - val_main_v21 (F := Ideal) x0 x1 z)) (funext fun a => ?_)
    match a with
    | ⟨0, _⟩ => rfl | ⟨1, _⟩ => rfl | ⟨2, _⟩ => rfl | ⟨3, _⟩ => rfl
  rw [val_main_v29_apply, val_main_v28_apply, val_main_v27_apply, val_main_v26_apply]
  show Ideal.div (val_main_v25 (F := Ideal) x0 x1 _) (Ideal.ofBits .f32 0x00000000#32 + _) = _
  rw [Ideal.ofBits_zero_f32, zero_add, e25]
  refine congrArg (Ideal.div _) (Finset.sum_congr rfl fun k _ => ?_)
  rw [← e25]
  refine congrArg _ (funext fun a => ?_)
  match a with
  | ⟨0, _⟩ => rfl | ⟨1, _⟩ => rfl | ⟨2, _⟩ => rfl | ⟨3, _⟩ => rfl | ⟨4, _⟩ => rfl

/-- The first component's softmax. -/
theorem v31_apply (b h : Fin 8) (r : Fin 4096) (k : Fin 4608) :
    val_main_v31 (F := Ideal) x0 x1 (ix4 b h r k) = val_main_v29 (F := Ideal) x0 x1 (ix5 b h 0 r k) := by
  rw [val_main_v31_apply, val_main_v30_apply]
  refine congrArg _ (funext fun a => Fin.ext ?_)
  match a with
  | ⟨0, _⟩ => show (((b.val * 8 + h.val) * 4096 + r.val) * 4608 + k.val) / 150994944 = b.val; omega
  | ⟨1, _⟩ => show (((b.val * 8 + h.val) * 4096 + r.val) * 4608 + k.val) / 18874368 % 8 = h.val; omega
  | ⟨2, _⟩ => rfl
  | ⟨3, _⟩ => show (((b.val * 8 + h.val) * 4096 + r.val) * 4608 + k.val) / 4608 % 4096 = r.val; omega
  | ⟨4, _⟩ => show (((b.val * 8 + h.val) * 4096 + r.val) * 4608 + k.val) % 4608 = k.val; omega

/-- The second component's softmax. -/
theorem v33_apply (b h : Fin 8) (r : Fin 4096) (k : Fin 4608) :
    val_main_v33 (F := Ideal) x0 x1 (ix4 b h r k) = val_main_v29 (F := Ideal) x0 x1 (ix5 b h 1 r k) := by
  rw [val_main_v33_apply, val_main_v32_apply]
  refine congrArg _ (funext fun a => Fin.ext ?_)
  match a with
  | ⟨0, _⟩ => show (((b.val * 8 + h.val) * 4096 + r.val) * 4608 + k.val) / 150994944 = b.val; omega
  | ⟨1, _⟩ => show (((b.val * 8 + h.val) * 4096 + r.val) * 4608 + k.val) / 18874368 % 8 = h.val; omega
  | ⟨2, _⟩ => rfl
  | ⟨3, _⟩ => show (((b.val * 8 + h.val) * 4096 + r.val) * 4608 + k.val) / 4608 % 4096 = r.val; omega
  | ⟨4, _⟩ => show (((b.val * 8 + h.val) * 4096 + r.val) * 4608 + k.val) % 4608 = k.val; omega

/-- The head's output before its norm. -/
theorem v38_apply (b h : Fin 8) (r : Fin 4096) (j : Fin 256) :
    val_main_v38 (F := Ideal) x0 x1 x2 x3 x4 x5 x6 (ix4 b r h j)
      = ∑ k : Fin 4608, val_main_v17 (F := Ideal) x0 x2 (ix4 b k h j) * (val_main_v29 (F := Ideal) x0 x1 (ix5 b h 0 r k)
          - val_main_v7 (F := Ideal) x3 x4 x5 x6 ix0 * val_main_v29 (F := Ideal) x0 x1 (ix5 b h 1 r k)) := by
  rw [val_main_v38_apply, val_main_v37_apply]
  refine Finset.sum_congr rfl fun k _ => Ideal.mul_congr (congrArg _ (funext fun a => ?_)) ?_
  · match a with
    | ⟨0, _⟩ => rfl | ⟨1, _⟩ => rfl | ⟨2, _⟩ => rfl | ⟨3, _⟩ => rfl
  · have e : ridx_main_v37 (idx_main_v38 (ix4 b r h j)) k = ix4 b h r k := funext fun a => match a with
      | ⟨0, _⟩ => rfl | ⟨1, _⟩ => rfl | ⟨2, _⟩ => rfl | ⟨3, _⟩ => rfl
    rw [e, val_main_v36_apply, val_main_v35_apply, val_main_v34_apply, v31_apply, v33_apply]
    have e0 : idx_main_v34 (ix4 b h r k) = ix0 := funext fun a => a.elim0
    rw [e0]
    rfl

/-- The result at an index: the head's output divided by its root mean square, times the gain and the constant. -/
theorem v55_apply (b h : Fin 8) (r : Fin 4096) (j : Fin 256) :
    val_main_v55 (F := Ideal) x0 x1 x2 x3 x4 x5 x6 x7 (ix2 ⟨b.val * 4096 + r.val, by omega⟩ ⟨h.val * 256 + j.val, by omega⟩)
      = val_main_v38 (F := Ideal) x0 x1 x2 x3 x4 x5 x6 (ix4 b r h j)
          * Ideal.rsqrt (Ideal.div (∑ x, val_main_v38 (F := Ideal) x0 x1 x2 x3 x4 x5 x6 (ix4 b r h x) * val_main_v38 (F := Ideal) x0 x1 x2 x3 x4 x5 x6 (ix4 b r h x))
              (Ideal.ofBits .f32 0x43800000#32) + Ideal.ofBits .f32 0x358637BD#32)
          * x7 (ix1 j) * Ideal.ofBits .f32 0x3F24FD5C#32 := by
  have e : idx_main_v54 (ix2 ⟨b.val * 4096 + r.val, by omega⟩ ⟨h.val * 256 + j.val, by omega⟩) = ix4 b r h j := funext fun a => Fin.ext (match a with
    | ⟨0, _⟩ => show ((b.val * 4096 + r.val) * 2048 + (h.val * 256 + j.val)) / 8388608 = b.val by omega
    | ⟨1, _⟩ => show ((b.val * 4096 + r.val) * 2048 + (h.val * 256 + j.val)) / 2048 % 4096 = r.val by omega
    | ⟨2, _⟩ => show ((b.val * 4096 + r.val) * 2048 + (h.val * 256 + j.val)) / 256 % 8 = h.val by omega
    | ⟨3, _⟩ => show ((b.val * 4096 + r.val) * 2048 + (h.val * 256 + j.val)) % 256 = j.val by omega)
  have e40 : idx_main_v41 (idx_main_v47 (ix4 b r h j)) = ix3 b r h := funext fun a => match a with
    | ⟨0, _⟩ => rfl | ⟨1, _⟩ => rfl | ⟨2, _⟩ => rfl
  have ex : ∀ x, idx_main_v40 (ix3 b r h) x = ix4 b r h x := fun x => funext fun a => match a with
    | ⟨0, _⟩ => rfl | ⟨1, _⟩ => rfl | ⟨2, _⟩ => rfl | ⟨3, _⟩ => rfl
  have e7 : idx_main_v49 (idx_main_v50 (ix4 b r h j)) = ix1 j := funext fun a => match a with
    | ⟨0, _⟩ => rfl
  have e46 : val_main_v46 (F := Ideal) x0 x1 x2 x3 x4 x5 x6 (idx_main_v47 (ix4 b r h j))
      = Ideal.rsqrt (Ideal.div (∑ x, val_main_v38 (F := Ideal) x0 x1 x2 x3 x4 x5 x6 (ix4 b r h x) * val_main_v38 (F := Ideal) x0 x1 x2 x3 x4 x5 x6 (ix4 b r h x))
              (Ideal.ofBits .f32 0x43800000#32) + Ideal.ofBits .f32 0x358637BD#32) := by
    rw [val_main_v46_apply, val_main_v45_apply, val_main_v44_apply, val_main_v43_apply, val_main_v42_apply, val_main_v41_apply, e40, val_main_v40_apply]
    show Ideal.rsqrt (Ideal.div (Ideal.ofBits .f32 0x00000000#32 + _) _ + _) = _
    rw [Ideal.ofBits_zero_f32, zero_add]
    simp only [ex]
    rfl
  rw [val_main_v55_apply, val_main_v54_apply, e, val_main_v53_apply, val_main_v52_apply, val_main_v51_apply, val_main_v50_apply, val_main_v49_apply, e7,
    val_main_v48_apply, val_main_v47_apply, e46]
  rfl

end Cert.AttnBRefIdeal.Rows

end
-- ==== Proof.AttnB.Value.lean ====
/- Differential attention: the array that the launch leaves is the reference's. -/
module

public import proofs.«01_k».proof.Proof.AttnB.Blocks
public import proofs.«01_k».proof.Proof.AttnB.Kernel
public import proofs.«01_k».proof.Proof.AttnB.KernelOut
public import proofs.«01_k».proof.Proof.AttnB.Ref

@[expose] public section

set_option maxRecDepth 16384

noncomputable section

open Idealize.ShloMosaic Idealize.ShloMosaic.TcCoe Idealize.SL.Sem
open Idealize.ShloMosaic.Pipeline (Dat)

namespace Cert.AttnBIdeal.RefValue

open Cert.AttnBIdeal Cert.AttnBIdeal.Gen Cert.AttnRows
open Cert.AttnBRefIdeal.Read Cert.AttnBRefIdeal.Rows

section Reference
variable (x0 : Vec Ideal S32768x6144 .bf16) (x1 : Vec Ideal S8x512x8x2x128 .f32)

/-- The reference's sum of exponentials of a row. -/
theorem den_eq (b h : Fin 8) (s : Fin 2) (r : Fin 4096) :
    (∑ k, Ideal.exp (val_main_v18 (F := Ideal) x0 x1 (ix5 b h s r k) - val_main_v21 (F := Ideal) x0 x1 (ix4 b h s r)))
      = rowSum (lat x0 b h s r) (ctx x0 x1 b h s r) := by
  rw [sum_split, v21_apply]
  simp only [v18_lat, v18_ctx]
  rfl

/-- The reference's softmax at a latent key. -/
theorem soft_lat (b h : Fin 8) (s : Fin 2) (r i : Fin 4096) :
    val_main_v29 (F := Ideal) x0 x1 (ix5 b h s r ⟨i.val, by omega⟩)
      = Ideal.div (Ideal.exp (lat x0 b h s r i - rowMax (lat x0 b h s r) (ctx x0 x1 b h s r))) (rowSum (lat x0 b h s r) (ctx x0 x1 b h s r)) := by
  rw [v29_apply, den_eq, v18_lat, v21_apply]
  rfl

/-- The reference's softmax at a key of the context. -/
theorem soft_ctx (b h : Fin 8) (s : Fin 2) (r : Fin 4096) (i : Fin 512) :
    val_main_v29 (F := Ideal) x0 x1 (ix5 b h s r ⟨4096 + i.val, by omega⟩)
      = Ideal.div (Ideal.exp (ctx x0 x1 b h s r i - rowMax (lat x0 b h s r) (ctx x0 x1 b h s r))) (rowSum (lat x0 b h s r) (ctx x0 x1 b h s r)) := by
  rw [v29_apply, den_eq, v18_ctx, v21_apply]
  rfl

/-- The queries, the latent keys and the context's keys are finite. -/
def Finite : Prop := (∀ (i : Fin 32768) (j : Fin 6144), j.val < 4096 → x0 (ix2 i j) ≠ ⊥ ∧ x0 (ix2 i j) ≠ ⊤) ∧ ∀ i, x1 i ≠ ⊥ ∧ x1 i ≠ ⊤

/-- With finite queries and keys no row's sum of exponentials is zero. -/
theorem den_ne (hf : Finite x0 x1) (b h : Fin 8) (s : Fin 2) (r : Fin 4096) : rowSum (lat x0 b h s r) (ctx x0 x1 b h s r) ≠ 0 :=
  (rowSum_pos _ _
    (fun i => sum_finite _ _ (fun d => hf.1 _ _ (show h.val * 256 + s.val * 128 + d.val < 4096 by omega))
      (fun d => hf.1 _ _ (show 2048 + h.val * 256 + s.val * 128 + d.val < 4096 by omega)))
    (fun i => sum_finite _ _ (fun d => hf.1 _ _ (show h.val * 256 + s.val * 128 + d.val < 4096 by omega)) (fun d => hf.2 _))).ne'

end Reference

variable (m : (ℓ : Loc nD τ sig) → Buf (Elt Ideal) ℓ)

/-- The first half of a block's lanes. -/
theorem ld_lo (X : Vec Ideal S256x256 .bf16) (y : Fin 256) (d : Fin 128) :
    View.ld X (Rect.unit ![0, 0] ![256, 128] inb_S256x256_S256x128_0_0) (ix2 y d) = X (ix2 y ⟨d.val, by omega⟩) := by
  pointwise

/-- The second half of a block's lanes. -/
theorem ld_hi (X : Vec Ideal S256x256 .bf16) (y : Fin 256) (d : Fin 128) :
    View.ld X (Rect.unit ![0, 128] ![256, 128] inb_S256x256_S256x128_0_128) (ix2 y d) = X (ix2 y ⟨128 + d.val, by omega⟩) := by
  pointwise

/-- A point's number from its sample, its head and its group of queries. -/
abbrev At (t : Fin cfg0.N) (b h : Fin 8) (q : Fin 16) : Prop := t.val = (b.val * 8 + h.val) * 16 + q.val

/-- The place of a row of a group of queries in its sample. -/
abbrev row (q : Fin 16) (y : Fin 256) : Fin 4096 := ⟨q.val * 256 + y.val, by omega⟩

section Scores
variable (c : Dev nD) (t : Fin cfg0.N) (b h : Fin 8) (q : Fin 16) (ht : At t b h q) (y : Fin 256)
include ht

theorem lat0 (i : Fin 4096) : k0_pay4 (iblk m c 2 t) (View.ld (iblk m c 1 t) (Rect.unit ![0, 0] ![256, 128] inb_S256x256_S256x128_0_0)) (ix2 y i)
    = lat (m ((c : Thread nD τ).loc main_arg0)) b h 0 (row q y) i := by
  rw [pay4_apply]
  refine Finset.sum_congr rfl fun d _ => Ideal.mul_congr ((ld_lo _ _ _).trans (blk1 m c t _ _ ?_ ?_)) (blk2 m c t _ _ ?_ ?_)
  · show b.val * 4096 + (q.val * 256 + y.val) = (t.val / 128 * 16 + t.val % 16) * 256 + y.val; omega
  · show h.val * 256 + 0 * 128 + d.val = t.val / 16 % 8 * 256 + d.val; omega
  · show b.val * 4096 + i.val = t.val / 128 * 4096 + i.val; omega
  · show 2048 + h.val * 256 + 0 * 128 + d.val = (8 + t.val / 16 % 8) * 256 + d.val; omega

theorem lat1 (i : Fin 4096) : k0_pay10 (iblk m c 2 t) (View.ld (iblk m c 1 t) (Rect.unit ![0, 128] ![256, 128] inb_S256x256_S256x128_0_128)) (ix2 y i)
    = lat (m ((c : Thread nD τ).loc main_arg0)) b h 1 (row q y) i := by
  rw [pay10_apply]
  refine Finset.sum_congr rfl fun d _ => Ideal.mul_congr ((ld_hi _ _ _).trans (blk1 m c t _ _ ?_ ?_)) (blk2 m c t _ _ ?_ ?_)
  · show b.val * 4096 + (q.val * 256 + y.val) = (t.val / 128 * 16 + t.val % 16) * 256 + y.val; omega
  · show h.val * 256 + 1 * 128 + d.val = t.val / 16 % 8 * 256 + (128 + d.val); omega
  · show b.val * 4096 + i.val = t.val / 128 * 4096 + i.val; omega
  · show 2048 + h.val * 256 + 1 * 128 + d.val = (8 + t.val / 16 % 8) * 256 + (128 + d.val); omega

theorem ctx0 (i : Fin 512) : k0_pay5 (iblk m c 4 t) (View.ld (iblk m c 1 t) (Rect.unit ![0, 0] ![256, 128] inb_S256x256_S256x128_0_0)) (ix2 y i)
    = ctx (m ((c : Thread nD τ).loc main_arg0)) (m ((c : Thread nD τ).loc main_arg1)) b h 0 (row q y) i := by
  rw [pay5_apply]
  refine Finset.sum_congr rfl fun d _ => Ideal.mul_congr ((ld_lo _ _ _).trans (blk1 m c t _ _ ?_ ?_)) (blk4 m c t _ _ b h 0 d ?_ ?_ ?_)
  · show b.val * 4096 + (q.val * 256 + y.val) = (t.val / 128 * 16 + t.val % 16) * 256 + y.val; omega
  · show h.val * 256 + 0 * 128 + d.val = t.val / 16 % 8 * 256 + d.val; omega
  · omega
  · omega
  · show d.val = 0 * 128 + d.val; omega

theorem ctx1 (i : Fin 512) : k0_pay11 (iblk m c 4 t) (View.ld (iblk m c 1 t) (Rect.unit ![0, 128] ![256, 128] inb_S256x256_S256x128_0_128)) (ix2 y i)
    = ctx (m ((c : Thread nD τ).loc main_arg0)) (m ((c : Thread nD τ).loc main_arg1)) b h 1 (row q y) i := by
  rw [pay11_apply]
  refine Finset.sum_congr rfl fun d _ => Ideal.mul_congr ((ld_hi _ _ _).trans (blk1 m c t _ _ ?_ ?_)) (blk4 m c t _ _ b h 1 d ?_ ?_ ?_)
  · show b.val * 4096 + (q.val * 256 + y.val) = (t.val / 128 * 16 + t.val % 16) * 256 + y.val; omega
  · show h.val * 256 + 1 * 128 + d.val = t.val / 16 % 8 * 256 + (128 + d.val); omega
  · omega
  · omega
  · show 128 + d.val = 1 * 128 + d.val; omega

/-- A latent value. -/
theorem vlat (i : Fin 4096) (j : Fin 256) : iblk m c 3 t (ix2 i j)
    = m ((c : Thread nD τ).loc main_arg0) (ix2 ⟨b.val * 4096 + i.val, by omega⟩ ⟨4096 + h.val * 256 + j.val, by omega⟩) :=
  blk3 m c t _ _ (show b.val * 4096 + i.val = t.val / 128 * 4096 + i.val by omega)
    (show 4096 + h.val * 256 + j.val = (16 + t.val / 16 % 8) * 256 + j.val by omega)

/-- A value of the context. -/
theorem vctx (i : Fin 512) (j : Fin 256) : k0_pay3 (iblk m c 5 t) (ix2 i j) = m ((c : Thread nD τ).loc main_arg2) (ix4 b i h j) := by
  refine Eq.trans ?_ (blk5 m c t i j b h (by omega) (by omega))
  generalize iblk m c 5 t = X
  pointwise [k0_pay3]

end Scores

/-- What a point leaves at an element of its output block, as the pieces of the body compute it. -/
def body (c : Dev nD) (t : Fin cfg0.N) : Vec Ideal S256x256 .f32 :=
  k0_pay12 (iblk m c 3 t) (k0_pay3 (iblk m c 5 t))
    (View.ld (iblk m c 0 t) (Rect.unit ![0, 0] ![1, 1] inb_S1x1_S1x1_0_0) (Shape.Idx.first (Nat.one_pos)))
    (k0_pay7 (iblk m c 2 t) (iblk m c 4 t) (View.ld (iblk m c 1 t) (Rect.unit ![0, 0] ![256, 128] inb_S256x256_S256x128_0_0)))
    (k0_pay8 (iblk m c 2 t) (iblk m c 4 t) (View.ld (iblk m c 1 t) (Rect.unit ![0, 0] ![256, 128] inb_S256x256_S256x128_0_0)))
    (k0_pay9 (iblk m c 2 t) (iblk m c 4 t) (View.ld (iblk m c 1 t) (Rect.unit ![0, 0] ![256, 128] inb_S256x256_S256x128_0_0)))
    (k0_pay10 (iblk m c 2 t) (View.ld (iblk m c 1 t) (Rect.unit ![0, 128] ![256, 128] inb_S256x256_S256x128_0_128)))
    (k0_pay11 (iblk m c 4 t) (View.ld (iblk m c 1 t) (Rect.unit ![0, 128] ![256, 128] inb_S256x256_S256x128_0_128)))

/-- The normalized output of a row of a point's block is the reference's. -/
theorem body_apply (c : Dev nD) (hf : Finite (m ((c : Thread nD τ).loc main_arg0)) (m ((c : Thread nD τ).loc main_arg1))) (t : Fin cfg0.N)
    (b h : Fin 8) (q : Fin 16) (ht : At t b h q) (y j : Fin 256) :
    body m c t (ix2 y j)
      = rms (fun x => val_main_v38 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (ix4 b (row q y) h x)) j := by
  unfold body
  rw [pay12_apply]
  refine congrArg (fun o => rms o j) (funext fun x => ?_)
  rw [v38_apply, sum_split]
  simp only [pay7_apply, pay8_apply, pay9_apply, lat0 m c t b h q ht, lat1 m c t b h q ht, ctx0 m c t b h q ht, ctx1 m c t b h q ht,
    vlat m c t b h q ht, vctx m c t b h q ht]
  refine (mix_eq _ _ _ _ _ _ _ _ (den_ne _ _ hf b h 0 (row q y)) (den_ne _ _ hf b h 1 (row q y))).trans ?_
  have e : (View.ld (iblk m c 0 t) (Rect.unit ![0, 0] ![1, 1] inb_S1x1_S1x1_0_0) (Shape.Idx.first (Nat.one_pos)) : EReal)
      = val_main_v7 (F := Ideal) (m ((c : Thread nD τ).loc main_arg3)) (m ((c : Thread nD τ).loc main_arg4))
        (m ((c : Thread nD τ).loc main_arg5)) (m ((c : Thread nD τ).loc main_arg6)) ix0 := blk0 m c t _
  simp only [v17_lat, v17_ctx, soft_lat, soft_ctx]
  rw [e]

/-- The array that the launch leaves is the reference's result. -/
theorem final (c : Dev nD) (hf : Finite (m ((c : Thread nD τ).loc main_arg0)) (m ((c : Thread nD τ).loc main_arg1))) :
    (dats m 0 c).arrAt 7 (cfgs 0).N
      = val_main_v55 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) := by
  refine (dats m 0 c).arrAt_eq_of_covers 7 _ (by decide +kernel) fun t _ y => ?_
  have e0 : ((((cfg0.win 7).blk t).view.emb y) 0).val = (t.val / 128 * 16 + t.val % 16) * 256 + (y 0).val := by blk_simp [idx t]
  have e1 : ((((cfg0.win 7).blk t).view.emb y) 1).val = t.val / 16 % 8 * 256 + (y 1).val := by blk_simp [idx t]
  have ht : t.val < 1024 := lt_of_lt_of_eq t.isLt N_0
  have hy0 : (y 0).val < 256 := (y 0).isLt
  have hy1 : (y 1).val < 256 := (y 1).isLt
  obtain ⟨b, hb⟩ : ∃ b : Fin 8, b.val = t.val / 128 := ⟨⟨t.val / 128, by omega⟩, rfl⟩
  obtain ⟨h, hh⟩ : ∃ h : Fin 8, h.val = t.val / 16 % 8 := ⟨⟨t.val / 16 % 8, by omega⟩, rfl⟩
  obtain ⟨q, hq⟩ : ∃ q : Fin 16, q.val = t.val % 16 := ⟨⟨t.val % 16, by omega⟩, rfl⟩
  have hat : At t b h q := by show t.val = (b.val * 8 + h.val) * 16 + q.val; omega
  obtain ⟨y0, hy0'⟩ : ∃ y0 : Fin 256, y0.val = (y 0).val := ⟨⟨(y 0).val, hy0⟩, rfl⟩
  obtain ⟨y1, hy1'⟩ : ∃ y1 : Fin 256, y1.val = (y 1).val := ⟨⟨(y 1).val, hy1⟩, rfl⟩
  have ey : y = ix2 y0 y1 := funext fun a => Fin.ext (match a with | ⟨0, _⟩ => hy0'.symm | ⟨1, _⟩ => hy1'.symm)
  have ei : ((cfg0.win 7).blk t).view.emb y = ix2 ⟨b.val * 4096 + (row q y0).val, by omega⟩ ⟨h.val * 256 + y1.val, by omega⟩ :=
    funext fun a => Fin.ext (match a with
      | ⟨0, _⟩ => e0.trans (show (t.val / 128 * 16 + t.val % 16) * 256 + (y 0).val = b.val * 4096 + (q.val * 256 + y0.val) by omega)
      | ⟨1, _⟩ => e1.trans (show t.val / 16 % 8 * 256 + (y 1).val = h.val * 256 + y1.val by omega))
  rw [ei, v55_apply]
  blk_simp
  rw [after0_7]
  unfold outsAt0
  frame_out
  subst ey
  show k0_pay1 (body m c t) (k0_pay13 (iblk m c 6 t)) (ix2 y0 y1) = _
  have e6 : k0_pay13 (iblk m c 6 t) (ix2 y0 y1) = m ((c : Thread nD τ).loc main_arg7) (ix1 y1) := by
    refine Eq.trans ?_ (blk6 m c t y1)
    generalize iblk m c 6 t = X
    pointwise [k0_pay13]
  show body m c t (ix2 y0 y1) * k0_pay13 (iblk m c 6 t) (ix2 y0 y1) * Ideal.ofBits .f32 0x3F24FD5C#32 = _
  rw [e6, body_apply m c hf t b h q hat]
  rfl

end Cert.AttnBIdeal.RefValue

end
-- ==== Proof.AttnB.Pre.lean ====
/- The precondition of the differential attention, in the form that the value proof takes. -/
module

public import proofs.«01_k».proof.Defs
public import proofs.«01_k».proof.Proof.AttnB.Value

@[expose] public section

set_option maxRecDepth 16384

noncomputable section

open Idealize.ShloMosaic Idealize.ShloMosaic.TcCoe Idealize.SL.Sem

namespace Cert.AttnBIdeal.Pre

open Cert.AttnBIdeal

/-- The side conditions of the precondition's operations. -/
instance facts : Cert.Pre_finite_scores.Facts where
  slices_S32768x6144_S32768x4096_0_0 := by decide
  bitsLt_bf16_f32 := by decide
  bcast_S_S32768x4096 := by decide
  bcast_S_S8x512x8x2x128 := by decide

/-- A magnitude that is less than infinity belongs to a finite number. -/
theorem finite_of_lt {x : Ideal .f32}
    (h : FloatOps.cmpf .olt (FloatOps.hostAbsf x) (FloatOps.ofBits (F := Ideal) .f32 0x7F800000#32) = 1#1) :
    (x : EReal) ≠ ⊥ ∧ (x : EReal) ≠ ⊤ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  constructor
  · rintro rfl
    simp [Ideal.cmp] at h
  · rintro rfl
    simp [Ideal.cmp] at h

/-- Under the precondition the queries, the keys and the context's keys are finite. -/
theorem finite {m : (ℓ : Loc nD τ sig) → Buf (Elt Ideal) ℓ} (h : Cert.Pre_AttnBIdeal_finite_scores m) (c : Dev nD) :
    Cert.AttnBIdeal.RefValue.Finite (m ((c : Thread nD τ).loc main_arg0)) (m ((c : Thread nD τ).loc main_arg1)) := by
  obtain ⟨h0, h1⟩ := h c
  simp only [Cert.Pre_finite_scores.fn] at h0 h1
  constructor
  · intro i j hj
    have e := congrFun h0 (ix2 i ⟨j.val, hj⟩)
    have := finite_of_lt e
    convert this using 3 <;>
      (refine congrArg _ (funext fun a => Fin.ext ?_); match a with | ⟨0, _⟩ => exact (show i.val = 0 + i.val by omega) | ⟨1, _⟩ => exact (show j.val = 0 + j.val by omega))
  · intro i
    exact finite_of_lt (congrFun h1 i)

end Cert.AttnBIdeal.Pre

end
-- ==== Proof.OutProj.Value.lean ====
/- The output projection with its gated residual: the tiles that the kernel writes are the rows of
   `x + gate * (o · w)`, whole rows of the contraction at a time. -/
module

public import proofs.«01_k».proof.Proof.Gen.OutProjIdeal.Value
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen
open Cert.OutProjRefIdeal.Read

variable (m : (ℓ : Loc nD τ sig) → Buf (Elt Ideal) ℓ)

/-- The block that each window stages at a grid point, as arithmetic on the point's number: the grid walks the eight
    column pairs inside the rows. -/
theorem idx : ∀ t : Fin cfg0.N, win0_0.index t = ![t.val / 2, 0] ∧ win0_1.index t = ![0, t.val % 2]
    ∧ win0_2.index t = ![t.val / 2, t.val % 2] ∧ win0_3.index t = ![t.val / 8, 0, t.val % 2]
    ∧ win0_4.index t = ![t.val / 2, t.val % 2] :=
  (by decide +kernel : ∀ t : Fin grid0.N, _)

/-- The rows of `o` staged at a point. -/
theorem blk0 (c : Dev nD) (t : Fin cfg0.N) (y : S1024x2048.Idx) (i : S32768x2048.Idx)
    (h0 : (i 0).val = t.val / 2 * 1024 + (y 0).val) (h1 : (i 1).val = (y 1).val) :
    iblk m c 0 t y = m ((c : Thread nD τ).loc main_arg0) i := by
  show V m c main_arg0 (((cfg0.win 0).blk t).view.emb y) = _
  rw [V_main_arg0]
  refine congrArg _ (funext fun a => Fin.ext ?_)
  match a with
  | ⟨0, _⟩ => blk_simp [idx t]; exact h0.symm
  | ⟨1, _⟩ => blk_simp [idx t]; exact h1.symm

/-- The columns of the weight staged at a point; its narrowing changes nothing over the extended reals. -/
theorem blk1 (c : Dev nD) (t : Fin cfg0.N) (y : S2048x1024.Idx) (i : S2048x2048.Idx)
    (h0 : (i 0).val = (y 0).val) (h1 : (i 1).val = t.val % 2 * 1024 + (y 1).val) :
    iblk m c 1 t y = m ((c : Thread nD τ).loc main_arg1) i := by
  show V m c main_v1 (((cfg0.win 1).blk t).view.emb y) = _
  entry_read
  refine congrArg (m ((c : Thread nD τ).loc main_arg1)) (funext fun a => Fin.ext ?_)
  match a with
  | ⟨0, _⟩ => blk_simp [idx t]; exact h0.symm
  | ⟨1, _⟩ => blk_simp [idx t]; exact h1.symm

/-- The block of the residual stream staged at a point, at its place in the unflattened array. -/
theorem blk2 (c : Dev nD) (t : Fin cfg0.N) (y : S1024x1024.Idx) (i : S8x4096x2048.Idx)
    (h0 : (i 0).val * 4096 + (i 1).val = t.val / 2 * 1024 + (y 0).val) (h1 : (i 2).val = t.val % 2 * 1024 + (y 1).val) :
    iblk m c 2 t y = m ((c : Thread nD τ).loc main_arg2) i := by
  show V m c main_v0 (((cfg0.win 2).blk t).view.emb y) = _
  entry_read
  have hi : (i 1).val < 4096 := (i 1).isLt
  generalize he : ((cfg0.win 2).blk t).view.emb y = e
  have e0 : (e 0).val = t.val / 2 * 1024 + (y 0).val := by rw [← he]; blk_simp [idx t]
  have e1 : (e 1).val = t.val % 2 * 1024 + (y 1).val := by rw [← he]; blk_simp [idx t]
  clear he
  generalize m _ = A
  pointwise
  refine congrArg _ (funext fun a => Fin.ext ?_)
  match a with
  | ⟨0, _⟩ => exact (show (e 0).val / 4096 = (i 0).val by omega)
  | ⟨1, _⟩ => exact (show (e 0).val % 4096 = (i 1).val by omega)
  | ⟨2, _⟩ => exact (e1.trans h1.symm)

/-- The gate staged at a point. -/
theorem blk3 (c : Dev nD) (t : Fin cfg0.N) (y : S1x1x1024.Idx) (i : S8x2048.Idx)
    (h0 : (i 0).val = t.val / 8) (h1 : (i 1).val = t.val % 2 * 1024 + (y 2).val) :
    iblk m c 3 t y = m ((c : Thread nD τ).loc main_arg3) i := by
  show V m c main_v2 (((cfg0.win 3).blk t).view.emb y) = _
  entry_read
  generalize he : ((cfg0.win 3).blk t).view.emb y = e
  have hy : (y 0).val < 1 := (y 0).isLt
  have e0 : (e 0).val = t.val / 8 := by rw [← he]; blk_simp [idx t]
  have e1 : (e 2).val = t.val % 2 * 1024 + (y 2).val := by rw [← he]; blk_simp [idx t]
  clear he
  generalize m _ = A
  pointwise
  refine congrArg _ (funext fun a => Fin.ext ?_)
  match a with
  | ⟨0, _⟩ => exact e0.trans h0.symm
  | ⟨1, _⟩ => exact e1.trans h1.symm

/-- One stored element: at its place `i` in the result array it is the reference's element. -/
theorem point (c : Dev nD) (t : Fin cfg0.N) (y : S1024x1024.Idx) (i : S32768x2048.Idx)
    (h0 : (i 0).val = t.val / 2 * 1024 + (y 0).val) (h1 : (i 1).val = t.val % 2 * 1024 + (y 1).val) :
    k0_pay1 (iblk m c 0 t) (iblk m c 1 t) (iblk m c 2 t) (iblk m c 3 t) y
      = val_main_v7 (F := Ideal) (m ((c : Thread nD τ).loc main_arg0)) (m ((c : Thread nD τ).loc main_arg1))
          (m ((c : Thread nD τ).loc main_arg2)) (m ((c : Thread nD τ).loc main_arg3)) i := by
  have ht : t.val < 64 := lt_of_lt_of_eq t.isLt N_0
  have hy : (y 0).val < 1024 := (y 0).isLt
  pointwise [k0_pay1, val_main_v7, val_main_v6, val_main_v5, val_main_v4, val_main_v3, val_main_v2, val_main_v1, val_main_v0]
  refine Ideal.add_congr (blk2 m c t _ _ ?_ h1) (Ideal.mul_congr (blk3 m c t _ _ ?_ h1)
    (Finset.sum_congr rfl fun k _ => Ideal.mul_congr (blk0 m c t _ _ h0 rfl) (blk1 m c t _ _ rfl h1)))
  · show (i 0).val / 4096 * 4096 + (i 0).val % 4096 = t.val / 2 * 1024 + (y 0).val
    omega
  · show (i 0).val / 4096 = t.val / 8
    omega

/-- The result array after the run is the reference's. -/
theorem final (c : Dev nD) : (dats m 0 c).arrAt 4 (cfgs 0).N
    = val_main_v7 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  have e0 : ((((cfg0.win 4).blk t).view.emb y) 0).val = t.val / 2 * 1024 + (y 0).val := by blk_simp [idx t]
  have e1 : ((((cfg0.win 4).blk t).view.emb y) 1).val = t.val % 2 * 1024 + (y 1).val := by blk_simp [idx t]
  blk_simp
  rw [after0_4]
  frame_out
  exact point m c t y _ e0 e1

end Cert.OutProjIdeal.RefValue

end
-- ==== Proof.Ffn.Blocks.lean ====
/- The feed-forward network: the blocks that the kernel stages, read from the arguments. -/
module

public import proofs.«01_k».proof.Proof.Gen.FfnIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen

variable (m : (ℓ : Loc nD τ sig) → Buf (Elt Ideal) ℓ)

/-- The block that each window stages at a grid point, as arithmetic on the point's number: eleven column blocks inside
    each tile of rows. -/
theorem idx : ∀ t : Fin cfg0.N, (win0_0.index t = ![t.val / 11 * 32 - 1, 0] ∧ win0_1.index t = ![t.val / 11, 0]
    ∧ win0_2.index t = ![min (t.val / 11 * 32 + 32) 2047, 0] ∧ win0_3.index t = ![0, 0]
    ∧ win0_4.index t = ![t.val / 88, 0, 0] ∧ win0_5.index t = ![t.val / 88, 0, 0] ∧ win0_6.index t = ![t.val / 88, 0, 0])
    ∧ win0_7.index t = ![0, t.val % 11] ∧ win0_8.index t = ![0, 11 + t.val % 11] ∧ win0_9.index t = ![0, t.val % 11]
    ∧ win0_10.index t = ![0, t.val % 11] ∧ win0_11.index t = ![t.val % 11, 0] ∧ win0_12.index t = ![t.val / 11, 0] :=
  (by decide +kernel : ∀ t : Fin grid0.N, _)

/-- The number of the tile of rows at a point. -/
theorem coords0 : ∀ t : Fin cfg0.N, (grid0.coords t 0).val = t.val / 11 :=
  (by decide +kernel : ∀ t : Fin grid0.N, _)

/-- The flattened residual stream at an index, from its place by sample. -/
theorem flat (c : Dev nD) (e : S32768x2048.Idx) (i : S8x4096x2048.Idx)
    (h0 : (i 0).val * 4096 + (i 1).val = (e 0).val) (h1 : (i 2).val = (e 1).val) :
    V m c main_v0 e = m ((c : Thread nD τ).loc main_arg0) i := by
  entry_read
  have hi : (i 1).val < 4096 := (i 1).isLt
  generalize m _ = A
  pointwise
  refine congrArg _ (funext fun a => Fin.ext ?_)
  match a with
  | ⟨0, _⟩ => exact (show (e 0).val / 4096 = (i 0).val by omega)
  | ⟨1, _⟩ => exact (show (e 0).val % 4096 = (i 1).val by omega)
  | ⟨2, _⟩ => exact h1.symm

/-- The rows above a tile. -/
theorem blk0 (c : Dev nD) (t : Fin cfg0.N) (y : S16x2048.Idx) (i : S8x4096x2048.Idx)
    (h0 : (i 0).val * 4096 + (i 1).val = (t.val / 11 * 32 - 1) * 16 + (y 0).val) (h1 : (i 2).val = (y 1).val) :
    iblk m c 0 t y = m ((c : Thread nD τ).loc main_arg0) i := by
  show V m c main_v0 (((cfg0.win 0).blk t).view.emb y) = _
  refine flat m c _ i ?_ ?_
  · blk_simp [idx t]; exact h0
  · blk_simp [idx t]; exact h1

/-- The rows of a tile. -/
theorem blk1 (c : Dev nD) (t : Fin cfg0.N) (y : S512x2048.Idx) (i : S8x4096x2048.Idx)
    (h0 : (i 0).val * 4096 + (i 1).val = t.val / 11 * 512 + (y 0).val) (h1 : (i 2).val = (y 1).val) :
    iblk m c 1 t y = m ((c : Thread nD τ).loc main_arg0) i := by
  show V m c main_v0 (((cfg0.win 1).blk t).view.emb y) = _
  refine flat m c _ i ?_ ?_
  · blk_simp [idx t]; exact h0
  · blk_simp [idx t]; exact h1

/-- The rows below a tile. -/
theorem blk2 (c : Dev nD) (t : Fin cfg0.N) (y : S16x2048.Idx) (i : S8x4096x2048.Idx)
    (h0 : (i 0).val * 4096 + (i 1).val = min (t.val / 11 * 32 + 32) 2047 * 16 + (y 0).val) (h1 : (i 2).val = (y 1).val) :
    iblk m c 2 t y = m ((c : Thread nD τ).loc main_arg0) i := by
  show V m c main_v0 (((cfg0.win 2).blk t).view.emb y) = _
  refine flat m c _ i ?_ ?_
  · blk_simp [idx t]; exact h0
  · blk_simp [idx t]; exact h1

/-- The gain. -/
theorem blk3 (c : Dev nD) (t : Fin cfg0.N) (j : Fin 2048) :
    iblk m c 3 t (ix2 0 j) = m ((c : Thread nD τ).loc main_arg1) (ix1 j) := by
  show V m c main_v1 (((cfg0.win 3).blk t).view.emb (ix2 0 j)) = _
  entry_read
  generalize he : ((cfg0.win 3).blk t).view.emb (ix2 0 j) = e
  have e1 : (e 1).val = j.val := by rw [← he]; blk_simp [idx t]
  clear he
  generalize m _ = A
  pointwise
  exact congrArg _ (funext fun a => Fin.ext (match a with | ⟨0, _⟩ => e1))

/-- The shift of a sample. -/
theorem blk4 (c : Dev nD) (t : Fin cfg0.N) (b : Fin 8) (j : Fin 2048) (h : b.val = t.val / 88) :
    iblk m c 4 t (ix3 0 0 j) = m ((c : Thread nD τ).loc main_arg2) (ix2 b j) := by
  show V m c main_v5 (((cfg0.win 4).blk t).view.emb (ix3 0 0 j)) = _
  entry_read
  generalize he : ((cfg0.win 4).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The scale of a sample. -/
theorem blk5 (c : Dev nD) (t : Fin cfg0.N) (b : Fin 8) (j : Fin 2048) (h : b.val = t.val / 88) :
    iblk m c 5 t (ix3 0 0 j) = m ((c : Thread nD τ).loc main_arg3) (ix2 b j) := by
  show V m c main_v6 (((cfg0.win 5).blk t).view.emb (ix3 0 0 j)) = _
  entry_read
  generalize he : ((cfg0.win 5).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The gate of a sample. -/
theorem blk6 (c : Dev nD) (t : Fin cfg0.N) (b : Fin 8) (j : Fin 2048) (h : b.val = t.val / 88) :
    iblk m c 6 t (ix3 0 0 j) = m ((c : Thread nD τ).loc main_arg4) (ix2 b j) := by
  show V m c main_v7 (((cfg0.win 6).blk t).view.emb (ix3 0 0 j)) = _
  entry_read
  generalize he : ((cfg0.win 6).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The columns of the up projection's gate half; the narrowing changes nothing over the extended reals. -/
theorem blk7 (c : Dev nD) (t : Fin cfg0.N) (y : S2048x512.Idx) (i : S2048x11264.Idx)
    (h0 : (i 0).val = (y 0).val) (h1 : (i 1).val = t.val % 11 * 512 + (y 1).val) :
    iblk m c 7 t y = m ((c : Thread nD τ).loc main_arg5) i := by
  show V m c main_v2 (((cfg0.win 7).blk t).view.emb y) = _
  entry_read
  refine congrArg (m ((c : Thread nD τ).loc main_arg5)) (funext fun a => Fin.ext ?_)
  match a with
  | ⟨0, _⟩ => blk_simp [idx t]; exact h0.symm
  | ⟨1, _⟩ => blk_simp [idx t]; exact h1.symm

/-- The columns of the up projection's value half. -/
theorem blk8 (c : Dev nD) (t : Fin cfg0.N) (y : S2048x512.Idx) (i : S2048x11264.Idx)
    (h0 : (i 0).val = (y 0).val) (h1 : (i 1).val = (11 + t.val % 11) * 512 + (y 1).val) :
    iblk m c 8 t y = m ((c : Thread nD τ).loc main_arg5) i := by
  show V m c main_v2 (((cfg0.win 8).blk t).view.emb y) = _
  entry_read
  refine congrArg (m ((c : Thread nD τ).loc main_arg5)) (funext fun a => Fin.ext ?_)
  match a with
  | ⟨0, _⟩ => blk_simp [idx t]; exact h0.symm
  | ⟨1, _⟩ => blk_simp [idx t]; exact h1.symm

/-- The taps' columns. -/
theorem blk9 (c : Dev nD) (t : Fin cfg0.N) (y : S3x512.Idx) (i : S3x5632.Idx)
    (h0 : (i 0).val = (y 0).val) (h1 : (i 1).val = t.val % 11 * 512 + (y 1).val) :
    iblk m c 9 t y = m ((c : Thread nD τ).loc main_arg6) i := by
  show V m c main_arg6 (((cfg0.win 9).blk t).view.emb y) = _
  rw [V_main_arg6]
  refine congrArg _ (funext fun a => Fin.ext ?_)
  match a with
  | ⟨0, _⟩ => blk_simp [idx t]; exact h0.symm
  | ⟨1, _⟩ => blk_simp [idx t]; exact h1.symm

/-- The bias's columns. -/
theorem blk10 (c : Dev nD) (t : Fin cfg0.N) (n : Fin 512) (i : Fin 5632) (h : i.val = t.val % 11 * 512 + n.val) :
    iblk m c 10 t (ix2 0 n) = m ((c : Thread nD τ).loc main_arg7) (ix1 i) := by
  show V m c main_v4 (((cfg0.win 10).blk t).view.emb (ix2 0 n)) = _
  entry_read
  generalize he : ((cfg0.win 10).blk t).view.emb (ix2 0 n) = e
  have e1 : (e 1).val = i.val := by rw [← he, h]; blk_simp [idx t]
  clear he
  generalize m _ = A
  pointwise
  exact congrArg _ (funext fun a => Fin.ext (match a with | ⟨0, _⟩ => e1))

/-- The down projection's rows. -/
theorem blk11 (c : Dev nD) (t : Fin cfg0.N) (y : S512x2048.Idx) (i : S5632x2048.Idx)
    (h0 : (i 0).val = t.val % 11 * 512 + (y 0).val) (h1 : (i 1).val = (y 1).val) :
    iblk m c 11 t y = m ((c : Thread nD τ).loc main_arg8) i := by
  show V m c main_v3 (((cfg0.win 11).blk t).view.emb y) = _
  entry_read
  refine congrArg (m ((c : Thread nD τ).loc main_arg8)) (funext fun a => Fin.ext ?_)
  match a with
  | ⟨0, _⟩ => blk_simp [idx t]; exact h0.symm
  | ⟨1, _⟩ => blk_simp [idx t]; exact h1.symm

end Cert.FfnIdeal.RefValue

end
-- ==== Proof.Ffn.Rows.lean ====
/- The feed-forward network's numbers, row by row: the modulated normalization, the convolution's tap sum, the gate. -/
module

public import proofs.«01_k».proof.Proof.AttnB.Rows

@[expose] public section

noncomputable section

open Idealize.ShloMosaic

namespace Cert.FfnRows

/-- A row divided by its root mean square, scaled and shifted by the sample's modulation. -/
def adaln (x g sc sh : Fin 2048 → EReal) (k : Fin 2048) : EReal :=
  x k * Ideal.rsqrt (Ideal.div (∑ j, x j * x j) (Ideal.ofBits .f32 0x45000000#32) + Ideal.ofBits .f32 0x358637BD#32) * g k
    * (1 + sc k) + sh k

/-- Three neighbours weighted by the convolution's taps, with its bias. -/
def taps (u v w a b c d : EReal) : EReal := u * a + v * b + w * c + d

/-- The gate's nonlinearity. -/
def silu (x : EReal) : EReal := Ideal.div x (1 + Ideal.exp (-x))

/-- The nonlinearity as a product with the logistic function. -/
theorem mul_logistic (x : EReal) : x * Ideal.div 1 (1 + Ideal.exp (-x)) = silu x := by
  have h : (0 : EReal) < 1 + Ideal.exp (-x) :=
    lt_of_lt_of_le zero_lt_one (le_add_of_nonneg_right (Cert.AttnRows.exp_nonneg _))
  exact Ideal.mul_one_div h.ne'

end Cert.FfnRows

end
-- ==== Proof.Ffn.Kernel.lean ====
/- The feed-forward network's kernel, element by element of its stored values. -/
module

public import proofs.«01_k».proof.Proof.Gen.FfnIdeal.Frame
public import proofs.«01_k».proof.Proof.Ffn.Rows
public import Idealize.ShloMosaic.Lib.Pipeline.ValueKit

@[expose] public section

set_option maxRecDepth 16384

noncomputable section

open Idealize.ShloMosaic Idealize.ShloMosaic.TcCoe Idealize.SL.Sem

namespace Cert.FfnIdeal.RefValue

open Cert.FfnIdeal Cert.FfnIdeal.Gen Cert.FfnRows

/-- A row above a tile, normalized and modulated. -/
theorem pay6_apply (g : Vec Ideal S1x2048 .f32) (sh sc : Vec Ideal S1x1x2048 .f32) (x : Vec Ideal S16x2048 .f32) (p : Fin 16) (k : Fin 2048) :
    k0_pay6 g sh sc x (ix2 p k) = adaln (fun j => x (ix2 p j)) (fun j => g (ix2 0 j)) (fun j => sc (ix3 0 0 j)) (fun j => sh (ix3 0 0 j)) k := by
  unfold adaln
  pointwise [k0_pay6, k0_pay3, k0_pay4, k0_pay5]

/-- A row below a tile, normalized and modulated. -/
theorem pay11_apply (g : Vec Ideal S1x2048 .f32) (sh sc : Vec Ideal S1x1x2048 .f32) (x : Vec Ideal S16x2048 .f32) (p : Fin 16) (k : Fin 2048) :
    k0_pay11 (k0_pay3 g) (k0_pay4 sh) (k0_pay5 sc) x (ix2 p k)
      = adaln (fun j => x (ix2 p j)) (fun j => g (ix2 0 j)) (fun j => sc (ix3 0 0 j)) (fun j => sh (ix3 0 0 j)) k := by
  unfold adaln
  pointwise [k0_pay11, k0_pay3, k0_pay4, k0_pay5]

/-- A row of a tile, normalized and modulated. -/
theorem pay10_apply (g : Vec Ideal S1x2048 .f32) (sh sc : Vec Ideal S1x1x2048 .f32) (x : Vec Ideal S512x2048 .f32) (p : Fin 512) (k : Fin 2048) :
    k0_pay10 (k0_pay3 g) (k0_pay4 sh) (k0_pay5 sc) (k0_pay7 x) (k0_pay8 x) k0_pay9 (ix2 p k)
      = adaln (fun j => x (ix2 p j)) (fun j => g (ix2 0 j)) (fun j => sc (ix3 0 0 j)) (fun j => sh (ix3 0 0 j)) k := by
  unfold adaln
  pointwise [k0_pay10, k0_pay3, k0_pay4, k0_pay5, k0_pay7, k0_pay8, k0_pay9]

/-- The gate half of the up projection, on the tile's rows and their neighbours. -/
theorem pay13_apply (h : Vec Ideal S544x2048 .bf16) (w : Vec Ideal S2048x512 .bf16) (p : Fin 544) (n : Fin 512) :
    k0_pay13 h w (ix2 p n) = ∑ k : Fin 2048, h (ix2 p k) * w (ix2 k n) := by
  pointwise [k0_pay13]

/-- The value half of the up projection. -/
theorem pay14_apply (h : Vec Ideal S512x2048 .bf16) (w : Vec Ideal S2048x512 .bf16) (p : Fin 512) (n : Fin 512) :
    k0_pay14 h w (ix2 p n) = ∑ k : Fin 2048, h (ix2 p k) * w (ix2 k n) := by
  pointwise [k0_pay14]

/-- A row's position in its sample. -/
theorem pay15_apply (i : grid0.Coords) (p : Fin 512) :
    (k0_pay15 i (ix2 p 0)).toNat = ((i 0).val * 512 + p.val) % 4096 := by
  have hi : (i 0).val < 64 := (i 0).isLt
  have hp : p.val < 512 := p.isLt
  pointwise [k0_pay15]
  show ((BitVec.ofNat 32 (i 0).val * 512#32 + BitVec.ofNat 32 p.val) &&& 4095#32).toNat = _
  rw [BitVec.toNat_and, show (4095#32 : BitVec 32).toNat = 2 ^ 12 - 1 from rfl, Nat.and_two_pow_sub_one_eq_mod]
  simp only [BitVec.toNat_add, BitVec.toNat_mul, BitVec.toNat_ofNat]
  omega

/-- A selection by an inequality of words. -/
theorem select_ne {w : ℕ} (a b : BitVec w) (x y : EReal) :
    Scalar.select (IntOp.cmpi .ne a b) x y = if a.toNat = b.toNat then y else x := by
  by_cases h : a = b
  · subst h
    rw [if_pos rfl]
    simp [Scalar.select, IntOp.cmpi]
  · rw [if_neg (fun e => h (BitVec.eq_of_toNat_eq e))]
    have hb : (a != b) = true := bne_iff_ne.2 h
    simp [Scalar.select, IntOp.cmpi, hb]

/-- The neighbour below, zero at a sample's last row. -/
theorem pay16_apply (i : grid0.Coords) (h : Vec Ideal S544x2048 .bf16) (w : Vec Ideal S2048x512 .bf16) (p : Fin 512) (n : Fin 512) :
    k0_pay16 i h w (ix2 p n)
      = if ((i 0).val * 512 + p.val) % 4096 = 4095 then 0 else k0_pay13 h w (ix2 ⟨17 + p.val, by omega⟩ n) := by
  have e : k0_pay16 i h w (ix2 p n) = Scalar.select (IntOp.cmpi .ne (k0_pay15 i (ix2 p 0)) 4095#32)
      (k0_pay13 h w (ix2 ⟨17 + p.val, by omega⟩ n)) (0 : EReal) := by
    generalize hq : k0_pay13 h w = q
    generalize hr : k0_pay15 i = r
    pointwise [k0_pay16, hq, hr]
  rw [e, select_ne, pay15_apply]
  rfl

/-- The neighbour above times its tap, zero at a sample's first row. -/
theorem pay17_apply (i : grid0.Coords) (h : Vec Ideal S544x2048 .bf16) (w : Vec Ideal S2048x512 .bf16) (c : Vec Ideal S1x512 .f32)
    (p : Fin 512) (n : Fin 512) :
    k0_pay17 i h w c (ix2 p n)
      = (if ((i 0).val * 512 + p.val) % 4096 = 0 then 0 else k0_pay13 h w (ix2 ⟨15 + p.val, by omega⟩ n)) * c (ix2 0 n) := by
  have e : k0_pay17 i h w c (ix2 p n) = Scalar.select (IntOp.cmpi .ne (k0_pay15 i (ix2 p 0)) 0#32)
      (k0_pay13 h w (ix2 ⟨15 + p.val, by omega⟩ n)) (0 : EReal) * c (ix2 0 n) := by
    generalize hq : k0_pay13 h w = q
    generalize hr : k0_pay15 i = r
    pointwise [k0_pay17, hq, hr]
  rw [e, select_ne, pay15_apply]
  rfl

/-- The row itself. -/
theorem pay18_apply (h : Vec Ideal S544x2048 .bf16) (w : Vec Ideal S2048x512 .bf16) (p : Fin 512) (n : Fin 512) :
    k0_pay18 h w (ix2 p n) = k0_pay13 h w (ix2 ⟨16 + p.val, by omega⟩ n) := by
  generalize hq : k0_pay13 h w = q
  pointwise [k0_pay18, hq]

/-- The accumulator's next value: the gated rows times the down projection's rows are added. -/
theorem pay1_apply (v d u m : FVec Ideal S512x512 .f32) (c1 c2 b : Vec Ideal S1x512 .f32) (a : Vec Ideal S512x2048 .f32)
    (w : Vec Ideal S512x2048 .bf16) (p : Fin 512) (j : Fin 2048) :
    k0_pay1 v d u m c1 c2 b a w (ix2 p j)
      = a (ix2 p j) + ∑ n : Fin 512, (silu (u (ix2 p n) + m (ix2 p n) * c1 (ix2 0 n) + d (ix2 p n) * c2 (ix2 0 n) + b (ix2 0 n))
          * v (ix2 p n)) * w (ix2 n j) := by
  unfold silu
  simp only [← zero_sub (_ : EReal)]
  pointwise [k0_pay1]

/-- The accumulator's first value. -/
theorem pay12_apply (p : Fin 512) (j : Fin 2048) : (k0_pay12 (F := Ideal)) (ix2 p j) = (0 : EReal) := by
  pointwise [k0_pay12]

/-- The residual with the gated sum. -/
theorem pay2_apply (x : Vec Ideal S512x2048 .f32) (g : Vec Ideal S1x1x2048 .f32) (a : Vec Ideal S512x2048 .f32) (p : Fin 512) (j : Fin 2048) :
    k0_pay2 x g a (ix2 p j) = x (ix2 p j) + g (ix3 0 0 j) * a (ix2 p j) := by
  pointwise [k0_pay2]

end Cert.FfnIdeal.RefValue

end
-- ==== Proof.Ffn.Ref.lean ====
/- The feed-forward network's reference, element by element. -/
module

public import proofs.«01_k».proof.Proof.Gen.FfnRefIdeal.Read
public import proofs.«01_k».proof.Proof.Ffn.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.FfnRefIdeal.Rows

open Cert.FfnRefIdeal Cert.FfnRefIdeal.Gen Cert.FfnRefIdeal.Read Cert.FfnRows

variable (x0 : (⟨S8x4096x2048, .f32⟩ : BufTy).Contents (Elt Ideal)) (x1 : (⟨S2048, .f32⟩ : BufTy).Contents (Elt Ideal))
  (x2 x3 x4 : (⟨S8x2048, .f32⟩ : BufTy).Contents (Elt Ideal)) (x5 : (⟨S2048x11264, .f32⟩ : BufTy).Contents (Elt Ideal))
  (x6 : (⟨S3x5632, .f32⟩ : BufTy).Contents (Elt Ideal)) (x7 : (⟨S5632, .f32⟩ : BufTy).Contents (Elt Ideal))
  (x8 : (⟨S5632x2048, .f32⟩ : BufTy).Contents (Elt Ideal))

/-- A row of the modulated normalization. -/
def row (b : Fin 8) (r : Fin 4096) : Fin 2048 → EReal :=
  adaln (fun j => x0 (ix3 b r j)) (fun j => x1 (ix1 j)) (fun j => x3 (ix2 b j)) (fun j => x2 (ix2 b j))

/-- The reference's normalized and modulated rows. -/
theorem v20_eq (b : Fin 8) (r : Fin 4096) (k : Fin 2048) :
    val_main_v20 (F := Ideal) x0 x1 x2 x3 (ix3 b r k) = row x0 x1 x2 x3 b r k := by
  unfold row adaln
  rw [val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply]
  refine Ideal.add_congr (Ideal.mul_congr (Ideal.mul_congr (Ideal.mul_congr rfl (congrArg Ideal.rsqrt (Ideal.add_congr
    (congrArg₂ Ideal.div ?_ rfl) rfl))) ?_) (Ideal.add_congr Ideal.ofBits_one_f32 ?_)) ?_
  · refine (Ideal.add_congr Ideal.ofBits_zero_f32 (Finset.sum_congr rfl fun j _ => ?_)).trans (zero_add _)
    refine Ideal.mul_congr (congrArg x0 (funext fun a => ?_)) (congrArg x0 (funext fun a => ?_)) <;>
      (match a with | ⟨0, _⟩ => rfl | ⟨1, _⟩ => rfl | ⟨2, _⟩ => rfl)
  · exact congrArg x1 (funext fun a => match a with | ⟨0, _⟩ => rfl)
  · exact congrArg x3 (funext fun a => match a with | ⟨0, _⟩ => rfl | ⟨1, _⟩ => rfl)
  · exact congrArg x2 (funext fun a => match a with | ⟨0, _⟩ => rfl | ⟨1, _⟩ => rfl)

/-- A row times the up projection. -/
def up (b : Fin 8) (r : Fin 4096) (n : Fin 11264) : EReal := ∑ k, row x0 x1 x2 x3 b r k * x5 (ix2 k n)

/-- The reference's up projection. -/
theorem v21_eq (b : Fin 8) (r : Fin 4096) (n : Fin 11264) :
    val_main_v21 (F := Ideal) x0 x1 x2 x3 x5 (ix3 b r n) = up x0 x1 x2 x3 x5 b r n := by
  rw [val_main_v21_apply]
  refine Finset.sum_congr rfl fun k _ => Ideal.mul_congr ?_ (congrArg x5 (funext fun a => match a with | ⟨0, _⟩ => rfl | ⟨1, _⟩ => rfl))
  rw [← v20_eq]
  exact congrArg _ (funext fun a => match a with | ⟨0, _⟩ => rfl | ⟨1, _⟩ => rfl | ⟨2, _⟩ => rfl)

/-- The gate half of the up projection, a row beyond a sample's ends being zero: position `p` is row `p - 1`. -/
def padded (b : Fin 8) (p : Fin 4098) (n : Fin 5632) : EReal :=
  if h : 1 ≤ p.val ∧ p.val ≤ 4096 then up x0 x1 x2 x3 x5 b ⟨p.val - 1, by omega⟩ ⟨n.val, by omega⟩ else 0

/-- The reference's padded rows. -/
theorem v24_eq (b : Fin 8) (p : Fin 4098) (n : Fin 5632) :
    val_main_v24 (F := Ideal) x0 x1 x2 x3 x5 (ix3 b p n) = padded x0 x1 x2 x3 x5 b p n := by
  unfold val_main_v24 padded
  by_cases h : 1 ≤ p.val ∧ p.val ≤ 4096
  · rw [dif_pos h, ← v21_eq]
    refine (pad_apply_of_inside ![0, 1, 0] ![0, 1, 0] ![0, 0, 0] _ _ _ _ _ (ix3 b ⟨p.val - 1, by omega⟩ n) (fun a => ?_)).trans ?_
    · match a with
      | ⟨0, _⟩ => exact (show b.val = 0 + b.val * (0 + 1) by omega)
      | ⟨1, _⟩ => exact (show p.val = 1 + (p.val - 1) * (0 + 1) by omega)
      | ⟨2, _⟩ => exact (show n.val = 0 + n.val * (0 + 1) by omega)
    · rw [val_main_v22_apply]
      exact congrArg _ (funext fun a => match a with | ⟨0, _⟩ => rfl | ⟨1, _⟩ => rfl | ⟨2, _⟩ => rfl)
  · rw [dif_neg h]
    refine (pad_apply_of_not_inside (s := S8x4096x5632) (t := S8x4098x5632) ![0, 1, 0] ![0, 1, 0] ![0, 0, 0] _ _ _ _ _ (1 : Fin 3) ?_).trans ?_
    · exact (show ¬(1 ≤ p.val ∧ (p.val - 1) % (0 + 1) = 0 ∧ (p.val - 1) / (0 + 1) < 4096) by omega)
    · rw [val_main_call0_v0_apply, val_main_c_apply]
      show ((((0#32 : BitVec 32).toInt : ℝ)) : EReal) = 0
      simp

/-- The convolution at a row: the row above, the row, the row below. -/
def conv (b : Fin 8) (r : Fin 4096) (n : Fin 5632) : EReal :=
  taps (padded x0 x1 x2 x3 x5 b ⟨r.val, by omega⟩ n) (padded x0 x1 x2 x3 x5 b ⟨1 + r.val, by omega⟩ n)
    (padded x0 x1 x2 x3 x5 b ⟨2 + r.val, by omega⟩ n) (x6 (ix2 0 n)) (x6 (ix2 1 n)) (x6 (ix2 2 n)) (x7 (ix1 n))

/-- The reference's convolution. -/
theorem v47_eq (b : Fin 8) (r : Fin 4096) (n : Fin 5632) :
    val_main_v47 (F := Ideal) x0 x1 x2 x3 x5 x6 x7 (ix3 b r n) = conv x0 x1 x2 x3 x5 x6 x7 b r n := by
  have hn : n.val % 5632 = n.val := Nat.mod_eq_of_lt n.isLt
  unfold conv taps
  rw [val_main_v47_apply, val_main_v46_apply, val_main_v45_apply, val_main_v44_apply, val_main_v43_apply, val_main_v42_apply,
    val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, val_main_v25_apply,
    ← v24_eq, ← v24_eq, ← v24_eq]
  refine Ideal.add_congr (Ideal.add_congr (Ideal.add_congr (Ideal.mul_congr ?_ ?_) (Ideal.mul_congr ?_ ?_)) (Ideal.mul_congr ?_ ?_)) ?_
  · exact congrArg _ (funext fun a => match a with | ⟨0, _⟩ => rfl | ⟨1, _⟩ => rfl | ⟨2, _⟩ => rfl)
  · exact congrArg x6 (funext fun a => Fin.ext (match a with | ⟨0, _⟩ => rfl | ⟨1, _⟩ => hn))
  · exact congrArg _ (funext fun a => match a with | ⟨0, _⟩ => rfl | ⟨1, _⟩ => rfl | ⟨2, _⟩ => rfl)
  · exact congrArg x6 (funext fun a => Fin.ext (match a with | ⟨0, _⟩ => rfl | ⟨1, _⟩ => hn))
  · exact congrArg _ (funext fun a => match a with | ⟨0, _⟩ => rfl | ⟨1, _⟩ => rfl | ⟨2, _⟩ => rfl)
  · exact congrArg x6 (funext fun a => Fin.ext (match a with | ⟨0, _⟩ => rfl | ⟨1, _⟩ => hn))
  · exact congrArg x7 (funext fun a => match a with | ⟨0, _⟩ => rfl)

/-- The gated row. -/
def gated (b : Fin 8) (r : Fin 4096) (n : Fin 5632) : EReal :=
  silu (conv x0 x1 x2 x3 x5 x6 x7 b r n) * up x0 x1 x2 x3 x5 b r ⟨5632 + n.val, by omega⟩

/-- The reference's gated rows. -/
theorem v50_eq (b : Fin 8) (r : Fin 4096) (n : Fin 5632) :
    val_main_v50 (F := Ideal) x0 x1 x2 x3 x5 x6 x7 (ix3 b r n) = gated x0 x1 x2 x3 x5 x6 x7 b r n := by
  unfold gated
  rw [val_main_v50_apply, val_main_v23_apply, val_main_v49_apply, val_main_call1_v5_apply, val_main_call1_v4_apply,
    val_main_call1_v3_apply, val_main_call1_v2_apply, val_main_call1_v1_apply, val_main_call1_v0_apply, v47_eq, ← mul_logistic, ← v21_eq]
  refine Ideal.mul_congr (Ideal.mul_congr rfl (congrArg₂ Ideal.div Ideal.ofBits_one_f32 (Ideal.add_congr Ideal.ofBits_one_f32 rfl))) ?_
  exact congrArg _ (funext fun a => match a with | ⟨0, _⟩ => rfl | ⟨1, _⟩ => rfl | ⟨2, _⟩ => rfl)

/-- The reference's result. -/
theorem v55_eq (i : S32768x2048.Idx) (b : Fin 8) (r : Fin 4096) (j : Fin 2048)
    (h0 : (i 0).val = b.val * 4096 + r.val) (h1 : (i 1).val = j.val) :
    val_main_v55 (F := Ideal) x0 x1 x2 x3 x4 x5 x6 x7 x8 i
      = x0 (ix3 b r j) + x4 (ix2 b j) * ∑ n : Fin 5632, gated x0 x1 x2 x3 x5 x6 x7 b r n * x8 (ix2 n j) := by
  have hb := b.isLt
  have hr := r.isLt
  have hj := j.isLt
  have ei : idx_main_v55 i = ix3 b r j := by
    refine funext fun a => Fin.ext ?_
    match a with
    | ⟨0, _⟩ => exact (show ((i 0).val * 2048 + (i 1).val) / 8388608 = b.val by omega)
    | ⟨1, _⟩ => exact (show ((i 0).val * 2048 + (i 1).val) / 2048 % 4096 = r.val by omega)
    | ⟨2, _⟩ => exact (show ((i 0).val * 2048 + (i 1).val) % 2048 = j.val by omega)
  rw [val_main_v55_apply, ei, val_main_v54_apply, val_main_v53_apply, val_main_v52_apply, val_main_v48_apply, val_main_v51_apply]
  refine Ideal.add_congr rfl (Ideal.mul_congr ?_ (Finset.sum_congr rfl fun n _ => Ideal.mul_congr ?_ ?_))
  · exact congrArg x4 (funext fun a => match a with | ⟨0, _⟩ => rfl | ⟨1, _⟩ => rfl)
  · rw [← v50_eq]
    exact congrArg _ (funext fun a => match a with | ⟨0, _⟩ => rfl | ⟨1, _⟩ => rfl | ⟨2, _⟩ => rfl)
  · exact congrArg x8 (funext fun a => match a with | ⟨0, _⟩ => rfl | ⟨1, _⟩ => rfl)

end Cert.FfnRefIdeal.Rows

end
-- ==== Proof.Ffn.Halo.lean ====
/- The feed-forward network: the normalized rows that the kernel keeps for a tile, its 512 rows with one row above and one
   below, are the rows of the sample. -/
module

public import proofs.«01_k».proof.Proof.Ffn.Blocks
public import proofs.«01_k».proof.Proof.Ffn.Kernel
public import proofs.«01_k».proof.Proof.Ffn.Ref
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.FfnRows
open Cert.FfnRefIdeal.Rows (row up padded conv gated)

/-- A load of three stored stretches of rows at a row of one of them: the stretch's row. -/
theorem canon_rows (w2 : S16x2048.Idx → Elt Ideal .bf16)
    (w1 : S512x2048.Idx → Elt Ideal .bf16)
    (w0 : S16x2048.Idx → Elt Ideal .bf16)
    (q : Fin 544) (k : Fin 2048) (v : EReal)
    (h0 : ∀ p : Fin 16, p.val = q.val → w0 (ix2 p k) = v)
    (h1 : ∀ p : Fin 512, 16 + p.val = q.val → w1 (ix2 p k) = v)
    (h2 : ∀ p : Fin 16, 528 + p.val = q.val → w2 (ix2 p k) = v) :
    View.canon (Val := Elt Ideal) (s := S544x2048) (e := .bf16)
      [⟨Rect.unit ![528, 0] ![16, 2048] inb_S544x2048_S16x2048_528_0, w2⟩,
       ⟨Rect.unit ![16, 0] ![512, 2048] inb_S544x2048_S512x2048_16_0, w1⟩,
       ⟨Rect.unit ![0, 0] ![16, 2048] inb_S544x2048_S16x2048_0_0, w0⟩] (ix2 q k) = v := by
  have hq := q.isLt
  by_cases c2 : 528 ≤ q.val
  · refine Eq.trans (congrArg _ (?_ : ix2 q k = (Rect.unit ![528, 0] ![16, 2048] inb_S544x2048_S16x2048_528_0).emb
      (ix2 ⟨q.val - 528, by omega⟩ k))) ((View.canon_cons_emb _ _ _ _).trans (h2 ⟨q.val - 528, by omega⟩ (by dsimp only; omega)))
    refine funext fun a => Fin.ext ?_
    match a with
    | ⟨0, _⟩ => exact (show q.val = 528 + 1 * (q.val - 528) by omega)
    | ⟨1, _⟩ => exact (show k.val = 0 + 1 * k.val by omega)
  · refine (View.canon_cons_of_not_mem _ _ (Rect.not_mem_set_of_axis _ _ (0 : Fin 2) 528 16 rfl rfl rfl
      (Or.inl (show q.val < 528 by omega)))).trans ?_
    by_cases c1 : 16 ≤ q.val
    · refine Eq.trans (congrArg _ (?_ : ix2 q k = (Rect.unit ![16, 0] ![512, 2048] inb_S544x2048_S512x2048_16_0).emb
        (ix2 ⟨q.val - 16, by omega⟩ k))) ((View.canon_cons_emb _ _ _ _).trans (h1 ⟨q.val - 16, by omega⟩ (by dsimp only; omega)))
      refine funext fun a => Fin.ext ?_
      match a with
      | ⟨0, _⟩ => exact (show q.val = 16 + 1 * (q.val - 16) by omega)
      | ⟨1, _⟩ => exact (show k.val = 0 + 1 * k.val by omega)
    · refine (View.canon_cons_of_not_mem _ _ (Rect.not_mem_set_of_axis _ _ (0 : Fin 2) 16 512 rfl rfl rfl
        (Or.inl (show q.val < 16 by omega)))).trans ?_
      refine Eq.trans (congrArg _ (?_ : ix2 q k = (Rect.unit ![0, 0] ![16, 2048] inb_S544x2048_S16x2048_0_0).emb
        (ix2 ⟨q.val, by omega⟩ k))) ((View.canon_cons_emb _ _ _ _).trans (h0 ⟨q.val, by omega⟩ rfl))
      refine funext fun a => Fin.ext ?_
      match a with
      | ⟨0, _⟩ => exact (show q.val = 0 + 1 * q.val by omega)
      | ⟨1, _⟩ => exact (show k.val = 0 + 1 * k.val by omega)

variable (m : (ℓ : Loc nD τ sig) → Buf (Elt Ideal) ℓ)

/-- A row of the modulated normalization of the arguments. -/
abbrev rowOf (c : Dev nD) (b : Fin 8) (r : Fin 4096) (k : Fin 2048) : EReal :=
  row (m ((c : Thread nD τ).loc main_arg0)) (m ((c : Thread nD τ).loc main_arg1)) (m ((c : Thread nD τ).loc main_arg2))
    (m ((c : Thread nD τ).loc main_arg3)) b r k

/-- The same combination of the staged gain, scale and shift of a sample. -/
theorem adaln_row (c : Dev nD) (t : Fin cfg0.N) (b : Fin 8) (r : Fin 4096) (k : Fin 2048) (hb : b.val = t.val / 88)
    (x : Fin 2048 → EReal) (hx : ∀ j, x j = m ((c : Thread nD τ).loc main_arg0) (ix3 b r j)) :
    adaln x (fun j => iblk m c 3 t (ix2 0 j)) (fun j => iblk m c 5 t (ix3 0 0 j)) (fun j => iblk m c 4 t (ix3 0 0 j)) k
      = rowOf m c b r k := by
  unfold rowOf row
  rw [show x = _ from funext hx, show (fun j => iblk m c 3 t (ix2 0 j)) = _ from funext fun j => blk3 m c t j,
    show (fun j => iblk m c 5 t (ix3 0 0 j)) = _ from funext fun j => blk5 m c t b j hb,
    show (fun j => iblk m c 4 t (ix3 0 0 j)) = _ from funext fun j => blk4 m c t b j hb]

/-- The row above a tile. -/
theorem above (c : Dev nD) (t : Fin cfg0.N) (b : Fin 8) (r : Fin 4096) (k : Fin 2048) (p : Fin 16) (hb : b.val = t.val / 88)
    (hp : 15 ≤ p.val) (hr : b.val * 4096 + r.val + 16 = t.val / 11 * 512 + p.val) :
    k0_pay6 (iblk m c 3 t) (iblk m c 4 t) (iblk m c 5 t) (iblk m c 0 t) (ix2 p k) = rowOf m c b r k := by
  have hp' := p.isLt
  rw [pay6_apply]
  exact adaln_row m c t b r k hb _ fun j => blk0 m c t _ _
    (show b.val * 4096 + r.val = (t.val / 11 * 32 - 1) * 16 + p.val by omega) rfl

/-- The rows of a tile. -/
theorem inside (c : Dev nD) (t : Fin cfg0.N) (b : Fin 8) (r : Fin 4096) (k : Fin 2048) (p : Fin 512) (hb : b.val = t.val / 88)
    (hr : b.val * 4096 + r.val = t.val / 11 * 512 + p.val) :
    k0_pay10 (k0_pay3 (iblk m c 3 t)) (k0_pay4 (iblk m c 4 t)) (k0_pay5 (iblk m c 5 t)) (k0_pay7 (iblk m c 1 t)) (k0_pay8 (iblk m c 1 t))
      k0_pay9 (ix2 p k) = rowOf m c b r k := by
  rw [pay10_apply]
  exact adaln_row m c t b r k hb _ fun j => blk1 m c t _ _ hr rfl

/-- The row below a tile. -/
theorem below (c : Dev nD) (t : Fin cfg0.N) (b : Fin 8) (r : Fin 4096) (k : Fin 2048) (p : Fin 16) (hb : b.val = t.val / 88)
    (hp : p.val = 0) (hr : b.val * 4096 + r.val = t.val / 11 * 512 + 512) :
    k0_pay11 (k0_pay3 (iblk m c 3 t)) (k0_pay4 (iblk m c 4 t)) (k0_pay5 (iblk m c 5 t)) (iblk m c 2 t) (ix2 p k) = rowOf m c b r k := by
  have hb' := b.isLt
  have hr' := r.isLt
  rw [pay11_apply]
  exact adaln_row m c t b r k hb _ fun j => blk2 m c t _ _
    (show b.val * 4096 + r.val = min (t.val / 11 * 32 + 32) 2047 * 16 + p.val by omega) rfl

/-- The rows that the first of a tile's points stores. -/
theorem stored (c : Dev nD) (t : Fin cfg0.N) (b : Fin 8) (r : Fin 4096) (q : Fin 544) (k : Fin 2048) (hb : b.val = t.val / 88)
    (hq : 15 ≤ q.val) (hq' : q.val ≤ 528) (hr : b.val * 4096 + r.val + 16 = t.val / 11 * 512 + q.val) :
    View.canon (Val := Elt Ideal) (s := S544x2048) (e := .bf16)
      [⟨Rect.unit ![528, 0] ![16, 2048] inb_S544x2048_S16x2048_528_0,
          k0_pay11 (k0_pay3 (iblk m c 3 t)) (k0_pay4 (iblk m c 4 t)) (k0_pay5 (iblk m c 5 t)) (iblk m c 2 t)⟩,
       ⟨Rect.unit ![16, 0] ![512, 2048] inb_S544x2048_S512x2048_16_0,
          k0_pay10 (k0_pay3 (iblk m c 3 t)) (k0_pay4 (iblk m c 4 t)) (k0_pay5 (iblk m c 5 t)) (k0_pay7 (iblk m c 1 t))
            (k0_pay8 (iblk m c 1 t)) k0_pay9⟩,
       ⟨Rect.unit ![0, 0] ![16, 2048] inb_S544x2048_S16x2048_0_0,
          k0_pay6 (iblk m c 3 t) (iblk m c 4 t) (iblk m c 5 t) (iblk m c 0 t)⟩] (ix2 q k) = rowOf m c b r k := by
  refine canon_rows _ _ _ q k _ (fun p hp => ?_) (fun p hp => ?_) (fun p hp => ?_)
  · exact above m c t b r k p hb (by omega) (by omega)
  · exact inside m c t b r k p hb (by omega)
  · exact below m c t b r k p hb (by omega) (by omega)

/-- Every later point of a tile finds the rows as they were. -/
theorem hold (c : Dev nD) (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]; rfl
  · rw [outsAt0_B m c t h0 h1]; rfl

/-- The kept rows after a tile's first point. -/
theorem first (c : Dev nD) (t : Fin cfg0.N) (h : t.val % 11 = 0) (b : Fin 8) (r : Fin 4096) (q : Fin 544) (k : Fin 2048)
    (hb : b.val = t.val / 88) (hq : 15 ≤ q.val) (hq' : q.val ≤ 528) (hr : b.val * 4096 + r.val + 16 = t.val / 11 * 512 + q.val) :
    (outsAt0 m c t.val t.isLt).2.1 (ix2 q k) = rowOf m c b r k := by
  rw [outsAt0_A m c t h (by omega)]
  frame_out
  exact stored m c t b r q k hb hq hq' hr

/-- The kept rows after any point of a tile. -/
theorem kept (c : Dev nD) (t : Fin cfg0.N) (b : Fin 8) (r : Fin 4096) (q : Fin 544) (k : Fin 2048)
    (hb : b.val = t.val / 88) (hq : 15 ≤ q.val) (hq' : q.val ≤ 528) (hr : b.val * 4096 + r.val + 16 = t.val / 11 * 512 + q.val) :
    (outsAt0 m c t.val t.isLt).2.1 (ix2 q k) = rowOf m c b r k := by
  rw [Pipeline.eq_of_write_hold (fun n h => (outsAt0 m c n h).2.1) 11 (fun t => (outsAt0 m c t.val t.isLt).2.1)
    (fun _ _ => rfl) (fun t h => hold m c t h) t]
  exact first m c ⟨11 * (t.val / 11), _⟩ (Nat.mul_mod_right 11 _) b r q k
    (show b.val = 11 * (t.val / 11) / 88 by omega) hq hq'
    (show b.val * 4096 + r.val + 16 = 11 * (t.val / 11) / 11 * 512 + q.val by omega)

end Cert.FfnIdeal.RefValue

end
-- ==== Proof.Ffn.Value.lean ====
/- The feed-forward network: each point of a tile adds its 512 columns' share to the down projection, and the array that the
   kernel writes is the reference's. -/
module

public import proofs.«01_k».proof.Proof.Ffn.Halo
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.FfnRows
open Cert.FfnRefIdeal.Rows (row up padded conv gated)
open Cert.FfnRefIdeal.Read

variable (m : (ℓ : Loc nD τ sig) → Buf (Elt Ideal) ℓ)

/-- A row of the up projection of the arguments. -/
abbrev upOf (c : Dev nD) (b : Fin 8) (r : Fin 4096) (n : Fin 11264) : EReal :=
  up (m ((c : Thread nD τ).loc main_arg0)) (m ((c : Thread nD τ).loc main_arg1)) (m ((c : Thread nD τ).loc main_arg2))
    (m ((c : Thread nD τ).loc main_arg3)) (m ((c : Thread nD τ).loc main_arg5)) b r n

/-- The same with a zero row at each end of a sample, of the gate half. -/
abbrev paddedOf (c : Dev nD) (b : Fin 8) (p : Fin 4098) (n : Fin 5632) : EReal :=
  padded (m ((c : Thread nD τ).loc main_arg0)) (m ((c : Thread nD τ).loc main_arg1)) (m ((c : Thread nD τ).loc main_arg2))
    (m ((c : Thread nD τ).loc main_arg3)) (m ((c : Thread nD τ).loc main_arg5)) b p n

/-- A gated row of the arguments. -/
abbrev gatedOf (c : Dev nD) (b : Fin 8) (r : Fin 4096) (n : Fin 5632) : EReal :=
  gated (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) b r n

/-- A position between a sample's ends is the row before it in number. -/
theorem padded_inner (c : Dev nD) (b : Fin 8) (p : Fin 4098) (n : Fin 5632) (r : Fin 4096) (i : Fin 11264)
    (hp : p.val = r.val + 1) (hi : i.val = n.val) : paddedOf m c b p n = upOf m c b r i := by
  have hr := r.isLt
  refine (dif_pos (⟨by omega, by omega⟩ : 1 ≤ p.val ∧ p.val ≤ 4096)).trans ?_
  exact congrArg₂ (upOf m c b) (Fin.ext (show p.val - 1 = r.val by omega)) (Fin.ext hi.symm)

/-- A position beyond a sample's ends is zero. -/
theorem padded_outer (c : Dev nD) (b : Fin 8) (p : Fin 4098) (n : Fin 5632) (hp : p.val = 0 ∨ p.val = 4097) :
    paddedOf m c b p n = 0 :=
  dif_neg (by omega : ¬(1 ≤ p.val ∧ p.val ≤ 4096))

/-- The gate half of the up projection at a kept row. -/
theorem gate_row (c : Dev nD) (t : Fin cfg0.N) (H : Vec Ideal S544x2048 .bf16) (b : Fin 8) (r : Fin 4096) (q : Fin 544) (n : Fin 512)
    (i : Fin 11264) (hH : ∀ k, H (ix2 q k) = rowOf m c b r k) (hi : i.val = t.val % 11 * 512 + n.val) :
    k0_pay13 H (iblk m c 7 t) (ix2 q n) = upOf m c b r i := by
  rw [pay13_apply]
  exact Finset.sum_congr rfl fun k _ => Ideal.mul_congr (hH k) (blk7 m c t _ _ rfl hi)

/-- One point's addition to the accumulator, from the rows it keeps: the gated rows of its 512 columns times the down
    projection's rows. -/
theorem step (c : Dev nD) (t : Fin cfg0.N) (H : Vec Ideal S544x2048 .bf16) (M : Vec Ideal S512x2048 .bf16)
    (c0 c1 c2 : Vec Ideal S1x512 .f32) (acc : Vec Ideal S512x2048 .f32) (b : Fin 8) (r : Fin 4096) (p : Fin 512) (j : Fin 2048)
    (hb : b.val = t.val / 88) (hr : b.val * 4096 + r.val = t.val / 11 * 512 + p.val)
    (hH : ∀ (r' : Fin 4096) (q : Fin 544) (k : Fin 2048), 15 ≤ q.val → q.val ≤ 528 →
      b.val * 4096 + r'.val + 16 = t.val / 11 * 512 + q.val → H (ix2 q k) = rowOf m c b r' k)
    (hM : ∀ k, M (ix2 p k) = rowOf m c b r k)
    (h0 : ∀ n, c0 (ix2 0 n) = iblk m c 9 t (ix2 0 n)) (h1 : ∀ n, c1 (ix2 0 n) = iblk m c 9 t (ix2 1 n))
    (h2 : ∀ n, c2 (ix2 0 n) = iblk m c 9 t (ix2 2 n)) :
    k0_pay1 (k0_pay14 M (iblk m c 8 t)) (k0_pay16 (grid0.coords t) H (iblk m c 7 t)) (k0_pay17 (grid0.coords t) H (iblk m c 7 t) c0)
        (k0_pay18 H (iblk m c 7 t)) c1 c2 (iblk m c 10 t) acc (iblk m c 11 t) (ix2 p j)
      = acc (ix2 p j) + ∑ n : Fin 512, gatedOf m c b r ⟨t.val % 11 * 512 + n.val, by omega⟩
          * m ((c : Thread nD τ).loc main_arg8) (ix2 ⟨t.val % 11 * 512 + n.val, by omega⟩ j) := by
  have hp := p.isLt
  have hr' := r.isLt
  rw [pay1_apply]
  refine Ideal.add_congr rfl (Finset.sum_congr rfl fun n _ => Ideal.mul_congr (Ideal.mul_congr (congrArg silu ?_) ?_)
    (blk11 m c t _ _ rfl rfl))
  · rw [pay17_apply, pay16_apply, pay18_apply, coords0, h0, h1, h2]
    have hn := n.isLt
    refine Ideal.add_congr (Ideal.add_congr (Ideal.add_congr (Ideal.mul_congr ?_ (blk9 m c t _ _ rfl rfl))
      (Ideal.mul_congr ?_ (blk9 m c t _ _ rfl rfl))) (Ideal.mul_congr ?_ (blk9 m c t _ _ rfl rfl)))
      (blk10 m c t n _ rfl)
    · by_cases hz : r.val = 0
      · rw [if_pos (by omega)]
        exact (padded_outer m c b _ _ (Or.inl hz)).symm
      · rw [if_neg (by omega)]
        refine (gate_row m c t H b ⟨r.val - 1, by omega⟩ _ n ⟨t.val % 11 * 512 + n.val, by omega⟩ (fun k => hH _ _ k ?_ ?_ ?_) rfl).trans
          (padded_inner m c b _ _ _ _ (show r.val = r.val - 1 + 1 by omega) rfl).symm
        · exact (show 15 ≤ 15 + p.val by omega)
        · exact (show 15 + p.val ≤ 528 by omega)
        · exact (show b.val * 4096 + (r.val - 1) + 16 = t.val / 11 * 512 + (15 + p.val) by omega)
    · refine (gate_row m c t H b r _ n ⟨t.val % 11 * 512 + n.val, by omega⟩ (fun k => hH _ _ k ?_ ?_ ?_) rfl).trans
        (padded_inner m c b _ _ _ _ (show 1 + r.val = r.val + 1 by omega) rfl).symm
      · exact (show 15 ≤ 16 + p.val by omega)
      · exact (show 16 + p.val ≤ 528 by omega)
      · exact (show b.val * 4096 + r.val + 16 = t.val / 11 * 512 + (16 + p.val) by omega)
    · by_cases hz : r.val = 4095
      · rw [if_pos (by omega)]
        exact (padded_outer m c b _ _ (Or.inr (show 2 + r.val = 4097 by omega))).symm
      · rw [if_neg (by omega)]
        refine (gate_row m c t H b ⟨r.val + 1, by omega⟩ _ n ⟨t.val % 11 * 512 + n.val, by omega⟩ (fun k => hH _ _ k ?_ ?_ ?_) rfl).trans
          (padded_inner m c b _ _ _ _ (show 2 + r.val = r.val + 1 + 1 by omega) rfl).symm
        · exact (show 15 ≤ 17 + p.val by omega)
        · exact (show 17 + p.val ≤ 528 + 0 by omega)
        · exact (show b.val * 4096 + (r.val + 1) + 16 = t.val / 11 * 512 + (17 + p.val) by omega)
  · rw [pay14_apply]
    exact Finset.sum_congr rfl fun k _ => Ideal.mul_congr (hM k) (blk8 m c t _ _ rfl
      (show 5632 + (t.val % 11 * 512 + n.val) = (11 + t.val % 11) * 512 + n.val by omega))

/-- The sample of a tile's row. -/
def sampleOf (t : Fin cfg0.N) : Fin 8 :=
  ⟨t.val / 88, by have := lt_of_lt_of_eq t.isLt N_0; omega⟩

/-- The row in its sample of a tile's row. -/
def posOf (t : Fin cfg0.N) (p : Fin 512) : Fin 4096 := ⟨(t.val / 11 * 512 + p.val) % 4096, Nat.mod_lt _ (by omega)⟩

theorem place (t : Fin cfg0.N) (p : Fin 512) :
    (sampleOf t).val * 4096 + (posOf t p).val = t.val / 11 * 512 + p.val := by
  show t.val / 88 * 4096 + (t.val / 11 * 512 + p.val) % 4096 = _
  have hp := p.isLt
  omega

/-- What a point adds to the accumulator. -/
def term (c : Dev nD) (t : Fin cfg0.N) (i : S512x2048.Idx) : EReal :=
  ∑ n : Fin 512, gatedOf m c (sampleOf t) (posOf t (i 0)) ⟨t.val % 11 * 512 + n.val, by omega⟩
    * m ((c : Thread nD τ).loc main_arg8) (ix2 ⟨t.val % 11 * 512 + n.val, by omega⟩ (i 1))

/-- A tile's first point starts the accumulator with its addition. -/
theorem acc_first (c : Dev nD) (t : Fin cfg0.N) (h : t.val % 11 = 0) (p : Fin 512) (j : Fin 2048) :
    (outsAt0 m c t.val t.isLt).2.2 (ix2 p j) = 0 + term m c t (ix2 p j) := by
  rw [outsAt0_A m c t h (by omega)]
  frame_out
  refine (step m c t _ _ _ _ _ _ (sampleOf t) (posOf t p) p j rfl (place t p) ?_ ?_ (fun n => ?_) (fun n => ?_) (fun n => ?_)).trans
    (Ideal.add_congr (pay12_apply p j) rfl)
  · intro r' q k hq hq' hr
    rw [View.readCov_eq_canon']
    refine Eq.trans (congrArg _ (funext fun a => Fin.ext ?_)) (stored m c t (sampleOf t) r' q k rfl hq hq' hr)
    match a with
    | ⟨0, _⟩ => exact (show 0 + 1 * q.val = q.val by omega)
    | ⟨1, _⟩ => exact (show 0 + 1 * k.val = k.val by omega)
  · intro k
    rw [View.readCov_eq_canon']
    refine Eq.trans (congrArg _ (funext fun a => Fin.ext ?_)) (stored m c t (sampleOf t) (posOf t p) ⟨16 + p.val, by omega⟩ k rfl
      (show 15 ≤ 16 + p.val by omega) (show 16 + p.val ≤ 528 by omega)
      (show (sampleOf t).val * 4096 + (posOf t p).val + 16 = t.val / 11 * 512 + (16 + p.val) by have := place t p; omega))
    match a with
    | ⟨0, _⟩ => exact (show 16 + 1 * p.val = 16 + p.val by omega)
    | ⟨1, _⟩ => exact (show 0 + 1 * k.val = k.val by omega)
  all_goals refine congrArg (iblk m c 9 t) (funext fun a => Fin.ext ?_)
  all_goals match a with
    | ⟨0, _⟩ => rfl
    | ⟨1, _⟩ => exact (show 0 + 1 * n.val = n.val by omega)

/-- A tile's later point adds to what the point before left. -/
theorem acc_next (c : Dev nD) (t : Fin cfg0.N) (h : ¬t.val % 11 = 0) (p : Fin 512) (j : Fin 2048) :
    (outsAt0 m c t.val t.isLt).2.2 (ix2 p j)
      = (outsAt0 m c (t.val - 1) (Nat.lt_of_le_of_lt (Nat.sub_le _ _) t.isLt)).2.2 (ix2 p j) + term m c t (ix2 p j) := by
  have hk := fun (r' : Fin 4096) (q : Fin 544) (k : Fin 2048) h1 h2 h3 => kept m c t (sampleOf t) r' q k rfl h1 h2 h3
  rw [hold m c t h] at hk
  have hH : ∀ (r' : Fin 4096) (q : Fin 544) (k : Fin 2048), 15 ≤ q.val → q.val ≤ 528 →
      (sampleOf t).val * 4096 + r'.val + 16 = t.val / 11 * 512 + q.val →
      (outsAt0 m c (t.val - 1) (Nat.lt_of_le_of_lt (Nat.sub_le _ _) t.isLt)).2.1 (ix2 q k) = rowOf m c (sampleOf t) r' k := hk
  clear hk
  by_cases h1 : t.val % 11 = 10
  all_goals first
    | rw [outsAt0_C m c t h h1]
    | rw [outsAt0_B m c t h h1]
  all_goals generalize (outsAt0 m c (t.val - 1) (Nat.lt_of_le_of_lt (Nat.sub_le _ _) t.isLt)).2.1 = H at hH ⊢
  all_goals generalize (outsAt0 m c (t.val - 1) (Nat.lt_of_le_of_lt (Nat.sub_le _ _) t.isLt)).2.2 = ACC
  all_goals frame_out
  all_goals
    rw [read_unread_whole, read_unread_whole]
    refine step m c t H _ _ _ _ ACC (sampleOf t) (posOf t p) p j rfl (place t p) hH (fun k => ?_) (fun n => ?_) (fun n => ?_) (fun n => ?_)
    · refine Eq.trans (congrArg H (funext fun a => Fin.ext ?_)) (hH (posOf t p) ⟨16 + p.val, by omega⟩ k
        (show 15 ≤ 16 + p.val by omega) (show 16 + p.val ≤ 528 by omega)
        (show (sampleOf t).val * 4096 + (posOf t p).val + 16 = t.val / 11 * 512 + (16 + p.val) by have := place t p; omega))
      match a with
      | ⟨0, _⟩ => exact (show 16 + 1 * p.val = 16 + p.val by omega)
      | ⟨1, _⟩ => exact (show 0 + 1 * k.val = k.val by omega)
    all_goals refine congrArg (iblk m c 9 t) (funext fun a => Fin.ext ?_)
    all_goals match a with
      | ⟨0, _⟩ => rfl
      | ⟨1, _⟩ => exact (show 0 + 1 * n.val = n.val by omega)

/-- The accumulator at a tile's last point: the whole contraction. -/
theorem acc_last (c : Dev nD) (t : Fin cfg0.N) (h : t.val % 11 = 10) (p : Fin 512) (j : Fin 2048) :
    (outsAt0 m c t.val t.isLt).2.2 (ix2 p j)
      = ∑ n : Fin 5632, gatedOf m c (sampleOf t) (posOf t p) n * m ((c : Thread nD τ).loc main_arg8) (ix2 n j) := by
  rw [Pipeline.eq_sum_fin_of_reset_step_apply_of_flush (fun n h => (outsAt0 m c n h).2.2) 11 (fun _ => (0 : EReal)) (term m c)
    (fun t h i => ?_) (fun t h i => ?_) t h (ix2 p j), zero_add]
  · refine Fin.sum_mul_add_congr fun s n hl => ?_
    have hs := s.isLt
    have es : sampleOf ⟨11 * (t.val / 11) + s.val, Pipeline.run_point_lt_of_flush t h s⟩ = sampleOf t :=
      Fin.ext (show (11 * (t.val / 11) + s.val) / 88 = t.val / 88 by omega)
    have ep : posOf ⟨11 * (t.val / 11) + s.val, Pipeline.run_point_lt_of_flush t h s⟩ p = posOf t p :=
      Fin.ext (show ((11 * (t.val / 11) + s.val) / 11 * 512 + p.val) % 4096 = (t.val / 11 * 512 + p.val) % 4096 by
        rw [show (11 * (t.val / 11) + s.val) / 11 = t.val / 11 by omega])
    have en : (⟨(11 * (t.val / 11) + s.val) % 11 * 512 + n.val, by omega⟩ : Fin 5632) = ⟨s.val * 512 + n.val, hl⟩ :=
      Fin.ext (show (11 * (t.val / 11) + s.val) % 11 * 512 + n.val = s.val * 512 + n.val by omega)
    rw [← es, ← ep, ← en]
    rfl
  · rw [eq_ix2 i]; exact acc_first m c t h (i 0) (i 1)
  · rw [eq_ix2 i]; exact acc_next m c t h (i 0) (i 1)

/-- A tile's last point stores the residual with the gated contraction. -/
theorem out_last (c : Dev nD) (t : Fin cfg0.N) (h : t.val % 11 = 10) (p : Fin 512) (j : Fin 2048) :
    (outsAt0 m c t.val t.isLt).1 (ix2 p j)
      = k0_pay2 (iblk m c 1 t) (iblk m c 6 t) (outsAt0 m c t.val t.isLt).2.2 (ix2 p j) := by
  rw [outsAt0_C m c t (by omega) h]
  frame_out

/-- The result array after the run is the reference's. -/
theorem final (c : Dev nD) : (dats m 0 c).arrAt 12 (cfgs 0).N
    = val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 12 _ (by decide +kernel) fun t hf y => ?_
  have ht : t.val % 11 = 10 := (flush0_12 t).mp hf
  obtain ⟨p, j, rfl⟩ : ∃ (p : Fin 512) (j : Fin 2048), y = ix2 p j := ⟨y 0, y 1, eq_ix2 y⟩
  have e0 : ((((cfg0.win 12).blk t).view.emb (ix2 p j)) 0).val = t.val / 11 * 512 + p.val := by blk_simp [idx t]
  have e1 : ((((cfg0.win 12).blk t).view.emb (ix2 p j)) 1).val = j.val := by blk_simp [idx t]
  rw [Cert.FfnRefIdeal.Rows.v55_eq _ _ _ _ _ _ _ _ _ _ (sampleOf t) (posOf t p) j (e0.trans (place t p).symm) e1]
  blk_simp
  rw [after0_12]
  refine (out_last m c t ht p j).trans ?_
  rw [pay2_apply, acc_last m c t ht p j]
  exact Ideal.add_congr (blk1 m c t _ _ (place t p) rfl) (Ideal.mul_congr (blk6 m c t (sampleOf t) j rfl) rfl)

end Cert.FfnIdeal.RefValue

end
-- ==== Proof.ProjB.Rows.lean ====
/- The projection to queries, keys and values, over the extended reals and row by row: a head's normalized row and its
   rotation by the angles of a position. -/
module

public import Idealize.ShloMosaic.Lib.Pipeline.ValueKit

@[expose] public section

noncomputable section

open Idealize.ShloMosaic

namespace Cert.ProjRows

/-- A head's row over its root mean square, without the gain. -/
def rms (y : Fin 128 → EReal) (k : Fin 128) : EReal :=
  y k * Ideal.rsqrt (Ideal.div (∑ j, y j * y j) (Ideal.ofBits .f32 0x43000000#32) + Ideal.ofBits .f32 0x358637BD#32)

/-- The angle of a lane: each half of a head has 32 angles, each of them for a pair of lanes 32 apart. -/
def angle (k : Fin 128) : Fin 64 := ⟨k.val / 64 * 32 + k.val % 32, by have := k.isLt; omega⟩

/-- The other lane of a lane's pair. -/
def other (k : Fin 128) : Fin 128 := ⟨if k.val % 64 < 32 then k.val + 32 else k.val - 32, by have := k.isLt; split <;> omega⟩

/-- A head's row, each of its pairs of lanes rotated by its angle. -/
def turn (co si : Fin 64 → EReal) (y : Fin 128 → EReal) (k : Fin 128) : EReal :=
  y k * co (angle k) + if k.val % 64 < 32 then -(y (other k) * si (angle k)) else y (other k) * si (angle k)

/-- The first lane of a pair. -/
theorem turn_first (co si : Fin 64 → EReal) (y : Fin 128 → EReal) (k l : Fin 128) (q : Fin 64) (h : k.val % 64 < 32)
    (hl : l.val = k.val + 32) (hq : q.val = k.val / 64 * 32 + k.val % 32) :
    turn co si y k = y k * co q - y l * si q := by
  have el : other k = l := Fin.ext ((if_pos h).trans hl.symm)
  have eq : angle k = q := Fin.ext hq.symm
  unfold turn
  rw [if_pos h, el, eq, sub_eq_add_neg]

/-- The second lane of a pair. -/
theorem turn_second (co si : Fin 64 → EReal) (y : Fin 128 → EReal) (k l : Fin 128) (q : Fin 64) (h : ¬k.val % 64 < 32)
    (hl : l.val + 32 = k.val) (hq : q.val = k.val / 64 * 32 + k.val % 32) :
    turn co si y k = y k * co q + y l * si q := by
  have el : other k = l := Fin.ext ((if_neg h).trans (by omega))
  have eq : angle k = q := Fin.ext hq.symm
  unfold turn
  rw [if_neg h, el, eq]

/-- A rotation from a table of signed sines. -/
theorem turn_signed (co si : Fin 64 → EReal) (y : Fin 128 → EReal) (k : Fin 128) :
    y k * co (angle k) + y (other k) * (if k.val % 64 < 32 then -si (angle k) else si (angle k)) = turn co si y k := by
  unfold turn
  by_cases h : k.val % 64 < 32
  · rw [if_pos h, if_pos h, mul_neg]
  · rw [if_neg h, if_neg h]

/-- A rotation of a row times a nonnegative number is the rotated row times it. -/
theorem turn_mul (co si : Fin 64 → EReal) (y : Fin 128 → EReal) (s : EReal) (h0 : 0 ≤ s) (ht : s ≠ ⊤) (k : Fin 128) :
    turn co si (fun j => y j * s) k = turn co si y k * s := by
  unfold turn
  rw [EReal.right_distrib_of_nonneg_of_ne_top h0 ht]
  refine congrArg₂ (· + ·) (mul_right_comm _ _ _) ?_
  by_cases h : k.val % 64 < 32
  · simp only [if_pos h]
    rw [EReal.neg_mul, mul_right_comm]
  · simp only [if_neg h]
    exact mul_right_comm _ _ _

/-- The queries' and keys' scale. -/
abbrev scale : EReal := Ideal.ofBits .f32 0x3DB504F3#32

/-- The scale is a positive real number. -/
theorem scale_real : ∃ r : ℝ, 0 ≤ r ∧ scale = (r : EReal) := by
  refine ⟨_, ?_, by unfold scale; simp [Ideal.ofBits, Ideal.ieee, -EReal.coe_mul]; rfl⟩
  positivity

theorem scale_nonneg : 0 ≤ scale := by
  obtain ⟨r, h, e⟩ := scale_real
  rw [e]
  exact EReal.coe_nonneg.mpr h

theorem scale_ne_top : scale ≠ ⊤ := by
  obtain ⟨r, h, e⟩ := scale_real
  rw [e]
  exact EReal.coe_ne_top r

end Cert.ProjRows
-- ==== Proof.ProjB.Kernel.lean ====
/- The projection's kernel, element by element of its stored values. -/
module

public import proofs.«01_k».proof.Proof.Gen.ProjBIdeal.Frame
public import proofs.«01_k».proof.Proof.Ffn.Rows
public import proofs.«01_k».proof.Proof.ProjB.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.ProjBIdeal.RefValue

open Cert.ProjBIdeal Cert.ProjBIdeal.Gen Cert.FfnRows Cert.ProjRows

/-- A row, normalized and modulated. -/
theorem pay1_apply (x : Vec Ideal S1024x2048 .f32) (g : Vec Ideal S1x2048 .f32) (sh sc : Vec Ideal S1x1x2048 .f32) (p : Fin 1024) (k : Fin 2048) :
    k0_pay1 x g sh sc (ix2 p k)
      = adaln (fun j => x (ix2 p j)) (fun j => g (ix2 0 j)) (fun j => sc (ix3 0 0 j)) (fun j => sh (ix3 0 0 j)) k := by
  unfold adaln
  pointwise [k0_pay1]

/-- The projection of the normalized rows. -/
theorem pay2_apply (h : Vec Ideal S1024x2048 .bf16) (w : Vec Ideal S2048x512 .bf16) (p : Fin 1024) (n : Fin 512) :
    k0_pay2 h w (ix2 p n) = ∑ k : Fin 2048, h (ix2 p k) * w (ix2 k n) := by
  pointwise [k0_pay2]

/-- The lanes of a half's first 32. -/
theorem pay15_apply (p : Fin 1024) (k : Fin 128) (x y : EReal) :
    Scalar.select (k0_pay15 (ix2 p k)) x y = if k.val % 64 < 32 then x else y := by
  have hk : ∀ k : Fin 128, Scalar.select (IntOp.cmpi .slt (IntOp.andi (BitVec.ofNat 32 k.val) 63#32) 32#32) x y = if k.val % 64 < 32 then x else y := by
    intro k
    have e : ∀ k : Fin 128, IntOp.cmpi .slt (IntOp.andi (BitVec.ofNat 32 k.val) 63#32) 32#32 = BitVec.ofBool (decide (k.val % 64 < 32)) := by decide +kernel
    rw [e k]
    by_cases c : k.val % 64 < 32
    · rw [if_pos c, decide_eq_true c]; rfl
    · rw [if_neg c, decide_eq_false c]; rfl
  pointwise [k0_pay15]
  exact hk k

/-- A row with its pairs of lanes rotated, from the tables of cosines and of signed sines. -/
theorem pay3_apply (y c s : FVec Ideal S1024x128 .f32) (p : Fin 1024) (k : Fin 128) :
    k0_pay3 y c s k0_pay15 96#32 (ix2 p k) = y (ix2 p k) * c (ix2 p k) + y (ix2 p (other k)) * s (ix2 p k) := by
  have hk := k.isLt
  have e : select (k0_pay15) (dynamicRotate 1 96#32 none y rotates_S1024x128_d1) (dynamicRotate 1 32#32 none y rotates_S1024x128_d1) (ix2 p k)
      = y (ix2 p (other k)) := by
    refine (pay15_apply p k _ _).trans ?_
    by_cases h : k.val % 64 < 32
    · rw [if_pos h]
      refine dynamicRotate_apply _ _ _ _ _ _ fun b => ?_
      match b with
      | ⟨0, _⟩ => rfl
      | ⟨1, _⟩ =>
        show (if k.val % 64 < 32 then k.val + 32 else k.val - 32) = (k.val + 128 - 96 % 128) % 128
        rw [if_pos h]; omega
    · rw [if_neg h]
      refine dynamicRotate_apply _ _ _ _ _ _ fun b => ?_
      match b with
      | ⟨0, _⟩ => rfl
      | ⟨1, _⟩ =>
        show (if k.val % 64 < 32 then k.val + 32 else k.val - 32) = (k.val + 128 - 32 % 128) % 128
        rw [if_neg h]; omega
  rw [← e]
  rfl

/-- The normalized row of a tile's last head. -/
theorem pay12_apply (y : FVec Ideal S1024x512 .f32) (g : Vec Ideal S1x128 .f32) (p : Fin 1024) (k : Fin 128) :
    k0_pay12 y g (ix2 p k) = rms (fun j => y (ix2 p ⟨384 + j.val, by have := j.isLt; omega⟩)) k * g (ix2 0 k) := by
  unfold rms
  pointwise [k0_pay12]

/-- The normalized row of a tile's third head. -/
theorem pay9_apply (y : FVec Ideal S1024x512 .f32) (g : Vec Ideal S1x128 .f32) (p : Fin 1024) (k : Fin 128) :
    k0_pay9 y g (ix2 p k) = rms (fun j => y (ix2 p ⟨256 + j.val, by have := j.isLt; omega⟩)) k * g (ix2 0 k) := by
  unfold rms
  pointwise [k0_pay9]

/-- A tile's second head: a normalized row with its pairs of lanes rotated. -/
theorem pay8_row (y : FVec Ideal S1024x512 .f32) (g : Vec Ideal S1x128 .f32) (c s : Vec Ideal S1024x128 .f32) :
    ∃ z : FVec Ideal S1024x128 .f32, k0_pay8 (k0_pay6 y) (k0_pay7 y) g c s = k0_pay3 z (k0_pay13 c) (k0_pay14 s) k0_pay15 96#32
      ∧ ∀ (p : Fin 1024) (k : Fin 128), z (ix2 p k) = rms (fun j => y (ix2 p ⟨128 + j.val, by have := j.isLt; omega⟩)) k * g (ix2 0 k) := by
  refine ⟨_, rfl, fun p k => ?_⟩
  unfold rms
  pointwise [k0_pay6, k0_pay7]

/-- A tile's first head: a normalized row with its pairs of lanes rotated. -/
theorem pay5_row (y : FVec Ideal S1024x512 .f32) (g : Vec Ideal S1x128 .f32) (c s : Vec Ideal S1024x128 .f32) :
    ∃ z : FVec Ideal S1024x128 .f32, k0_pay5 y g c s = k0_pay3 z (k0_pay13 c) (k0_pay14 s) k0_pay15 96#32
      ∧ ∀ (p : Fin 1024) (k : Fin 128), z (ix2 p k) = rms (fun j => y (ix2 p ⟨j.val, by have := j.isLt; omega⟩)) k * g (ix2 0 k) := by
  refine ⟨_, rfl, fun p k => ?_⟩
  unfold rms
  pointwise

/-- The tables of a tile, as they are read. -/
theorem pay13_apply (c : Vec Ideal S1024x128 .f32) (p : Fin 1024) (k : Fin 128) : k0_pay13 c (ix2 p k) = c (ix2 p k) := by
  pointwise [k0_pay13]

theorem pay14_apply (c : Vec Ideal S1024x128 .f32) (p : Fin 1024) (k : Fin 128) : k0_pay14 c (ix2 p k) = c (ix2 p k) := by
  pointwise [k0_pay14]

end Cert.ProjBIdeal.RefValue
-- ==== Proof.ProjB.Ref.lean ====
/- The projection's reference, element by element. -/
module

public import proofs.«01_k».proof.Proof.Gen.ProjBRefIdeal.Read
public import proofs.«01_k».proof.Proof.Ffn.Rows
public import proofs.«01_k».proof.Proof.ProjB.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.ProjBRefIdeal.Rows

open Cert.ProjBRefIdeal Cert.ProjBRefIdeal.Gen Cert.ProjBRefIdeal.Read Cert.FfnRows Cert.ProjRows

/-- The cosine of one of a position's first 32 angles, those of its row. -/
theorem v28_row (r : Fin 4096) (q : Fin 32) :
    val_main_v28 (F := Ideal) (ix2 r ⟨q.val, by omega⟩) = Ideal.cos (val_main_v21 (F := Ideal) (ix2 r q)) := by
  rw [val_main_v28_apply]
  refine congrArg Ideal.cos ?_
  unfold val_main_v27
  generalize val_main_v21 (F := Ideal) = y
  generalize val_main_v26 (F := Ideal) = z
  exact concatenate_pair_apply_left (t := S4096x64) (s₁ := S4096x32) (s₂ := S4096x32) 1 y z concatenates_S4096x32_S4096x32_S4096x64_d1 (ix2 r ⟨q.val, by omega⟩) rfl (ix2 r q) fun a => match a with
    | ⟨0, _⟩ => rfl | ⟨1, _⟩ => rfl

/-- The cosine of one of a position's last 32 angles, those of its column. -/
theorem v28_col (r : Fin 4096) (q : Fin 32) :
    val_main_v28 (F := Ideal) (ix2 r ⟨32 + q.val, by omega⟩) = Ideal.cos (val_main_v26 (F := Ideal) (ix2 r q)) := by
  rw [val_main_v28_apply]
  refine congrArg Ideal.cos ?_
  unfold val_main_v27
  generalize val_main_v21 (F := Ideal) = y
  generalize val_main_v26 (F := Ideal) = z
  refine concatenate_pair_apply_right (t := S4096x64) (s₁ := S4096x32) (s₂ := S4096x32) 1 y z concatenates_S4096x32_S4096x32_S4096x64_d1 (ix2 r ⟨32 + q.val, by omega⟩) rfl rfl (ix2 r q) ?_ (show q.val + 32 = 32 + q.val by omega)
  exact (fun a => match a with
    | ⟨0, _⟩ => fun _ => rfl | ⟨1, _⟩ => fun hn => absurd rfl hn)

/-- The sine of one of a position's first 32 angles, those of its row. -/
theorem v29_row (r : Fin 4096) (q : Fin 32) :
    val_main_v29 (F := Ideal) (ix2 r ⟨q.val, by omega⟩) = Ideal.sin (val_main_v21 (F := Ideal) (ix2 r q)) := by
  rw [val_main_v29_apply]
  refine congrArg Ideal.sin ?_
  unfold val_main_v27
  generalize val_main_v21 (F := Ideal) = y
  generalize val_main_v26 (F := Ideal) = z
  exact concatenate_pair_apply_left (t := S4096x64) (s₁ := S4096x32) (s₂ := S4096x32) 1 y z concatenates_S4096x32_S4096x32_S4096x64_d1 (ix2 r ⟨q.val, by omega⟩) rfl (ix2 r q) fun a => match a with
    | ⟨0, _⟩ => rfl | ⟨1, _⟩ => rfl

/-- The sine of one of a position's last 32 angles, those of its column. -/
theorem v29_col (r : Fin 4096) (q : Fin 32) :
    val_main_v29 (F := Ideal) (ix2 r ⟨32 + q.val, by omega⟩) = Ideal.sin (val_main_v26 (F := Ideal) (ix2 r q)) := by
  rw [val_main_v29_apply]
  refine congrArg Ideal.sin ?_
  unfold val_main_v27
  generalize val_main_v21 (F := Ideal) = y
  generalize val_main_v26 (F := Ideal) = z
  refine concatenate_pair_apply_right (t := S4096x64) (s₁ := S4096x32) (s₂ := S4096x32) 1 y z concatenates_S4096x32_S4096x32_S4096x64_d1 (ix2 r ⟨32 + q.val, by omega⟩) rfl rfl (ix2 r q) ?_ (show q.val + 32 = 32 + q.val by omega)
  exact (fun a => match a with
    | ⟨0, _⟩ => fun _ => rfl | ⟨1, _⟩ => fun hn => absurd rfl hn)

/-- A lane of the first quarter of four quarters joined. -/
theorem quarter0 (y0 y1 y2 y3 : S8x4096x16x32.Idx → EReal) (b : Fin 8) (r : Fin 4096) (h : Fin 16) (q : Fin 32) :
    concatenate S8x4096x16x128 3 [⟨S8x4096x16x64, concatenate S8x4096x16x64 3 [⟨S8x4096x16x32, y0⟩, ⟨S8x4096x16x32, y1⟩] concatenates_S8x4096x16x32_S8x4096x16x32_S8x4096x16x64_d3⟩, ⟨S8x4096x16x64, concatenate S8x4096x16x64 3 [⟨S8x4096x16x32, y2⟩, ⟨S8x4096x16x32, y3⟩] concatenates_S8x4096x16x32_S8x4096x16x32_S8x4096x16x64_d3⟩]
      concatenates_S8x4096x16x64_S8x4096x16x64_S8x4096x16x128_d3 (ix4 b r h ⟨q.val, by omega⟩)
      = y0 (ix4 b r h q) := by
  refine (concatenate_pair_apply_left (t := S8x4096x16x128) (s₁ := S8x4096x16x64) (s₂ := S8x4096x16x64) 3 (concatenate S8x4096x16x64 3 [⟨S8x4096x16x32, y0⟩, ⟨S8x4096x16x32, y1⟩] concatenates_S8x4096x16x32_S8x4096x16x32_S8x4096x16x64_d3) (concatenate S8x4096x16x64 3 [⟨S8x4096x16x32, y2⟩, ⟨S8x4096x16x32, y3⟩] concatenates_S8x4096x16x32_S8x4096x16x32_S8x4096x16x64_d3) concatenates_S8x4096x16x64_S8x4096x16x64_S8x4096x16x128_d3 (ix4 b r h ⟨q.val, by omega⟩) rfl (ix4 b r h ⟨q.val, by omega⟩) (fun a => match a with
    | ⟨0, _⟩ => rfl | ⟨1, _⟩ => rfl | ⟨2, _⟩ => rfl | ⟨3, _⟩ => rfl)).trans ?_
  exact concatenate_pair_apply_left (t := S8x4096x16x64) (s₁ := S8x4096x16x32) (s₂ := S8x4096x16x32) 3 y0 y1 concatenates_S8x4096x16x32_S8x4096x16x32_S8x4096x16x64_d3 (ix4 b r h ⟨q.val, by omega⟩) rfl (ix4 b r h q) (fun a => match a with
    | ⟨0, _⟩ => rfl | ⟨1, _⟩ => rfl | ⟨2, _⟩ => rfl | ⟨3, _⟩ => rfl)

/-- A lane of the second quarter of four quarters joined. -/
theorem quarter1 (y0 y1 y2 y3 : S8x4096x16x32.Idx → EReal) (b : Fin 8) (r : Fin 4096) (h : Fin 16) (q : Fin 32) :
    concatenate S8x4096x16x128 3 [⟨S8x4096x16x64, concatenate S8x4096x16x64 3 [⟨S8x4096x16x32, y0⟩, ⟨S8x4096x16x32, y1⟩] concatenates_S8x4096x16x32_S8x4096x16x32_S8x4096x16x64_d3⟩, ⟨S8x4096x16x64, concatenate S8x4096x16x64 3 [⟨S8x4096x16x32, y2⟩, ⟨S8x4096x16x32, y3⟩] concatenates_S8x4096x16x32_S8x4096x16x32_S8x4096x16x64_d3⟩]
      concatenates_S8x4096x16x64_S8x4096x16x64_S8x4096x16x128_d3 (ix4 b r h ⟨32 + q.val, by omega⟩)
      = y1 (ix4 b r h q) := by
  refine (concatenate_pair_apply_left (t := S8x4096x16x128) (s₁ := S8x4096x16x64) (s₂ := S8x4096x16x64) 3 (concatenate S8x4096x16x64 3 [⟨S8x4096x16x32, y0⟩, ⟨S8x4096x16x32, y1⟩] concatenates_S8x4096x16x32_S8x4096x16x32_S8x4096x16x64_d3) (concatenate S8x4096x16x64 3 [⟨S8x4096x16x32, y2⟩, ⟨S8x4096x16x32, y3⟩] concatenates_S8x4096x16x32_S8x4096x16x32_S8x4096x16x64_d3) concatenates_S8x4096x16x64_S8x4096x16x64_S8x4096x16x128_d3 (ix4 b r h ⟨32 + q.val, by omega⟩) rfl (ix4 b r h ⟨32 + q.val, by omega⟩) (fun a => match a with
    | ⟨0, _⟩ => rfl | ⟨1, _⟩ => rfl | ⟨2, _⟩ => rfl | ⟨3, _⟩ => rfl)).trans ?_
  exact concatenate_pair_apply_right (t := S8x4096x16x64) (s₁ := S8x4096x16x32) (s₂ := S8x4096x16x32) 3 y0 y1 concatenates_S8x4096x16x32_S8x4096x16x32_S8x4096x16x64_d3 (ix4 b r h ⟨32 + q.val, by omega⟩) rfl rfl (ix4 b r h q) (fun a => match a with
    | ⟨0, _⟩ => fun _ => rfl | ⟨1, _⟩ => fun _ => rfl | ⟨2, _⟩ => fun _ => rfl | ⟨3, _⟩ => fun hn => absurd rfl hn) (show q.val + 32 = 32 + q.val by omega)

/-- A lane of the third quarter of four quarters joined. -/
theorem quarter2 (y0 y1 y2 y3 : S8x4096x16x32.Idx → EReal) (b : Fin 8) (r : Fin 4096) (h : Fin 16) (q : Fin 32) :
    concatenate S8x4096x16x128 3 [⟨S8x4096x16x64, concatenate S8x4096x16x64 3 [⟨S8x4096x16x32, y0⟩, ⟨S8x4096x16x32, y1⟩] concatenates_S8x4096x16x32_S8x4096x16x32_S8x4096x16x64_d3⟩, ⟨S8x4096x16x64, concatenate S8x4096x16x64 3 [⟨S8x4096x16x32, y2⟩, ⟨S8x4096x16x32, y3⟩] concatenates_S8x4096x16x32_S8x4096x16x32_S8x4096x16x64_d3⟩]
      concatenates_S8x4096x16x64_S8x4096x16x64_S8x4096x16x128_d3 (ix4 b r h ⟨64 + q.val, by omega⟩)
      = y2 (ix4 b r h q) := by
  refine (concatenate_pair_apply_right (t := S8x4096x16x128) (s₁ := S8x4096x16x64) (s₂ := S8x4096x16x64) 3 (concatenate S8x4096x16x64 3 [⟨S8x4096x16x32, y0⟩, ⟨S8x4096x16x32, y1⟩] concatenates_S8x4096x16x32_S8x4096x16x32_S8x4096x16x64_d3) (concatenate S8x4096x16x64 3 [⟨S8x4096x16x32, y2⟩, ⟨S8x4096x16x32, y3⟩] concatenates_S8x4096x16x32_S8x4096x16x32_S8x4096x16x64_d3) concatenates_S8x4096x16x64_S8x4096x16x64_S8x4096x16x128_d3 (ix4 b r h ⟨64 + q.val, by omega⟩) rfl rfl (ix4 b r h ⟨q.val, by omega⟩) (fun a => match a with
    | ⟨0, _⟩ => fun _ => rfl | ⟨1, _⟩ => fun _ => rfl | ⟨2, _⟩ => fun _ => rfl | ⟨3, _⟩ => fun hn => absurd rfl hn) (show q.val + 64 = 64 + q.val by omega)).trans ?_
  exact concatenate_pair_apply_left (t := S8x4096x16x64) (s₁ := S8x4096x16x32) (s₂ := S8x4096x16x32) 3 y2 y3 concatenates_S8x4096x16x32_S8x4096x16x32_S8x4096x16x64_d3 (ix4 b r h ⟨q.val, by omega⟩) rfl (ix4 b r h q) (fun a => match a with
    | ⟨0, _⟩ => rfl | ⟨1, _⟩ => rfl | ⟨2, _⟩ => rfl | ⟨3, _⟩ => rfl)

/-- A lane of the last quarter of four quarters joined. -/
theorem quarter3 (y0 y1 y2 y3 : S8x4096x16x32.Idx → EReal) (b : Fin 8) (r : Fin 4096) (h : Fin 16) (q : Fin 32) :
    concatenate S8x4096x16x128 3 [⟨S8x4096x16x64, concatenate S8x4096x16x64 3 [⟨S8x4096x16x32, y0⟩, ⟨S8x4096x16x32, y1⟩] concatenates_S8x4096x16x32_S8x4096x16x32_S8x4096x16x64_d3⟩, ⟨S8x4096x16x64, concatenate S8x4096x16x64 3 [⟨S8x4096x16x32, y2⟩, ⟨S8x4096x16x32, y3⟩] concatenates_S8x4096x16x32_S8x4096x16x32_S8x4096x16x64_d3⟩]
      concatenates_S8x4096x16x64_S8x4096x16x64_S8x4096x16x128_d3 (ix4 b r h ⟨96 + q.val, by omega⟩)
      = y3 (ix4 b r h q) := by
  refine (concatenate_pair_apply_right (t := S8x4096x16x128) (s₁ := S8x4096x16x64) (s₂ := S8x4096x16x64) 3 (concatenate S8x4096x16x64 3 [⟨S8x4096x16x32, y0⟩, ⟨S8x4096x16x32, y1⟩] concatenates_S8x4096x16x32_S8x4096x16x32_S8x4096x16x64_d3) (concatenate S8x4096x16x64 3 [⟨S8x4096x16x32, y2⟩, ⟨S8x4096x16x32, y3⟩] concatenates_S8x4096x16x32_S8x4096x16x32_S8x4096x16x64_d3) concatenates_S8x4096x16x64_S8x4096x16x64_S8x4096x16x128_d3 (ix4 b r h ⟨96 + q.val, by omega⟩) rfl rfl (ix4 b r h ⟨32 + q.val, by omega⟩) (fun a => match a with
    | ⟨0, _⟩ => fun _ => rfl | ⟨1, _⟩ => fun _ => rfl | ⟨2, _⟩ => fun _ => rfl | ⟨3, _⟩ => fun hn => absurd rfl hn) (show 32 + q.val + 64 = 96 + q.val by omega)).trans ?_
  exact concatenate_pair_apply_right (t := S8x4096x16x64) (s₁ := S8x4096x16x32) (s₂ := S8x4096x16x32) 3 y2 y3 concatenates_S8x4096x16x32_S8x4096x16x32_S8x4096x16x64_d3 (ix4 b r h ⟨32 + q.val, by omega⟩) rfl rfl (ix4 b r h q) (fun a => match a with
    | ⟨0, _⟩ => fun _ => rfl | ⟨1, _⟩ => fun _ => rfl | ⟨2, _⟩ => fun _ => rfl | ⟨3, _⟩ => fun hn => absurd rfl hn) (show q.val + 32 = 32 + q.val by omega)

variable (x0 : (⟨S8x4096x2048, .f32⟩ : BufTy).Contents (Elt Ideal)) (x1 : (⟨S2048, .f32⟩ : BufTy).Contents (Elt Ideal))
  (x2 x3 : (⟨S8x2048, .f32⟩ : BufTy).Contents (Elt Ideal)) (x4 : (⟨S2048x6144, .f32⟩ : BufTy).Contents (Elt Ideal))
  (x5 x6 : (⟨S128, .f32⟩ : BufTy).Contents (Elt Ideal))

/-- A row of the modulated normalization. -/
def row (b : Fin 8) (r : Fin 4096) : Fin 2048 → EReal :=
  adaln (fun j => x0 (ix3 b r j)) (fun j => x1 (ix1 j)) (fun j => x3 (ix2 b j)) (fun j => x2 (ix2 b j))

/-- The reference's normalized and modulated rows. -/
theorem v50_eq (b : Fin 8) (r : Fin 4096) (k : Fin 2048) :
    val_main_v50 (F := Ideal) x0 x1 x2 x3 (ix3 b r k) = row x0 x1 x2 x3 b r k := by
  unfold row adaln
  rw [val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply]
  refine Ideal.add_congr (Ideal.mul_congr (Ideal.mul_congr (Ideal.mul_congr rfl (congrArg Ideal.rsqrt (Ideal.add_congr
    (congrArg₂ Ideal.div ?_ rfl) rfl))) ?_) (Ideal.add_congr Ideal.ofBits_one_f32 ?_)) ?_
  · refine (Ideal.add_congr Ideal.ofBits_zero_f32 (Finset.sum_congr rfl fun j _ => ?_)).trans (zero_add _)
    refine Ideal.mul_congr (congrArg x0 (funext fun a => ?_)) (congrArg x0 (funext fun a => ?_)) <;>
      (match a with | ⟨0, _⟩ => rfl | ⟨1, _⟩ => rfl | ⟨2, _⟩ => rfl)
  · exact congrArg x1 (funext fun a => match a with | ⟨0, _⟩ => rfl)
  · exact congrArg x3 (funext fun a => match a with | ⟨0, _⟩ => rfl | ⟨1, _⟩ => rfl)
  · exact congrArg x2 (funext fun a => match a with | ⟨0, _⟩ => rfl | ⟨1, _⟩ => rfl)

/-- A row times the projection. -/
def proj (b : Fin 8) (r : Fin 4096) (n : Fin 6144) : EReal := ∑ k, row x0 x1 x2 x3 b r k * x4 (ix2 k n)

/-- The reference's projection. -/
theorem v51_eq (b : Fin 8) (r : Fin 4096) (n : Fin 6144) :
    val_main_v51 (F := Ideal) x0 x1 x2 x3 x4 (ix3 b r n) = proj x0 x1 x2 x3 x4 b r n := by
  rw [val_main_v51_apply]
  refine Finset.sum_congr rfl fun k _ => Ideal.mul_congr ?_ (congrArg x4 (funext fun a => match a with | ⟨0, _⟩ => rfl | ⟨1, _⟩ => rfl))
  rw [← v50_eq]
  exact congrArg _ (funext fun a => match a with | ⟨0, _⟩ => rfl | ⟨1, _⟩ => rfl | ⟨2, _⟩ => rfl)

/-- A query's lane, before its normalization. -/
theorem v55_eq (b : Fin 8) (r : Fin 4096) (h : Fin 16) (k : Fin 128) :
    val_main_v55 (F := Ideal) x0 x1 x2 x3 x4 (ix4 b r h k) = proj x0 x1 x2 x3 x4 b r ⟨h.val * 128 + k.val, by omega⟩ := by
  have hb := b.isLt
  have hr := r.isLt
  have hh := h.isLt
  have hk := k.isLt
  rw [val_main_v55_apply, val_main_v52_apply, ← v51_eq]
  refine congrArg _ (funext fun a => Fin.ext ?_)
  match a with
  | ⟨0, _⟩ => exact (show (((b.val * 4096 + r.val) * 16 + h.val) * 128 + k.val) / 8388608 = b.val by omega)
  | ⟨1, _⟩ => exact (show (((b.val * 4096 + r.val) * 16 + h.val) * 128 + k.val) / 2048 % 4096 = r.val by omega)
  | ⟨2, _⟩ => exact (show (((b.val * 4096 + r.val) * 16 + h.val) * 128 + k.val) % 2048 = h.val * 128 + k.val by omega)

/-- A query's normalized row. -/
def headQ (b : Fin 8) (r : Fin 4096) (h : Fin 16) (k : Fin 128) : EReal :=
  rms (fun j => proj x0 x1 x2 x3 x4 b r ⟨h.val * 128 + j.val, by omega⟩) k * x5 (ix1 k)

/-- The reference's normalized row of a query. -/
theorem v68_eq (b : Fin 8) (r : Fin 4096) (h : Fin 16) (k : Fin 128) :
    val_main_v68 (F := Ideal) x0 x1 x2 x3 x4 x5 (ix4 b r h k) = headQ x0 x1 x2 x3 x4 x5 b r h k := by
  unfold headQ rms
  rw [val_main_v68_apply, val_main_v67_apply, val_main_v66_apply, val_main_v65_apply, val_main_v64_apply, val_main_v63_apply, val_main_v62_apply, val_main_v61_apply, val_main_v60_apply, val_main_v59_apply, val_main_v58_apply, val_main_v57_apply]
  refine Ideal.mul_congr (Ideal.mul_congr (v55_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v57 (idx_main_v58 (idx_main_v64 (ix4 b r h k))) j = ix4 b r h j :=
      funext fun a => match a with | ⟨0, _⟩ => rfl | ⟨1, _⟩ => rfl | ⟨2, _⟩ => rfl | ⟨3, _⟩ => rfl
    rw [val_main_v56_apply, e]
    exact Ideal.mul_congr (v55_eq x0 x1 x2 x3 x4 b r h j) (v55_eq x0 x1 x2 x3 x4 b r h j)
  · exact congrArg x5 (funext fun a => match a with | ⟨0, _⟩ => rfl)

/-- The first row lanes of a rotated query. -/
theorem v80_eq (b : Fin 8) (r : Fin 4096) (h : Fin 16) (q : Fin 32) :
    val_main_v80 (F := Ideal) x0 x1 x2 x3 x4 x5 (ix4 b r h q)
      = headQ x0 x1 x2 x3 x4 x5 b r h ⟨q.val, by omega⟩ * val_main_v28 (F := Ideal) (ix2 r ⟨q.val, by omega⟩)
        - headQ x0 x1 x2 x3 x4 x5 b r h ⟨32 + q.val, by omega⟩ * val_main_v29 (F := Ideal) (ix2 r ⟨q.val, by omega⟩) := by
  rw [← v68_eq, ← v68_eq, val_main_v80_apply, val_main_v77_apply, val_main_v79_apply, val_main_v72_apply, val_main_v76_apply, val_main_v74_apply, val_main_v70_apply, val_main_v73_apply, val_main_v78_apply, val_main_v75_apply, val_main_v71_apply, val_main_v69_apply, val_main_v69_apply]
  refine congrArg₂ (· - ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The second row lanes of a rotated query. -/
theorem v85_eq (b : Fin 8) (r : Fin 4096) (h : Fin 16) (q : Fin 32) :
    val_main_v85 (F := Ideal) x0 x1 x2 x3 x4 x5 (ix4 b r h q)
      = headQ x0 x1 x2 x3 x4 x5 b r h ⟨32 + q.val, by omega⟩ * val_main_v28 (F := Ideal) (ix2 r ⟨q.val, by omega⟩)
        + headQ x0 x1 x2 x3 x4 x5 b r h ⟨q.val, by omega⟩ * val_main_v29 (F := Ideal) (ix2 r ⟨q.val, by omega⟩) := by
  rw [← v68_eq, ← v68_eq, val_main_v85_apply, val_main_v82_apply, val_main_v84_apply, val_main_v73_apply, val_main_v81_apply, val_main_v74_apply, val_main_v70_apply, val_main_v72_apply, val_main_v83_apply, val_main_v75_apply, val_main_v71_apply, val_main_v69_apply, val_main_v69_apply]
  refine congrArg₂ (· + ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The first column lanes of a rotated query. -/
theorem v98_eq (b : Fin 8) (r : Fin 4096) (h : Fin 16) (q : Fin 32) :
    val_main_v98 (F := Ideal) x0 x1 x2 x3 x4 x5 (ix4 b r h q)
      = headQ x0 x1 x2 x3 x4 x5 b r h ⟨64 + q.val, by omega⟩ * val_main_v28 (F := Ideal) (ix2 r ⟨32 + q.val, by omega⟩)
        - headQ x0 x1 x2 x3 x4 x5 b r h ⟨96 + q.val, by omega⟩ * val_main_v29 (F := Ideal) (ix2 r ⟨32 + q.val, by omega⟩) := by
  rw [← v68_eq, ← v68_eq, val_main_v98_apply, val_main_v95_apply, val_main_v97_apply, val_main_v90_apply, val_main_v94_apply, val_main_v92_apply, val_main_v88_apply, val_main_v91_apply, val_main_v96_apply, val_main_v93_apply, val_main_v89_apply, val_main_v87_apply, val_main_v87_apply]
  refine congrArg₂ (· - ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)

/-- The second column lanes of a rotated query. -/
theorem v103_eq (b : Fin 8) (r : Fin 4096) (h : Fin 16) (q : Fin 32) :
    val_main_v103 (F := Ideal) x0 x1 x2 x3 x4 x5 (ix4 b r h q)
      = headQ x0 x1 x2 x3 x4 x5 b r h ⟨96 + q.val, by omega⟩ * val_main_v28 (F := Ideal) (ix2 r ⟨32 + q.val, by omega⟩)
        + headQ x0 x1 x2 x3 x4 x5 b r h ⟨64 + q.val, by omega⟩ * val_main_v29 (F := Ideal) (ix2 r ⟨32 + q.val, by omega⟩) := by
  rw [← v68_eq, ← v68_eq, val_main_v103_apply, val_main_v100_apply, val_main_v102_apply, val_main_v91_apply, val_main_v99_apply, val_main_v92_apply, val_main_v88_apply, val_main_v90_apply, val_main_v101_apply, val_main_v93_apply, val_main_v89_apply, val_main_v87_apply, val_main_v87_apply]
  refine congrArg₂ (· + ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The reference's rotated query. -/
theorem v105_eq (b : Fin 8) (r : Fin 4096) (h : Fin 16) (k : Fin 128) :
    val_main_v105 (F := Ideal) x0 x1 x2 x3 x4 x5 (ix4 b r h k) = turn (fun q => val_main_v28 (F := Ideal) (ix2 r q)) (fun q => val_main_v29 (F := Ideal) (ix2 r q)) (headQ x0 x1 x2 x3 x4 x5 b r h) k := by
  have hk := k.isLt
  by_cases c1 : k.val < 64
  · by_cases c2 : k.val % 64 < 32
    · have ek : (⟨k.val, by omega⟩ : Fin 128) = k := Fin.ext (show k.val = k.val by omega)
      have e := (quarter0 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val, by omega⟩).trans (v80_eq x0 x1 x2 x3 x4 x5 b r h ⟨k.val, by omega⟩)
      refine (congrArg (fun l => val_main_v105 (F := Ideal) x0 x1 x2 x3 x4 x5 (ix4 b r h l)) ek.symm).trans (e.trans ?_)
      refine Eq.trans ?_ (turn_first _ _ _ k ⟨32 + (k.val), by omega⟩ ⟨k.val, by omega⟩ c2 (show 32 + (k.val) = k.val + 32 by omega) (show k.val = k.val / 64 * 32 + k.val % 32 by omega)).symm
      exact congrArg₂ (· - ·) (Ideal.mul_congr (congrArg (headQ x0 x1 x2 x3 x4 x5 b r h) ek) rfl) rfl
    · have ek : (⟨32 + (k.val - 32), by omega⟩ : Fin 128) = k := Fin.ext (show 32 + (k.val - 32) = k.val by omega)
      have e := (quarter1 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val - 32, by omega⟩).trans (v85_eq x0 x1 x2 x3 x4 x5 b r h ⟨k.val - 32, by omega⟩)
      refine (congrArg (fun l => val_main_v105 (F := Ideal) x0 x1 x2 x3 x4 x5 (ix4 b r h l)) ek.symm).trans (e.trans ?_)
      refine Eq.trans ?_ (turn_second _ _ _ k ⟨k.val - 32, by omega⟩ ⟨k.val - 32, by omega⟩ c2 (show k.val - 32 + 32 = k.val by omega) (show k.val - 32 = k.val / 64 * 32 + k.val % 32 by omega)).symm
      exact congrArg₂ (· + ·) (Ideal.mul_congr (congrArg (headQ x0 x1 x2 x3 x4 x5 b r h) ek) rfl) rfl
  · by_cases c2 : k.val % 64 < 32
    · have ek : (⟨64 + (k.val - 64), by omega⟩ : Fin 128) = k := Fin.ext (show 64 + (k.val - 64) = k.val by omega)
      have e := (quarter2 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val - 64, by omega⟩).trans (v98_eq x0 x1 x2 x3 x4 x5 b r h ⟨k.val - 64, by omega⟩)
      refine (congrArg (fun l => val_main_v105 (F := Ideal) x0 x1 x2 x3 x4 x5 (ix4 b r h l)) ek.symm).trans (e.trans ?_)
      refine Eq.trans ?_ (turn_first _ _ _ k ⟨96 + (k.val - 64), by omega⟩ ⟨32 + (k.val - 64), by omega⟩ c2 (show 96 + (k.val - 64) = k.val + 32 by omega) (show 32 + (k.val - 64) = k.val / 64 * 32 + k.val % 32 by omega)).symm
      exact congrArg₂ (· - ·) (Ideal.mul_congr (congrArg (headQ x0 x1 x2 x3 x4 x5 b r h) ek) rfl) rfl
    · have ek : (⟨96 + (k.val - 96), by omega⟩ : Fin 128) = k := Fin.ext (show 96 + (k.val - 96) = k.val by omega)
      have e := (quarter3 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val - 96, by omega⟩).trans (v103_eq x0 x1 x2 x3 x4 x5 b r h ⟨k.val - 96, by omega⟩)
      refine (congrArg (fun l => val_main_v105 (F := Ideal) x0 x1 x2 x3 x4 x5 (ix4 b r h l)) ek.symm).trans (e.trans ?_)
      refine Eq.trans ?_ (turn_second _ _ _ k ⟨64 + (k.val - 96), by omega⟩ ⟨32 + (k.val - 96), by omega⟩ c2 (show 64 + (k.val - 96) + 32 = k.val by omega) (show 32 + (k.val - 96) = k.val / 64 * 32 + k.val % 32 by omega)).symm
      exact congrArg₂ (· + ·) (Ideal.mul_congr (congrArg (headQ x0 x1 x2 x3 x4 x5 b r h) ek) rfl) rfl

/-- A key's lane, before its normalization. -/
theorem v108_eq (b : Fin 8) (r : Fin 4096) (h : Fin 16) (k : Fin 128) :
    val_main_v108 (F := Ideal) x0 x1 x2 x3 x4 (ix4 b r h k) = proj x0 x1 x2 x3 x4 b r ⟨2048 + (h.val * 128 + k.val), by omega⟩ := by
  have hb := b.isLt
  have hr := r.isLt
  have hh := h.isLt
  have hk := k.isLt
  rw [val_main_v108_apply, val_main_v53_apply, ← v51_eq]
  refine congrArg _ (funext fun a => Fin.ext ?_)
  match a with
  | ⟨0, _⟩ => exact (show (((b.val * 4096 + r.val) * 16 + h.val) * 128 + k.val) / 8388608 = b.val by omega)
  | ⟨1, _⟩ => exact (show (((b.val * 4096 + r.val) * 16 + h.val) * 128 + k.val) / 2048 % 4096 = r.val by omega)
  | ⟨2, _⟩ => exact (show 2048 + (((b.val * 4096 + r.val) * 16 + h.val) * 128 + k.val) % 2048 = 2048 + (h.val * 128 + k.val) by omega)

/-- A key's normalized row. -/
def headK (b : Fin 8) (r : Fin 4096) (h : Fin 16) (k : Fin 128) : EReal :=
  rms (fun j => proj x0 x1 x2 x3 x4 b r ⟨2048 + (h.val * 128 + j.val), by omega⟩) k * x6 (ix1 k)

/-- The reference's normalized row of a key. -/
theorem v121_eq (b : Fin 8) (r : Fin 4096) (h : Fin 16) (k : Fin 128) :
    val_main_v121 (F := Ideal) x0 x1 x2 x3 x4 x6 (ix4 b r h k) = headK x0 x1 x2 x3 x4 x6 b r h k := by
  unfold headK rms
  rw [val_main_v121_apply, val_main_v120_apply, val_main_v119_apply, val_main_v118_apply, val_main_v117_apply, val_main_v116_apply, val_main_v115_apply, val_main_v114_apply, val_main_v113_apply, val_main_v112_apply, val_main_v111_apply, val_main_v110_apply]
  refine Ideal.mul_congr (Ideal.mul_congr (v108_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v110 (idx_main_v111 (idx_main_v117 (ix4 b r h k))) j = ix4 b r h j :=
      funext fun a => match a with | ⟨0, _⟩ => rfl | ⟨1, _⟩ => rfl | ⟨2, _⟩ => rfl | ⟨3, _⟩ => rfl
    rw [val_main_v109_apply, e]
    exact Ideal.mul_congr (v108_eq x0 x1 x2 x3 x4 b r h j) (v108_eq x0 x1 x2 x3 x4 b r h j)
  · exact congrArg x6 (funext fun a => match a with | ⟨0, _⟩ => rfl)

/-- The first row lanes of a rotated key. -/
theorem v133_eq (b : Fin 8) (r : Fin 4096) (h : Fin 16) (q : Fin 32) :
    val_main_v133 (F := Ideal) x0 x1 x2 x3 x4 x6 (ix4 b r h q)
      = headK x0 x1 x2 x3 x4 x6 b r h ⟨q.val, by omega⟩ * val_main_v28 (F := Ideal) (ix2 r ⟨q.val, by omega⟩)
        - headK x0 x1 x2 x3 x4 x6 b r h ⟨32 + q.val, by omega⟩ * val_main_v29 (F := Ideal) (ix2 r ⟨q.val, by omega⟩) := by
  rw [← v121_eq, ← v121_eq, val_main_v133_apply, val_main_v130_apply, val_main_v132_apply, val_main_v125_apply, val_main_v129_apply, val_main_v127_apply, val_main_v123_apply, val_main_v126_apply, val_main_v131_apply, val_main_v128_apply, val_main_v124_apply, val_main_v122_apply, val_main_v122_apply]
  refine congrArg₂ (· - ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The second row lanes of a rotated key. -/
theorem v138_eq (b : Fin 8) (r : Fin 4096) (h : Fin 16) (q : Fin 32) :
    val_main_v138 (F := Ideal) x0 x1 x2 x3 x4 x6 (ix4 b r h q)
      = headK x0 x1 x2 x3 x4 x6 b r h ⟨32 + q.val, by omega⟩ * val_main_v28 (F := Ideal) (ix2 r ⟨q.val, by omega⟩)
        + headK x0 x1 x2 x3 x4 x6 b r h ⟨q.val, by omega⟩ * val_main_v29 (F := Ideal) (ix2 r ⟨q.val, by omega⟩) := by
  rw [← v121_eq, ← v121_eq, val_main_v138_apply, val_main_v135_apply, val_main_v137_apply, val_main_v126_apply, val_main_v134_apply, val_main_v127_apply, val_main_v123_apply, val_main_v125_apply, val_main_v136_apply, val_main_v128_apply, val_main_v124_apply, val_main_v122_apply, val_main_v122_apply]
  refine congrArg₂ (· + ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The first column lanes of a rotated key. -/
theorem v151_eq (b : Fin 8) (r : Fin 4096) (h : Fin 16) (q : Fin 32) :
    val_main_v151 (F := Ideal) x0 x1 x2 x3 x4 x6 (ix4 b r h q)
      = headK x0 x1 x2 x3 x4 x6 b r h ⟨64 + q.val, by omega⟩ * val_main_v28 (F := Ideal) (ix2 r ⟨32 + q.val, by omega⟩)
        - headK x0 x1 x2 x3 x4 x6 b r h ⟨96 + q.val, by omega⟩ * val_main_v29 (F := Ideal) (ix2 r ⟨32 + q.val, by omega⟩) := by
  rw [← v121_eq, ← v121_eq, val_main_v151_apply, val_main_v148_apply, val_main_v150_apply, val_main_v143_apply, val_main_v147_apply, val_main_v145_apply, val_main_v141_apply, val_main_v144_apply, val_main_v149_apply, val_main_v146_apply, val_main_v142_apply, val_main_v140_apply, val_main_v140_apply]
  refine congrArg₂ (· - ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)

/-- The second column lanes of a rotated key. -/
theorem v156_eq (b : Fin 8) (r : Fin 4096) (h : Fin 16) (q : Fin 32) :
    val_main_v156 (F := Ideal) x0 x1 x2 x3 x4 x6 (ix4 b r h q)
      = headK x0 x1 x2 x3 x4 x6 b r h ⟨96 + q.val, by omega⟩ * val_main_v28 (F := Ideal) (ix2 r ⟨32 + q.val, by omega⟩)
        + headK x0 x1 x2 x3 x4 x6 b r h ⟨64 + q.val, by omega⟩ * val_main_v29 (F := Ideal) (ix2 r ⟨32 + q.val, by omega⟩) := by
  rw [← v121_eq, ← v121_eq, val_main_v156_apply, val_main_v153_apply, val_main_v155_apply, val_main_v144_apply, val_main_v152_apply, val_main_v145_apply, val_main_v141_apply, val_main_v143_apply, val_main_v154_apply, val_main_v146_apply, val_main_v142_apply, val_main_v140_apply, val_main_v140_apply]
  refine congrArg₂ (· + ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The reference's rotated key. -/
theorem v158_eq (b : Fin 8) (r : Fin 4096) (h : Fin 16) (k : Fin 128) :
    val_main_v158 (F := Ideal) x0 x1 x2 x3 x4 x6 (ix4 b r h k) = turn (fun q => val_main_v28 (F := Ideal) (ix2 r q)) (fun q => val_main_v29 (F := Ideal) (ix2 r q)) (headK x0 x1 x2 x3 x4 x6 b r h) k := by
  have hk := k.isLt
  by_cases c1 : k.val < 64
  · by_cases c2 : k.val % 64 < 32
    · have ek : (⟨k.val, by omega⟩ : Fin 128) = k := Fin.ext (show k.val = k.val by omega)
      have e := (quarter0 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val, by omega⟩).trans (v133_eq x0 x1 x2 x3 x4 x6 b r h ⟨k.val, by omega⟩)
      refine (congrArg (fun l => val_main_v158 (F := Ideal) x0 x1 x2 x3 x4 x6 (ix4 b r h l)) ek.symm).trans (e.trans ?_)
      refine Eq.trans ?_ (turn_first _ _ _ k ⟨32 + (k.val), by omega⟩ ⟨k.val, by omega⟩ c2 (show 32 + (k.val) = k.val + 32 by omega) (show k.val = k.val / 64 * 32 + k.val % 32 by omega)).symm
      exact congrArg₂ (· - ·) (Ideal.mul_congr (congrArg (headK x0 x1 x2 x3 x4 x6 b r h) ek) rfl) rfl
    · have ek : (⟨32 + (k.val - 32), by omega⟩ : Fin 128) = k := Fin.ext (show 32 + (k.val - 32) = k.val by omega)
      have e := (quarter1 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val - 32, by omega⟩).trans (v138_eq x0 x1 x2 x3 x4 x6 b r h ⟨k.val - 32, by omega⟩)
      refine (congrArg (fun l => val_main_v158 (F := Ideal) x0 x1 x2 x3 x4 x6 (ix4 b r h l)) ek.symm).trans (e.trans ?_)
      refine Eq.trans ?_ (turn_second _ _ _ k ⟨k.val - 32, by omega⟩ ⟨k.val - 32, by omega⟩ c2 (show k.val - 32 + 32 = k.val by omega) (show k.val - 32 = k.val / 64 * 32 + k.val % 32 by omega)).symm
      exact congrArg₂ (· + ·) (Ideal.mul_congr (congrArg (headK x0 x1 x2 x3 x4 x6 b r h) ek) rfl) rfl
  · by_cases c2 : k.val % 64 < 32
    · have ek : (⟨64 + (k.val - 64), by omega⟩ : Fin 128) = k := Fin.ext (show 64 + (k.val - 64) = k.val by omega)
      have e := (quarter2 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val - 64, by omega⟩).trans (v151_eq x0 x1 x2 x3 x4 x6 b r h ⟨k.val - 64, by omega⟩)
      refine (congrArg (fun l => val_main_v158 (F := Ideal) x0 x1 x2 x3 x4 x6 (ix4 b r h l)) ek.symm).trans (e.trans ?_)
      refine Eq.trans ?_ (turn_first _ _ _ k ⟨96 + (k.val - 64), by omega⟩ ⟨32 + (k.val - 64), by omega⟩ c2 (show 96 + (k.val - 64) = k.val + 32 by omega) (show 32 + (k.val - 64) = k.val / 64 * 32 + k.val % 32 by omega)).symm
      exact congrArg₂ (· - ·) (Ideal.mul_congr (congrArg (headK x0 x1 x2 x3 x4 x6 b r h) ek) rfl) rfl
    · have ek : (⟨96 + (k.val - 96), by omega⟩ : Fin 128) = k := Fin.ext (show 96 + (k.val - 96) = k.val by omega)
      have e := (quarter3 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val - 96, by omega⟩).trans (v156_eq x0 x1 x2 x3 x4 x6 b r h ⟨k.val - 96, by omega⟩)
      refine (congrArg (fun l => val_main_v158 (F := Ideal) x0 x1 x2 x3 x4 x6 (ix4 b r h l)) ek.symm).trans (e.trans ?_)
      refine Eq.trans ?_ (turn_second _ _ _ k ⟨64 + (k.val - 96), by omega⟩ ⟨32 + (k.val - 96), by omega⟩ c2 (show 64 + (k.val - 96) + 32 = k.val by omega) (show 32 + (k.val - 96) = k.val / 64 * 32 + k.val % 32 by omega)).symm
      exact congrArg₂ (· + ·) (Ideal.mul_congr (congrArg (headK x0 x1 x2 x3 x4 x6 b r h) ek) rfl) rfl

/-- The reference's result before its flattening. -/
theorem v163_flat (i : S32768x6144.Idx) (b : Fin 8) (r : Fin 4096) (n : Fin 6144)
    (h0 : (i 0).val = b.val * 4096 + r.val) (h1 : (i 1).val = n.val) :
    val_main_v163 (F := Ideal) x0 x1 x2 x3 x4 x5 x6 i = val_main_v161 (F := Ideal) x0 x1 x2 x3 x4 x5 x6 (ix3 b r n) := by
  have hb := b.isLt
  have hr := r.isLt
  have hn := n.isLt
  have ei : idx_main_v162 i = ix3 b r n := by
    refine funext fun a => Fin.ext ?_
    match a with
    | ⟨0, _⟩ => exact (show ((i 0).val * 6144 + (i 1).val) / 25165824 = b.val by omega)
    | ⟨1, _⟩ => exact (show ((i 0).val * 6144 + (i 1).val) / 6144 % 4096 = r.val by omega)
    | ⟨2, _⟩ => exact (show ((i 0).val * 6144 + (i 1).val) % 6144 = n.val by omega)
  rw [val_main_v163_apply, val_main_v162_apply, ei]
  rfl

/-- A query's column of the result. -/
theorem out_q (i : S32768x6144.Idx) (b : Fin 8) (r : Fin 4096) (h : Fin 16) (k : Fin 128)
    (h0 : (i 0).val = b.val * 4096 + r.val) (h1 : (i 1).val = h.val * 128 + k.val) :
    val_main_v163 (F := Ideal) x0 x1 x2 x3 x4 x5 x6 i
      = turn (fun q => val_main_v28 (F := Ideal) (ix2 r q)) (fun q => val_main_v29 (F := Ideal) (ix2 r q)) (headQ x0 x1 x2 x3 x4 x5 b r h) k * scale := by
  have hb := b.isLt
  have hr := r.isLt
  have hh := h.isLt
  have hk := k.isLt
  have ei : idx_main_v159 (ix3 b r ⟨h.val * 128 + k.val, by omega⟩) = ix4 b r h k := by
    refine funext fun a => Fin.ext ?_
    match a with
    | ⟨0, _⟩ => exact (show ((b.val * 4096 + r.val) * 2048 + (h.val * 128 + k.val)) / 8388608 = b.val by omega)
    | ⟨1, _⟩ => exact (show ((b.val * 4096 + r.val) * 2048 + (h.val * 128 + k.val)) / 2048 % 4096 = r.val by omega)
    | ⟨2, _⟩ => exact (show ((b.val * 4096 + r.val) * 2048 + (h.val * 128 + k.val)) / 128 % 16 = h.val by omega)
    | ⟨3, _⟩ => exact (show ((b.val * 4096 + r.val) * 2048 + (h.val * 128 + k.val)) % 128 = k.val by omega)
  rw [v163_flat x0 x1 x2 x3 x4 x5 x6 i b r ⟨h.val * 128 + k.val, by omega⟩ h0 h1]
  unfold val_main_v161
  refine Eq.trans (concatenate_apply_piece (t := S8x4096x6144) 2 _ _ _ 0 (by exact (by decide : (0 : ℕ) < 3)) S8x4096x2048 (val_main_v159 (F := Ideal) x0 x1 x2 x3 x4 x5) rfl rfl 0 rfl (ix3 b r ⟨h.val * 128 + k.val, by omega⟩) (fun a => match a with
    | ⟨0, _⟩ => fun _ => rfl | ⟨1, _⟩ => fun _ => rfl | ⟨2, _⟩ => fun hn => absurd rfl hn) (Nat.zero_add _)) ?_
  rw [val_main_v159_apply, ei, val_main_v107_apply, v105_eq, val_main_v106_apply]
  rfl

/-- A key's column of the result. -/
theorem out_k (i : S32768x6144.Idx) (b : Fin 8) (r : Fin 4096) (h : Fin 16) (k : Fin 128)
    (h0 : (i 0).val = b.val * 4096 + r.val) (h1 : (i 1).val = 2048 + (h.val * 128 + k.val)) :
    val_main_v163 (F := Ideal) x0 x1 x2 x3 x4 x5 x6 i
      = turn (fun q => val_main_v28 (F := Ideal) (ix2 r q)) (fun q => val_main_v29 (F := Ideal) (ix2 r q)) (headK x0 x1 x2 x3 x4 x6 b r h) k := by
  have hb := b.isLt
  have hr := r.isLt
  have hh := h.isLt
  have hk := k.isLt
  have ei : idx_main_v160 (ix3 b r ⟨h.val * 128 + k.val, by omega⟩) = ix4 b r h k := by
    refine funext fun a => Fin.ext ?_
    match a with
    | ⟨0, _⟩ => exact (show ((b.val * 4096 + r.val) * 2048 + (h.val * 128 + k.val)) / 8388608 = b.val by omega)
    | ⟨1, _⟩ => exact (show ((b.val * 4096 + r.val) * 2048 + (h.val * 128 + k.val)) / 2048 % 4096 = r.val by omega)
    | ⟨2, _⟩ => exact (show ((b.val * 4096 + r.val) * 2048 + (h.val * 128 + k.val)) / 128 % 16 = h.val by omega)
    | ⟨3, _⟩ => exact (show ((b.val * 4096 + r.val) * 2048 + (h.val * 128 + k.val)) % 128 = k.val by omega)
  rw [v163_flat x0 x1 x2 x3 x4 x5 x6 i b r ⟨2048 + (h.val * 128 + k.val), by omega⟩ h0 h1]
  unfold val_main_v161
  refine Eq.trans (concatenate_apply_piece (t := S8x4096x6144) 2 _ _ _ 1 (by exact (by decide : (1 : ℕ) < 3)) S8x4096x2048 (val_main_v160 (F := Ideal) x0 x1 x2 x3 x4 x6) rfl rfl 2048 rfl (ix3 b r ⟨h.val * 128 + k.val, by omega⟩) (fun a => match a with
    | ⟨0, _⟩ => fun _ => rfl | ⟨1, _⟩ => fun _ => rfl | ⟨2, _⟩ => fun hn => absurd rfl hn) rfl) ?_
  rw [val_main_v160_apply, ei, v158_eq]

/-- A value's column of the result. -/
theorem out_v (i : S32768x6144.Idx) (b : Fin 8) (r : Fin 4096) (j : Fin 2048)
    (h0 : (i 0).val = b.val * 4096 + r.val) (h1 : (i 1).val = 4096 + j.val) :
    val_main_v163 (F := Ideal) x0 x1 x2 x3 x4 x5 x6 i = proj x0 x1 x2 x3 x4 b r ⟨4096 + j.val, by omega⟩ := by
  rw [v163_flat x0 x1 x2 x3 x4 x5 x6 i b r ⟨4096 + j.val, by omega⟩ h0 h1]
  unfold val_main_v161
  refine Eq.trans (concatenate_apply_piece (t := S8x4096x6144) 2 _ _ _ 2 (by exact (by decide : (2 : ℕ) < 3)) S8x4096x2048 (val_main_v54 (F := Ideal) x0 x1 x2 x3 x4) rfl rfl 4096 rfl (ix3 b r j) (fun a => match a with
    | ⟨0, _⟩ => fun _ => rfl | ⟨1, _⟩ => fun _ => rfl | ⟨2, _⟩ => fun hn => absurd rfl hn) rfl) ?_
  rw [val_main_v54_apply, ← v51_eq]
  exact congrArg _ (funext fun a => match a with | ⟨0, _⟩ => rfl | ⟨1, _⟩ => rfl | ⟨2, _⟩ => rfl)

end Cert.ProjBRefIdeal.Rows

end
-- ==== Proof.ProjB.Blocks.lean ====
/- The projection: the blocks that the kernel stages, read from the arguments. -/
module

public import proofs.«01_k».proof.Proof.Gen.ProjBIdeal.Frame
public import proofs.«01_k».proof.Proof.ProjB.Ref
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjBIdeal.RefValue

open Cert.ProjBIdeal Cert.ProjBIdeal.Gen Cert.ProjRows
open Cert.ProjBRefIdeal.Read (val_main_v21 val_main_v26 val_main_v28 val_main_v29)
open Cert.ProjBRefIdeal.Rows (v28_row v28_col v29_row v29_col)

variable (m : (ℓ : Loc nD τ sig) → Buf (Elt Ideal) ℓ)

/-- The block that each window stages at a grid point, as arithmetic on the point's number: twelve column blocks inside
    each tile of rows. -/
theorem idx : ∀ t : Fin cfg0.N, (win0_0.index t = ![t.val / 12, 0] ∧ win0_1.index t = ![0, 0]
    ∧ win0_2.index t = ![t.val / 48, 0, 0] ∧ win0_3.index t = ![t.val / 48, 0, 0] ∧ win0_4.index t = ![0, t.val % 12])
    ∧ win0_5.index t = ![0, t.val % 12] ∧ win0_6.index t = ![t.val / 12 % 4, 0] ∧ win0_7.index t = ![t.val / 12 % 4, 0]
    ∧ win0_8.index t = ![t.val / 12, t.val % 12] :=
  (by decide +kernel : ∀ t : Fin grid0.N, _)

/-- The flattened residual stream at an index, from its place by sample. -/
theorem flat (c : Dev nD) (e : S32768x2048.Idx) (i : S8x4096x2048.Idx)
    (h0 : (i 0).val * 4096 + (i 1).val = (e 0).val) (h1 : (i 2).val = (e 1).val) :
    V m c main_v39 e = m ((c : Thread nD τ).loc main_arg0) i := by
  entry_read
  have hi : (i 1).val < 4096 := (i 1).isLt
  generalize m _ = A
  pointwise
  refine congrArg _ (funext fun a => Fin.ext ?_)
  match a with
  | ⟨0, _⟩ => exact (show (e 0).val / 4096 = (i 0).val by omega)
  | ⟨1, _⟩ => exact (show (e 0).val % 4096 = (i 1).val by omega)
  | ⟨2, _⟩ => exact h1.symm

/-- The rows of a tile. -/
theorem blk0 (c : Dev nD) (t : Fin cfg0.N) (y : S1024x2048.Idx) (i : S8x4096x2048.Idx)
    (h0 : (i 0).val * 4096 + (i 1).val = t.val / 12 * 1024 + (y 0).val) (h1 : (i 2).val = (y 1).val) :
    iblk m c 0 t y = m ((c : Thread nD τ).loc main_arg0) i := by
  show V m c main_v39 (((cfg0.win 0).blk t).view.emb y) = _
  refine flat m c _ i ?_ ?_
  · blk_simp [idx t]; exact h0
  · blk_simp [idx t]; exact h1

/-- The gain. -/
theorem blk1 (c : Dev nD) (t : Fin cfg0.N) (j : Fin 2048) :
    iblk m c 1 t (ix2 0 j) = m ((c : Thread nD τ).loc main_arg1) (ix1 j) := by
  show V m c main_v40 (((cfg0.win 1).blk t).view.emb (ix2 0 j)) = _
  entry_read
  generalize he : ((cfg0.win 1).blk t).view.emb (ix2 0 j) = e
  have e1 : (e 1).val = j.val := by rw [← he]; blk_simp [idx t]
  clear he
  generalize m _ = A
  pointwise
  exact congrArg _ (funext fun a => Fin.ext (match a with | ⟨0, _⟩ => e1))

/-- The shift of a sample. -/
theorem blk2 (c : Dev nD) (t : Fin cfg0.N) (b : Fin 8) (j : Fin 2048) (h : b.val = t.val / 48) :
    iblk m c 2 t (ix3 0 0 j) = m ((c : Thread nD τ).loc main_arg2) (ix2 b j) := by
  show V m c main_v53 (((cfg0.win 2).blk t).view.emb (ix3 0 0 j)) = _
  entry_read
  generalize he : ((cfg0.win 2).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The scale of a sample. -/
theorem blk3 (c : Dev nD) (t : Fin cfg0.N) (b : Fin 8) (j : Fin 2048) (h : b.val = t.val / 48) :
    iblk m c 3 t (ix3 0 0 j) = m ((c : Thread nD τ).loc main_arg3) (ix2 b j) := by
  show V m c main_v54 (((cfg0.win 3).blk t).view.emb (ix3 0 0 j)) = _
  entry_read
  generalize he : ((cfg0.win 3).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The columns of the projection; the narrowing changes nothing over the extended reals. -/
theorem blk4 (c : Dev nD) (t : Fin cfg0.N) (y : S2048x512.Idx) (i : S2048x6144.Idx)
    (h0 : (i 0).val = (y 0).val) (h1 : (i 1).val = t.val % 12 * 512 + (y 1).val) :
    iblk m c 4 t y = m ((c : Thread nD τ).loc main_arg4) i := by
  show V m c main_v41 (((cfg0.win 4).blk t).view.emb y) = _
  entry_read
  refine congrArg (m ((c : Thread nD τ).loc main_arg4)) (funext fun a => Fin.ext ?_)
  match a with
  | ⟨0, _⟩ => blk_simp [idx t]; exact h0.symm
  | ⟨1, _⟩ => blk_simp [idx t]; exact h1.symm

/-- The queries' gain. -/
abbrev gainQ (c : Dev nD) : S128.Idx → EReal := m ((c : Thread nD τ).loc main_arg5)

/-- The keys' gain. -/
abbrev gainK (c : Dev nD) : S128.Idx → EReal := m ((c : Thread nD τ).loc main_arg6)

/-- A query column's gain, with the scale. -/
theorem gain_q (c : Dev nD) (e : S1x6144.Idx) (k : Fin 128) (hn : (e 1).val < 2048) (hk : (e 1).val % 128 = k.val) :
    V m c main_v52 e = gainQ m c (ix1 k) * scale := by
  unfold V hostOps0
  after_reads_simp
  refine Eq.trans (congrArg (concatenate S6144 0 _ _) (?_ : _ = ix1 (⟨(e 1).val, (e 1).isLt⟩ : Fin 6144))) ?_
  · exact funext fun a => match a with | ⟨0, _⟩ => rfl
  refine Eq.trans (concatenate_apply_piece (t := S6144) 0 _ _ _ 0 (by exact (by decide : (0 : ℕ) < 3)) S2048 _ rfl rfl 0 rfl (ix1 ⟨(e 1).val - 0, by omega⟩) ?_ ?_) ?_
  · intro b hb; exact absurd (Subsingleton.elim (α := Fin 1) _ _) hb
  · exact (show 0 + ((e 1).val - 0) = (e 1).val by omega)
  try simp only [Matrix.cons_val]
  after_reads_simp
  unfold gainQ
  generalize m _ = A
  pointwise
  exact Ideal.mul_congr (congrArg A (funext fun a => Fin.ext (match a with | ⟨0, _⟩ => (show ((e 1).val - 0) % 128 = k.val by omega)))) rfl

/-- A key column's gain. -/
theorem gain_k (c : Dev nD) (e : S1x6144.Idx) (k : Fin 128) (hl : 2048 ≤ (e 1).val) (hn : (e 1).val < 4096) (hk : (e 1).val % 128 = k.val) :
    V m c main_v52 e = gainK m c (ix1 k) := by
  unfold V hostOps0
  after_reads_simp
  refine Eq.trans (congrArg (concatenate S6144 0 _ _) (?_ : _ = ix1 (⟨(e 1).val, (e 1).isLt⟩ : Fin 6144))) ?_
  · exact funext fun a => match a with | ⟨0, _⟩ => rfl
  refine Eq.trans (concatenate_apply_piece (t := S6144) 0 _ _ _ 1 (by exact (by decide : (1 : ℕ) < 3)) S2048 _ rfl rfl 2048 rfl (ix1 ⟨(e 1).val - 2048, by omega⟩) ?_ ?_) ?_
  · intro b hb; exact absurd (Subsingleton.elim (α := Fin 1) _ _) hb
  · exact (show 2048 + ((e 1).val - 2048) = (e 1).val by omega)
  try simp only [Matrix.cons_val]
  after_reads_simp
  unfold gainK
  generalize m _ = A
  pointwise
  exact congrArg A (funext fun a => Fin.ext (match a with | ⟨0, _⟩ => (show ((e 1).val - 2048) % 128 = k.val by omega)))

/-- The kernel's table of cosines, its first quarter. -/
theorem cos_quarter0 (c : Dev nD) (e : S4096x128.Idx) (p : Fin 4096) (q : Fin 32) (h0 : (e 0).val = p.val) (h1 : (e 1).val = 0 + q.val) :
    V m c main_v31 e = Ideal.cos (val_main_v21 (F := Ideal) (ix2 p q)) := by
  unfold V hostOps0
  after_reads_simp
  simp only [Matrix.cons_val]
  after_reads_simp
  refine Eq.trans (concatenate_apply_piece (t := S4096x128) 1 _ _ _ 0 (by exact (by decide : (0 : ℕ) < 4)) S4096x32 _ rfl rfl 0 rfl (ix2 p q) ?_ ?_) ?_
  · intro b hb
    match b with
    | ⟨0, _⟩ => exact h0.symm
    | ⟨1, _⟩ => exact absurd rfl hb
  · exact h1.symm
  rfl

/-- The kernel's table of cosines, its second quarter. -/
theorem cos_quarter1 (c : Dev nD) (e : S4096x128.Idx) (p : Fin 4096) (q : Fin 32) (h0 : (e 0).val = p.val) (h1 : (e 1).val = 32 + q.val) :
    V m c main_v31 e = Ideal.cos (val_main_v21 (F := Ideal) (ix2 p q)) := by
  unfold V hostOps0
  after_reads_simp
  simp only [Matrix.cons_val]
  after_reads_simp
  refine Eq.trans (concatenate_apply_piece (t := S4096x128) 1 _ _ _ 1 (by exact (by decide : (1 : ℕ) < 4)) S4096x32 _ rfl rfl 32 rfl (ix2 p q) ?_ ?_) ?_
  · intro b hb
    match b with
    | ⟨0, _⟩ => exact h0.symm
    | ⟨1, _⟩ => exact absurd rfl hb
  · exact h1.symm
  rfl

/-- The kernel's table of cosines, its third quarter. -/
theorem cos_quarter2 (c : Dev nD) (e : S4096x128.Idx) (p : Fin 4096) (q : Fin 32) (h0 : (e 0).val = p.val) (h1 : (e 1).val = 64 + q.val) :
    V m c main_v31 e = Ideal.cos (val_main_v26 (F := Ideal) (ix2 p q)) := by
  unfold V hostOps0
  after_reads_simp
  simp only [Matrix.cons_val]
  after_reads_simp
  refine Eq.trans (concatenate_apply_piece (t := S4096x128) 1 _ _ _ 2 (by exact (by decide : (2 : ℕ) < 4)) S4096x32 _ rfl rfl 64 rfl (ix2 p q) ?_ ?_) ?_
  · intro b hb
    match b with
    | ⟨0, _⟩ => exact h0.symm
    | ⟨1, _⟩ => exact absurd rfl hb
  · exact h1.symm
  rfl

/-- The kernel's table of cosines, its last quarter. -/
theorem cos_quarter3 (c : Dev nD) (e : S4096x128.Idx) (p : Fin 4096) (q : Fin 32) (h0 : (e 0).val = p.val) (h1 : (e 1).val = 96 + q.val) :
    V m c main_v31 e = Ideal.cos (val_main_v26 (F := Ideal) (ix2 p q)) := by
  unfold V hostOps0
  after_reads_simp
  simp only [Matrix.cons_val]
  after_reads_simp
  refine Eq.trans (concatenate_apply_piece (t := S4096x128) 1 _ _ _ 3 (by exact (by decide : (3 : ℕ) < 4)) S4096x32 _ rfl rfl 96 rfl (ix2 p q) ?_ ?_) ?_
  · intro b hb
    match b with
    | ⟨0, _⟩ => exact h0.symm
    | ⟨1, _⟩ => exact absurd rfl hb
  · exact h1.symm
  rfl

/-- The kernel's table of cosines is the reference's, each angle at both lanes of its pair. -/
theorem cos_table (c : Dev nD) (e : S4096x128.Idx) (p : Fin 4096) (k : Fin 128) (h0 : (e 0).val = p.val) (h1 : (e 1).val = k.val) :
    V m c main_v31 e = val_main_v28 (F := Ideal) (ix2 p (angle k)) := by
  have hk := k.isLt
  have hp := p.isLt
  by_cases c0 : k.val < 32
  · have ea : angle k = ⟨k.val - 0, by omega⟩ := Fin.ext (show k.val / 64 * 32 + k.val % 32 = k.val - 0 by omega)
    rw [ea, v28_row p ⟨k.val - 0, by omega⟩]
    exact cos_quarter0 m c e p ⟨k.val - 0, by omega⟩ h0 (show (e 1).val = 0 + (k.val - 0) by omega)
  by_cases c1 : k.val < 64
  · have ea : angle k = ⟨k.val - 32, by omega⟩ := Fin.ext (show k.val / 64 * 32 + k.val % 32 = k.val - 32 by omega)
    rw [ea, v28_row p ⟨k.val - 32, by omega⟩]
    exact cos_quarter1 m c e p ⟨k.val - 32, by omega⟩ h0 (show (e 1).val = 32 + (k.val - 32) by omega)
  by_cases c2 : k.val < 96
  · have ea : angle k = ⟨32 + (k.val - 64), by omega⟩ := Fin.ext (show k.val / 64 * 32 + k.val % 32 = 32 + (k.val - 64) by omega)
    rw [ea, v28_col p ⟨k.val - 64, by omega⟩]
    exact cos_quarter2 m c e p ⟨k.val - 64, by omega⟩ h0 (show (e 1).val = 64 + (k.val - 64) by omega)
  have ea : angle k = ⟨32 + (k.val - 96), by omega⟩ := Fin.ext (show k.val / 64 * 32 + k.val % 32 = 32 + (k.val - 96) by omega)
  rw [ea, v28_col p ⟨k.val - 96, by omega⟩]
  exact cos_quarter3 m c e p ⟨k.val - 96, by omega⟩ h0 (show (e 1).val = 96 + (k.val - 96) by omega)

/-- The kernel's table of signed sines, its first quarter. -/
theorem sin_quarter0 (c : Dev nD) (e : S4096x128.Idx) (p : Fin 4096) (q : Fin 32) (h0 : (e 0).val = p.val) (h1 : (e 1).val = 0 + q.val) :
    V m c main_v38 e = -Ideal.sin (val_main_v21 (F := Ideal) (ix2 p q)) := by
  unfold V hostOps0
  after_reads_simp
  simp only [Matrix.cons_val]
  after_reads_simp
  refine Eq.trans (concatenate_apply_piece (t := S4096x128) 1 _ _ _ 0 (by exact (by decide : (0 : ℕ) < 4)) S4096x32 _ rfl rfl 0 rfl (ix2 p q) ?_ ?_) ?_
  · intro b hb
    match b with
    | ⟨0, _⟩ => exact h0.symm
    | ⟨1, _⟩ => exact absurd rfl hb
  · exact h1.symm
  rfl

/-- The kernel's table of signed sines, its second quarter. -/
theorem sin_quarter1 (c : Dev nD) (e : S4096x128.Idx) (p : Fin 4096) (q : Fin 32) (h0 : (e 0).val = p.val) (h1 : (e 1).val = 32 + q.val) :
    V m c main_v38 e = Ideal.sin (val_main_v21 (F := Ideal) (ix2 p q)) := by
  unfold V hostOps0
  after_reads_simp
  simp only [Matrix.cons_val]
  after_reads_simp
  refine Eq.trans (concatenate_apply_piece (t := S4096x128) 1 _ _ _ 1 (by exact (by decide : (1 : ℕ) < 4)) S4096x32 _ rfl rfl 32 rfl (ix2 p q) ?_ ?_) ?_
  · intro b hb
    match b with
    | ⟨0, _⟩ => exact h0.symm
    | ⟨1, _⟩ => exact absurd rfl hb
  · exact h1.symm
  rfl

/-- The kernel's table of signed sines, its third quarter. -/
theorem sin_quarter2 (c : Dev nD) (e : S4096x128.Idx) (p : Fin 4096) (q : Fin 32) (h0 : (e 0).val = p.val) (h1 : (e 1).val = 64 + q.val) :
    V m c main_v38 e = -Ideal.sin (val_main_v26 (F := Ideal) (ix2 p q)) := by
  unfold V hostOps0
  after_reads_simp
  simp only [Matrix.cons_val]
  after_reads_simp
  refine Eq.trans (concatenate_apply_piece (t := S4096x128) 1 _ _ _ 2 (by exact (by decide : (2 : ℕ) < 4)) S4096x32 _ rfl rfl 64 rfl (ix2 p q) ?_ ?_) ?_
  · intro b hb
    match b with
    | ⟨0, _⟩ => exact h0.symm
    | ⟨1, _⟩ => exact absurd rfl hb
  · exact h1.symm
  rfl

/-- The kernel's table of signed sines, its last quarter. -/
theorem sin_quarter3 (c : Dev nD) (e : S4096x128.Idx) (p : Fin 4096) (q : Fin 32) (h0 : (e 0).val = p.val) (h1 : (e 1).val = 96 + q.val) :
    V m c main_v38 e = Ideal.sin (val_main_v26 (F := Ideal) (ix2 p q)) := by
  unfold V hostOps0
  after_reads_simp
  simp only [Matrix.cons_val]
  after_reads_simp
  refine Eq.trans (concatenate_apply_piece (t := S4096x128) 1 _ _ _ 3 (by exact (by decide : (3 : ℕ) < 4)) S4096x32 _ rfl rfl 96 rfl (ix2 p q) ?_ ?_) ?_
  · intro b hb
    match b with
    | ⟨0, _⟩ => exact h0.symm
    | ⟨1, _⟩ => exact absurd rfl hb
  · exact h1.symm
  rfl

/-- The kernel's table of signed sines is the reference's, each angle at both lanes of its pair. -/
theorem sin_table (c : Dev nD) (e : S4096x128.Idx) (p : Fin 4096) (k : Fin 128) (h0 : (e 0).val = p.val) (h1 : (e 1).val = k.val) :
    V m c main_v38 e = if k.val % 64 < 32 then -val_main_v29 (F := Ideal) (ix2 p (angle k)) else val_main_v29 (F := Ideal) (ix2 p (angle k)) := by
  have hk := k.isLt
  have hp := p.isLt
  by_cases c0 : k.val < 32
  · have ea : angle k = ⟨k.val - 0, by omega⟩ := Fin.ext (show k.val / 64 * 32 + k.val % 32 = k.val - 0 by omega)
    rw [if_pos (show k.val % 64 < 32 by omega), ea, v29_row p ⟨k.val - 0, by omega⟩]
    exact sin_quarter0 m c e p ⟨k.val - 0, by omega⟩ h0 (show (e 1).val = 0 + (k.val - 0) by omega)
  by_cases c1 : k.val < 64
  · have ea : angle k = ⟨k.val - 32, by omega⟩ := Fin.ext (show k.val / 64 * 32 + k.val % 32 = k.val - 32 by omega)
    rw [if_neg (show ¬k.val % 64 < 32 by omega), ea, v29_row p ⟨k.val - 32, by omega⟩]
    exact sin_quarter1 m c e p ⟨k.val - 32, by omega⟩ h0 (show (e 1).val = 32 + (k.val - 32) by omega)
  by_cases c2 : k.val < 96
  · have ea : angle k = ⟨32 + (k.val - 64), by omega⟩ := Fin.ext (show k.val / 64 * 32 + k.val % 32 = 32 + (k.val - 64) by omega)
    rw [if_pos (show k.val % 64 < 32 by omega), ea, v29_col p ⟨k.val - 64, by omega⟩]
    exact sin_quarter2 m c e p ⟨k.val - 64, by omega⟩ h0 (show (e 1).val = 64 + (k.val - 64) by omega)
  have ea : angle k = ⟨32 + (k.val - 96), by omega⟩ := Fin.ext (show k.val / 64 * 32 + k.val % 32 = 32 + (k.val - 96) by omega)
  rw [if_neg (show ¬k.val % 64 < 32 by omega), ea, v29_col p ⟨k.val - 96, by omega⟩]
  exact sin_quarter3 m c e p ⟨k.val - 96, by omega⟩ h0 (show (e 1).val = 96 + (k.val - 96) by omega)

/-- A query column's staged gain. -/
theorem blk5_q (c : Dev nD) (t : Fin cfg0.N) (y : S1x512.Idx) (k : Fin 128) (hn : t.val % 12 * 512 + (y 1).val < 2048) (hk : (y 1).val % 128 = k.val) :
    iblk m c 5 t y = gainQ m c (ix1 k) * scale := by
  show V m c main_v52 (((cfg0.win 5).blk t).view.emb y) = _
  generalize he : ((cfg0.win 5).blk t).view.emb y = e
  have e1 : (e 1).val = t.val % 12 * 512 + (y 1).val := by rw [← he]; blk_simp [idx t]
  exact gain_q m c e k (by omega) (by omega)

/-- A key column's staged gain. -/
theorem blk5_k (c : Dev nD) (t : Fin cfg0.N) (y : S1x512.Idx) (k : Fin 128) (hl : 2048 ≤ t.val % 12 * 512 + (y 1).val) (hn : t.val % 12 * 512 + (y 1).val < 4096)
    (hk : (y 1).val % 128 = k.val) :
    iblk m c 5 t y = gainK m c (ix1 k) := by
  show V m c main_v52 (((cfg0.win 5).blk t).view.emb y) = _
  generalize he : ((cfg0.win 5).blk t).view.emb y = e
  have e1 : (e 1).val = t.val % 12 * 512 + (y 1).val := by rw [← he]; blk_simp [idx t]
  exact gain_k m c e k (by omega) (by omega) (by omega)

/-- The staged cosines of a tile's positions. -/
theorem blk6 (c : Dev nD) (t : Fin cfg0.N) (p : Fin 1024) (k : Fin 128) (r : Fin 4096) (hr : r.val = t.val / 12 % 4 * 1024 + p.val) :
    iblk m c 6 t (ix2 p k) = val_main_v28 (F := Ideal) (ix2 r (angle k)) := by
  show V m c main_v31 (((cfg0.win 6).blk t).view.emb (ix2 p k)) = _
  generalize he : ((cfg0.win 6).blk t).view.emb (ix2 p k) = e
  have e0 : (e 0).val = r.val := by rw [← he, hr]; blk_simp [idx t]
  have e1 : (e 1).val = k.val := by rw [← he]; blk_simp [idx t]
  exact cos_table m c e r k e0 e1

/-- The staged signed sines of a tile's positions. -/
theorem blk7 (c : Dev nD) (t : Fin cfg0.N) (p : Fin 1024) (k : Fin 128) (r : Fin 4096) (hr : r.val = t.val / 12 % 4 * 1024 + p.val) :
    iblk m c 7 t (ix2 p k) = if k.val % 64 < 32 then -val_main_v29 (F := Ideal) (ix2 r (angle k)) else val_main_v29 (F := Ideal) (ix2 r (angle k)) := by
  show V m c main_v38 (((cfg0.win 7).blk t).view.emb (ix2 p k)) = _
  generalize he : ((cfg0.win 7).blk t).view.emb (ix2 p k) = e
  have e0 : (e 0).val = r.val := by rw [← he, hr]; blk_simp [idx t]
  have e1 : (e 1).val = k.val := by rw [← he]; blk_simp [idx t]
  exact sin_table m c e r k e0 e1

end Cert.ProjBIdeal.RefValue

end
-- ==== Proof.ProjB.Value.lean ====
/- The projection: each point of a tile finds the tile's normalized rows, projects them to its 512 columns and rotates its four
   heads, and the array that the kernel writes is the reference's. -/
module

public import proofs.«01_k».proof.Proof.ProjB.Kernel
public import proofs.«01_k».proof.Proof.ProjB.Blocks
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.ProjBIdeal.RefValue

open Cert.ProjBIdeal Cert.ProjBIdeal.Gen Cert.FfnRows Cert.ProjRows
open Cert.ProjBRefIdeal.Rows (row proj headQ headK out_q out_k out_v)
open Cert.ProjBRefIdeal.Read (val_main_v28 val_main_v29 val_main_v163)

/-- Four stored stretches of 128 columns, read at a column of one of them. -/
theorem canon_cols (w3 w2 w1 w0 : S1024x128.Idx → Elt Ideal .bf16) (p : Fin 1024) (d : Fin 4) (k : Fin 128) (v : EReal)
    (h0 : d.val = 0 → w0 (ix2 p k) = v) (h1 : d.val = 1 → w1 (ix2 p k) = v) (h2 : d.val = 2 → w2 (ix2 p k) = v)
    (h3 : d.val = 3 → w3 (ix2 p k) = v) :
    View.canon (Val := Elt Ideal) (s := S1024x512) (e := .bf16)
      [⟨Rect.unit ![0, 384] ![1024, 128] inb_S1024x512_S1024x128_0_384, w3⟩,
       ⟨Rect.unit ![0, 256] ![1024, 128] inb_S1024x512_S1024x128_0_256, w2⟩,
       ⟨Rect.unit ![0, 128] ![1024, 128] inb_S1024x512_S1024x128_0_128, w1⟩,
       ⟨Rect.unit ![0, 0] ![1024, 128] inb_S1024x512_S1024x128_0_0, w0⟩] (ix2 p ⟨d.val * 128 + k.val, by omega⟩) = v := by
  have hd := d.isLt
  have hk := k.isLt
  by_cases c3 : d.val = 3
  · refine Eq.trans (congrArg _ (?_ : ix2 p (⟨d.val * 128 + k.val, by omega⟩ : Fin 512)
      = (Rect.unit ![0, 384] ![1024, 128] inb_S1024x512_S1024x128_0_384).emb (ix2 p k)))
      ((View.canon_cons_emb _ _ _ _).trans (h3 (by omega)))
    refine funext fun a => Fin.ext ?_
    match a with
    | ⟨0, _⟩ => exact (show p.val = 0 + 1 * p.val by omega)
    | ⟨1, _⟩ => exact (show d.val * 128 + k.val = 384 + 1 * k.val by omega)
  refine (View.canon_cons_of_not_mem _ _ (Rect.not_mem_set_of_axis _ _ (1 : Fin 2) 384 128 rfl rfl rfl
    (Or.inl (show d.val * 128 + k.val < 384 by omega)))).trans ?_
  by_cases c2 : d.val = 2
  · refine Eq.trans (congrArg _ (?_ : ix2 p (⟨d.val * 128 + k.val, by omega⟩ : Fin 512)
      = (Rect.unit ![0, 256] ![1024, 128] inb_S1024x512_S1024x128_0_256).emb (ix2 p k)))
      ((View.canon_cons_emb _ _ _ _).trans (h2 (by omega)))
    refine funext fun a => Fin.ext ?_
    match a with
    | ⟨0, _⟩ => exact (show p.val = 0 + 1 * p.val by omega)
    | ⟨1, _⟩ => exact (show d.val * 128 + k.val = 256 + 1 * k.val by omega)
  refine (View.canon_cons_of_not_mem _ _ (Rect.not_mem_set_of_axis _ _ (1 : Fin 2) 256 128 rfl rfl rfl
    (Or.inl (show d.val * 128 + k.val < 256 by omega)))).trans ?_
  by_cases c1 : d.val = 1
  · refine Eq.trans (congrArg _ (?_ : ix2 p (⟨d.val * 128 + k.val, by omega⟩ : Fin 512)
      = (Rect.unit ![0, 128] ![1024, 128] inb_S1024x512_S1024x128_0_128).emb (ix2 p k)))
      ((View.canon_cons_emb _ _ _ _).trans (h1 (by omega)))
    refine funext fun a => Fin.ext ?_
    match a with
    | ⟨0, _⟩ => exact (show p.val = 0 + 1 * p.val by omega)
    | ⟨1, _⟩ => exact (show d.val * 128 + k.val = 128 + 1 * k.val by omega)
  refine (View.canon_cons_of_not_mem _ _ (Rect.not_mem_set_of_axis _ _ (1 : Fin 2) 128 128 rfl rfl rfl
    (Or.inl (show d.val * 128 + k.val < 128 by omega)))).trans ?_
  refine Eq.trans (congrArg _ (?_ : ix2 p (⟨d.val * 128 + k.val, by omega⟩ : Fin 512)
    = (Rect.unit ![0, 0] ![1024, 128] inb_S1024x512_S1024x128_0_0).emb (ix2 p k)))
    ((View.canon_cons_emb _ _ _ _).trans (h0 (by omega)))
  refine funext fun a => Fin.ext ?_
  match a with
  | ⟨0, _⟩ => exact (show p.val = 0 + 1 * p.val by omega)
  | ⟨1, _⟩ => exact (show d.val * 128 + k.val = 0 + 1 * k.val by omega)

/-- The stretch of 128 gains that starts at a column. -/
theorem stretch0 (x : S1x512.Idx → Elt Ideal .f32) (k : Fin 128) :
    View.ld (Val := Elt Ideal) (e' := .f32) x (Rect.unit ![0, 0] ![1, 128] inb_S1x512_S1x128_0_0) (ix2 0 k) = x (ix2 0 ⟨0 * 128 + k.val, by omega⟩) :=
  congrArg x (funext fun a => Fin.ext (match a with
    | ⟨0, _⟩ => rfl
    | ⟨1, _⟩ => (show 0 + 1 * k.val = 0 * 128 + k.val by omega)))

@[inherit_doc stretch0]
theorem stretch1 (x : S1x512.Idx → Elt Ideal .f32) (k : Fin 128) :
    View.ld (Val := Elt Ideal) (e' := .f32) x (Rect.unit ![0, 128] ![1, 128] inb_S1x512_S1x128_0_128) (ix2 0 k) = x (ix2 0 ⟨1 * 128 + k.val, by omega⟩) :=
  congrArg x (funext fun a => Fin.ext (match a with
    | ⟨0, _⟩ => rfl
    | ⟨1, _⟩ => (show 128 + 1 * k.val = 1 * 128 + k.val by omega)))

@[inherit_doc stretch0]
theorem stretch2 (x : S1x512.Idx → Elt Ideal .f32) (k : Fin 128) :
    View.ld (Val := Elt Ideal) (e' := .f32) x (Rect.unit ![0, 256] ![1, 128] inb_S1x512_S1x128_0_256) (ix2 0 k) = x (ix2 0 ⟨2 * 128 + k.val, by omega⟩) :=
  congrArg x (funext fun a => Fin.ext (match a with
    | ⟨0, _⟩ => rfl
    | ⟨1, _⟩ => (show 256 + 1 * k.val = 2 * 128 + k.val by omega)))

@[inherit_doc stretch0]
theorem stretch3 (x : S1x512.Idx → Elt Ideal .f32) (k : Fin 128) :
    View.ld (Val := Elt Ideal) (e' := .f32) x (Rect.unit ![0, 384] ![1, 128] inb_S1x512_S1x128_0_384) (ix2 0 k) = x (ix2 0 ⟨3 * 128 + k.val, by omega⟩) :=
  congrArg x (funext fun a => Fin.ext (match a with
    | ⟨0, _⟩ => rfl
    | ⟨1, _⟩ => (show 384 + 1 * k.val = 3 * 128 + k.val by omega)))

variable (m : (ℓ : Loc nD τ sig) → Buf (Elt Ideal) ℓ)

/-- The sample of a tile's row. -/
def sampleOf (t : Fin cfg0.N) : Fin 8 :=
  ⟨t.val / 48, by have := lt_of_lt_of_eq t.isLt N_0; omega⟩

/-- The row in its sample of a tile's row. -/
def posOf (t : Fin cfg0.N) (p : Fin 1024) : Fin 4096 := ⟨(t.val / 12 * 1024 + p.val) % 4096, Nat.mod_lt _ (by omega)⟩

theorem place (t : Fin cfg0.N) (p : Fin 1024) :
    (sampleOf t).val * 4096 + (posOf t p).val = t.val / 12 * 1024 + p.val := by
  show t.val / 48 * 4096 + (t.val / 12 * 1024 + p.val) % 4096 = _
  have hp := p.isLt
  omega

/-- A row of the modulated normalization of the arguments. -/
abbrev rowOf (c : Dev nD) (b : Fin 8) (r : Fin 4096) (k : Fin 2048) : EReal :=
  row (m ((c : Thread nD τ).loc main_arg0)) (m ((c : Thread nD τ).loc main_arg1)) (m ((c : Thread nD τ).loc main_arg2))
    (m ((c : Thread nD τ).loc main_arg3)) b r k

/-- A row of the projection of the arguments. -/
abbrev projOf (c : Dev nD) (b : Fin 8) (r : Fin 4096) (n : Fin 6144) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) b r n

/-- The rows that a tile's first point keeps. -/
theorem stored (c : Dev nD) (t : Fin cfg0.N) (p : Fin 1024) (k : Fin 2048) :
    k0_pay1 (iblk m c 0 t) (iblk m c 1 t) (iblk m c 2 t) (iblk m c 3 t) (ix2 p k) = rowOf m c (sampleOf t) (posOf t p) k := by
  rw [pay1_apply]
  unfold rowOf row
  rw [show (fun j => iblk m c 0 t (ix2 p j)) = _ from funext fun j => blk0 m c t (ix2 p j) (ix3 (sampleOf t) (posOf t p) j) (place t p) rfl,
    show (fun j => iblk m c 1 t (ix2 0 j)) = _ from funext fun j => blk1 m c t j,
    show (fun j => iblk m c 3 t (ix3 0 0 j)) = _ from funext fun j => blk3 m c t (sampleOf t) j rfl,
    show (fun j => iblk m c 2 t (ix3 0 0 j)) = _ from funext fun j => blk2 m c t (sampleOf t) j rfl]

/-- Every later point of a tile finds the rows as they were. -/
theorem hold (c : Dev nD) (t : Fin cfg0.N) (h0 : ¬t.val % 12 = 0) :
    (outsAt0 m c t.val t.isLt).2 = (outsAt0 m c (t.val - 1) (Nat.lt_of_le_of_lt (Nat.sub_le _ _) t.isLt)).2 := by
  by_cases h1 : t.val % 12 ≤ 7
  · rw [outsAt0_B m c t h0 h1 (by omega)]; rfl
  · rw [outsAt0_C m c t h0 h1 (by omega)]; rfl

/-- The kept rows after a tile's first point. -/
theorem first (c : Dev nD) (t : Fin cfg0.N) (h : t.val % 12 = 0) (p : Fin 1024) (k : Fin 2048) :
    (outsAt0 m c t.val t.isLt).2 (ix2 p k) = rowOf m c (sampleOf t) (posOf t p) k := by
  rw [outsAt0_A m c t h (by omega) (by omega)]
  frame_out
  exact stored m c t p k

/-- The kept rows after any point of a tile. -/
theorem kept (c : Dev nD) (t : Fin cfg0.N) (p : Fin 1024) (k : Fin 2048) :
    (outsAt0 m c t.val t.isLt).2 (ix2 p k) = rowOf m c (sampleOf t) (posOf t p) k := by
  rw [Pipeline.eq_of_write_hold (fun n h => (outsAt0 m c n h).2) 12 (fun t => (outsAt0 m c t.val t.isLt).2)
    (fun _ _ => rfl) (fun t h => hold m c t h) t]
  refine (first m c ⟨12 * (t.val / 12), _⟩ (Nat.mul_mod_right 12 _) p k).trans ?_
  refine congrArg₂ (fun b r => rowOf m c b r k) (Fin.ext (show 12 * (t.val / 12) / 48 = t.val / 48 by omega)) (Fin.ext ?_)
  show (12 * (t.val / 12) / 12 * 1024 + p.val) % 4096 = (t.val / 12 * 1024 + p.val) % 4096
  rw [show 12 * (t.val / 12) / 12 = t.val / 12 by omega]

/-- The gain of a point's column, as staged. -/
abbrev gainAt (c : Dev nD) (t : Fin cfg0.N) (n : Fin 512) : EReal := iblk m c 5 t (ix2 0 n)

/-- A head's projected row times the staged gain, normalized and not yet rotated. -/
abbrev headAt (c : Dev nD) (t : Fin cfg0.N) (p : Fin 1024) (d : Fin 4) (k : Fin 128) : EReal :=
  rms (fun j => projOf m c (sampleOf t) (posOf t p) ⟨t.val % 12 * 512 + (d.val * 128 + j.val), by omega⟩) k
    * gainAt m c t ⟨d.val * 128 + k.val, by omega⟩

/-- The cosines of a position. -/
abbrev cosOf (r : Fin 4096) (q : Fin 64) : EReal := val_main_v28 (F := Ideal) (ix2 r q)

/-- The sines of a position. -/
abbrev sinOf (r : Fin 4096) (q : Fin 64) : EReal := val_main_v29 (F := Ideal) (ix2 r q)

/-- A point's columns of the projection. -/
theorem projected (c : Dev nD) (t : Fin cfg0.N) (H : S1024x2048.Idx → EReal) (p : Fin 1024) (n : Fin 512)
    (hH : ∀ k, H (ix2 p k) = rowOf m c (sampleOf t) (posOf t p) k) :
    k0_pay2 H (iblk m c 4 t) (ix2 p n) = projOf m c (sampleOf t) (posOf t p) ⟨t.val % 12 * 512 + n.val, by omega⟩ := by
  rw [pay2_apply]
  unfold projOf proj
  refine Finset.sum_congr rfl fun k _ => ?_
  rw [hH k]
  exact Ideal.mul_congr rfl (blk4 m c t _ _ rfl rfl)

/-- A rotated head of a point. -/
theorem rotated (c : Dev nD) (t : Fin cfg0.N) (z : S1024x128.Idx → EReal) (p : Fin 1024) (d : Fin 4) (k : Fin 128)
    (hz : ∀ k, z (ix2 p k) = headAt m c t p d k) :
    k0_pay3 z (k0_pay13 (iblk m c 6 t)) (k0_pay14 (iblk m c 7 t)) k0_pay15 96#32 (ix2 p k)
      = turn (cosOf (posOf t p)) (sinOf (posOf t p)) (headAt m c t p d) k := by
  have hr : (posOf t p).val = t.val / 12 % 4 * 1024 + p.val := by
    show (t.val / 12 * 1024 + p.val) % 4096 = _
    have := p.isLt
    omega
  rw [pay3_apply, hz, hz, pay13_apply, pay14_apply, blk6 m c t p k _ hr, blk7 m c t p k _ hr]
  exact turn_signed (cosOf (posOf t p)) (sinOf (posOf t p)) (headAt m c t p d) k

/-- The four rotated heads that a point of the queries or keys stores. -/
theorem heads (c : Dev nD) (t : Fin cfg0.N) (H : S1024x2048.Idx → EReal) (p : Fin 1024) (d : Fin 4) (k : Fin 128)
    (hH : ∀ k, H (ix2 p k) = rowOf m c (sampleOf t) (posOf t p) k) :
    View.canon (Val := Elt Ideal) (s := S1024x512) (e := .bf16)
      [⟨Rect.unit ![0, 384] ![1024, 128] inb_S1024x512_S1024x128_0_384,
          k0_pay3
            (k0_pay12 (k0_pay2 H (iblk m c 4 t))
              (View.ld (iblk m c 5 t) (Rect.unit ![0, 384] ![1, 128] inb_S1x512_S1x128_0_384)))
            (k0_pay13 (iblk m c 6 t)) (k0_pay14 (iblk m c 7 t)) k0_pay15 96#32⟩,
        ⟨Rect.unit ![0, 256] ![1024, 128] inb_S1024x512_S1024x128_0_256,
          k0_pay11
            (k0_pay9 (k0_pay2 H (iblk m c 4 t))
              (View.ld (iblk m c 5 t) (Rect.unit ![0, 256] ![1, 128] inb_S1x512_S1x128_0_256)))
            (k0_pay10 (iblk m c 6 t)) (iblk m c 7 t)⟩,
        ⟨Rect.unit ![0, 128] ![1024, 128] inb_S1024x512_S1024x128_0_128,
          k0_pay8 (k0_pay6 (k0_pay2 H (iblk m c 4 t))) (k0_pay7 (k0_pay2 H (iblk m c 4 t)))
            (View.ld (iblk m c 5 t) (Rect.unit ![0, 128] ![1, 128] inb_S1x512_S1x128_0_128)) (iblk m c 6 t)
            (iblk m c 7 t)⟩,
        ⟨Rect.unit ![0, 0] ![1024, 128] inb_S1024x512_S1024x128_0_0,
          k0_pay5 (k0_pay2 H (iblk m c 4 t))
            (View.ld (iblk m c 5 t) (Rect.unit ![0, 0] ![1, 128] inb_S1x512_S1x128_0_0)) (iblk m c 6 t) (iblk m c 7 t)⟩]
      (ix2 p ⟨d.val * 128 + k.val, by omega⟩)
      = turn (cosOf (posOf t p)) (sinOf (posOf t p)) (headAt m c t p d) k := by
  refine canon_cols _ _ _ _ p d k _ (fun hd => ?_) (fun hd => ?_) (fun hd => ?_) (fun hd => ?_)
  · obtain rfl : d = 0 := Fin.ext hd
    obtain ⟨z, hz, h⟩ := pay5_row (k0_pay2 H (iblk m c 4 t))
      (View.ld (iblk m c 5 t) (Rect.unit ![0, 0] ![1, 128] inb_S1x512_S1x128_0_0)) (iblk m c 6 t) (iblk m c 7 t)
    rw [hz]
    refine rotated m c t z p 0 k fun q => (h p q).trans (Ideal.mul_congr ?_ (stretch0 _ q))
    refine congrArg (fun f => rms f q) (funext fun j => (projected m c t H p _ hH).trans ?_)
    exact congrArg _ (Fin.ext (show t.val % 12 * 512 + j.val = t.val % 12 * 512 + (0 * 128 + j.val) by omega))
  · obtain rfl : d = 1 := Fin.ext hd
    obtain ⟨z, hz, h⟩ := pay8_row (k0_pay2 H (iblk m c 4 t))
      (View.ld (iblk m c 5 t) (Rect.unit ![0, 128] ![1, 128] inb_S1x512_S1x128_0_128)) (iblk m c 6 t) (iblk m c 7 t)
    rw [hz]
    refine rotated m c t z p 1 k fun q => (h p q).trans (Ideal.mul_congr ?_ (stretch1 _ q))
    exact congrArg (fun f => rms f q) (funext fun j => projected m c t H p _ hH)
  · obtain rfl : d = 2 := Fin.ext hd
    refine rotated m c t _ p 2 k fun q => (pay9_apply _ _ p q).trans (Ideal.mul_congr ?_ (stretch2 _ q))
    exact congrArg (fun f => rms f q) (funext fun j => projected m c t H p _ hH)
  · obtain rfl : d = 3 := Fin.ext hd
    refine rotated m c t _ p 3 k fun q => (pay12_apply _ _ p q).trans (Ideal.mul_congr ?_ (stretch3 _ q))
    exact congrArg (fun f => rms f q) (funext fun j => projected m c t H p _ hH)

/-- What a point of the queries or keys writes. -/
theorem out_heads (c : Dev nD) (t : Fin cfg0.N) (ht : t.val % 12 ≤ 7) (p : Fin 1024) (d : Fin 4) (k : Fin 128) :
    (outsAt0 m c t.val t.isLt).1 (ix2 p ⟨d.val * 128 + k.val, by omega⟩)
      = turn (cosOf (posOf t p)) (sinOf (posOf t p)) (headAt m c t p d) k := by
  by_cases h : t.val % 12 = 0
  · rw [outsAt0_A m c t h (by omega) (by omega)]
    frame_out
    exact heads m c t _ p d k (stored m c t p)
  · have hk := fun k => (congrFun (hold m c t h) (ix2 p k)).symm.trans (kept m c t p k)
    rw [outsAt0_B m c t h ht (by omega)]
    revert hk
    generalize (outsAt0 m c (t.val - 1) (Nat.lt_of_le_of_lt (Nat.sub_le _ _) t.isLt)).2 = H
    intro hk
    frame_out
    rw [read_unread_whole]
    exact heads m c t H p d k hk

/-- What a point of the values writes. -/
theorem out_values (c : Dev nD) (t : Fin cfg0.N) (ht : 8 ≤ t.val % 12) (p : Fin 1024) (n : Fin 512) :
    (outsAt0 m c t.val t.isLt).1 (ix2 p n)
      = projOf m c (sampleOf t) (posOf t p) ⟨t.val % 12 * 512 + n.val, by omega⟩ := by
  have hk := fun k => (congrFun (hold m c t (by omega)) (ix2 p k)).symm.trans (kept m c t p k)
  rw [outsAt0_C m c t (by omega) (by omega) ht]
  revert hk
  generalize (outsAt0 m c (t.val - 1) (Nat.lt_of_le_of_lt (Nat.sub_le _ _) t.isLt)).2 = H
  intro hk
  frame_out
  rw [read_unread_whole]
  exact projected m c t H p n hk

/-- A head of the queries carries the scale in its gain. -/
theorem headAt_q (c : Dev nD) (t : Fin cfg0.N) (ht : t.val % 12 < 4) (p : Fin 1024) (d : Fin 4) (h : Fin 16)
    (hh : h.val = t.val % 12 * 4 + d.val) (k : Fin 128) :
    headAt m c t p d k = headQ (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (sampleOf t) (posOf t p) h k * scale := by
  have hk := k.isLt
  have hd := d.isLt
  unfold headAt headQ
  refine (Ideal.mul_congr (congrArg (fun f => rms f k) (funext fun j => congrArg _ (Fin.ext ?_)))
    (blk5_q m c t _ k ?_ ?_)).trans (mul_assoc _ _ _).symm
  · show t.val % 12 * 512 + (d.val * 128 + j.val) = h.val * 128 + j.val
    omega
  · show t.val % 12 * 512 + (d.val * 128 + k.val) < 2048
    omega
  · show (d.val * 128 + k.val) % 128 = k.val
    omega

/-- A head of the keys. -/
theorem headAt_k (c : Dev nD) (t : Fin cfg0.N) (ht : 4 ≤ t.val % 12) (ht' : t.val % 12 ≤ 7) (p : Fin 1024) (d : Fin 4) (h : Fin 16)
    (hh : h.val + 16 = t.val % 12 * 4 + d.val) (k : Fin 128) :
    headAt m c t p d k = headK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (sampleOf t) (posOf t p) h k := by
  have hk := k.isLt
  have hd := d.isLt
  unfold headAt headK
  refine Ideal.mul_congr (congrArg (fun f => rms f k) (funext fun j => congrArg _ (Fin.ext ?_)))
    (blk5_k m c t _ k ?_ ?_ ?_)
  · show t.val % 12 * 512 + (d.val * 128 + j.val) = 2048 + (h.val * 128 + j.val)
    omega
  · show 2048 ≤ t.val % 12 * 512 + (d.val * 128 + k.val)
    omega
  · show t.val % 12 * 512 + (d.val * 128 + k.val) < 4096
    omega
  · show (d.val * 128 + k.val) % 128 = k.val
    omega

/-- A column is a lane of one of the four heads. -/
theorem heads_of (n : Fin 512) : ∃ (d : Fin 4) (k : Fin 128), n = ⟨d.val * 128 + k.val, by omega⟩ :=
  ⟨⟨n.val / 128, by omega⟩, ⟨n.val % 128, by omega⟩, Fin.ext (show n.val = n.val / 128 * 128 + n.val % 128 by omega)⟩

/-- What a point writes is the reference's, at the point's rows and columns. -/
theorem written (c : Dev nD) (t : Fin cfg0.N) (p : Fin 1024) (n : Fin 512) (i : S32768x6144.Idx)
    (h0 : (i 0).val = t.val / 12 * 1024 + p.val) (h1 : (i 1).val = t.val % 12 * 512 + n.val) :
    (outsAt0 m c t.val t.isLt).1 (ix2 p n)
      = val_main_v163 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) i := by
  have hn := n.isLt
  have hr := h0.trans (place t p).symm
  by_cases ht : t.val % 12 ≤ 7
  · obtain ⟨d, k, rfl⟩ := heads_of n
    have hd := d.isLt
    have hk := k.isLt
    replace h1 : (i 1).val = t.val % 12 * 512 + (d.val * 128 + k.val) := h1
    rw [out_heads m c t ht p d k]
    by_cases hq : t.val % 12 < 4
    · rw [out_q _ _ _ _ _ _ _ i (sampleOf t) (posOf t p) ⟨t.val % 12 * 4 + d.val, by omega⟩ k hr (by rw [h1]; dsimp only; omega),
        ← turn_mul _ _ _ scale scale_nonneg scale_ne_top k]
      exact congrArg (fun f => turn _ _ f k) (funext fun q => headAt_q m c t hq p d _ rfl q)
    · rw [out_k _ _ _ _ _ _ _ i (sampleOf t) (posOf t p) ⟨t.val % 12 * 4 + d.val - 16, by omega⟩ k hr (by rw [h1]; dsimp only; omega)]
      exact congrArg (fun f => turn _ _ f k) (funext fun q => headAt_k m c t (by omega) ht p d _ (by dsimp only; omega) q)
  · rw [out_values m c t (by omega) p n,
      out_v _ _ _ _ _ _ _ i (sampleOf t) (posOf t p) ⟨t.val % 12 * 512 + n.val - 4096, by omega⟩ hr (by rw [h1]; dsimp only; omega)]
    exact congrArg _ (Fin.ext (show t.val % 12 * 512 + n.val = 4096 + (t.val % 12 * 512 + n.val - 4096) by omega))

/-- The array that the kernel writes is the reference's. -/
theorem final (c : Dev nD) : (dats m 0 c).arrAt 8 (cfgs 0).N
    = val_main_v163 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  obtain ⟨p, j, rfl⟩ : ∃ (p : Fin 1024) (j : Fin 512), y = ix2 p j := ⟨y 0, y 1, eq_ix2 y⟩
  have e0 : ((((cfg0.win 8).blk t).view.emb (ix2 p j)) 0).val = t.val / 12 * 1024 + p.val := by blk_simp [idx t]
  have e1 : ((((cfg0.win 8).blk t).view.emb (ix2 p j)) 1).val = t.val % 12 * 512 + j.val := by blk_simp [idx t]
  have e := written m c t p j _ e0 e1
  blk_simp
  rw [after0_8]
  exact e

end Cert.ProjBIdeal.RefValue

end
-- ==== Proof.ProjA.Kernel.lean ====
/- The windowed attention's projection: its kernel stores the values that the differential attention's projection stores. -/
module

public import proofs.«01_k».proof.Proof.Gen.ProjAIdeal.Frame
public import proofs.«01_k».proof.Proof.Ffn.Rows
public import proofs.«01_k».proof.Proof.ProjB.Kernel
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.ProjAIdeal.RefValue

open Cert.ProjAIdeal Cert.ProjAIdeal.Gen Cert.FfnRows Cert.ProjRows

/-- A row, normalized and modulated. -/
theorem pay1_apply (x : Vec Ideal S1024x2048 .f32) (g : Vec Ideal S1x2048 .f32) (sh sc : Vec Ideal S1x1x2048 .f32) (p : Fin 1024) (k : Fin 2048) :
    k0_pay1 x g sh sc (ix2 p k)
      = adaln (fun j => x (ix2 p j)) (fun j => g (ix2 0 j)) (fun j => sc (ix3 0 0 j)) (fun j => sh (ix3 0 0 j)) k :=
  Cert.ProjBIdeal.RefValue.pay1_apply x g sh sc p k

/-- The projection of the normalized rows. -/
theorem pay2_apply (h : Vec Ideal S1024x2048 .bf16) (w : Vec Ideal S2048x512 .bf16) (p : Fin 1024) (n : Fin 512) :
    k0_pay2 h w (ix2 p n) = ∑ k : Fin 2048, h (ix2 p k) * w (ix2 k n) :=
  Cert.ProjBIdeal.RefValue.pay2_apply h w p n

/-- A row with its pairs of lanes rotated, from the tables of cosines and of signed sines. -/
theorem pay3_apply (y c s : FVec Ideal S1024x128 .f32) (p : Fin 1024) (k : Fin 128) :
    k0_pay3 y c s k0_pay15 96#32 (ix2 p k) = y (ix2 p k) * c (ix2 p k) + y (ix2 p (other k)) * s (ix2 p k) :=
  Cert.ProjBIdeal.RefValue.pay3_apply y c s p k

/-- The normalized row of a tile's last head. -/
theorem pay12_apply (y : FVec Ideal S1024x512 .f32) (g : Vec Ideal S1x128 .f32) (p : Fin 1024) (k : Fin 128) :
    k0_pay12 y g (ix2 p k) = rms (fun j => y (ix2 p ⟨384 + j.val, by have := j.isLt; omega⟩)) k * g (ix2 0 k) :=
  Cert.ProjBIdeal.RefValue.pay12_apply y g p k

/-- The normalized row of a tile's third head. -/
theorem pay9_apply (y : FVec Ideal S1024x512 .f32) (g : Vec Ideal S1x128 .f32) (p : Fin 1024) (k : Fin 128) :
    k0_pay9 y g (ix2 p k) = rms (fun j => y (ix2 p ⟨256 + j.val, by have := j.isLt; omega⟩)) k * g (ix2 0 k) :=
  Cert.ProjBIdeal.RefValue.pay9_apply y g p k

/-- A tile's second head: a normalized row with its pairs of lanes rotated. -/
theorem pay8_row (y : FVec Ideal S1024x512 .f32) (g : Vec Ideal S1x128 .f32) (c s : Vec Ideal S1024x128 .f32) :
    ∃ z : FVec Ideal S1024x128 .f32, k0_pay8 (k0_pay6 y) (k0_pay7 y) g c s = k0_pay3 z (k0_pay13 c) (k0_pay14 s) k0_pay15 96#32
      ∧ ∀ (p : Fin 1024) (k : Fin 128), z (ix2 p k) = rms (fun j => y (ix2 p ⟨128 + j.val, by have := j.isLt; omega⟩)) k * g (ix2 0 k) :=
  Cert.ProjBIdeal.RefValue.pay8_row y g c s

/-- A tile's first head: a normalized row with its pairs of lanes rotated. -/
theorem pay5_row (y : FVec Ideal S1024x512 .f32) (g : Vec Ideal S1x128 .f32) (c s : Vec Ideal S1024x128 .f32) :
    ∃ z : FVec Ideal S1024x128 .f32, k0_pay5 y g c s = k0_pay3 z (k0_pay13 c) (k0_pay14 s) k0_pay15 96#32
      ∧ ∀ (p : Fin 1024) (k : Fin 128), z (ix2 p k) = rms (fun j => y (ix2 p ⟨j.val, by have := j.isLt; omega⟩)) k * g (ix2 0 k) :=
  Cert.ProjBIdeal.RefValue.pay5_row y g c s

/-- The tables of a tile, as they are read. -/
theorem pay13_apply (c : Vec Ideal S1024x128 .f32) (p : Fin 1024) (k : Fin 128) : k0_pay13 c (ix2 p k) = c (ix2 p k) :=
  Cert.ProjBIdeal.RefValue.pay13_apply c p k

theorem pay14_apply (c : Vec Ideal S1024x128 .f32) (p : Fin 1024) (k : Fin 128) : k0_pay14 c (ix2 p k) = c (ix2 p k) :=
  Cert.ProjBIdeal.RefValue.pay14_apply c p k

end Cert.ProjAIdeal.RefValue
-- ==== Proof.ProjA.Ref.lean ====
/- The windowed attention's projection: its reference, element by element. -/
module

public import proofs.«01_k».proof.Proof.Gen.ProjARefIdeal.Read
public import proofs.«01_k».proof.Proof.Ffn.Rows
public import proofs.«01_k».proof.Proof.ProjB.Rows
public import proofs.«01_k».proof.Proof.ProjB.Ref
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.ProjARefIdeal.Rows

open Cert.ProjARefIdeal Cert.ProjARefIdeal.Gen Cert.ProjARefIdeal.Read Cert.FfnRows Cert.ProjRows
open Cert.ProjBRefIdeal.Rows (quarter0 quarter1 quarter2 quarter3)

/-- The cosine of one of a position's first 32 angles, those of its row. -/
theorem v28_row (r : Fin 4096) (q : Fin 32) :
    val_main_v28 (F := Ideal) (ix2 r ⟨q.val, by omega⟩) = Ideal.cos (val_main_v21 (F := Ideal) (ix2 r q)) :=
  Cert.ProjBRefIdeal.Rows.v28_row r q

/-- The cosine of one of a position's last 32 angles, those of its column. -/
theorem v28_col (r : Fin 4096) (q : Fin 32) :
    val_main_v28 (F := Ideal) (ix2 r ⟨32 + q.val, by omega⟩) = Ideal.cos (val_main_v26 (F := Ideal) (ix2 r q)) :=
  Cert.ProjBRefIdeal.Rows.v28_col r q

/-- The sine of one of a position's first 32 angles, those of its row. -/
theorem v29_row (r : Fin 4096) (q : Fin 32) :
    val_main_v29 (F := Ideal) (ix2 r ⟨q.val, by omega⟩) = Ideal.sin (val_main_v21 (F := Ideal) (ix2 r q)) :=
  Cert.ProjBRefIdeal.Rows.v29_row r q

/-- The sine of one of a position's last 32 angles, those of its column. -/
theorem v29_col (r : Fin 4096) (q : Fin 32) :
    val_main_v29 (F := Ideal) (ix2 r ⟨32 + q.val, by omega⟩) = Ideal.sin (val_main_v26 (F := Ideal) (ix2 r q)) :=
  Cert.ProjBRefIdeal.Rows.v29_col r q

/-- A lane of the first quarter of four quarters joined, of the keys' four heads. -/
theorem quarterK0 (y0 y1 y2 y3 : S8x4096x4x32.Idx → EReal) (b : Fin 8) (r : Fin 4096) (h : Fin 4) (q : Fin 32) :
    concatenate S8x4096x4x128 3 [⟨S8x4096x4x64, concatenate S8x4096x4x64 3 [⟨S8x4096x4x32, y0⟩, ⟨S8x4096x4x32, y1⟩] concatenates_S8x4096x4x32_S8x4096x4x32_S8x4096x4x64_d3⟩, ⟨S8x4096x4x64, concatenate S8x4096x4x64 3 [⟨S8x4096x4x32, y2⟩, ⟨S8x4096x4x32, y3⟩] concatenates_S8x4096x4x32_S8x4096x4x32_S8x4096x4x64_d3⟩]
      concatenates_S8x4096x4x64_S8x4096x4x64_S8x4096x4x128_d3 (ix4 b r h ⟨q.val, by omega⟩)
      = y0 (ix4 b r h q) := by
  refine (concatenate_pair_apply_left (t := S8x4096x4x128) (s₁ := S8x4096x4x64) (s₂ := S8x4096x4x64) 3 (concatenate S8x4096x4x64 3 [⟨S8x4096x4x32, y0⟩, ⟨S8x4096x4x32, y1⟩] concatenates_S8x4096x4x32_S8x4096x4x32_S8x4096x4x64_d3) (concatenate S8x4096x4x64 3 [⟨S8x4096x4x32, y2⟩, ⟨S8x4096x4x32, y3⟩] concatenates_S8x4096x4x32_S8x4096x4x32_S8x4096x4x64_d3) concatenates_S8x4096x4x64_S8x4096x4x64_S8x4096x4x128_d3 (ix4 b r h ⟨q.val, by omega⟩) rfl (ix4 b r h ⟨q.val, by omega⟩) (fun a => match a with
    | ⟨0, _⟩ => rfl | ⟨1, _⟩ => rfl | ⟨2, _⟩ => rfl | ⟨3, _⟩ => rfl)).trans ?_
  exact concatenate_pair_apply_left (t := S8x4096x4x64) (s₁ := S8x4096x4x32) (s₂ := S8x4096x4x32) 3 y0 y1 concatenates_S8x4096x4x32_S8x4096x4x32_S8x4096x4x64_d3 (ix4 b r h ⟨q.val, by omega⟩) rfl (ix4 b r h q) (fun a => match a with
    | ⟨0, _⟩ => rfl | ⟨1, _⟩ => rfl | ⟨2, _⟩ => rfl | ⟨3, _⟩ => rfl)

/-- A lane of the second quarter of four quarters joined, of the keys' four heads. -/
theorem quarterK1 (y0 y1 y2 y3 : S8x4096x4x32.Idx → EReal) (b : Fin 8) (r : Fin 4096) (h : Fin 4) (q : Fin 32) :
    concatenate S8x4096x4x128 3 [⟨S8x4096x4x64, concatenate S8x4096x4x64 3 [⟨S8x4096x4x32, y0⟩, ⟨S8x4096x4x32, y1⟩] concatenates_S8x4096x4x32_S8x4096x4x32_S8x4096x4x64_d3⟩, ⟨S8x4096x4x64, concatenate S8x4096x4x64 3 [⟨S8x4096x4x32, y2⟩, ⟨S8x4096x4x32, y3⟩] concatenates_S8x4096x4x32_S8x4096x4x32_S8x4096x4x64_d3⟩]
      concatenates_S8x4096x4x64_S8x4096x4x64_S8x4096x4x128_d3 (ix4 b r h ⟨32 + q.val, by omega⟩)
      = y1 (ix4 b r h q) := by
  refine (concatenate_pair_apply_left (t := S8x4096x4x128) (s₁ := S8x4096x4x64) (s₂ := S8x4096x4x64) 3 (concatenate S8x4096x4x64 3 [⟨S8x4096x4x32, y0⟩, ⟨S8x4096x4x32, y1⟩] concatenates_S8x4096x4x32_S8x4096x4x32_S8x4096x4x64_d3) (concatenate S8x4096x4x64 3 [⟨S8x4096x4x32, y2⟩, ⟨S8x4096x4x32, y3⟩] concatenates_S8x4096x4x32_S8x4096x4x32_S8x4096x4x64_d3) concatenates_S8x4096x4x64_S8x4096x4x64_S8x4096x4x128_d3 (ix4 b r h ⟨32 + q.val, by omega⟩) rfl (ix4 b r h ⟨32 + q.val, by omega⟩) (fun a => match a with
    | ⟨0, _⟩ => rfl | ⟨1, _⟩ => rfl | ⟨2, _⟩ => rfl | ⟨3, _⟩ => rfl)).trans ?_
  exact concatenate_pair_apply_right (t := S8x4096x4x64) (s₁ := S8x4096x4x32) (s₂ := S8x4096x4x32) 3 y0 y1 concatenates_S8x4096x4x32_S8x4096x4x32_S8x4096x4x64_d3 (ix4 b r h ⟨32 + q.val, by omega⟩) rfl rfl (ix4 b r h q) (fun a => match a with
    | ⟨0, _⟩ => fun _ => rfl | ⟨1, _⟩ => fun _ => rfl | ⟨2, _⟩ => fun _ => rfl | ⟨3, _⟩ => fun hn => absurd rfl hn) (show q.val + 32 = 32 + q.val by omega)

/-- A lane of the third quarter of four quarters joined, of the keys' four heads. -/
theorem quarterK2 (y0 y1 y2 y3 : S8x4096x4x32.Idx → EReal) (b : Fin 8) (r : Fin 4096) (h : Fin 4) (q : Fin 32) :
    concatenate S8x4096x4x128 3 [⟨S8x4096x4x64, concatenate S8x4096x4x64 3 [⟨S8x4096x4x32, y0⟩, ⟨S8x4096x4x32, y1⟩] concatenates_S8x4096x4x32_S8x4096x4x32_S8x4096x4x64_d3⟩, ⟨S8x4096x4x64, concatenate S8x4096x4x64 3 [⟨S8x4096x4x32, y2⟩, ⟨S8x4096x4x32, y3⟩] concatenates_S8x4096x4x32_S8x4096x4x32_S8x4096x4x64_d3⟩]
      concatenates_S8x4096x4x64_S8x4096x4x64_S8x4096x4x128_d3 (ix4 b r h ⟨64 + q.val, by omega⟩)
      = y2 (ix4 b r h q) := by
  refine (concatenate_pair_apply_right (t := S8x4096x4x128) (s₁ := S8x4096x4x64) (s₂ := S8x4096x4x64) 3 (concatenate S8x4096x4x64 3 [⟨S8x4096x4x32, y0⟩, ⟨S8x4096x4x32, y1⟩] concatenates_S8x4096x4x32_S8x4096x4x32_S8x4096x4x64_d3) (concatenate S8x4096x4x64 3 [⟨S8x4096x4x32, y2⟩, ⟨S8x4096x4x32, y3⟩] concatenates_S8x4096x4x32_S8x4096x4x32_S8x4096x4x64_d3) concatenates_S8x4096x4x64_S8x4096x4x64_S8x4096x4x128_d3 (ix4 b r h ⟨64 + q.val, by omega⟩) rfl rfl (ix4 b r h ⟨q.val, by omega⟩) (fun a => match a with
    | ⟨0, _⟩ => fun _ => rfl | ⟨1, _⟩ => fun _ => rfl | ⟨2, _⟩ => fun _ => rfl | ⟨3, _⟩ => fun hn => absurd rfl hn) (show q.val + 64 = 64 + q.val by omega)).trans ?_
  exact concatenate_pair_apply_left (t := S8x4096x4x64) (s₁ := S8x4096x4x32) (s₂ := S8x4096x4x32) 3 y2 y3 concatenates_S8x4096x4x32_S8x4096x4x32_S8x4096x4x64_d3 (ix4 b r h ⟨q.val, by omega⟩) rfl (ix4 b r h q) (fun a => match a with
    | ⟨0, _⟩ => rfl | ⟨1, _⟩ => rfl | ⟨2, _⟩ => rfl | ⟨3, _⟩ => rfl)

/-- A lane of the last quarter of four quarters joined, of the keys' four heads. -/
theorem quarterK3 (y0 y1 y2 y3 : S8x4096x4x32.Idx → EReal) (b : Fin 8) (r : Fin 4096) (h : Fin 4) (q : Fin 32) :
    concatenate S8x4096x4x128 3 [⟨S8x4096x4x64, concatenate S8x4096x4x64 3 [⟨S8x4096x4x32, y0⟩, ⟨S8x4096x4x32, y1⟩] concatenates_S8x4096x4x32_S8x4096x4x32_S8x4096x4x64_d3⟩, ⟨S8x4096x4x64, concatenate S8x4096x4x64 3 [⟨S8x4096x4x32, y2⟩, ⟨S8x4096x4x32, y3⟩] concatenates_S8x4096x4x32_S8x4096x4x32_S8x4096x4x64_d3⟩]
      concatenates_S8x4096x4x64_S8x4096x4x64_S8x4096x4x128_d3 (ix4 b r h ⟨96 + q.val, by omega⟩)
      = y3 (ix4 b r h q) := by
  refine (concatenate_pair_apply_right (t := S8x4096x4x128) (s₁ := S8x4096x4x64) (s₂ := S8x4096x4x64) 3 (concatenate S8x4096x4x64 3 [⟨S8x4096x4x32, y0⟩, ⟨S8x4096x4x32, y1⟩] concatenates_S8x4096x4x32_S8x4096x4x32_S8x4096x4x64_d3) (concatenate S8x4096x4x64 3 [⟨S8x4096x4x32, y2⟩, ⟨S8x4096x4x32, y3⟩] concatenates_S8x4096x4x32_S8x4096x4x32_S8x4096x4x64_d3) concatenates_S8x4096x4x64_S8x4096x4x64_S8x4096x4x128_d3 (ix4 b r h ⟨96 + q.val, by omega⟩) rfl rfl (ix4 b r h ⟨32 + q.val, by omega⟩) (fun a => match a with
    | ⟨0, _⟩ => fun _ => rfl | ⟨1, _⟩ => fun _ => rfl | ⟨2, _⟩ => fun _ => rfl | ⟨3, _⟩ => fun hn => absurd rfl hn) (show 32 + q.val + 64 = 96 + q.val by omega)).trans ?_
  exact concatenate_pair_apply_right (t := S8x4096x4x64) (s₁ := S8x4096x4x32) (s₂ := S8x4096x4x32) 3 y2 y3 concatenates_S8x4096x4x32_S8x4096x4x32_S8x4096x4x64_d3 (ix4 b r h ⟨32 + q.val, by omega⟩) rfl rfl (ix4 b r h q) (fun a => match a with
    | ⟨0, _⟩ => fun _ => rfl | ⟨1, _⟩ => fun _ => rfl | ⟨2, _⟩ => fun _ => rfl | ⟨3, _⟩ => fun hn => absurd rfl hn) (show q.val + 32 = 32 + q.val by omega)

variable (x0 : (⟨S8x4096x2048, .f32⟩ : BufTy).Contents (Elt Ideal)) (x1 : (⟨S2048, .f32⟩ : BufTy).Contents (Elt Ideal))
  (x2 x3 : (⟨S8x2048, .f32⟩ : BufTy).Contents (Elt Ideal)) (x4 : (⟨S2048x3072, .f32⟩ : BufTy).Contents (Elt Ideal))
  (x5 x6 : (⟨S128, .f32⟩ : BufTy).Contents (Elt Ideal))

/-- A row of the modulated normalization. -/
def row (b : Fin 8) (r : Fin 4096) : Fin 2048 → EReal :=
  adaln (fun j => x0 (ix3 b r j)) (fun j => x1 (ix1 j)) (fun j => x3 (ix2 b j)) (fun j => x2 (ix2 b j))

/-- The reference's normalized and modulated rows. -/
theorem v50_eq (b : Fin 8) (r : Fin 4096) (k : Fin 2048) :
    val_main_v50 (F := Ideal) x0 x1 x2 x3 (ix3 b r k) = row x0 x1 x2 x3 b r k := by
  unfold row adaln
  rw [val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply]
  refine Ideal.add_congr (Ideal.mul_congr (Ideal.mul_congr (Ideal.mul_congr rfl (congrArg Ideal.rsqrt (Ideal.add_congr
    (congrArg₂ Ideal.div ?_ rfl) rfl))) ?_) (Ideal.add_congr Ideal.ofBits_one_f32 ?_)) ?_
  · refine (Ideal.add_congr Ideal.ofBits_zero_f32 (Finset.sum_congr rfl fun j _ => ?_)).trans (zero_add _)
    refine Ideal.mul_congr (congrArg x0 (funext fun a => ?_)) (congrArg x0 (funext fun a => ?_)) <;>
      (match a with | ⟨0, _⟩ => rfl | ⟨1, _⟩ => rfl | ⟨2, _⟩ => rfl)
  · exact congrArg x1 (funext fun a => match a with | ⟨0, _⟩ => rfl)
  · exact congrArg x3 (funext fun a => match a with | ⟨0, _⟩ => rfl | ⟨1, _⟩ => rfl)
  · exact congrArg x2 (funext fun a => match a with | ⟨0, _⟩ => rfl | ⟨1, _⟩ => rfl)

/-- A row times the projection. -/
def proj (b : Fin 8) (r : Fin 4096) (n : Fin 3072) : EReal := ∑ k, row x0 x1 x2 x3 b r k * x4 (ix2 k n)

/-- The reference's projection. -/
theorem v51_eq (b : Fin 8) (r : Fin 4096) (n : Fin 3072) :
    val_main_v51 (F := Ideal) x0 x1 x2 x3 x4 (ix3 b r n) = proj x0 x1 x2 x3 x4 b r n := by
  rw [val_main_v51_apply]
  refine Finset.sum_congr rfl fun k _ => Ideal.mul_congr ?_ (congrArg x4 (funext fun a => match a with | ⟨0, _⟩ => rfl | ⟨1, _⟩ => rfl))
  rw [← v50_eq]
  exact congrArg _ (funext fun a => match a with | ⟨0, _⟩ => rfl | ⟨1, _⟩ => rfl | ⟨2, _⟩ => rfl)

/-- A query's lane, before its normalization. -/
theorem v55_eq (b : Fin 8) (r : Fin 4096) (h : Fin 16) (k : Fin 128) :
    val_main_v55 (F := Ideal) x0 x1 x2 x3 x4 (ix4 b r h k) = proj x0 x1 x2 x3 x4 b r ⟨h.val * 128 + k.val, by omega⟩ := by
  have hb := b.isLt
  have hr := r.isLt
  have hh := h.isLt
  have hk := k.isLt
  rw [val_main_v55_apply, val_main_v52_apply, ← v51_eq]
  refine congrArg _ (funext fun a => Fin.ext ?_)
  match a with
  | ⟨0, _⟩ => exact (show (((b.val * 4096 + r.val) * 16 + h.val) * 128 + k.val) / 8388608 = b.val by omega)
  | ⟨1, _⟩ => exact (show (((b.val * 4096 + r.val) * 16 + h.val) * 128 + k.val) / 2048 % 4096 = r.val by omega)
  | ⟨2, _⟩ => exact (show (((b.val * 4096 + r.val) * 16 + h.val) * 128 + k.val) % 2048 = h.val * 128 + k.val by omega)

/-- A query's normalized row. -/
def headQ (b : Fin 8) (r : Fin 4096) (h : Fin 16) (k : Fin 128) : EReal :=
  rms (fun j => proj x0 x1 x2 x3 x4 b r ⟨h.val * 128 + j.val, by omega⟩) k * x5 (ix1 k)

/-- The reference's normalized row of a query. -/
theorem v68_eq (b : Fin 8) (r : Fin 4096) (h : Fin 16) (k : Fin 128) :
    val_main_v68 (F := Ideal) x0 x1 x2 x3 x4 x5 (ix4 b r h k) = headQ x0 x1 x2 x3 x4 x5 b r h k := by
  unfold headQ rms
  rw [val_main_v68_apply, val_main_v67_apply, val_main_v66_apply, val_main_v65_apply, val_main_v64_apply, val_main_v63_apply, val_main_v62_apply, val_main_v61_apply, val_main_v60_apply, val_main_v59_apply, val_main_v58_apply, val_main_v57_apply]
  refine Ideal.mul_congr (Ideal.mul_congr (v55_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v57 (idx_main_v58 (idx_main_v64 (ix4 b r h k))) j = ix4 b r h j :=
      funext fun a => match a with | ⟨0, _⟩ => rfl | ⟨1, _⟩ => rfl | ⟨2, _⟩ => rfl | ⟨3, _⟩ => rfl
    rw [val_main_v56_apply, e]
    exact Ideal.mul_congr (v55_eq x0 x1 x2 x3 x4 b r h j) (v55_eq x0 x1 x2 x3 x4 b r h j)
  · exact congrArg x5 (funext fun a => match a with | ⟨0, _⟩ => rfl)

/-- The first row lanes of a rotated query. -/
theorem v80_eq (b : Fin 8) (r : Fin 4096) (h : Fin 16) (q : Fin 32) :
    val_main_v80 (F := Ideal) x0 x1 x2 x3 x4 x5 (ix4 b r h q)
      = headQ x0 x1 x2 x3 x4 x5 b r h ⟨q.val, by omega⟩ * val_main_v28 (F := Ideal) (ix2 r ⟨q.val, by omega⟩)
        - headQ x0 x1 x2 x3 x4 x5 b r h ⟨32 + q.val, by omega⟩ * val_main_v29 (F := Ideal) (ix2 r ⟨q.val, by omega⟩) := by
  rw [← v68_eq, ← v68_eq, val_main_v80_apply, val_main_v77_apply, val_main_v79_apply, val_main_v72_apply, val_main_v76_apply, val_main_v74_apply, val_main_v70_apply, val_main_v73_apply, val_main_v78_apply, val_main_v75_apply, val_main_v71_apply, val_main_v69_apply, val_main_v69_apply]
  refine congrArg₂ (· - ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The second row lanes of a rotated query. -/
theorem v85_eq (b : Fin 8) (r : Fin 4096) (h : Fin 16) (q : Fin 32) :
    val_main_v85 (F := Ideal) x0 x1 x2 x3 x4 x5 (ix4 b r h q)
      = headQ x0 x1 x2 x3 x4 x5 b r h ⟨32 + q.val, by omega⟩ * val_main_v28 (F := Ideal) (ix2 r ⟨q.val, by omega⟩)
        + headQ x0 x1 x2 x3 x4 x5 b r h ⟨q.val, by omega⟩ * val_main_v29 (F := Ideal) (ix2 r ⟨q.val, by omega⟩) := by
  rw [← v68_eq, ← v68_eq, val_main_v85_apply, val_main_v82_apply, val_main_v84_apply, val_main_v73_apply, val_main_v81_apply, val_main_v74_apply, val_main_v70_apply, val_main_v72_apply, val_main_v83_apply, val_main_v75_apply, val_main_v71_apply, val_main_v69_apply, val_main_v69_apply]
  refine congrArg₂ (· + ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The first column lanes of a rotated query. -/
theorem v98_eq (b : Fin 8) (r : Fin 4096) (h : Fin 16) (q : Fin 32) :
    val_main_v98 (F := Ideal) x0 x1 x2 x3 x4 x5 (ix4 b r h q)
      = headQ x0 x1 x2 x3 x4 x5 b r h ⟨64 + q.val, by omega⟩ * val_main_v28 (F := Ideal) (ix2 r ⟨32 + q.val, by omega⟩)
        - headQ x0 x1 x2 x3 x4 x5 b r h ⟨96 + q.val, by omega⟩ * val_main_v29 (F := Ideal) (ix2 r ⟨32 + q.val, by omega⟩) := by
  rw [← v68_eq, ← v68_eq, val_main_v98_apply, val_main_v95_apply, val_main_v97_apply, val_main_v90_apply, val_main_v94_apply, val_main_v92_apply, val_main_v88_apply, val_main_v91_apply, val_main_v96_apply, val_main_v93_apply, val_main_v89_apply, val_main_v87_apply, val_main_v87_apply]
  refine congrArg₂ (· - ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)

/-- The second column lanes of a rotated query. -/
theorem v103_eq (b : Fin 8) (r : Fin 4096) (h : Fin 16) (q : Fin 32) :
    val_main_v103 (F := Ideal) x0 x1 x2 x3 x4 x5 (ix4 b r h q)
      = headQ x0 x1 x2 x3 x4 x5 b r h ⟨96 + q.val, by omega⟩ * val_main_v28 (F := Ideal) (ix2 r ⟨32 + q.val, by omega⟩)
        + headQ x0 x1 x2 x3 x4 x5 b r h ⟨64 + q.val, by omega⟩ * val_main_v29 (F := Ideal) (ix2 r ⟨32 + q.val, by omega⟩) := by
  rw [← v68_eq, ← v68_eq, val_main_v103_apply, val_main_v100_apply, val_main_v102_apply, val_main_v91_apply, val_main_v99_apply, val_main_v92_apply, val_main_v88_apply, val_main_v90_apply, val_main_v101_apply, val_main_v93_apply, val_main_v89_apply, val_main_v87_apply, val_main_v87_apply]
  refine congrArg₂ (· + ·) (Ideal.mul_congr ?_ ?_) (Ideal.mul_congr ?_ ?_)
  · exact congrArg (val_main_v68 (F := Ideal) x0 x1 x2 x3 x4 x5) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)
  · exact congrArg (val_main_v68 (F := Ideal) x0 x1 x2 x3 x4 x5) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The reference's rotated query. -/
theorem v105_eq (b : Fin 8) (r : Fin 4096) (h : Fin 16) (k : Fin 128) :
    val_main_v105 (F := Ideal) x0 x1 x2 x3 x4 x5 (ix4 b r h k) = turn (fun q => val_main_v28 (F := Ideal) (ix2 r q)) (fun q => val_main_v29 (F := Ideal) (ix2 r q)) (headQ x0 x1 x2 x3 x4 x5 b r h) k := by
  have hk := k.isLt
  by_cases c1 : k.val < 64
  · by_cases c2 : k.val % 64 < 32
    · have ek : (⟨k.val, by omega⟩ : Fin 128) = k := Fin.ext (show k.val = k.val by omega)
      have e := (quarter0 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val, by omega⟩).trans (v80_eq x0 x1 x2 x3 x4 x5 b r h ⟨k.val, by omega⟩)
      refine (congrArg (fun l => val_main_v105 (F := Ideal) x0 x1 x2 x3 x4 x5 (ix4 b r h l)) ek.symm).trans (e.trans ?_)
      refine Eq.trans ?_ (turn_first _ _ _ k ⟨32 + (k.val), by omega⟩ ⟨k.val, by omega⟩ c2 (show 32 + (k.val) = k.val + 32 by omega) (show k.val = k.val / 64 * 32 + k.val % 32 by omega)).symm
      exact congrArg₂ (· - ·) (Ideal.mul_congr (congrArg (headQ x0 x1 x2 x3 x4 x5 b r h) ek) rfl) rfl
    · have ek : (⟨32 + (k.val - 32), by omega⟩ : Fin 128) = k := Fin.ext (show 32 + (k.val - 32) = k.val by omega)
      have e := (quarter1 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val - 32, by omega⟩).trans (v85_eq x0 x1 x2 x3 x4 x5 b r h ⟨k.val - 32, by omega⟩)
      refine (congrArg (fun l => val_main_v105 (F := Ideal) x0 x1 x2 x3 x4 x5 (ix4 b r h l)) ek.symm).trans (e.trans ?_)
      refine Eq.trans ?_ (turn_second _ _ _ k ⟨k.val - 32, by omega⟩ ⟨k.val - 32, by omega⟩ c2 (show k.val - 32 + 32 = k.val by omega) (show k.val - 32 = k.val / 64 * 32 + k.val % 32 by omega)).symm
      exact congrArg₂ (· + ·) (Ideal.mul_congr (congrArg (headQ x0 x1 x2 x3 x4 x5 b r h) ek) rfl) rfl
  · by_cases c2 : k.val % 64 < 32
    · have ek : (⟨64 + (k.val - 64), by omega⟩ : Fin 128) = k := Fin.ext (show 64 + (k.val - 64) = k.val by omega)
      have e := (quarter2 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val - 64, by omega⟩).trans (v98_eq x0 x1 x2 x3 x4 x5 b r h ⟨k.val - 64, by omega⟩)
      refine (congrArg (fun l => val_main_v105 (F := Ideal) x0 x1 x2 x3 x4 x5 (ix4 b r h l)) ek.symm).trans (e.trans ?_)
      refine Eq.trans ?_ (turn_first _ _ _ k ⟨96 + (k.val - 64), by omega⟩ ⟨32 + (k.val - 64), by omega⟩ c2 (show 96 + (k.val - 64) = k.val + 32 by omega) (show 32 + (k.val - 64) = k.val / 64 * 32 + k.val % 32 by omega)).symm
      exact congrArg₂ (· - ·) (Ideal.mul_congr (congrArg (headQ x0 x1 x2 x3 x4 x5 b r h) ek) rfl) rfl
    · have ek : (⟨96 + (k.val - 96), by omega⟩ : Fin 128) = k := Fin.ext (show 96 + (k.val - 96) = k.val by omega)
      have e := (quarter3 (val_main_v80 (F := Ideal) x0 x1 x2 x3 x4 x5) (val_main_v85 (F := Ideal) x0 x1 x2 x3 x4 x5) (val_main_v98 (F := Ideal) x0 x1 x2 x3 x4 x5) (val_main_v103 (F := Ideal) x0 x1 x2 x3 x4 x5) b r h ⟨k.val - 96, by omega⟩).trans (v103_eq x0 x1 x2 x3 x4 x5 b r h ⟨k.val - 96, by omega⟩)
      refine (congrArg (fun l => val_main_v105 (F := Ideal) x0 x1 x2 x3 x4 x5 (ix4 b r h l)) ek.symm).trans (e.trans ?_)
      refine Eq.trans ?_ (turn_second _ _ _ k ⟨64 + (k.val - 96), by omega⟩ ⟨32 + (k.val - 96), by omega⟩ c2 (show 64 + (k.val - 96) + 32 = k.val by omega) (show 32 + (k.val - 96) = k.val / 64 * 32 + k.val % 32 by omega)).symm
      exact congrArg₂ (· + ·) (Ideal.mul_congr (congrArg (headQ x0 x1 x2 x3 x4 x5 b r h) ek) rfl) rfl

/-- A key's lane, before its normalization. -/
theorem v108_eq (b : Fin 8) (r : Fin 4096) (h : Fin 4) (k : Fin 128) :
    val_main_v108 (F := Ideal) x0 x1 x2 x3 x4 (ix4 b r h k) = proj x0 x1 x2 x3 x4 b r ⟨2048 + (h.val * 128 + k.val), by omega⟩ := by
  have hb := b.isLt
  have hr := r.isLt
  have hh := h.isLt
  have hk := k.isLt
  rw [val_main_v108_apply, val_main_v53_apply, ← v51_eq]
  refine congrArg _ (funext fun a => Fin.ext ?_)
  match a with
  | ⟨0, _⟩ => exact (show (((b.val * 4096 + r.val) * 4 + h.val) * 128 + k.val) / 2097152 = b.val by omega)
  | ⟨1, _⟩ => exact (show (((b.val * 4096 + r.val) * 4 + h.val) * 128 + k.val) / 512 % 4096 = r.val by omega)
  | ⟨2, _⟩ => exact (show 2048 + (((b.val * 4096 + r.val) * 4 + h.val) * 128 + k.val) % 512 = 2048 + (h.val * 128 + k.val) by omega)

/-- A key's normalized row. -/
def headK (b : Fin 8) (r : Fin 4096) (h : Fin 4) (k : Fin 128) : EReal :=
  rms (fun j => proj x0 x1 x2 x3 x4 b r ⟨2048 + (h.val * 128 + j.val), by omega⟩) k * x6 (ix1 k)

/-- The reference's normalized row of a key. -/
theorem v121_eq (b : Fin 8) (r : Fin 4096) (h : Fin 4) (k : Fin 128) :
    val_main_v121 (F := Ideal) x0 x1 x2 x3 x4 x6 (ix4 b r h k) = headK x0 x1 x2 x3 x4 x6 b r h k := by
  unfold headK rms
  rw [val_main_v121_apply, val_main_v120_apply, val_main_v119_apply, val_main_v118_apply, val_main_v117_apply, val_main_v116_apply, val_main_v115_apply, val_main_v114_apply, val_main_v113_apply, val_main_v112_apply, val_main_v111_apply, val_main_v110_apply]
  refine Ideal.mul_congr (Ideal.mul_congr (v108_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v110 (idx_main_v111 (idx_main_v117 (ix4 b r h k))) j = ix4 b r h j :=
      funext fun a => match a with | ⟨0, _⟩ => rfl | ⟨1, _⟩ => rfl | ⟨2, _⟩ => rfl | ⟨3, _⟩ => rfl
    rw [val_main_v109_apply, e]
    exact Ideal.mul_congr (v108_eq x0 x1 x2 x3 x4 b r h j) (v108_eq x0 x1 x2 x3 x4 b r h j)
  · exact congrArg x6 (funext fun a => match a with | ⟨0, _⟩ => rfl)

/-- The first row lanes of a rotated key. -/
theorem v133_eq (b : Fin 8) (r : Fin 4096) (h : Fin 4) (q : Fin 32) :
    val_main_v133 (F := Ideal) x0 x1 x2 x3 x4 x6 (ix4 b r h q)
      = headK x0 x1 x2 x3 x4 x6 b r h ⟨q.val, by omega⟩ * val_main_v28 (F := Ideal) (ix2 r ⟨q.val, by omega⟩)
        - headK x0 x1 x2 x3 x4 x6 b r h ⟨32 + q.val, by omega⟩ * val_main_v29 (F := Ideal) (ix2 r ⟨q.val, by omega⟩) := by
  rw [← v121_eq, ← v121_eq, val_main_v133_apply, val_main_v130_apply, val_main_v132_apply, val_main_v125_apply, val_main_v129_apply, val_main_v127_apply, val_main_v123_apply, val_main_v126_apply, val_main_v131_apply, val_main_v128_apply, val_main_v124_apply, val_main_v122_apply, val_main_v122_apply]
  refine congrArg₂ (· - ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The second row lanes of a rotated key. -/
theorem v138_eq (b : Fin 8) (r : Fin 4096) (h : Fin 4) (q : Fin 32) :
    val_main_v138 (F := Ideal) x0 x1 x2 x3 x4 x6 (ix4 b r h q)
      = headK x0 x1 x2 x3 x4 x6 b r h ⟨32 + q.val, by omega⟩ * val_main_v28 (F := Ideal) (ix2 r ⟨q.val, by omega⟩)
        + headK x0 x1 x2 x3 x4 x6 b r h ⟨q.val, by omega⟩ * val_main_v29 (F := Ideal) (ix2 r ⟨q.val, by omega⟩) := by
  rw [← v121_eq, ← v121_eq, val_main_v138_apply, val_main_v135_apply, val_main_v137_apply, val_main_v126_apply, val_main_v134_apply, val_main_v127_apply, val_main_v123_apply, val_main_v125_apply, val_main_v136_apply, val_main_v128_apply, val_main_v124_apply, val_main_v122_apply, val_main_v122_apply]
  refine congrArg₂ (· + ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The first column lanes of a rotated key. -/
theorem v151_eq (b : Fin 8) (r : Fin 4096) (h : Fin 4) (q : Fin 32) :
    val_main_v151 (F := Ideal) x0 x1 x2 x3 x4 x6 (ix4 b r h q)
      = headK x0 x1 x2 x3 x4 x6 b r h ⟨64 + q.val, by omega⟩ * val_main_v28 (F := Ideal) (ix2 r ⟨32 + q.val, by omega⟩)
        - headK x0 x1 x2 x3 x4 x6 b r h ⟨96 + q.val, by omega⟩ * val_main_v29 (F := Ideal) (ix2 r ⟨32 + q.val, by omega⟩) := by
  rw [← v121_eq, ← v121_eq, val_main_v151_apply, val_main_v148_apply, val_main_v150_apply, val_main_v143_apply, val_main_v147_apply, val_main_v145_apply, val_main_v141_apply, val_main_v144_apply, val_main_v149_apply, val_main_v146_apply, val_main_v142_apply, val_main_v140_apply, val_main_v140_apply]
  refine congrArg₂ (· - ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)

/-- The second column lanes of a rotated key. -/
theorem v156_eq (b : Fin 8) (r : Fin 4096) (h : Fin 4) (q : Fin 32) :
    val_main_v156 (F := Ideal) x0 x1 x2 x3 x4 x6 (ix4 b r h q)
      = headK x0 x1 x2 x3 x4 x6 b r h ⟨96 + q.val, by omega⟩ * val_main_v28 (F := Ideal) (ix2 r ⟨32 + q.val, by omega⟩)
        + headK x0 x1 x2 x3 x4 x6 b r h ⟨64 + q.val, by omega⟩ * val_main_v29 (F := Ideal) (ix2 r ⟨32 + q.val, by omega⟩) := by
  rw [← v121_eq, ← v121_eq, val_main_v156_apply, val_main_v153_apply, val_main_v155_apply, val_main_v144_apply, val_main_v152_apply, val_main_v145_apply, val_main_v141_apply, val_main_v143_apply, val_main_v154_apply, val_main_v146_apply, val_main_v142_apply, val_main_v140_apply, val_main_v140_apply]
  refine congrArg₂ (· + ·) (Ideal.mul_congr ?_ ?_) (Ideal.mul_congr ?_ ?_)
  · exact congrArg (val_main_v121 (F := Ideal) x0 x1 x2 x3 x4 x6) (funext fun a => Fin.ext (match a with | ⟨0, _⟩ => rfl | ⟨1, _⟩ => rfl | ⟨2, _⟩ => rfl | ⟨3, _⟩ => (show 64 + (32 + q.val) = 96 + q.val by omega)))
  · exact congrArg _ (funext fun a => match a with | ⟨0, _⟩ => rfl | ⟨1, _⟩ => rfl)
  · exact congrArg (val_main_v121 (F := Ideal) x0 x1 x2 x3 x4 x6) (funext fun a => Fin.ext (match a with | ⟨0, _⟩ => rfl | ⟨1, _⟩ => rfl | ⟨2, _⟩ => rfl | ⟨3, _⟩ => rfl))
  · exact congrArg _ (funext fun a => match a with | ⟨0, _⟩ => rfl | ⟨1, _⟩ => rfl)

/-- The reference's rotated key. -/
theorem v158_eq (b : Fin 8) (r : Fin 4096) (h : Fin 4) (k : Fin 128) :
    val_main_v158 (F := Ideal) x0 x1 x2 x3 x4 x6 (ix4 b r h k) = turn (fun q => val_main_v28 (F := Ideal) (ix2 r q)) (fun q => val_main_v29 (F := Ideal) (ix2 r q)) (headK x0 x1 x2 x3 x4 x6 b r h) k := by
  have hk := k.isLt
  by_cases c1 : k.val < 64
  · by_cases c2 : k.val % 64 < 32
    · have ek : (⟨k.val, by omega⟩ : Fin 128) = k := Fin.ext (show k.val = k.val by omega)
      have e := (quarterK0 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val, by omega⟩).trans (v133_eq x0 x1 x2 x3 x4 x6 b r h ⟨k.val, by omega⟩)
      refine (congrArg (fun l => val_main_v158 (F := Ideal) x0 x1 x2 x3 x4 x6 (ix4 b r h l)) ek.symm).trans (e.trans ?_)
      refine Eq.trans ?_ (turn_first _ _ _ k ⟨32 + (k.val), by omega⟩ ⟨k.val, by omega⟩ c2 (show 32 + (k.val) = k.val + 32 by omega) (show k.val = k.val / 64 * 32 + k.val % 32 by omega)).symm
      exact congrArg₂ (· - ·) (Ideal.mul_congr (congrArg (headK x0 x1 x2 x3 x4 x6 b r h) ek) rfl) rfl
    · have ek : (⟨32 + (k.val - 32), by omega⟩ : Fin 128) = k := Fin.ext (show 32 + (k.val - 32) = k.val by omega)
      have e := (quarterK1 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val - 32, by omega⟩).trans (v138_eq x0 x1 x2 x3 x4 x6 b r h ⟨k.val - 32, by omega⟩)
      refine (congrArg (fun l => val_main_v158 (F := Ideal) x0 x1 x2 x3 x4 x6 (ix4 b r h l)) ek.symm).trans (e.trans ?_)
      refine Eq.trans ?_ (turn_second _ _ _ k ⟨k.val - 32, by omega⟩ ⟨k.val - 32, by omega⟩ c2 (show k.val - 32 + 32 = k.val by omega) (show k.val - 32 = k.val / 64 * 32 + k.val % 32 by omega)).symm
      exact congrArg₂ (· + ·) (Ideal.mul_congr (congrArg (headK x0 x1 x2 x3 x4 x6 b r h) ek) rfl) rfl
  · by_cases c2 : k.val % 64 < 32
    · have ek : (⟨64 + (k.val - 64), by omega⟩ : Fin 128) = k := Fin.ext (show 64 + (k.val - 64) = k.val by omega)
      have e := (quarterK2 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val - 64, by omega⟩).trans (v151_eq x0 x1 x2 x3 x4 x6 b r h ⟨k.val - 64, by omega⟩)
      refine (congrArg (fun l => val_main_v158 (F := Ideal) x0 x1 x2 x3 x4 x6 (ix4 b r h l)) ek.symm).trans (e.trans ?_)
      refine Eq.trans ?_ (turn_first _ _ _ k ⟨96 + (k.val - 64), by omega⟩ ⟨32 + (k.val - 64), by omega⟩ c2 (show 96 + (k.val - 64) = k.val + 32 by omega) (show 32 + (k.val - 64) = k.val / 64 * 32 + k.val % 32 by omega)).symm
      exact congrArg₂ (· - ·) (Ideal.mul_congr (congrArg (headK x0 x1 x2 x3 x4 x6 b r h) ek) rfl) rfl
    · have ek : (⟨96 + (k.val - 96), by omega⟩ : Fin 128) = k := Fin.ext (show 96 + (k.val - 96) = k.val by omega)
      have e := (quarterK3 (val_main_v133 (F := Ideal) x0 x1 x2 x3 x4 x6) (val_main_v138 (F := Ideal) x0 x1 x2 x3 x4 x6) (val_main_v151 (F := Ideal) x0 x1 x2 x3 x4 x6) (val_main_v156 (F := Ideal) x0 x1 x2 x3 x4 x6) b r h ⟨k.val - 96, by omega⟩).trans (v156_eq x0 x1 x2 x3 x4 x6 b r h ⟨k.val - 96, by omega⟩)
      refine (congrArg (fun l => val_main_v158 (F := Ideal) x0 x1 x2 x3 x4 x6 (ix4 b r h l)) ek.symm).trans (e.trans ?_)
      refine Eq.trans ?_ (turn_second _ _ _ k ⟨64 + (k.val - 96), by omega⟩ ⟨32 + (k.val - 96), by omega⟩ c2 (show 64 + (k.val - 96) + 32 = k.val by omega) (show 32 + (k.val - 96) = k.val / 64 * 32 + k.val % 32 by omega)).symm
      exact congrArg₂ (· + ·) (Ideal.mul_congr (congrArg (headK x0 x1 x2 x3 x4 x6 b r h) ek) rfl) rfl

/-- The reference's result before its flattening. -/
theorem v163_flat (i : S32768x3072.Idx) (b : Fin 8) (r : Fin 4096) (n : Fin 3072)
    (h0 : (i 0).val = b.val * 4096 + r.val) (h1 : (i 1).val = n.val) :
    val_main_v163 (F := Ideal) x0 x1 x2 x3 x4 x5 x6 i = val_main_v161 (F := Ideal) x0 x1 x2 x3 x4 x5 x6 (ix3 b r n) := by
  have hb := b.isLt
  have hr := r.isLt
  have hn := n.isLt
  have ei : idx_main_v162 i = ix3 b r n := by
    refine funext fun a => Fin.ext ?_
    match a with
    | ⟨0, _⟩ => exact (show ((i 0).val * 3072 + (i 1).val) / 12582912 = b.val by omega)
    | ⟨1, _⟩ => exact (show ((i 0).val * 3072 + (i 1).val) / 3072 % 4096 = r.val by omega)
    | ⟨2, _⟩ => exact (show ((i 0).val * 3072 + (i 1).val) % 3072 = n.val by omega)
  rw [val_main_v163_apply, val_main_v162_apply, ei]
  rfl

/-- A query's column of the result. -/
theorem out_q (i : S32768x3072.Idx) (b : Fin 8) (r : Fin 4096) (h : Fin 16) (k : Fin 128)
    (h0 : (i 0).val = b.val * 4096 + r.val) (h1 : (i 1).val = h.val * 128 + k.val) :
    val_main_v163 (F := Ideal) x0 x1 x2 x3 x4 x5 x6 i
      = turn (fun q => val_main_v28 (F := Ideal) (ix2 r q)) (fun q => val_main_v29 (F := Ideal) (ix2 r q)) (headQ x0 x1 x2 x3 x4 x5 b r h) k * scale := by
  have hb := b.isLt
  have hr := r.isLt
  have hh := h.isLt
  have hk := k.isLt
  have ei : idx_main_v159 (ix3 b r ⟨h.val * 128 + k.val, by omega⟩) = ix4 b r h k := by
    refine funext fun a => Fin.ext ?_
    match a with
    | ⟨0, _⟩ => exact (show ((b.val * 4096 + r.val) * 2048 + (h.val * 128 + k.val)) / 8388608 = b.val by omega)
    | ⟨1, _⟩ => exact (show ((b.val * 4096 + r.val) * 2048 + (h.val * 128 + k.val)) / 2048 % 4096 = r.val by omega)
    | ⟨2, _⟩ => exact (show ((b.val * 4096 + r.val) * 2048 + (h.val * 128 + k.val)) / 128 % 16 = h.val by omega)
    | ⟨3, _⟩ => exact (show ((b.val * 4096 + r.val) * 2048 + (h.val * 128 + k.val)) % 128 = k.val by omega)
  rw [v163_flat x0 x1 x2 x3 x4 x5 x6 i b r ⟨h.val * 128 + k.val, by omega⟩ h0 h1]
  unfold val_main_v161
  refine Eq.trans (concatenate_apply_piece (t := S8x4096x3072) 2 _ _ _ 0 (by exact (by decide : (0 : ℕ) < 3)) S8x4096x2048 (val_main_v159 (F := Ideal) x0 x1 x2 x3 x4 x5) rfl rfl 0 rfl (ix3 b r ⟨h.val * 128 + k.val, by omega⟩) (fun a => match a with
    | ⟨0, _⟩ => fun _ => rfl | ⟨1, _⟩ => fun _ => rfl | ⟨2, _⟩ => fun hn => absurd rfl hn) (Nat.zero_add _)) ?_
  rw [val_main_v159_apply, ei, val_main_v107_apply, v105_eq, val_main_v106_apply]
  rfl

/-- A key's column of the result. -/
theorem out_k (i : S32768x3072.Idx) (b : Fin 8) (r : Fin 4096) (h : Fin 4) (k : Fin 128)
    (h0 : (i 0).val = b.val * 4096 + r.val) (h1 : (i 1).val = 2048 + (h.val * 128 + k.val)) :
    val_main_v163 (F := Ideal) x0 x1 x2 x3 x4 x5 x6 i
      = turn (fun q => val_main_v28 (F := Ideal) (ix2 r q)) (fun q => val_main_v29 (F := Ideal) (ix2 r q)) (headK x0 x1 x2 x3 x4 x6 b r h) k := by
  have hb := b.isLt
  have hr := r.isLt
  have hh := h.isLt
  have hk := k.isLt
  have ei : idx_main_v160 (ix3 b r ⟨h.val * 128 + k.val, by omega⟩) = ix4 b r h k := by
    refine funext fun a => Fin.ext ?_
    match a with
    | ⟨0, _⟩ => exact (show ((b.val * 4096 + r.val) * 512 + (h.val * 128 + k.val)) / 2097152 = b.val by omega)
    | ⟨1, _⟩ => exact (show ((b.val * 4096 + r.val) * 512 + (h.val * 128 + k.val)) / 512 % 4096 = r.val by omega)
    | ⟨2, _⟩ => exact (show ((b.val * 4096 + r.val) * 512 + (h.val * 128 + k.val)) / 128 % 4 = h.val by omega)
    | ⟨3, _⟩ => exact (show ((b.val * 4096 + r.val) * 512 + (h.val * 128 + k.val)) % 128 = k.val by omega)
  rw [v163_flat x0 x1 x2 x3 x4 x5 x6 i b r ⟨2048 + (h.val * 128 + k.val), by omega⟩ h0 h1]
  unfold val_main_v161
  refine Eq.trans (concatenate_apply_piece (t := S8x4096x3072) 2 _ _ _ 1 (by exact (by decide : (1 : ℕ) < 3)) S8x4096x512 (val_main_v160 (F := Ideal) x0 x1 x2 x3 x4 x6) rfl rfl 2048 rfl (ix3 b r ⟨h.val * 128 + k.val, by omega⟩) (fun a => match a with
    | ⟨0, _⟩ => fun _ => rfl | ⟨1, _⟩ => fun _ => rfl | ⟨2, _⟩ => fun hn => absurd rfl hn) rfl) ?_
  rw [val_main_v160_apply, ei, v158_eq]

/-- A value's column of the result. -/
theorem out_v (i : S32768x3072.Idx) (b : Fin 8) (r : Fin 4096) (j : Fin 512)
    (h0 : (i 0).val = b.val * 4096 + r.val) (h1 : (i 1).val = 2560 + j.val) :
    val_main_v163 (F := Ideal) x0 x1 x2 x3 x4 x5 x6 i = proj x0 x1 x2 x3 x4 b r ⟨2560 + j.val, by omega⟩ := by
  rw [v163_flat x0 x1 x2 x3 x4 x5 x6 i b r ⟨2560 + j.val, by omega⟩ h0 h1]
  unfold val_main_v161
  refine Eq.trans (concatenate_apply_piece (t := S8x4096x3072) 2 _ _ _ 2 (by exact (by decide : (2 : ℕ) < 3)) S8x4096x512 (val_main_v54 (F := Ideal) x0 x1 x2 x3 x4) rfl rfl 2560 rfl (ix3 b r j) (fun a => match a with
    | ⟨0, _⟩ => fun _ => rfl | ⟨1, _⟩ => fun _ => rfl | ⟨2, _⟩ => fun hn => absurd rfl hn) rfl) ?_
  rw [val_main_v54_apply, ← v51_eq]
  exact congrArg _ (funext fun a => match a with | ⟨0, _⟩ => rfl | ⟨1, _⟩ => rfl | ⟨2, _⟩ => rfl)

end Cert.ProjARefIdeal.Rows

end
-- ==== Proof.ProjA.Blocks.lean ====
/- The windowed attention's projection: the blocks that the kernel stages, read from the arguments. -/
module

public import proofs.«01_k».proof.Proof.Gen.ProjAIdeal.Frame
public import proofs.«01_k».proof.Proof.ProjA.Ref
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjAIdeal.RefValue

open Cert.ProjAIdeal Cert.ProjAIdeal.Gen Cert.ProjRows
open Cert.ProjARefIdeal.Read (val_main_v21 val_main_v26 val_main_v28 val_main_v29)
open Cert.ProjARefIdeal.Rows (v28_row v28_col v29_row v29_col)

variable (m : (ℓ : Loc nD τ sig) → Buf (Elt Ideal) ℓ)

/-- The block that each window stages at a grid point, as arithmetic on the point's number: six column blocks inside
    each tile of rows. -/
theorem idx : ∀ t : Fin cfg0.N, (win0_0.index t = ![t.val / 6, 0] ∧ win0_1.index t = ![0, 0]
    ∧ win0_2.index t = ![t.val / 24, 0, 0] ∧ win0_3.index t = ![t.val / 24, 0, 0] ∧ win0_4.index t = ![0, t.val % 6])
    ∧ win0_5.index t = ![0, t.val % 6] ∧ win0_6.index t = ![t.val / 6 % 4, 0] ∧ win0_7.index t = ![t.val / 6 % 4, 0]
    ∧ win0_8.index t = ![t.val / 6, t.val % 6] :=
  (by decide +kernel : ∀ t : Fin grid0.N, _)

/-- The flattened residual stream at an index, from its place by sample. -/
theorem flat (c : Dev nD) (e : S32768x2048.Idx) (i : S8x4096x2048.Idx)
    (h0 : (i 0).val * 4096 + (i 1).val = (e 0).val) (h1 : (i 2).val = (e 1).val) :
    V m c main_v39 e = m ((c : Thread nD τ).loc main_arg0) i := by
  entry_read
  have hi : (i 1).val < 4096 := (i 1).isLt
  generalize m _ = A
  pointwise
  refine congrArg _ (funext fun a => Fin.ext ?_)
  match a with
  | ⟨0, _⟩ => exact (show (e 0).val / 4096 = (i 0).val by omega)
  | ⟨1, _⟩ => exact (show (e 0).val % 4096 = (i 1).val by omega)
  | ⟨2, _⟩ => exact h1.symm

/-- The rows of a tile. -/
theorem blk0 (c : Dev nD) (t : Fin cfg0.N) (y : S1024x2048.Idx) (i : S8x4096x2048.Idx)
    (h0 : (i 0).val * 4096 + (i 1).val = t.val / 6 * 1024 + (y 0).val) (h1 : (i 2).val = (y 1).val) :
    iblk m c 0 t y = m ((c : Thread nD τ).loc main_arg0) i := by
  show V m c main_v39 (((cfg0.win 0).blk t).view.emb y) = _
  refine flat m c _ i ?_ ?_
  · blk_simp [idx t]; exact h0
  · blk_simp [idx t]; exact h1

/-- The gain. -/
theorem blk1 (c : Dev nD) (t : Fin cfg0.N) (j : Fin 2048) :
    iblk m c 1 t (ix2 0 j) = m ((c : Thread nD τ).loc main_arg1) (ix1 j) := by
  show V m c main_v40 (((cfg0.win 1).blk t).view.emb (ix2 0 j)) = _
  entry_read
  generalize he : ((cfg0.win 1).blk t).view.emb (ix2 0 j) = e
  have e1 : (e 1).val = j.val := by rw [← he]; blk_simp [idx t]
  clear he
  generalize m _ = A
  pointwise
  exact congrArg _ (funext fun a => Fin.ext (match a with | ⟨0, _⟩ => e1))

/-- The shift of a sample. -/
theorem blk2 (c : Dev nD) (t : Fin cfg0.N) (b : Fin 8) (j : Fin 2048) (h : b.val = t.val / 24) :
    iblk m c 2 t (ix3 0 0 j) = m ((c : Thread nD τ).loc main_arg2) (ix2 b j) := by
  show V m c main_v53 (((cfg0.win 2).blk t).view.emb (ix3 0 0 j)) = _
  entry_read
  generalize he : ((cfg0.win 2).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The scale of a sample. -/
theorem blk3 (c : Dev nD) (t : Fin cfg0.N) (b : Fin 8) (j : Fin 2048) (h : b.val = t.val / 24) :
    iblk m c 3 t (ix3 0 0 j) = m ((c : Thread nD τ).loc main_arg3) (ix2 b j) := by
  show V m c main_v54 (((cfg0.win 3).blk t).view.emb (ix3 0 0 j)) = _
  entry_read
  generalize he : ((cfg0.win 3).blk t).view.emb (ix3 0 0 j) = e
  have e0 : (e 0).val = b.val := by rw [← he, h]; blk_simp [idx t]; rfl
  have e1 : (e 2).val = j.val := by rw [← he]; blk_simp [idx t]
  clear he
  generalize m _ = A
  pointwise
  exact congrArg _ (funext fun a => Fin.ext (match a with | ⟨0, _⟩ => e0 | ⟨1, _⟩ => e1))

/-- The columns of the projection; the narrowing changes nothing over the extended reals. -/
theorem blk4 (c : Dev nD) (t : Fin cfg0.N) (y : S2048x512.Idx) (i : S2048x3072.Idx)
    (h0 : (i 0).val = (y 0).val) (h1 : (i 1).val = t.val % 6 * 512 + (y 1).val) :
    iblk m c 4 t y = m ((c : Thread nD τ).loc main_arg4) i := by
  show V m c main_v41 (((cfg0.win 4).blk t).view.emb y) = _
  entry_read
  refine congrArg (m ((c : Thread nD τ).loc main_arg4)) (funext fun a => Fin.ext ?_)
  match a with
  | ⟨0, _⟩ => blk_simp [idx t]; exact h0.symm
  | ⟨1, _⟩ => blk_simp [idx t]; exact h1.symm

/-- The queries' gain. -/
abbrev gainQ (c : Dev nD) : S128.Idx → EReal := m ((c : Thread nD τ).loc main_arg5)

/-- The keys' gain. -/
abbrev gainK (c : Dev nD) : S128.Idx → EReal := m ((c : Thread nD τ).loc main_arg6)

/-- A query column's gain, with the scale. -/
theorem gain_q (c : Dev nD) (e : S1x3072.Idx) (k : Fin 128) (hn : (e 1).val < 2048) (hk : (e 1).val % 128 = k.val) :
    V m c main_v52 e = gainQ m c (ix1 k) * scale := by
  unfold V hostOps0
  after_reads_simp
  refine Eq.trans (congrArg (concatenate S3072 0 _ _) (?_ : _ = ix1 (⟨(e 1).val, (e 1).isLt⟩ : Fin 3072))) ?_
  · exact funext fun a => match a with | ⟨0, _⟩ => rfl
  refine Eq.trans (concatenate_apply_piece (t := S3072) 0 _ _ _ 0 (by exact (by decide : (0 : ℕ) < 3)) S2048 _ rfl rfl 0 rfl (ix1 ⟨(e 1).val - 0, by omega⟩) ?_ ?_) ?_
  · intro b hb; exact absurd (Subsingleton.elim (α := Fin 1) _ _) hb
  · exact (show 0 + ((e 1).val - 0) = (e 1).val by omega)
  try simp only [Matrix.cons_val]
  after_reads_simp
  unfold gainQ
  generalize m _ = A
  pointwise
  exact Ideal.mul_congr (congrArg A (funext fun a => Fin.ext (match a with | ⟨0, _⟩ => (show ((e 1).val - 0) % 128 = k.val by omega)))) rfl

/-- A key column's gain. -/
theorem gain_k (c : Dev nD) (e : S1x3072.Idx) (k : Fin 128) (hl : 2048 ≤ (e 1).val) (hn : (e 1).val < 2560) (hk : (e 1).val % 128 = k.val) :
    V m c main_v52 e = gainK m c (ix1 k) := by
  unfold V hostOps0
  after_reads_simp
  refine Eq.trans (congrArg (concatenate S3072 0 _ _) (?_ : _ = ix1 (⟨(e 1).val, (e 1).isLt⟩ : Fin 3072))) ?_
  · exact funext fun a => match a with | ⟨0, _⟩ => rfl
  refine Eq.trans (concatenate_apply_piece (t := S3072) 0 _ _ _ 1 (by exact (by decide : (1 : ℕ) < 3)) S512 _ rfl rfl 2048 rfl (ix1 ⟨(e 1).val - 2048, by omega⟩) ?_ ?_) ?_
  · intro b hb; exact absurd (Subsingleton.elim (α := Fin 1) _ _) hb
  · exact (show 2048 + ((e 1).val - 2048) = (e 1).val by omega)
  try simp only [Matrix.cons_val]
  after_reads_simp
  unfold gainK
  generalize m _ = A
  pointwise
  exact congrArg A (funext fun a => Fin.ext (match a with | ⟨0, _⟩ => (show ((e 1).val - 2048) % 128 = k.val by omega)))

/-- The kernel's table of cosines, its first quarter. -/
theorem cos_quarter0 (c : Dev nD) (e : S4096x128.Idx) (p : Fin 4096) (q : Fin 32) (h0 : (e 0).val = p.val) (h1 : (e 1).val = 0 + q.val) :
    V m c main_v31 e = Ideal.cos (val_main_v21 (F := Ideal) (ix2 p q)) := by
  unfold V hostOps0
  after_reads_simp
  simp only [Matrix.cons_val]
  after_reads_simp
  refine Eq.trans (concatenate_apply_piece (t := S4096x128) 1 _ _ _ 0 (by exact (by decide : (0 : ℕ) < 4)) S4096x32 _ rfl rfl 0 rfl (ix2 p q) ?_ ?_) ?_
  · intro b hb
    match b with
    | ⟨0, _⟩ => exact h0.symm
    | ⟨1, _⟩ => exact absurd rfl hb
  · exact h1.symm
  rfl

/-- The kernel's table of cosines, its second quarter. -/
theorem cos_quarter1 (c : Dev nD) (e : S4096x128.Idx) (p : Fin 4096) (q : Fin 32) (h0 : (e 0).val = p.val) (h1 : (e 1).val = 32 + q.val) :
    V m c main_v31 e = Ideal.cos (val_main_v21 (F := Ideal) (ix2 p q)) := by
  unfold V hostOps0
  after_reads_simp
  simp only [Matrix.cons_val]
  after_reads_simp
  refine Eq.trans (concatenate_apply_piece (t := S4096x128) 1 _ _ _ 1 (by exact (by decide : (1 : ℕ) < 4)) S4096x32 _ rfl rfl 32 rfl (ix2 p q) ?_ ?_) ?_
  · intro b hb
    match b with
    | ⟨0, _⟩ => exact h0.symm
    | ⟨1, _⟩ => exact absurd rfl hb
  · exact h1.symm
  rfl

/-- The kernel's table of cosines, its third quarter. -/
theorem cos_quarter2 (c : Dev nD) (e : S4096x128.Idx) (p : Fin 4096) (q : Fin 32) (h0 : (e 0).val = p.val) (h1 : (e 1).val = 64 + q.val) :
    V m c main_v31 e = Ideal.cos (val_main_v26 (F := Ideal) (ix2 p q)) := by
  unfold V hostOps0
  after_reads_simp
  simp only [Matrix.cons_val]
  after_reads_simp
  refine Eq.trans (concatenate_apply_piece (t := S4096x128) 1 _ _ _ 2 (by exact (by decide : (2 : ℕ) < 4)) S4096x32 _ rfl rfl 64 rfl (ix2 p q) ?_ ?_) ?_
  · intro b hb
    match b with
    | ⟨0, _⟩ => exact h0.symm
    | ⟨1, _⟩ => exact absurd rfl hb
  · exact h1.symm
  rfl

/-- The kernel's table of cosines, its last quarter. -/
theorem cos_quarter3 (c : Dev nD) (e : S4096x128.Idx) (p : Fin 4096) (q : Fin 32) (h0 : (e 0).val = p.val) (h1 : (e 1).val = 96 + q.val) :
    V m c main_v31 e = Ideal.cos (val_main_v26 (F := Ideal) (ix2 p q)) := by
  unfold V hostOps0
  after_reads_simp
  simp only [Matrix.cons_val]
  after_reads_simp
  refine Eq.trans (concatenate_apply_piece (t := S4096x128) 1 _ _ _ 3 (by exact (by decide : (3 : ℕ) < 4)) S4096x32 _ rfl rfl 96 rfl (ix2 p q) ?_ ?_) ?_
  · intro b hb
    match b with
    | ⟨0, _⟩ => exact h0.symm
    | ⟨1, _⟩ => exact absurd rfl hb
  · exact h1.symm
  rfl

/-- The kernel's table of cosines is the reference's, each angle at both lanes of its pair. -/
theorem cos_table (c : Dev nD) (e : S4096x128.Idx) (p : Fin 4096) (k : Fin 128) (h0 : (e 0).val = p.val) (h1 : (e 1).val = k.val) :
    V m c main_v31 e = val_main_v28 (F := Ideal) (ix2 p (angle k)) := by
  have hk := k.isLt
  have hp := p.isLt
  by_cases c0 : k.val < 32
  · have ea : angle k = ⟨k.val - 0, by omega⟩ := Fin.ext (show k.val / 64 * 32 + k.val % 32 = k.val - 0 by omega)
    rw [ea, v28_row p ⟨k.val - 0, by omega⟩]
    exact cos_quarter0 m c e p ⟨k.val - 0, by omega⟩ h0 (show (e 1).val = 0 + (k.val - 0) by omega)
  by_cases c1 : k.val < 64
  · have ea : angle k = ⟨k.val - 32, by omega⟩ := Fin.ext (show k.val / 64 * 32 + k.val % 32 = k.val - 32 by omega)
    rw [ea, v28_row p ⟨k.val - 32, by omega⟩]
    exact cos_quarter1 m c e p ⟨k.val - 32, by omega⟩ h0 (show (e 1).val = 32 + (k.val - 32) by omega)
  by_cases c2 : k.val < 96
  · have ea : angle k = ⟨32 + (k.val - 64), by omega⟩ := Fin.ext (show k.val / 64 * 32 + k.val % 32 = 32 + (k.val - 64) by omega)
    rw [ea, v28_col p ⟨k.val - 64, by omega⟩]
    exact cos_quarter2 m c e p ⟨k.val - 64, by omega⟩ h0 (show (e 1).val = 64 + (k.val - 64) by omega)
  have ea : angle k = ⟨32 + (k.val - 96), by omega⟩ := Fin.ext (show k.val / 64 * 32 + k.val % 32 = 32 + (k.val - 96) by omega)
  rw [ea, v28_col p ⟨k.val - 96, by omega⟩]
  exact cos_quarter3 m c e p ⟨k.val - 96, by omega⟩ h0 (show (e 1).val = 96 + (k.val - 96) by omega)

/-- The kernel's table of signed sines, its first quarter. -/
theorem sin_quarter0 (c : Dev nD) (e : S4096x128.Idx) (p : Fin 4096) (q : Fin 32) (h0 : (e 0).val = p.val) (h1 : (e 1).val = 0 + q.val) :
    V m c main_v38 e = -Ideal.sin (val_main_v21 (F := Ideal) (ix2 p q)) := by
  unfold V hostOps0
  after_reads_simp
  simp only [Matrix.cons_val]
  after_reads_simp
  refine Eq.trans (concatenate_apply_piece (t := S4096x128) 1 _ _ _ 0 (by exact (by decide : (0 : ℕ) < 4)) S4096x32 _ rfl rfl 0 rfl (ix2 p q) ?_ ?_) ?_
  · intro b hb
    match b with
    | ⟨0, _⟩ => exact h0.symm
    | ⟨1, _⟩ => exact absurd rfl hb
  · exact h1.symm
  rfl

/-- The kernel's table of signed sines, its second quarter. -/
theorem sin_quarter1 (c : Dev nD) (e : S4096x128.Idx) (p : Fin 4096) (q : Fin 32) (h0 : (e 0).val = p.val) (h1 : (e 1).val = 32 + q.val) :
    V m c main_v38 e = Ideal.sin (val_main_v21 (F := Ideal) (ix2 p q)) := by
  unfold V hostOps0
  after_reads_simp
  simp only [Matrix.cons_val]
  after_reads_simp
  refine Eq.trans (concatenate_apply_piece (t := S4096x128) 1 _ _ _ 1 (by exact (by decide : (1 : ℕ) < 4)) S4096x32 _ rfl rfl 32 rfl (ix2 p q) ?_ ?_) ?_
  · intro b hb
    match b with
    | ⟨0, _⟩ => exact h0.symm
    | ⟨1, _⟩ => exact absurd rfl hb
  · exact h1.symm
  rfl

/-- The kernel's table of signed sines, its third quarter. -/
theorem sin_quarter2 (c : Dev nD) (e : S4096x128.Idx) (p : Fin 4096) (q : Fin 32) (h0 : (e 0).val = p.val) (h1 : (e 1).val = 64 + q.val) :
    V m c main_v38 e = -Ideal.sin (val_main_v26 (F := Ideal) (ix2 p q)) := by
  unfold V hostOps0
  after_reads_simp
  simp only [Matrix.cons_val]
  after_reads_simp
  refine Eq.trans (concatenate_apply_piece (t := S4096x128) 1 _ _ _ 2 (by exact (by decide : (2 : ℕ) < 4)) S4096x32 _ rfl rfl 64 rfl (ix2 p q) ?_ ?_) ?_
  · intro b hb
    match b with
    | ⟨0, _⟩ => exact h0.symm
    | ⟨1, _⟩ => exact absurd rfl hb
  · exact h1.symm
  rfl

/-- The kernel's table of signed sines, its last quarter. -/
theorem sin_quarter3 (c : Dev nD) (e : S4096x128.Idx) (p : Fin 4096) (q : Fin 32) (h0 : (e 0).val = p.val) (h1 : (e 1).val = 96 + q.val) :
    V m c main_v38 e = Ideal.sin (val_main_v26 (F := Ideal) (ix2 p q)) := by
  unfold V hostOps0
  after_reads_simp
  simp only [Matrix.cons_val]
  after_reads_simp
  refine Eq.trans (concatenate_apply_piece (t := S4096x128) 1 _ _ _ 3 (by exact (by decide : (3 : ℕ) < 4)) S4096x32 _ rfl rfl 96 rfl (ix2 p q) ?_ ?_) ?_
  · intro b hb
    match b with
    | ⟨0, _⟩ => exact h0.symm
    | ⟨1, _⟩ => exact absurd rfl hb
  · exact h1.symm
  rfl

/-- The kernel's table of signed sines is the reference's, each angle at both lanes of its pair. -/
theorem sin_table (c : Dev nD) (e : S4096x128.Idx) (p : Fin 4096) (k : Fin 128) (h0 : (e 0).val = p.val) (h1 : (e 1).val = k.val) :
    V m c main_v38 e = if k.val % 64 < 32 then -val_main_v29 (F := Ideal) (ix2 p (angle k)) else val_main_v29 (F := Ideal) (ix2 p (angle k)) := by
  have hk := k.isLt
  have hp := p.isLt
  by_cases c0 : k.val < 32
  · have ea : angle k = ⟨k.val - 0, by omega⟩ := Fin.ext (show k.val / 64 * 32 + k.val % 32 = k.val - 0 by omega)
    rw [if_pos (show k.val % 64 < 32 by omega), ea, v29_row p ⟨k.val - 0, by omega⟩]
    exact sin_quarter0 m c e p ⟨k.val - 0, by omega⟩ h0 (show (e 1).val = 0 + (k.val - 0) by omega)
  by_cases c1 : k.val < 64
  · have ea : angle k = ⟨k.val - 32, by omega⟩ := Fin.ext (show k.val / 64 * 32 + k.val % 32 = k.val - 32 by omega)
    rw [if_neg (show ¬k.val % 64 < 32 by omega), ea, v29_row p ⟨k.val - 32, by omega⟩]
    exact sin_quarter1 m c e p ⟨k.val - 32, by omega⟩ h0 (show (e 1).val = 32 + (k.val - 32) by omega)
  by_cases c2 : k.val < 96
  · have ea : angle k = ⟨32 + (k.val - 64), by omega⟩ := Fin.ext (show k.val / 64 * 32 + k.val % 32 = 32 + (k.val - 64) by omega)
    rw [if_pos (show k.val % 64 < 32 by omega), ea, v29_col p ⟨k.val - 64, by omega⟩]
    exact sin_quarter2 m c e p ⟨k.val - 64, by omega⟩ h0 (show (e 1).val = 64 + (k.val - 64) by omega)
  have ea : angle k = ⟨32 + (k.val - 96), by omega⟩ := Fin.ext (show k.val / 64 * 32 + k.val % 32 = 32 + (k.val - 96) by omega)
  rw [if_neg (show ¬k.val % 64 < 32 by omega), ea, v29_col p ⟨k.val - 96, by omega⟩]
  exact sin_quarter3 m c e p ⟨k.val - 96, by omega⟩ h0 (show (e 1).val = 96 + (k.val - 96) by omega)

/-- A query column's staged gain. -/
theorem blk5_q (c : Dev nD) (t : Fin cfg0.N) (y : S1x512.Idx) (k : Fin 128) (hn : t.val % 6 * 512 + (y 1).val < 2048) (hk : (y 1).val % 128 = k.val) :
    iblk m c 5 t y = gainQ m c (ix1 k) * scale := by
  show V m c main_v52 (((cfg0.win 5).blk t).view.emb y) = _
  generalize he : ((cfg0.win 5).blk t).view.emb y = e
  have e1 : (e 1).val = t.val % 6 * 512 + (y 1).val := by rw [← he]; blk_simp [idx t]
  exact gain_q m c e k (by omega) (by omega)

/-- A key column's staged gain. -/
theorem blk5_k (c : Dev nD) (t : Fin cfg0.N) (y : S1x512.Idx) (k : Fin 128) (hl : 2048 ≤ t.val % 6 * 512 + (y 1).val) (hn : t.val % 6 * 512 + (y 1).val < 2560)
    (hk : (y 1).val % 128 = k.val) :
    iblk m c 5 t y = gainK m c (ix1 k) := by
  show V m c main_v52 (((cfg0.win 5).blk t).view.emb y) = _
  generalize he : ((cfg0.win 5).blk t).view.emb y = e
  have e1 : (e 1).val = t.val % 6 * 512 + (y 1).val := by rw [← he]; blk_simp [idx t]
  exact gain_k m c e k (by omega) (by omega) (by omega)

/-- The staged cosines of a tile's positions. -/
theorem blk6 (c : Dev nD) (t : Fin cfg0.N) (p : Fin 1024) (k : Fin 128) (r : Fin 4096) (hr : r.val = t.val / 6 % 4 * 1024 + p.val) :
    iblk m c 6 t (ix2 p k) = val_main_v28 (F := Ideal) (ix2 r (angle k)) := by
  show V m c main_v31 (((cfg0.win 6).blk t).view.emb (ix2 p k)) = _
  generalize he : ((cfg0.win 6).blk t).view.emb (ix2 p k) = e
  have e0 : (e 0).val = r.val := by rw [← he, hr]; blk_simp [idx t]
  have e1 : (e 1).val = k.val := by rw [← he]; blk_simp [idx t]
  exact cos_table m c e r k e0 e1

/-- The staged signed sines of a tile's positions. -/
theorem blk7 (c : Dev nD) (t : Fin cfg0.N) (p : Fin 1024) (k : Fin 128) (r : Fin 4096) (hr : r.val = t.val / 6 % 4 * 1024 + p.val) :
    iblk m c 7 t (ix2 p k) = if k.val % 64 < 32 then -val_main_v29 (F := Ideal) (ix2 r (angle k)) else val_main_v29 (F := Ideal) (ix2 r (angle k)) := by
  show V m c main_v38 (((cfg0.win 7).blk t).view.emb (ix2 p k)) = _
  generalize he : ((cfg0.win 7).blk t).view.emb (ix2 p k) = e
  have e0 : (e 0).val = r.val := by rw [← he, hr]; blk_simp [idx t]
  have e1 : (e 1).val = k.val := by rw [← he]; blk_simp [idx t]
  exact sin_table m c e r k e0 e1

end Cert.ProjAIdeal.RefValue

end
-- ==== Proof.ProjA.Value.lean ====
/- The windowed attention's projection: each point of a tile finds the tile's normalized rows, projects them to its 512 columns and rotates its four
   heads, and the array that the kernel writes is the reference's. -/
module

public import proofs.«01_k».proof.Proof.ProjB.Value
public import proofs.«01_k».proof.Proof.ProjA.Kernel
public import proofs.«01_k».proof.Proof.ProjA.Blocks
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.ProjAIdeal.RefValue

open Cert.ProjAIdeal Cert.ProjAIdeal.Gen Cert.FfnRows Cert.ProjRows
open Cert.ProjBIdeal.RefValue (canon_cols stretch0 stretch1 stretch2 stretch3 heads_of)
open Cert.ProjARefIdeal.Rows (row proj headQ headK out_q out_k out_v)
open Cert.ProjARefIdeal.Read (val_main_v28 val_main_v29 val_main_v163)

variable (m : (ℓ : Loc nD τ sig) → Buf (Elt Ideal) ℓ)

/-- The sample of a tile's row. -/
def sampleOf (t : Fin cfg0.N) : Fin 8 :=
  ⟨t.val / 24, by have := lt_of_lt_of_eq t.isLt N_0; omega⟩

/-- The row in its sample of a tile's row. -/
def posOf (t : Fin cfg0.N) (p : Fin 1024) : Fin 4096 := ⟨(t.val / 6 * 1024 + p.val) % 4096, Nat.mod_lt _ (by omega)⟩

theorem place (t : Fin cfg0.N) (p : Fin 1024) :
    (sampleOf t).val * 4096 + (posOf t p).val = t.val / 6 * 1024 + p.val := by
  show t.val / 24 * 4096 + (t.val / 6 * 1024 + p.val) % 4096 = _
  have hp := p.isLt
  omega

/-- A row of the modulated normalization of the arguments. -/
abbrev rowOf (c : Dev nD) (b : Fin 8) (r : Fin 4096) (k : Fin 2048) : EReal :=
  row (m ((c : Thread nD τ).loc main_arg0)) (m ((c : Thread nD τ).loc main_arg1)) (m ((c : Thread nD τ).loc main_arg2))
    (m ((c : Thread nD τ).loc main_arg3)) b r k

/-- A row of the projection of the arguments. -/
abbrev projOf (c : Dev nD) (b : Fin 8) (r : Fin 4096) (n : Fin 3072) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) b r n

/-- The rows that a tile's first point keeps. -/
theorem stored (c : Dev nD) (t : Fin cfg0.N) (p : Fin 1024) (k : Fin 2048) :
    k0_pay1 (iblk m c 0 t) (iblk m c 1 t) (iblk m c 2 t) (iblk m c 3 t) (ix2 p k) = rowOf m c (sampleOf t) (posOf t p) k := by
  rw [pay1_apply]
  unfold rowOf row
  rw [show (fun j => iblk m c 0 t (ix2 p j)) = _ from funext fun j => blk0 m c t (ix2 p j) (ix3 (sampleOf t) (posOf t p) j) (place t p) rfl,
    show (fun j => iblk m c 1 t (ix2 0 j)) = _ from funext fun j => blk1 m c t j,
    show (fun j => iblk m c 3 t (ix3 0 0 j)) = _ from funext fun j => blk3 m c t (sampleOf t) j rfl,
    show (fun j => iblk m c 2 t (ix3 0 0 j)) = _ from funext fun j => blk2 m c t (sampleOf t) j rfl]

/-- Every later point of a tile finds the rows as they were. -/
theorem hold (c : Dev nD) (t : Fin cfg0.N) (h0 : ¬t.val % 6 = 0) :
    (outsAt0 m c t.val t.isLt).2 = (outsAt0 m c (t.val - 1) (Nat.lt_of_le_of_lt (Nat.sub_le _ _) t.isLt)).2 := by
  by_cases h1 : t.val % 6 ≤ 4
  · rw [outsAt0_B m c t h0 h1 (by omega)]; rfl
  · rw [outsAt0_C m c t h0 h1 (by omega)]; rfl

/-- The kept rows after a tile's first point. -/
theorem first (c : Dev nD) (t : Fin cfg0.N) (h : t.val % 6 = 0) (p : Fin 1024) (k : Fin 2048) :
    (outsAt0 m c t.val t.isLt).2 (ix2 p k) = rowOf m c (sampleOf t) (posOf t p) k := by
  rw [outsAt0_A m c t h (by omega) (by omega)]
  frame_out
  exact stored m c t p k

/-- The kept rows after any point of a tile. -/
theorem kept (c : Dev nD) (t : Fin cfg0.N) (p : Fin 1024) (k : Fin 2048) :
    (outsAt0 m c t.val t.isLt).2 (ix2 p k) = rowOf m c (sampleOf t) (posOf t p) k := by
  rw [Pipeline.eq_of_write_hold (fun n h => (outsAt0 m c n h).2) 6 (fun t => (outsAt0 m c t.val t.isLt).2)
    (fun _ _ => rfl) (fun t h => hold m c t h) t]
  refine (first m c ⟨6 * (t.val / 6), _⟩ (Nat.mul_mod_right 6 _) p k).trans ?_
  refine congrArg₂ (fun b r => rowOf m c b r k) (Fin.ext (show 6 * (t.val / 6) / 24 = t.val / 24 by omega)) (Fin.ext ?_)
  show (6 * (t.val / 6) / 6 * 1024 + p.val) % 4096 = (t.val / 6 * 1024 + p.val) % 4096
  rw [show 6 * (t.val / 6) / 6 = t.val / 6 by omega]

/-- The gain of a point's column, as staged. -/
abbrev gainAt (c : Dev nD) (t : Fin cfg0.N) (n : Fin 512) : EReal := iblk m c 5 t (ix2 0 n)

/-- A head's projected row times the staged gain, normalized and not yet rotated. -/
abbrev headAt (c : Dev nD) (t : Fin cfg0.N) (p : Fin 1024) (d : Fin 4) (k : Fin 128) : EReal :=
  rms (fun j => projOf m c (sampleOf t) (posOf t p) ⟨t.val % 6 * 512 + (d.val * 128 + j.val), by omega⟩) k
    * gainAt m c t ⟨d.val * 128 + k.val, by omega⟩

/-- The cosines of a position. -/
abbrev cosOf (r : Fin 4096) (q : Fin 64) : EReal := val_main_v28 (F := Ideal) (ix2 r q)

/-- The sines of a position. -/
abbrev sinOf (r : Fin 4096) (q : Fin 64) : EReal := val_main_v29 (F := Ideal) (ix2 r q)

/-- A point's columns of the projection. -/
theorem projected (c : Dev nD) (t : Fin cfg0.N) (H : S1024x2048.Idx → EReal) (p : Fin 1024) (n : Fin 512)
    (hH : ∀ k, H (ix2 p k) = rowOf m c (sampleOf t) (posOf t p) k) :
    k0_pay2 H (iblk m c 4 t) (ix2 p n) = projOf m c (sampleOf t) (posOf t p) ⟨t.val % 6 * 512 + n.val, by omega⟩ := by
  rw [pay2_apply]
  unfold projOf proj
  refine Finset.sum_congr rfl fun k _ => ?_
  rw [hH k]
  exact Ideal.mul_congr rfl (blk4 m c t _ _ rfl rfl)

/-- A rotated head of a point. -/
theorem rotated (c : Dev nD) (t : Fin cfg0.N) (z : S1024x128.Idx → EReal) (p : Fin 1024) (d : Fin 4) (k : Fin 128)
    (hz : ∀ k, z (ix2 p k) = headAt m c t p d k) :
    k0_pay3 z (k0_pay13 (iblk m c 6 t)) (k0_pay14 (iblk m c 7 t)) k0_pay15 96#32 (ix2 p k)
      = turn (cosOf (posOf t p)) (sinOf (posOf t p)) (headAt m c t p d) k := by
  have hr : (posOf t p).val = t.val / 6 % 4 * 1024 + p.val := by
    show (t.val / 6 * 1024 + p.val) % 4096 = _
    have := p.isLt
    omega
  rw [pay3_apply, hz, hz, pay13_apply, pay14_apply, blk6 m c t p k _ hr, blk7 m c t p k _ hr]
  exact turn_signed (cosOf (posOf t p)) (sinOf (posOf t p)) (headAt m c t p d) k

/-- The four rotated heads that a point of the queries or keys stores. -/
theorem heads (c : Dev nD) (t : Fin cfg0.N) (H : S1024x2048.Idx → EReal) (p : Fin 1024) (d : Fin 4) (k : Fin 128)
    (hH : ∀ k, H (ix2 p k) = rowOf m c (sampleOf t) (posOf t p) k) :
    View.canon (Val := Elt Ideal) (s := S1024x512) (e := .bf16)
      [⟨Rect.unit ![0, 384] ![1024, 128] inb_S1024x512_S1024x128_0_384,
          k0_pay3
            (k0_pay12 (k0_pay2 H (iblk m c 4 t))
              (View.ld (iblk m c 5 t) (Rect.unit ![0, 384] ![1, 128] inb_S1x512_S1x128_0_384)))
            (k0_pay13 (iblk m c 6 t)) (k0_pay14 (iblk m c 7 t)) k0_pay15 96#32⟩,
        ⟨Rect.unit ![0, 256] ![1024, 128] inb_S1024x512_S1024x128_0_256,
          k0_pay11
            (k0_pay9 (k0_pay2 H (iblk m c 4 t))
              (View.ld (iblk m c 5 t) (Rect.unit ![0, 256] ![1, 128] inb_S1x512_S1x128_0_256)))
            (k0_pay10 (iblk m c 6 t)) (iblk m c 7 t)⟩,
        ⟨Rect.unit ![0, 128] ![1024, 128] inb_S1024x512_S1024x128_0_128,
          k0_pay8 (k0_pay6 (k0_pay2 H (iblk m c 4 t))) (k0_pay7 (k0_pay2 H (iblk m c 4 t)))
            (View.ld (iblk m c 5 t) (Rect.unit ![0, 128] ![1, 128] inb_S1x512_S1x128_0_128)) (iblk m c 6 t)
            (iblk m c 7 t)⟩,
        ⟨Rect.unit ![0, 0] ![1024, 128] inb_S1024x512_S1024x128_0_0,
          k0_pay5 (k0_pay2 H (iblk m c 4 t))
            (View.ld (iblk m c 5 t) (Rect.unit ![0, 0] ![1, 128] inb_S1x512_S1x128_0_0)) (iblk m c 6 t) (iblk m c 7 t)⟩]
      (ix2 p ⟨d.val * 128 + k.val, by omega⟩)
      = turn (cosOf (posOf t p)) (sinOf (posOf t p)) (headAt m c t p d) k := by
  refine canon_cols _ _ _ _ p d k _ (fun hd => ?_) (fun hd => ?_) (fun hd => ?_) (fun hd => ?_)
  · obtain rfl : d = 0 := Fin.ext hd
    obtain ⟨z, hz, h⟩ := pay5_row (k0_pay2 H (iblk m c 4 t))
      (View.ld (iblk m c 5 t) (Rect.unit ![0, 0] ![1, 128] inb_S1x512_S1x128_0_0)) (iblk m c 6 t) (iblk m c 7 t)
    rw [hz]
    refine rotated m c t z p 0 k fun q => (h p q).trans (Ideal.mul_congr ?_ (stretch0 _ q))
    refine congrArg (fun f => rms f q) (funext fun j => (projected m c t H p _ hH).trans ?_)
    exact congrArg _ (Fin.ext (show t.val % 6 * 512 + j.val = t.val % 6 * 512 + (0 * 128 + j.val) by omega))
  · obtain rfl : d = 1 := Fin.ext hd
    obtain ⟨z, hz, h⟩ := pay8_row (k0_pay2 H (iblk m c 4 t))
      (View.ld (iblk m c 5 t) (Rect.unit ![0, 128] ![1, 128] inb_S1x512_S1x128_0_128)) (iblk m c 6 t) (iblk m c 7 t)
    rw [hz]
    refine rotated m c t z p 1 k fun q => (h p q).trans (Ideal.mul_congr ?_ (stretch1 _ q))
    exact congrArg (fun f => rms f q) (funext fun j => projected m c t H p _ hH)
  · obtain rfl : d = 2 := Fin.ext hd
    refine rotated m c t _ p 2 k fun q => (pay9_apply _ _ p q).trans (Ideal.mul_congr ?_ (stretch2 _ q))
    exact congrArg (fun f => rms f q) (funext fun j => projected m c t H p _ hH)
  · obtain rfl : d = 3 := Fin.ext hd
    refine rotated m c t _ p 3 k fun q => (pay12_apply _ _ p q).trans (Ideal.mul_congr ?_ (stretch3 _ q))
    exact congrArg (fun f => rms f q) (funext fun j => projected m c t H p _ hH)

/-- What a point of the queries or keys writes. -/
theorem out_heads (c : Dev nD) (t : Fin cfg0.N) (ht : t.val % 6 ≤ 4) (p : Fin 1024) (d : Fin 4) (k : Fin 128) :
    (outsAt0 m c t.val t.isLt).1 (ix2 p ⟨d.val * 128 + k.val, by omega⟩)
      = turn (cosOf (posOf t p)) (sinOf (posOf t p)) (headAt m c t p d) k := by
  by_cases h : t.val % 6 = 0
  · rw [outsAt0_A m c t h (by omega) (by omega)]
    frame_out
    exact heads m c t _ p d k (stored m c t p)
  · have hk := fun k => (congrFun (hold m c t h) (ix2 p k)).symm.trans (kept m c t p k)
    rw [outsAt0_B m c t h ht (by omega)]
    revert hk
    generalize (outsAt0 m c (t.val - 1) (Nat.lt_of_le_of_lt (Nat.sub_le _ _) t.isLt)).2 = H
    intro hk
    frame_out
    rw [read_unread_whole]
    exact heads m c t H p d k hk

/-- What a point of the values writes. -/
theorem out_values (c : Dev nD) (t : Fin cfg0.N) (ht : 5 ≤ t.val % 6) (p : Fin 1024) (n : Fin 512) :
    (outsAt0 m c t.val t.isLt).1 (ix2 p n)
      = projOf m c (sampleOf t) (posOf t p) ⟨t.val % 6 * 512 + n.val, by omega⟩ := by
  have hk := fun k => (congrFun (hold m c t (by omega)) (ix2 p k)).symm.trans (kept m c t p k)
  rw [outsAt0_C m c t (by omega) (by omega) (by omega)]
  revert hk
  generalize (outsAt0 m c (t.val - 1) (Nat.lt_of_le_of_lt (Nat.sub_le _ _) t.isLt)).2 = H
  intro hk
  frame_out
  rw [read_unread_whole]
  exact projected m c t H p n hk

/-- A head of the queries carries the scale in its gain. -/
theorem headAt_q (c : Dev nD) (t : Fin cfg0.N) (ht : t.val % 6 < 4) (p : Fin 1024) (d : Fin 4) (h : Fin 16)
    (hh : h.val = t.val % 6 * 4 + d.val) (k : Fin 128) :
    headAt m c t p d k = headQ (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (sampleOf t) (posOf t p) h k * scale := by
  have hk := k.isLt
  have hd := d.isLt
  unfold headAt headQ
  refine (Ideal.mul_congr (congrArg (fun f => rms f k) (funext fun j => congrArg _ (Fin.ext ?_)))
    (blk5_q m c t _ k ?_ ?_)).trans (mul_assoc _ _ _).symm
  · show t.val % 6 * 512 + (d.val * 128 + j.val) = h.val * 128 + j.val
    omega
  · show t.val % 6 * 512 + (d.val * 128 + k.val) < 2048
    omega
  · show (d.val * 128 + k.val) % 128 = k.val
    omega

/-- A head of the keys. -/
theorem headAt_k (c : Dev nD) (t : Fin cfg0.N) (ht : 4 ≤ t.val % 6) (ht' : t.val % 6 ≤ 4) (p : Fin 1024) (d : Fin 4) (h : Fin 4)
    (hh : h.val + 16 = t.val % 6 * 4 + d.val) (k : Fin 128) :
    headAt m c t p d k = headK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (sampleOf t) (posOf t p) h k := by
  have hk := k.isLt
  have hd := d.isLt
  unfold headAt headK
  refine Ideal.mul_congr (congrArg (fun f => rms f k) (funext fun j => congrArg _ (Fin.ext ?_)))
    (blk5_k m c t _ k ?_ ?_ ?_)
  · show t.val % 6 * 512 + (d.val * 128 + j.val) = 2048 + (h.val * 128 + j.val)
    omega
  · show 2048 ≤ t.val % 6 * 512 + (d.val * 128 + k.val)
    omega
  · show t.val % 6 * 512 + (d.val * 128 + k.val) < 2560
    omega
  · show (d.val * 128 + k.val) % 128 = k.val
    omega

/-- What a point writes is the reference's, at the point's rows and columns. -/
theorem written (c : Dev nD) (t : Fin cfg0.N) (p : Fin 1024) (n : Fin 512) (i : S32768x3072.Idx)
    (h0 : (i 0).val = t.val / 6 * 1024 + p.val) (h1 : (i 1).val = t.val % 6 * 512 + n.val) :
    (outsAt0 m c t.val t.isLt).1 (ix2 p n)
      = val_main_v163 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) i := by
  have hn := n.isLt
  have hr := h0.trans (place t p).symm
  by_cases ht : t.val % 6 ≤ 4
  · obtain ⟨d, k, rfl⟩ := heads_of n
    have hd := d.isLt
    have hk := k.isLt
    replace h1 : (i 1).val = t.val % 6 * 512 + (d.val * 128 + k.val) := h1
    rw [out_heads m c t ht p d k]
    by_cases hq : t.val % 6 < 4
    · rw [out_q _ _ _ _ _ _ _ i (sampleOf t) (posOf t p) ⟨t.val % 6 * 4 + d.val, by omega⟩ k hr (by rw [h1]; dsimp only; omega),
        ← turn_mul _ _ _ scale scale_nonneg scale_ne_top k]
      exact congrArg (fun f => turn _ _ f k) (funext fun q => headAt_q m c t hq p d _ rfl q)
    · rw [out_k _ _ _ _ _ _ _ i (sampleOf t) (posOf t p) ⟨t.val % 6 * 4 + d.val - 16, by omega⟩ k hr (by rw [h1]; dsimp only; omega)]
      exact congrArg (fun f => turn _ _ f k) (funext fun q => headAt_k m c t (by omega) ht p d _ (by dsimp only; omega) q)
  · rw [out_values m c t (by omega) p n,
      out_v _ _ _ _ _ _ _ i (sampleOf t) (posOf t p) ⟨t.val % 6 * 512 + n.val - 2560, by omega⟩ hr (by rw [h1]; dsimp only; omega)]
    exact congrArg _ (Fin.ext (show t.val % 6 * 512 + n.val = 2560 + (t.val % 6 * 512 + n.val - 2560) by omega))

/-- The array that the kernel writes is the reference's. -/
theorem final (c : Dev nD) : (dats m 0 c).arrAt 8 (cfgs 0).N
    = val_main_v163 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  obtain ⟨p, j, rfl⟩ : ∃ (p : Fin 1024) (j : Fin 512), y = ix2 p j := ⟨y 0, y 1, eq_ix2 y⟩
  have e0 : ((((cfg0.win 8).blk t).view.emb (ix2 p j)) 0).val = t.val / 6 * 1024 + p.val := by blk_simp [idx t]
  have e1 : ((((cfg0.win 8).blk t).view.emb (ix2 p j)) 1).val = t.val % 6 * 512 + j.val := by blk_simp [idx t]
  have e := written m c t p j _ e0 e1
  blk_simp
  rw [after0_8]
  exact e

end Cert.ProjAIdeal.RefValue

end
-- ==== Proof.Mod.Value.lean ====
/- The modulation: the tiles that the kernel writes are the columns of `silu(cond) · w + b`, layer by layer, whole rows of
   the contraction at a time. -/
module

public import proofs.«01_k».proof.Proof.Gen.ModIdeal.Value
public import proofs.«01_k».proof.Proof.Gen.ModRefIdeal.Read
public import proofs.«01_k».proof.Proof.Ffn.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.RefValue

open Cert.ModIdeal Cert.ModIdeal.Gen
open Cert.ModRefIdeal.Read

variable (m : (ℓ : Loc nD τ sig) → Buf (Elt Ideal) ℓ)

/-- The block that each window stages at a grid point, as arithmetic on the point's number: the grid walks the twelve
    column blocks inside the layers. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The conditions staged at a point: all of them. -/
theorem blk0 (c : Dev nD) (t : Fin cfg0.N) (y : S16x2048.Idx) (i : S16x2048.Idx)
    (h0 : (i 0).val = (y 0).val) (h1 : (i 1).val = (y 1).val) :
    iblk m c 0 t y = m ((c : Thread nD τ).loc main_arg0) i := by
  show V m c main_arg0 (((cfg0.win 0).blk t).view.emb y) = _
  rw [V_main_arg0]
  refine congrArg _ (funext fun a => Fin.ext ?_)
  match a with
  | ⟨0, _⟩ => blk_simp [idx t]; exact h0.symm
  | ⟨1, _⟩ => blk_simp [idx t]; exact h1.symm

/-- The columns of a layer's weight staged at a point. -/
theorem blk1 (c : Dev nD) (t : Fin cfg0.N) (y : S1x2048x1024.Idx) (i : S4x2048x12288.Idx)
    (h0 : (i 0).val = t.val / 12) (h1 : (i 1).val = (y 1).val) (h2 : (i 2).val = t.val % 12 * 1024 + (y 2).val) :
    iblk m c 1 t y = m ((c : Thread nD τ).loc main_arg1) i := by
  show V m c main_arg1 (((cfg0.win 1).blk t).view.emb y) = _
  rw [V_main_arg1]
  refine congrArg _ (funext fun a => Fin.ext ?_)
  match a with
  | ⟨0, _⟩ => blk_simp [idx t]; exact h0.symm
  | ⟨1, _⟩ => blk_simp [idx t]; exact h1.symm
  | ⟨2, _⟩ => blk_simp [idx t]; exact h2.symm

/-- The columns of a layer's bias staged at a point. -/
theorem blk2 (c : Dev nD) (t : Fin cfg0.N) (y : S1x1x1024.Idx) (i : S4x12288.Idx)
    (h0 : (i 0).val = t.val / 12) (h1 : (i 1).val = t.val % 12 * 1024 + (y 2).val) :
    iblk m c 2 t y = m ((c : Thread nD τ).loc main_arg2) i := by
  show V m c main_v0 (((cfg0.win 2).blk t).view.emb y) = _
  entry_read
  generalize he : ((cfg0.win 2).blk t).view.emb y = e
  have hy : (y 0).val < 1 := (y 0).isLt
  have e0 : (e 0).val = t.val / 12 := by rw [← he]; blk_simp [idx t]
  have e1 : (e 2).val = t.val % 12 * 1024 + (y 2).val := by rw [← he]; blk_simp [idx t]
  clear he
  generalize m _ = A
  pointwise
  refine congrArg _ (funext fun a => Fin.ext ?_)
  match a with
  | ⟨0, _⟩ => exact e0.trans h0.symm
  | ⟨1, _⟩ => exact e1.trans h1.symm

/-- One stored element: at its place `i` in the result array it is the reference's element. -/
theorem point (c : Dev nD) (t : Fin cfg0.N) (y : S1x16x1024.Idx) (i : S4x16x12288.Idx)
    (h0 : (i 0).val = t.val / 12) (h1 : (i 1).val = (y 1).val) (h2 : (i 2).val = t.val % 12 * 1024 + (y 2).val) :
    k0_pay1 (iblk m c 0 t) (iblk m c 1 t) (iblk m c 2 t) y
      = val_main_v5 (F := Ideal) (m ((c : Thread nD τ).loc main_arg0)) (m ((c : Thread nD τ).loc main_arg1))
          (m ((c : Thread nD τ).loc main_arg2)) i := by
  pointwise [k0_pay1, val_main_v5, val_main_v4, val_main_v3, val_main_v2, val_main_v1, val_main_v0, val_main_call0_v5,
    val_main_call0_v4, val_main_call0_v3, val_main_call0_v2, val_main_call0_v1, val_main_call0_v0, val_main_call0_cst,
    val_main_call0_cst_0]
  refine Ideal.add_congr (Finset.sum_congr rfl fun k _ => ?_) (blk2 m c t _ _ h0 h2)
  rw [Cert.FfnRows.mul_logistic, mul_comm, blk0 m c t (ix2 (y 1) k) (ix2 (i 1) k) h1 rfl,
    blk1 m c t (ix3 0 k (y 2)) (ix3 (i 0) k (i 2)) h0 rfl h2, zero_sub, Cert.FfnRows.silu]

/-- The result array after the run is the reference's. -/
theorem final (c : Dev nD) : (dats m 0 c).arrAt 3 (cfgs 0).N
    = val_main_v5 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  have hy : (y 0).val < 1 := (y 0).isLt
  have e0 : ((((cfg0.win 3).blk t).view.emb y) 0).val = t.val / 12 := by blk_simp [idx t]
  have e1 : ((((cfg0.win 3).blk t).view.emb y) 1).val = (y 1).val := by blk_simp [idx t]
  have e2 : ((((cfg0.win 3).blk t).view.emb y) 2).val = t.val % 12 * 1024 + (y 2).val := by blk_simp [idx t]
  blk_simp
  rw [after0_3]
  frame_out
  exact point m c t y _ e0 e1 e2

end Cert.ModIdeal.RefValue

end
-- ==== Proof.CtxB.Kernel.lean ====
/- The kernel of the prompt's projection, element by element of its stored values. -/
module

public import proofs.«01_k».proof.Proof.Gen.CtxBIdeal.Frame
public import proofs.«01_k».proof.Proof.Ffn.Rows
public import proofs.«01_k».proof.Proof.ProjB.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.CtxBIdeal.RefValue

open Cert.CtxBIdeal Cert.CtxBIdeal.Gen Cert.FfnRows Cert.ProjRows

/-- A row, normalized and modulated. -/
theorem pay1_apply (x : Vec Ideal S512x2048 .f32) (g : Vec Ideal S1x2048 .f32) (sh sc : Vec Ideal S1x1x2048 .f32) (p : Fin 512) (k : Fin 2048) :
    k0_pay1 x g sh sc (ix2 p k)
      = adaln (fun j => x (ix2 p j)) (fun j => g (ix2 0 j)) (fun j => sc (ix3 0 0 j)) (fun j => sh (ix3 0 0 j)) k := by
  unfold adaln
  pointwise [k0_pay1]

/-- The projection of the normalized rows. -/
theorem pay2_apply (h : Vec Ideal S512x2048 .bf16) (w : Vec Ideal S2048x512 .bf16) (p : Fin 512) (n : Fin 512) :
    k0_pay2 h w (ix2 p n) = ∑ k : Fin 2048, h (ix2 p k) * w (ix2 k n) := by
  pointwise [k0_pay2]

/-- The normalized row of a tile's first head. -/
theorem pay5_apply (y : FVec Ideal S512x512 .f32) (g : Vec Ideal S1x128 .f32) (p : Fin 512) (k : Fin 128) :
    k0_pay5 y g (ix2 p k) = rms (fun j => y (ix2 p ⟨j.val, by have := j.isLt; omega⟩)) k * g (ix2 0 k) := by
  unfold rms
  pointwise [k0_pay5]

/-- The normalized row of a tile's second head. -/
theorem pay6_apply (y : FVec Ideal S512x512 .f32) (g : Vec Ideal S1x128 .f32) (p : Fin 512) (k : Fin 128) :
    k0_pay6 y g (ix2 p k) = rms (fun j => y (ix2 p ⟨128 + j.val, by have := j.isLt; omega⟩)) k * g (ix2 0 k) := by
  unfold rms
  pointwise [k0_pay6]

/-- The normalized row of a tile's third head. -/
theorem pay3_apply (y : FVec Ideal S512x512 .f32) (g : Vec Ideal S1x128 .f32) (p : Fin 512) (k : Fin 128) :
    k0_pay3 (k0_pay7 y) (k0_pay8 y) g (ix2 p k) = rms (fun j => y (ix2 p ⟨256 + j.val, by have := j.isLt; omega⟩)) k * g (ix2 0 k) := by
  unfold rms
  pointwise [k0_pay3, k0_pay7, k0_pay8]

/-- The normalized row of a tile's last head. -/
theorem pay4_apply (h : Vec Ideal S512x2048 .bf16) (w : Vec Ideal S2048x512 .bf16) (g : Vec Ideal S1x128 .f32) (p : Fin 512) (k : Fin 128) :
    k0_pay4 h w g (ix2 p k) = rms (fun j => k0_pay2 h w (ix2 p ⟨384 + j.val, by have := j.isLt; omega⟩)) k * g (ix2 0 k) := by
  unfold rms k0_pay4
  generalize k0_pay2 h w = y
  pointwise

end Cert.CtxBIdeal.RefValue
-- ==== Proof.CtxB.Ref.lean ====
/- The reference of the prompt's projection, element by element. -/
module

public import proofs.«01_k».proof.Proof.Gen.CtxBRefIdeal.Read
public import proofs.«01_k».proof.Proof.Ffn.Rows
public import proofs.«01_k».proof.Proof.ProjB.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.CtxBRefIdeal.Rows

open Cert.CtxBRefIdeal Cert.CtxBRefIdeal.Gen Cert.CtxBRefIdeal.Read Cert.FfnRows Cert.ProjRows

variable (x0 : (⟨S32x256x2048, .f32⟩ : BufTy).Contents (Elt Ideal)) (x1 : (⟨S2048, .f32⟩ : BufTy).Contents (Elt Ideal))
  (x2 x3 : (⟨S1x2048, .f32⟩ : BufTy).Contents (Elt Ideal)) (x4 : (⟨S2048x6144, .f32⟩ : BufTy).Contents (Elt Ideal))
  (x5 x6 : (⟨S128, .f32⟩ : BufTy).Contents (Elt Ideal))

/-- A row of the modulated normalization. -/
def row (b : Fin 32) (r : Fin 256) : Fin 2048 → EReal :=
  adaln (fun j => x0 (ix3 b r j)) (fun j => x1 (ix1 j)) (fun j => x3 (ix2 0 j)) (fun j => x2 (ix2 0 j))

/-- The reference's normalized and modulated rows. -/
theorem v20_eq (b : Fin 32) (r : Fin 256) (k : Fin 2048) :
    val_main_v20 (F := Ideal) x0 x1 x2 x3 (ix3 b r k) = row x0 x1 x2 x3 b r k := by
  unfold row adaln
  rw [val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply]
  refine Ideal.add_congr (Ideal.mul_congr (Ideal.mul_congr (Ideal.mul_congr rfl (congrArg Ideal.rsqrt (Ideal.add_congr
    (congrArg₂ Ideal.div ?_ rfl) rfl))) ?_) (Ideal.add_congr Ideal.ofBits_one_f32 ?_)) ?_
  · refine (Ideal.add_congr Ideal.ofBits_zero_f32 (Finset.sum_congr rfl fun j _ => ?_)).trans (zero_add _)
    refine Ideal.mul_congr (congrArg x0 (funext fun a => ?_)) (congrArg x0 (funext fun a => ?_)) <;>
      (match a with | ⟨0, _⟩ => rfl | ⟨1, _⟩ => rfl | ⟨2, _⟩ => rfl)
  · exact congrArg x1 (funext fun a => match a with | ⟨0, _⟩ => rfl)
  · exact congrArg x3 (funext fun a => match a with | ⟨0, _⟩ => rfl | ⟨1, _⟩ => rfl)
  · exact congrArg x2 (funext fun a => match a with | ⟨0, _⟩ => rfl | ⟨1, _⟩ => rfl)

/-- A row times the projection. -/
def proj (b : Fin 32) (r : Fin 256) (n : Fin 6144) : EReal := ∑ k, row x0 x1 x2 x3 b r k * x4 (ix2 k n)

/-- The reference's projection. -/
theorem v21_eq (b : Fin 32) (r : Fin 256) (n : Fin 6144) :
    val_main_v21 (F := Ideal) x0 x1 x2 x3 x4 (ix3 b r n) = proj x0 x1 x2 x3 x4 b r n := by
  rw [val_main_v21_apply]
  refine Finset.sum_congr rfl fun k _ => Ideal.mul_congr ?_ (congrArg x4 (funext fun a => match a with | ⟨0, _⟩ => rfl | ⟨1, _⟩ => rfl))
  rw [← v20_eq]
  exact congrArg _ (funext fun a => match a with | ⟨0, _⟩ => rfl | ⟨1, _⟩ => rfl | ⟨2, _⟩ => rfl)

/-- A query's lane, before its normalization. -/
theorem v25_eq (b : Fin 32) (r : Fin 256) (h : Fin 16) (k : Fin 128) :
    val_main_v25 (F := Ideal) x0 x1 x2 x3 x4 (ix4 b r h k) = proj x0 x1 x2 x3 x4 b r ⟨h.val * 128 + k.val, by omega⟩ := by
  have hb := b.isLt
  have hr := r.isLt
  have hh := h.isLt
  have hk := k.isLt
  rw [val_main_v25_apply, val_main_v22_apply, ← v21_eq]
  refine congrArg _ (funext fun a => Fin.ext ?_)
  match a with
  | ⟨0, _⟩ => exact (show (((b.val * 256 + r.val) * 16 + h.val) * 128 + k.val) / 524288 = b.val by omega)
  | ⟨1, _⟩ => exact (show (((b.val * 256 + r.val) * 16 + h.val) * 128 + k.val) / 2048 % 256 = r.val by omega)
  | ⟨2, _⟩ => exact (show (((b.val * 256 + r.val) * 16 + h.val) * 128 + k.val) % 2048 = h.val * 128 + k.val by omega)

/-- A query's normalized row. -/
def headQ (b : Fin 32) (r : Fin 256) (h : Fin 16) (k : Fin 128) : EReal :=
  rms (fun j => proj x0 x1 x2 x3 x4 b r ⟨h.val * 128 + j.val, by omega⟩) k * x5 (ix1 k)

/-- The reference's normalized row of a query. -/
theorem v38_eq (b : Fin 32) (r : Fin 256) (h : Fin 16) (k : Fin 128) :
    val_main_v38 (F := Ideal) x0 x1 x2 x3 x4 x5 (ix4 b r h k) = headQ x0 x1 x2 x3 x4 x5 b r h k := by
  unfold headQ rms
  rw [val_main_v38_apply, val_main_v37_apply, val_main_v36_apply, val_main_v35_apply, val_main_v34_apply, val_main_v33_apply, val_main_v32_apply, val_main_v31_apply, val_main_v30_apply, val_main_v29_apply, val_main_v28_apply, val_main_v27_apply]
  refine Ideal.mul_congr (Ideal.mul_congr (v25_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v27 (idx_main_v28 (idx_main_v34 (ix4 b r h k))) j = ix4 b r h j :=
      funext fun a => match a with | ⟨0, _⟩ => rfl | ⟨1, _⟩ => rfl | ⟨2, _⟩ => rfl | ⟨3, _⟩ => rfl
    rw [val_main_v26_apply, e]
    exact Ideal.mul_congr (v25_eq x0 x1 x2 x3 x4 b r h j) (v25_eq x0 x1 x2 x3 x4 b r h j)
  · exact congrArg x5 (funext fun a => match a with | ⟨0, _⟩ => rfl)

/-- A key's lane, before its normalization. -/
theorem v41_eq (b : Fin 32) (r : Fin 256) (h : Fin 16) (k : Fin 128) :
    val_main_v41 (F := Ideal) x0 x1 x2 x3 x4 (ix4 b r h k) = proj x0 x1 x2 x3 x4 b r ⟨2048 + (h.val * 128 + k.val), by omega⟩ := by
  have hb := b.isLt
  have hr := r.isLt
  have hh := h.isLt
  have hk := k.isLt
  rw [val_main_v41_apply, val_main_v23_apply, ← v21_eq]
  refine congrArg _ (funext fun a => Fin.ext ?_)
  match a with
  | ⟨0, _⟩ => exact (show (((b.val * 256 + r.val) * 16 + h.val) * 128 + k.val) / 524288 = b.val by omega)
  | ⟨1, _⟩ => exact (show (((b.val * 256 + r.val) * 16 + h.val) * 128 + k.val) / 2048 % 256 = r.val by omega)
  | ⟨2, _⟩ => exact (show 2048 + (((b.val * 256 + r.val) * 16 + h.val) * 128 + k.val) % 2048 = 2048 + (h.val * 128 + k.val) by omega)

/-- A key's normalized row. -/
def headK (b : Fin 32) (r : Fin 256) (h : Fin 16) (k : Fin 128) : EReal :=
  rms (fun j => proj x0 x1 x2 x3 x4 b r ⟨2048 + (h.val * 128 + j.val), by omega⟩) k * x6 (ix1 k)

/-- The reference's normalized row of a key. -/
theorem v54_eq (b : Fin 32) (r : Fin 256) (h : Fin 16) (k : Fin 128) :
    val_main_v54 (F := Ideal) x0 x1 x2 x3 x4 x6 (ix4 b r h k) = headK x0 x1 x2 x3 x4 x6 b r h k := by
  unfold headK rms
  rw [val_main_v54_apply, val_main_v53_apply, val_main_v52_apply, val_main_v51_apply, val_main_v50_apply, val_main_v49_apply, val_main_v48_apply, val_main_v47_apply, val_main_v46_apply, val_main_v45_apply, val_main_v44_apply, val_main_v43_apply]
  refine Ideal.mul_congr (Ideal.mul_congr (v41_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v43 (idx_main_v44 (idx_main_v50 (ix4 b r h k))) j = ix4 b r h j :=
      funext fun a => match a with | ⟨0, _⟩ => rfl | ⟨1, _⟩ => rfl | ⟨2, _⟩ => rfl | ⟨3, _⟩ => rfl
    rw [val_main_v42_apply, e]
    exact Ideal.mul_congr (v41_eq x0 x1 x2 x3 x4 b r h j) (v41_eq x0 x1 x2 x3 x4 b r h j)
  · exact congrArg x6 (funext fun a => match a with | ⟨0, _⟩ => rfl)

/-- The reference's result before its flattening. -/
theorem v58_flat (i : S8192x6144.Idx) (b : Fin 32) (r : Fin 256) (n : Fin 6144)
    (h0 : (i 0).val = b.val * 256 + r.val) (h1 : (i 1).val = n.val) :
    val_main_v58 (F := Ideal) x0 x1 x2 x3 x4 x5 x6 i = val_main_v57 (F := Ideal) x0 x1 x2 x3 x4 x5 x6 (ix3 b r n) := by
  have hb := b.isLt
  have hr := r.isLt
  have hn := n.isLt
  have ei : idx_main_v58 i = ix3 b r n := by
    refine funext fun a => Fin.ext ?_
    match a with
    | ⟨0, _⟩ => exact (show ((i 0).val * 6144 + (i 1).val) / 1572864 = b.val by omega)
    | ⟨1, _⟩ => exact (show ((i 0).val * 6144 + (i 1).val) / 6144 % 256 = r.val by omega)
    | ⟨2, _⟩ => exact (show ((i 0).val * 6144 + (i 1).val) % 6144 = n.val by omega)
  rw [val_main_v58_apply, ei]

/-- A query's column of the result. -/
theorem out_q (i : S8192x6144.Idx) (b : Fin 32) (r : Fin 256) (h : Fin 16) (k : Fin 128)
    (h0 : (i 0).val = b.val * 256 + r.val) (h1 : (i 1).val = h.val * 128 + k.val) :
    val_main_v58 (F := Ideal) x0 x1 x2 x3 x4 x5 x6 i
      = headQ x0 x1 x2 x3 x4 x5 b r h k * scale := by
  have hb := b.isLt
  have hr := r.isLt
  have hh := h.isLt
  have hk := k.isLt
  have ei : idx_main_v55 (ix3 b r ⟨h.val * 128 + k.val, by omega⟩) = ix4 b r h k := by
    refine funext fun a => Fin.ext ?_
    match a with
    | ⟨0, _⟩ => exact (show ((b.val * 256 + r.val) * 2048 + (h.val * 128 + k.val)) / 524288 = b.val by omega)
    | ⟨1, _⟩ => exact (show ((b.val * 256 + r.val) * 2048 + (h.val * 128 + k.val)) / 2048 % 256 = r.val by omega)
    | ⟨2, _⟩ => exact (show ((b.val * 256 + r.val) * 2048 + (h.val * 128 + k.val)) / 128 % 16 = h.val by omega)
    | ⟨3, _⟩ => exact (show ((b.val * 256 + r.val) * 2048 + (h.val * 128 + k.val)) % 128 = k.val by omega)
  rw [v58_flat x0 x1 x2 x3 x4 x5 x6 i b r ⟨h.val * 128 + k.val, by omega⟩ h0 h1]
  unfold val_main_v57
  refine Eq.trans (concatenate_apply_piece (t := S32x256x6144) 2 _ _ _ 0 (by exact (by decide : (0 : ℕ) < 3)) S32x256x2048 (val_main_v55 (F := Ideal) x0 x1 x2 x3 x4 x5) rfl rfl 0 rfl (ix3 b r ⟨h.val * 128 + k.val, by omega⟩) (fun a => match a with
    | ⟨0, _⟩ => fun _ => rfl | ⟨1, _⟩ => fun _ => rfl | ⟨2, _⟩ => fun hn => absurd rfl hn) (Nat.zero_add _)) ?_
  rw [val_main_v55_apply, ei, val_main_v40_apply, v38_eq, val_main_v39_apply]
  rfl

/-- A key's column of the result. -/
theorem out_k (i : S8192x6144.Idx) (b : Fin 32) (r : Fin 256) (h : Fin 16) (k : Fin 128)
    (h0 : (i 0).val = b.val * 256 + r.val) (h1 : (i 1).val = 2048 + (h.val * 128 + k.val)) :
    val_main_v58 (F := Ideal) x0 x1 x2 x3 x4 x5 x6 i
      = headK x0 x1 x2 x3 x4 x6 b r h k := by
  have hb := b.isLt
  have hr := r.isLt
  have hh := h.isLt
  have hk := k.isLt
  have ei : idx_main_v56 (ix3 b r ⟨h.val * 128 + k.val, by omega⟩) = ix4 b r h k := by
    refine funext fun a => Fin.ext ?_
    match a with
    | ⟨0, _⟩ => exact (show ((b.val * 256 + r.val) * 2048 + (h.val * 128 + k.val)) / 524288 = b.val by omega)
    | ⟨1, _⟩ => exact (show ((b.val * 256 + r.val) * 2048 + (h.val * 128 + k.val)) / 2048 % 256 = r.val by omega)
    | ⟨2, _⟩ => exact (show ((b.val * 256 + r.val) * 2048 + (h.val * 128 + k.val)) / 128 % 16 = h.val by omega)
    | ⟨3, _⟩ => exact (show ((b.val * 256 + r.val) * 2048 + (h.val * 128 + k.val)) % 128 = k.val by omega)
  rw [v58_flat x0 x1 x2 x3 x4 x5 x6 i b r ⟨2048 + (h.val * 128 + k.val), by omega⟩ h0 h1]
  unfold val_main_v57
  refine Eq.trans (concatenate_apply_piece (t := S32x256x6144) 2 _ _ _ 1 (by exact (by decide : (1 : ℕ) < 3)) S32x256x2048 (val_main_v56 (F := Ideal) x0 x1 x2 x3 x4 x6) rfl rfl 2048 rfl (ix3 b r ⟨h.val * 128 + k.val, by omega⟩) (fun a => match a with
    | ⟨0, _⟩ => fun _ => rfl | ⟨1, _⟩ => fun _ => rfl | ⟨2, _⟩ => fun hn => absurd rfl hn) rfl) ?_
  rw [val_main_v56_apply, ei, v54_eq]

/-- A value's column of the result. -/
theorem out_v (i : S8192x6144.Idx) (b : Fin 32) (r : Fin 256) (j : Fin 2048)
    (h0 : (i 0).val = b.val * 256 + r.val) (h1 : (i 1).val = 4096 + j.val) :
    val_main_v58 (F := Ideal) x0 x1 x2 x3 x4 x5 x6 i = proj x0 x1 x2 x3 x4 b r ⟨4096 + j.val, by omega⟩ := by
  rw [v58_flat x0 x1 x2 x3 x4 x5 x6 i b r ⟨4096 + j.val, by omega⟩ h0 h1]
  unfold val_main_v57
  refine Eq.trans (concatenate_apply_piece (t := S32x256x6144) 2 _ _ _ 2 (by exact (by decide : (2 : ℕ) < 3)) S32x256x2048 (val_main_v24 (F := Ideal) x0 x1 x2 x3 x4) rfl rfl 4096 rfl (ix3 b r j) (fun a => match a with
    | ⟨0, _⟩ => fun _ => rfl | ⟨1, _⟩ => fun _ => rfl | ⟨2, _⟩ => fun hn => absurd rfl hn) rfl) ?_
  rw [val_main_v24_apply, ← v21_eq]
  exact congrArg _ (funext fun a => match a with | ⟨0, _⟩ => rfl | ⟨1, _⟩ => rfl | ⟨2, _⟩ => rfl)

end Cert.CtxBRefIdeal.Rows

end
-- ==== Proof.CtxB.Blocks.lean ====
/- The prompt's projection: the blocks that the kernel stages, read from the arguments. -/
module

public import proofs.«01_k».proof.Proof.Gen.CtxBIdeal.Frame
public import proofs.«01_k».proof.Proof.CtxB.Ref
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CtxBIdeal.RefValue

open Cert.CtxBIdeal Cert.CtxBIdeal.Gen Cert.ProjRows

variable (m : (ℓ : Loc nD τ sig) → Buf (Elt Ideal) ℓ)

/-- The block that each window stages at a grid point, as arithmetic on the point's number: twelve column blocks inside
    each tile of rows. -/
theorem idx : ∀ t : Fin cfg0.N, (win0_0.index t = ![t.val / 12, 0] ∧ win0_1.index t = ![0, 0]
    ∧ win0_2.index t = ![0, 0, 0] ∧ win0_3.index t = ![0, 0, 0] ∧ win0_4.index t = ![0, t.val % 12])
    ∧ win0_5.index t = ![0, t.val % 12]
    ∧ win0_6.index t = ![t.val / 12, t.val % 12] :=
  (by decide +kernel : ∀ t : Fin grid0.N, _)

/-- The flattened residual stream at an index, from its place by sequence. -/
theorem flat (c : Dev nD) (e : S8192x2048.Idx) (i : S32x256x2048.Idx)
    (h0 : (i 0).val * 256 + (i 1).val = (e 0).val) (h1 : (i 2).val = (e 1).val) :
    V m c main_v0 e = m ((c : Thread nD τ).loc main_arg0) i := by
  entry_read
  have hi : (i 1).val < 256 := (i 1).isLt
  generalize m _ = A
  pointwise
  refine congrArg _ (funext fun a => Fin.ext ?_)
  match a with
  | ⟨0, _⟩ => exact (show (e 0).val / 256 = (i 0).val by omega)
  | ⟨1, _⟩ => exact (show (e 0).val % 256 = (i 1).val by omega)
  | ⟨2, _⟩ => exact h1.symm

/-- The rows of a tile. -/
theorem blk0 (c : Dev nD) (t : Fin cfg0.N) (y : S512x2048.Idx) (i : S32x256x2048.Idx)
    (h0 : (i 0).val * 256 + (i 1).val = t.val / 12 * 512 + (y 0).val) (h1 : (i 2).val = (y 1).val) :
    iblk m c 0 t y = m ((c : Thread nD τ).loc main_arg0) i := by
  show V m c main_v0 (((cfg0.win 0).blk t).view.emb y) = _
  refine flat m c _ i ?_ ?_
  · blk_simp [idx t]; exact h0
  · blk_simp [idx t]; exact h1

/-- The gain. -/
theorem blk1 (c : Dev nD) (t : Fin cfg0.N) (j : Fin 2048) :
    iblk m c 1 t (ix2 0 j) = m ((c : Thread nD τ).loc main_arg1) (ix1 j) := by
  show V m c main_v1 (((cfg0.win 1).blk t).view.emb (ix2 0 j)) = _
  entry_read
  generalize he : ((cfg0.win 1).blk t).view.emb (ix2 0 j) = e
  have e1 : (e 1).val = j.val := by rw [← he]; blk_simp [idx t]
  clear he
  generalize m _ = A
  pointwise
  exact congrArg _ (funext fun a => Fin.ext (match a with | ⟨0, _⟩ => e1))

/-- The shift. -/
theorem blk2 (c : Dev nD) (t : Fin cfg0.N) (j : Fin 2048) :
    iblk m c 2 t (ix3 0 0 j) = m ((c : Thread nD τ).loc main_arg2) (ix2 0 j) := by
  show V m c main_v14 (((cfg0.win 2).blk t).view.emb (ix3 0 0 j)) = _
  entry_read
  generalize he : ((cfg0.win 2).blk t).view.emb (ix3 0 0 j) = e
  have e1 : (e 2).val = j.val := by rw [← he]; blk_simp [idx t]
  clear he
  generalize m _ = A
  pointwise
  exact congrArg _ (funext fun a => Fin.ext (match a with | ⟨0, _⟩ => rfl | ⟨1, _⟩ => e1))

/-- The scale. -/
theorem blk3 (c : Dev nD) (t : Fin cfg0.N) (j : Fin 2048) :
    iblk m c 3 t (ix3 0 0 j) = m ((c : Thread nD τ).loc main_arg3) (ix2 0 j) := by
  show V m c main_v15 (((cfg0.win 3).blk t).view.emb (ix3 0 0 j)) = _
  entry_read
  generalize he : ((cfg0.win 3).blk t).view.emb (ix3 0 0 j) = e
  have e1 : (e 2).val = j.val := by rw [← he]; blk_simp [idx t]
  clear he
  generalize m _ = A
  pointwise
  exact congrArg _ (funext fun a => Fin.ext (match a with | ⟨0, _⟩ => rfl | ⟨1, _⟩ => e1))

/-- The columns of the projection; the narrowing changes nothing over the extended reals. -/
theorem blk4 (c : Dev nD) (t : Fin cfg0.N) (y : S2048x512.Idx) (i : S2048x6144.Idx)
    (h0 : (i 0).val = (y 0).val) (h1 : (i 1).val = t.val % 12 * 512 + (y 1).val) :
    iblk m c 4 t y = m ((c : Thread nD τ).loc main_arg4) i := by
  show V m c main_v2 (((cfg0.win 4).blk t).view.emb y) = _
  entry_read
  refine congrArg (m ((c : Thread nD τ).loc main_arg4)) (funext fun a => Fin.ext ?_)
  match a with
  | ⟨0, _⟩ => blk_simp [idx t]; exact h0.symm
  | ⟨1, _⟩ => blk_simp [idx t]; exact h1.symm

/-- The queries' gain. -/
abbrev gainQ (c : Dev nD) : S128.Idx → EReal := m ((c : Thread nD τ).loc main_arg5)

/-- The keys' gain. -/
abbrev gainK (c : Dev nD) : S128.Idx → EReal := m ((c : Thread nD τ).loc main_arg6)

/-- A query column's gain, with the scale. -/
theorem gain_q (c : Dev nD) (e : S1x6144.Idx) (k : Fin 128) (hn : (e 1).val < 2048) (hk : (e 1).val % 128 = k.val) :
    V m c main_v13 e = gainQ m c (ix1 k) * scale := by
  unfold V hostOps0
  after_reads_simp
  refine Eq.trans (congrArg (concatenate S6144 0 _ _) (?_ : _ = ix1 (⟨(e 1).val, (e 1).isLt⟩ : Fin 6144))) ?_
  · exact funext fun a => match a with | ⟨0, _⟩ => rfl
  refine Eq.trans (concatenate_apply_piece (t := S6144) 0 _ _ _ 0 (by exact (by decide : (0 : ℕ) < 3)) S2048 _ rfl rfl 0 rfl (ix1 ⟨(e 1).val - 0, by omega⟩) ?_ ?_) ?_
  · intro b hb; exact absurd (Subsingleton.elim (α := Fin 1) _ _) hb
  · exact (show 0 + ((e 1).val - 0) = (e 1).val by omega)
  try simp only [Matrix.cons_val]
  after_reads_simp
  unfold gainQ
  generalize m _ = A
  pointwise
  exact Ideal.mul_congr (congrArg A (funext fun a => Fin.ext (match a with | ⟨0, _⟩ => (show ((e 1).val - 0) % 128 = k.val by omega)))) rfl

/-- A key column's gain. -/
theorem gain_k (c : Dev nD) (e : S1x6144.Idx) (k : Fin 128) (hl : 2048 ≤ (e 1).val) (hn : (e 1).val < 4096) (hk : (e 1).val % 128 = k.val) :
    V m c main_v13 e = gainK m c (ix1 k) := by
  unfold V hostOps0
  after_reads_simp
  refine Eq.trans (congrArg (concatenate S6144 0 _ _) (?_ : _ = ix1 (⟨(e 1).val, (e 1).isLt⟩ : Fin 6144))) ?_
  · exact funext fun a => match a with | ⟨0, _⟩ => rfl
  refine Eq.trans (concatenate_apply_piece (t := S6144) 0 _ _ _ 1 (by exact (by decide : (1 : ℕ) < 3)) S2048 _ rfl rfl 2048 rfl (ix1 ⟨(e 1).val - 2048, by omega⟩) ?_ ?_) ?_
  · intro b hb; exact absurd (Subsingleton.elim (α := Fin 1) _ _) hb
  · exact (show 2048 + ((e 1).val - 2048) = (e 1).val by omega)
  try simp only [Matrix.cons_val]
  after_reads_simp
  unfold gainK
  generalize m _ = A
  pointwise
  exact congrArg A (funext fun a => Fin.ext (match a with | ⟨0, _⟩ => (show ((e 1).val - 2048) % 128 = k.val by omega)))

/-- A query column's staged gain. -/
theorem blk5_q (c : Dev nD) (t : Fin cfg0.N) (y : S1x512.Idx) (k : Fin 128) (hn : t.val % 12 * 512 + (y 1).val < 2048) (hk : (y 1).val % 128 = k.val) :
    iblk m c 5 t y = gainQ m c (ix1 k) * scale := by
  show V m c main_v13 (((cfg0.win 5).blk t).view.emb y) = _
  generalize he : ((cfg0.win 5).blk t).view.emb y = e
  have e1 : (e 1).val = t.val % 12 * 512 + (y 1).val := by rw [← he]; blk_simp [idx t]
  exact gain_q m c e k (by omega) (by omega)

/-- A key column's staged gain. -/
theorem blk5_k (c : Dev nD) (t : Fin cfg0.N) (y : S1x512.Idx) (k : Fin 128) (hl : 2048 ≤ t.val % 12 * 512 + (y 1).val) (hn : t.val % 12 * 512 + (y 1).val < 4096)
    (hk : (y 1).val % 128 = k.val) :
    iblk m c 5 t y = gainK m c (ix1 k) := by
  show V m c main_v13 (((cfg0.win 5).blk t).view.emb y) = _
  generalize he : ((cfg0.win 5).blk t).view.emb y = e
  have e1 : (e 1).val = t.val % 12 * 512 + (y 1).val := by rw [← he]; blk_simp [idx t]
  exact gain_k m c e k (by omega) (by omega) (by omega)

end Cert.CtxBIdeal.RefValue

end
-- ==== Proof.CtxB.Value.lean ====
/- The prompt's projection: each point of a tile finds the tile's normalized rows, projects them to its 512 columns and normalizes its
   four heads, and the array that the kernel writes is the reference's. -/
module

public import proofs.«01_k».proof.Proof.CtxB.Kernel
public import proofs.«01_k».proof.Proof.CtxB.Blocks
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.CtxBIdeal.RefValue

open Cert.CtxBIdeal Cert.CtxBIdeal.Gen Cert.FfnRows Cert.ProjRows
open Cert.CtxBRefIdeal.Rows (row proj headQ headK out_q out_k out_v)
open Cert.CtxBRefIdeal.Read (val_main_v58)

/-- Four stored stretches of 128 columns, read at a column of one of them. -/
theorem canon_cols (w3 w2 w1 w0 : S512x128.Idx → Elt Ideal .f32) (p : Fin 512) (d : Fin 4) (k : Fin 128) (v : EReal)
    (h0 : d.val = 0 → w0 (ix2 p k) = v) (h1 : d.val = 1 → w1 (ix2 p k) = v) (h2 : d.val = 2 → w2 (ix2 p k) = v)
    (h3 : d.val = 3 → w3 (ix2 p k) = v) :
    View.canon (Val := Elt Ideal) (s := S512x512) (e := .f32)
      [⟨Rect.unit ![0, 384] ![512, 128] inb_S512x512_S512x128_0_384, w3⟩,
       ⟨Rect.unit ![0, 256] ![512, 128] inb_S512x512_S512x128_0_256, w2⟩,
       ⟨Rect.unit ![0, 128] ![512, 128] inb_S512x512_S512x128_0_128, w1⟩,
       ⟨Rect.unit ![0, 0] ![512, 128] inb_S512x512_S512x128_0_0, w0⟩] (ix2 p ⟨d.val * 128 + k.val, by omega⟩) = v := by
  have hd := d.isLt
  have hk := k.isLt
  by_cases c3 : d.val = 3
  · refine Eq.trans (congrArg _ (?_ : ix2 p (⟨d.val * 128 + k.val, by omega⟩ : Fin 512)
      = (Rect.unit ![0, 384] ![512, 128] inb_S512x512_S512x128_0_384).emb (ix2 p k)))
      ((View.canon_cons_emb _ _ _ _).trans (h3 (by omega)))
    refine funext fun a => Fin.ext ?_
    match a with
    | ⟨0, _⟩ => exact (show p.val = 0 + 1 * p.val by omega)
    | ⟨1, _⟩ => exact (show d.val * 128 + k.val = 384 + 1 * k.val by omega)
  refine (View.canon_cons_of_not_mem _ _ (Rect.not_mem_set_of_axis _ _ (1 : Fin 2) 384 128 rfl rfl rfl
    (Or.inl (show d.val * 128 + k.val < 384 by omega)))).trans ?_
  by_cases c2 : d.val = 2
  · refine Eq.trans (congrArg _ (?_ : ix2 p (⟨d.val * 128 + k.val, by omega⟩ : Fin 512)
      = (Rect.unit ![0, 256] ![512, 128] inb_S512x512_S512x128_0_256).emb (ix2 p k)))
      ((View.canon_cons_emb _ _ _ _).trans (h2 (by omega)))
    refine funext fun a => Fin.ext ?_
    match a with
    | ⟨0, _⟩ => exact (show p.val = 0 + 1 * p.val by omega)
    | ⟨1, _⟩ => exact (show d.val * 128 + k.val = 256 + 1 * k.val by omega)
  refine (View.canon_cons_of_not_mem _ _ (Rect.not_mem_set_of_axis _ _ (1 : Fin 2) 256 128 rfl rfl rfl
    (Or.inl (show d.val * 128 + k.val < 256 by omega)))).trans ?_
  by_cases c1 : d.val = 1
  · refine Eq.trans (congrArg _ (?_ : ix2 p (⟨d.val * 128 + k.val, by omega⟩ : Fin 512)
      = (Rect.unit ![0, 128] ![512, 128] inb_S512x512_S512x128_0_128).emb (ix2 p k)))
      ((View.canon_cons_emb _ _ _ _).trans (h1 (by omega)))
    refine funext fun a => Fin.ext ?_
    match a with
    | ⟨0, _⟩ => exact (show p.val = 0 + 1 * p.val by omega)
    | ⟨1, _⟩ => exact (show d.val * 128 + k.val = 128 + 1 * k.val by omega)
  refine (View.canon_cons_of_not_mem _ _ (Rect.not_mem_set_of_axis _ _ (1 : Fin 2) 128 128 rfl rfl rfl
    (Or.inl (show d.val * 128 + k.val < 128 by omega)))).trans ?_
  refine Eq.trans (congrArg _ (?_ : ix2 p (⟨d.val * 128 + k.val, by omega⟩ : Fin 512)
    = (Rect.unit ![0, 0] ![512, 128] inb_S512x512_S512x128_0_0).emb (ix2 p k)))
    ((View.canon_cons_emb _ _ _ _).trans (h0 (by omega)))
  refine funext fun a => Fin.ext ?_
  match a with
  | ⟨0, _⟩ => exact (show p.val = 0 + 1 * p.val by omega)
  | ⟨1, _⟩ => exact (show d.val * 128 + k.val = 0 + 1 * k.val by omega)

/-- The stretch of 128 gains that starts at a column. -/
theorem stretch0 (x : S1x512.Idx → Elt Ideal .f32) (k : Fin 128) :
    View.ld (Val := Elt Ideal) (e' := .f32) x (Rect.unit ![0, 0] ![1, 128] inb_S1x512_S1x128_0_0) (ix2 0 k) = x (ix2 0 ⟨0 * 128 + k.val, by omega⟩) :=
  congrArg x (funext fun a => Fin.ext (match a with
    | ⟨0, _⟩ => rfl
    | ⟨1, _⟩ => (show 0 + 1 * k.val = 0 * 128 + k.val by omega)))

@[inherit_doc stretch0]
theorem stretch1 (x : S1x512.Idx → Elt Ideal .f32) (k : Fin 128) :
    View.ld (Val := Elt Ideal) (e' := .f32) x (Rect.unit ![0, 128] ![1, 128] inb_S1x512_S1x128_0_128) (ix2 0 k) = x (ix2 0 ⟨1 * 128 + k.val, by omega⟩) :=
  congrArg x (funext fun a => Fin.ext (match a with
    | ⟨0, _⟩ => rfl
    | ⟨1, _⟩ => (show 128 + 1 * k.val = 1 * 128 + k.val by omega)))

@[inherit_doc stretch0]
theorem stretch2 (x : S1x512.Idx → Elt Ideal .f32) (k : Fin 128) :
    View.ld (Val := Elt Ideal) (e' := .f32) x (Rect.unit ![0, 256] ![1, 128] inb_S1x512_S1x128_0_256) (ix2 0 k) = x (ix2 0 ⟨2 * 128 + k.val, by omega⟩) :=
  congrArg x (funext fun a => Fin.ext (match a with
    | ⟨0, _⟩ => rfl
    | ⟨1, _⟩ => (show 256 + 1 * k.val = 2 * 128 + k.val by omega)))

@[inherit_doc stretch0]
theorem stretch3 (x : S1x512.Idx → Elt Ideal .f32) (k : Fin 128) :
    View.ld (Val := Elt Ideal) (e' := .f32) x (Rect.unit ![0, 384] ![1, 128] inb_S1x512_S1x128_0_384) (ix2 0 k) = x (ix2 0 ⟨3 * 128 + k.val, by omega⟩) :=
  congrArg x (funext fun a => Fin.ext (match a with
    | ⟨0, _⟩ => rfl
    | ⟨1, _⟩ => (show 384 + 1 * k.val = 3 * 128 + k.val by omega)))

variable (m : (ℓ : Loc nD τ sig) → Buf (Elt Ideal) ℓ)

/-- The sequence of a tile's row. -/
def sampleOf (t : Fin cfg0.N) (p : Fin 512) : Fin 32 :=
  ⟨(t.val / 12 * 512 + p.val) / 256, by have := lt_of_lt_of_eq t.isLt N_0; have := p.isLt; omega⟩

/-- The row in its sequence of a tile's row. -/
def posOf (t : Fin cfg0.N) (p : Fin 512) : Fin 256 := ⟨(t.val / 12 * 512 + p.val) % 256, Nat.mod_lt _ (by omega)⟩

theorem place (t : Fin cfg0.N) (p : Fin 512) :
    (sampleOf t p).val * 256 + (posOf t p).val = t.val / 12 * 512 + p.val := by
  show (t.val / 12 * 512 + p.val) / 256 * 256 + (t.val / 12 * 512 + p.val) % 256 = _
  omega

/-- A row of the modulated normalization of the arguments. -/
abbrev rowOf (c : Dev nD) (b : Fin 32) (r : Fin 256) (k : Fin 2048) : EReal :=
  row (m ((c : Thread nD τ).loc main_arg0)) (m ((c : Thread nD τ).loc main_arg1)) (m ((c : Thread nD τ).loc main_arg2))
    (m ((c : Thread nD τ).loc main_arg3)) b r k

/-- A row of the projection of the arguments. -/
abbrev projOf (c : Dev nD) (b : Fin 32) (r : Fin 256) (n : Fin 6144) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) b r n

/-- The rows that a tile's first point keeps. -/
theorem stored (c : Dev nD) (t : Fin cfg0.N) (p : Fin 512) (k : Fin 2048) :
    k0_pay1 (iblk m c 0 t) (iblk m c 1 t) (iblk m c 2 t) (iblk m c 3 t) (ix2 p k) = rowOf m c (sampleOf t p) (posOf t p) k := by
  rw [pay1_apply]
  unfold rowOf row
  rw [show (fun j => iblk m c 0 t (ix2 p j)) = _ from funext fun j => blk0 m c t (ix2 p j) (ix3 (sampleOf t p) (posOf t p) j) (place t p) rfl,
    show (fun j => iblk m c 1 t (ix2 0 j)) = _ from funext fun j => blk1 m c t j,
    show (fun j => iblk m c 3 t (ix3 0 0 j)) = _ from funext fun j => blk3 m c t j,
    show (fun j => iblk m c 2 t (ix3 0 0 j)) = _ from funext fun j => blk2 m c t j]

/-- Every later point of a tile finds the rows as they were. -/
theorem hold (c : Dev nD) (t : Fin cfg0.N) (h0 : ¬t.val % 12 = 0) :
    (outsAt0 m c t.val t.isLt).2 = (outsAt0 m c (t.val - 1) (Nat.lt_of_le_of_lt (Nat.sub_le _ _) t.isLt)).2 := by
  by_cases h1 : t.val % 12 ≤ 7
  · rw [outsAt0_B m c t h0 h1 (by omega)]; rfl
  · rw [outsAt0_C m c t h0 h1 (by omega)]; rfl

/-- The kept rows after a tile's first point. -/
theorem first (c : Dev nD) (t : Fin cfg0.N) (h : t.val % 12 = 0) (p : Fin 512) (k : Fin 2048) :
    (outsAt0 m c t.val t.isLt).2 (ix2 p k) = rowOf m c (sampleOf t p) (posOf t p) k := by
  rw [outsAt0_A m c t h (by omega) (by omega)]
  frame_out
  exact stored m c t p k

/-- The kept rows after any point of a tile. -/
theorem kept (c : Dev nD) (t : Fin cfg0.N) (p : Fin 512) (k : Fin 2048) :
    (outsAt0 m c t.val t.isLt).2 (ix2 p k) = rowOf m c (sampleOf t p) (posOf t p) k := by
  rw [Pipeline.eq_of_write_hold (fun n h => (outsAt0 m c n h).2) 12 (fun t => (outsAt0 m c t.val t.isLt).2)
    (fun _ _ => rfl) (fun t h => hold m c t h) t]
  refine (first m c ⟨12 * (t.val / 12), _⟩ (Nat.mul_mod_right 12 _) p k).trans ?_
  have e : 12 * (t.val / 12) / 12 = t.val / 12 := by omega
  refine congrArg₂ (fun b r => rowOf m c b r k) (Fin.ext ?_) (Fin.ext ?_)
  · show (12 * (t.val / 12) / 12 * 512 + p.val) / 256 = (t.val / 12 * 512 + p.val) / 256
    rw [e]
  · show (12 * (t.val / 12) / 12 * 512 + p.val) % 256 = (t.val / 12 * 512 + p.val) % 256
    rw [e]

/-- The gain of a point's column, as staged. -/
abbrev gainAt (c : Dev nD) (t : Fin cfg0.N) (n : Fin 512) : EReal := iblk m c 5 t (ix2 0 n)

/-- A head's projected row times the staged gain, normalized. -/
abbrev headAt (c : Dev nD) (t : Fin cfg0.N) (p : Fin 512) (d : Fin 4) (k : Fin 128) : EReal :=
  rms (fun j => projOf m c (sampleOf t p) (posOf t p) ⟨t.val % 12 * 512 + (d.val * 128 + j.val), by omega⟩) k
    * gainAt m c t ⟨d.val * 128 + k.val, by omega⟩

/-- A point's columns of the projection. -/
theorem projected (c : Dev nD) (t : Fin cfg0.N) (H : S512x2048.Idx → EReal) (p : Fin 512) (n : Fin 512)
    (hH : ∀ k, H (ix2 p k) = rowOf m c (sampleOf t p) (posOf t p) k) :
    k0_pay2 H (iblk m c 4 t) (ix2 p n) = projOf m c (sampleOf t p) (posOf t p) ⟨t.val % 12 * 512 + n.val, by omega⟩ := by
  rw [pay2_apply]
  unfold projOf proj
  refine Finset.sum_congr rfl fun k _ => ?_
  rw [hH k]
  exact Ideal.mul_congr rfl (blk4 m c t _ _ rfl rfl)

/-- The four heads that a point of the queries or keys stores. -/
theorem heads (c : Dev nD) (t : Fin cfg0.N) (H : S512x2048.Idx → EReal) (p : Fin 512) (d : Fin 4) (k : Fin 128)
    (hH : ∀ k, H (ix2 p k) = rowOf m c (sampleOf t p) (posOf t p) k) :
    View.canon (Val := Elt Ideal) (s := S512x512) (e := .f32)
      [⟨Rect.unit ![0, 384] ![512, 128] inb_S512x512_S512x128_0_384, k0_pay4 H (iblk m c 4 t) (View.ld (iblk m c 5 t) (Rect.unit ![0, 384] ![1, 128] inb_S1x512_S1x128_0_384))⟩,
        ⟨Rect.unit ![0, 256] ![512, 128] inb_S512x512_S512x128_0_256, k0_pay3 (k0_pay7 (k0_pay2 H (iblk m c 4 t))) (k0_pay8 (k0_pay2 H (iblk m c 4 t)))
          (View.ld (iblk m c 5 t) (Rect.unit ![0, 256] ![1, 128] inb_S1x512_S1x128_0_256))⟩,
        ⟨Rect.unit ![0, 128] ![512, 128] inb_S512x512_S512x128_0_128, k0_pay6 (k0_pay2 H (iblk m c 4 t)) (View.ld (iblk m c 5 t) (Rect.unit ![0, 128] ![1, 128] inb_S1x512_S1x128_0_128))⟩,
        ⟨Rect.unit ![0, 0] ![512, 128] inb_S512x512_S512x128_0_0, k0_pay5 (k0_pay2 H (iblk m c 4 t)) (View.ld (iblk m c 5 t) (Rect.unit ![0, 0] ![1, 128] inb_S1x512_S1x128_0_0))⟩]
      (ix2 p ⟨d.val * 128 + k.val, by omega⟩)
      = headAt m c t p d k := by
  refine canon_cols _ _ _ _ p d k _ (fun hd => ?_) (fun hd => ?_) (fun hd => ?_) (fun hd => ?_)
  · obtain rfl : d = 0 := Fin.ext hd
    refine (pay5_apply _ _ p k).trans (Ideal.mul_congr ?_ (stretch0 _ k))
    refine congrArg (fun f => rms f k) (funext fun j => (projected m c t H p _ hH).trans ?_)
    exact congrArg _ (Fin.ext (show t.val % 12 * 512 + j.val = t.val % 12 * 512 + (0 * 128 + j.val) by omega))
  · obtain rfl : d = 1 := Fin.ext hd
    refine (pay6_apply _ _ p k).trans (Ideal.mul_congr ?_ (stretch1 _ k))
    exact congrArg (fun f => rms f k) (funext fun j => projected m c t H p _ hH)
  · obtain rfl : d = 2 := Fin.ext hd
    refine (pay3_apply _ _ p k).trans (Ideal.mul_congr ?_ (stretch2 _ k))
    exact congrArg (fun f => rms f k) (funext fun j => projected m c t H p _ hH)
  · obtain rfl : d = 3 := Fin.ext hd
    refine (pay4_apply _ _ _ p k).trans (Ideal.mul_congr ?_ (stretch3 _ k))
    exact congrArg (fun f => rms f k) (funext fun j => projected m c t H p _ hH)

/-- What a point of the queries or keys writes. -/
theorem out_heads (c : Dev nD) (t : Fin cfg0.N) (ht : t.val % 12 ≤ 7) (p : Fin 512) (d : Fin 4) (k : Fin 128) :
    (outsAt0 m c t.val t.isLt).1 (ix2 p ⟨d.val * 128 + k.val, by omega⟩)
      = headAt m c t p d k := by
  by_cases h : t.val % 12 = 0
  · rw [outsAt0_A m c t h (by omega) (by omega)]
    frame_out
    exact heads m c t _ p d k (stored m c t p)
  · have hk := fun k => (congrFun (hold m c t h) (ix2 p k)).symm.trans (kept m c t p k)
    rw [outsAt0_B m c t h ht (by omega)]
    revert hk
    generalize (outsAt0 m c (t.val - 1) (Nat.lt_of_le_of_lt (Nat.sub_le _ _) t.isLt)).2 = H
    intro hk
    frame_out
    rw [read_unread_whole]
    exact heads m c t H p d k hk

/-- What a point of the values writes. -/
theorem out_values (c : Dev nD) (t : Fin cfg0.N) (ht : 8 ≤ t.val % 12) (p : Fin 512) (n : Fin 512) :
    (outsAt0 m c t.val t.isLt).1 (ix2 p n)
      = projOf m c (sampleOf t p) (posOf t p) ⟨t.val % 12 * 512 + n.val, by omega⟩ := by
  have hk := fun k => (congrFun (hold m c t (by omega)) (ix2 p k)).symm.trans (kept m c t p k)
  rw [outsAt0_C m c t (by omega) (by omega) ht]
  revert hk
  generalize (outsAt0 m c (t.val - 1) (Nat.lt_of_le_of_lt (Nat.sub_le _ _) t.isLt)).2 = H
  intro hk
  frame_out
  rw [read_unread_whole]
  exact projected m c t H p n hk

/-- A head of the queries carries the scale in its gain. -/
theorem headAt_q (c : Dev nD) (t : Fin cfg0.N) (ht : t.val % 12 < 4) (p : Fin 512) (d : Fin 4) (h : Fin 16)
    (hh : h.val = t.val % 12 * 4 + d.val) (k : Fin 128) :
    headAt m c t p d k = headQ (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (sampleOf t p) (posOf t p) h k * scale := by
  have hk := k.isLt
  have hd := d.isLt
  unfold headAt headQ
  refine (Ideal.mul_congr (congrArg (fun f => rms f k) (funext fun j => congrArg _ (Fin.ext ?_)))
    (blk5_q m c t _ k ?_ ?_)).trans (mul_assoc _ _ _).symm
  · show t.val % 12 * 512 + (d.val * 128 + j.val) = h.val * 128 + j.val
    omega
  · show t.val % 12 * 512 + (d.val * 128 + k.val) < 2048
    omega
  · show (d.val * 128 + k.val) % 128 = k.val
    omega

/-- A head of the keys. -/
theorem headAt_k (c : Dev nD) (t : Fin cfg0.N) (ht : 4 ≤ t.val % 12) (ht' : t.val % 12 ≤ 7) (p : Fin 512) (d : Fin 4) (h : Fin 16)
    (hh : h.val + 16 = t.val % 12 * 4 + d.val) (k : Fin 128) :
    headAt m c t p d k = headK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (sampleOf t p) (posOf t p) h k := by
  have hk := k.isLt
  have hd := d.isLt
  unfold headAt headK
  refine Ideal.mul_congr (congrArg (fun f => rms f k) (funext fun j => congrArg _ (Fin.ext ?_)))
    (blk5_k m c t _ k ?_ ?_ ?_)
  · show t.val % 12 * 512 + (d.val * 128 + j.val) = 2048 + (h.val * 128 + j.val)
    omega
  · show 2048 ≤ t.val % 12 * 512 + (d.val * 128 + k.val)
    omega
  · show t.val % 12 * 512 + (d.val * 128 + k.val) < 4096
    omega
  · show (d.val * 128 + k.val) % 128 = k.val
    omega

/-- A column is a lane of one of the four heads. -/
theorem heads_of (n : Fin 512) : ∃ (d : Fin 4) (k : Fin 128), n = ⟨d.val * 128 + k.val, by omega⟩ :=
  ⟨⟨n.val / 128, by omega⟩, ⟨n.val % 128, by omega⟩, Fin.ext (show n.val = n.val / 128 * 128 + n.val % 128 by omega)⟩

/-- What a point writes is the reference's, at the point's rows and columns. -/
theorem written (c : Dev nD) (t : Fin cfg0.N) (p : Fin 512) (n : Fin 512) (i : S8192x6144.Idx)
    (h0 : (i 0).val = t.val / 12 * 512 + p.val) (h1 : (i 1).val = t.val % 12 * 512 + n.val) :
    (outsAt0 m c t.val t.isLt).1 (ix2 p n)
      = val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) i := by
  have hn := n.isLt
  have hr := h0.trans (place t p).symm
  by_cases ht : t.val % 12 ≤ 7
  · obtain ⟨d, k, rfl⟩ := heads_of n
    have hd := d.isLt
    have hk := k.isLt
    replace h1 : (i 1).val = t.val % 12 * 512 + (d.val * 128 + k.val) := h1
    rw [out_heads m c t ht p d k]
    by_cases hq : t.val % 12 < 4
    · rw [out_q _ _ _ _ _ _ _ i (sampleOf t p) (posOf t p) ⟨t.val % 12 * 4 + d.val, by omega⟩ k hr (by rw [h1]; dsimp only; omega)]
      exact headAt_q m c t hq p d _ rfl k
    · rw [out_k _ _ _ _ _ _ _ i (sampleOf t p) (posOf t p) ⟨t.val % 12 * 4 + d.val - 16, by omega⟩ k hr (by rw [h1]; dsimp only; omega)]
      exact headAt_k m c t (by omega) ht p d _ (by dsimp only; omega) k
  · rw [out_values m c t (by omega) p n,
      out_v _ _ _ _ _ _ _ i (sampleOf t p) (posOf t p) ⟨t.val % 12 * 512 + n.val - 4096, by omega⟩ hr (by rw [h1]; dsimp only; omega)]
    exact congrArg _ (Fin.ext (show t.val % 12 * 512 + n.val = 4096 + (t.val % 12 * 512 + n.val - 4096) by omega))

/-- The array that the kernel writes is the reference's. -/
theorem final (c : Dev nD) : (dats m 0 c).arrAt 6 (cfgs 0).N
    = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 6 _ (by decide +kernel) fun t hf y => ?_
  obtain ⟨p, j, rfl⟩ : ∃ (p : Fin 512) (j : Fin 512), y = ix2 p j := ⟨y 0, y 1, eq_ix2 y⟩
  have e0 : ((((cfg0.win 6).blk t).view.emb (ix2 p j)) 0).val = t.val / 12 * 512 + p.val := by blk_simp [idx t]
  have e1 : ((((cfg0.win 6).blk t).view.emb (ix2 p j)) 1).val = t.val % 12 * 512 + j.val := by blk_simp [idx t]
  have e := written m c t p j _ e0 e1
  blk_simp
  rw [after0_6]
  exact e

end Cert.CtxBIdeal.RefValue

end
-- ==== Proof.CtxA.Kernel.lean ====
/- The kernel of the prompt's projection for the windowed attention, element by element of its stored values. -/
module

public import proofs.«01_k».proof.Proof.Gen.CtxAIdeal.Frame
public import proofs.«01_k».proof.Proof.Ffn.Rows
public import proofs.«01_k».proof.Proof.ProjB.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.CtxAIdeal.RefValue

open Cert.CtxAIdeal Cert.CtxAIdeal.Gen Cert.FfnRows Cert.ProjRows

/-- A row, normalized and modulated. -/
theorem pay1_apply (x : Vec Ideal S512x2048 .f32) (g : Vec Ideal S1x2048 .f32) (sh sc : Vec Ideal S1x1x2048 .f32) (p : Fin 512) (k : Fin 2048) :
    k0_pay1 x g sh sc (ix2 p k)
      = adaln (fun j => x (ix2 p j)) (fun j => g (ix2 0 j)) (fun j => sc (ix3 0 0 j)) (fun j => sh (ix3 0 0 j)) k := by
  unfold adaln
  pointwise [k0_pay1]

/-- The projection of the normalized rows. -/
theorem pay2_apply (h : Vec Ideal S512x2048 .bf16) (w : Vec Ideal S2048x512 .bf16) (p : Fin 512) (n : Fin 512) :
    k0_pay2 h w (ix2 p n) = ∑ k : Fin 2048, h (ix2 p k) * w (ix2 k n) := by
  pointwise [k0_pay2]

/-- The normalized row of a tile's first head. -/
theorem pay5_apply (y : FVec Ideal S512x512 .f32) (g : Vec Ideal S1x128 .f32) (p : Fin 512) (k : Fin 128) :
    k0_pay5 y g (ix2 p k) = rms (fun j => y (ix2 p ⟨j.val, by have := j.isLt; omega⟩)) k * g (ix2 0 k) := by
  unfold rms
  pointwise [k0_pay5]

/-- The normalized row of a tile's second head. -/
theorem pay6_apply (y : FVec Ideal S512x512 .f32) (g : Vec Ideal S1x128 .f32) (p : Fin 512) (k : Fin 128) :
    k0_pay6 y g (ix2 p k) = rms (fun j => y (ix2 p ⟨128 + j.val, by have := j.isLt; omega⟩)) k * g (ix2 0 k) := by
  unfold rms
  pointwise [k0_pay6]

/-- The normalized row of a tile's third head. -/
theorem pay3_apply (y : FVec Ideal S512x512 .f32) (g : Vec Ideal S1x128 .f32) (p : Fin 512) (k : Fin 128) :
    k0_pay3 (k0_pay7 y) (k0_pay8 y) g (ix2 p k) = rms (fun j => y (ix2 p ⟨256 + j.val, by have := j.isLt; omega⟩)) k * g (ix2 0 k) := by
  unfold rms
  pointwise [k0_pay3, k0_pay7, k0_pay8]

/-- The normalized row of a tile's last head. -/
theorem pay4_apply (h : Vec Ideal S512x2048 .bf16) (w : Vec Ideal S2048x512 .bf16) (g : Vec Ideal S1x128 .f32) (p : Fin 512) (k : Fin 128) :
    k0_pay4 h w g (ix2 p k) = rms (fun j => k0_pay2 h w (ix2 p ⟨384 + j.val, by have := j.isLt; omega⟩)) k * g (ix2 0 k) := by
  unfold rms k0_pay4
  generalize k0_pay2 h w = y
  pointwise

end Cert.CtxAIdeal.RefValue
-- ==== Proof.CtxA.Ref.lean ====
/- The prompt's projection for the windowed attention: its reference, element by element. -/
module

public import proofs.«01_k».proof.Proof.Gen.CtxARefIdeal.Read
public import proofs.«01_k».proof.Proof.Ffn.Rows
public import proofs.«01_k».proof.Proof.ProjB.Rows
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.CtxARefIdeal.Rows

open Cert.CtxARefIdeal Cert.CtxARefIdeal.Gen Cert.CtxARefIdeal.Read Cert.FfnRows Cert.ProjRows

variable (x0 : (⟨S32x256x2048, .f32⟩ : BufTy).Contents (Elt Ideal)) (x1 : (⟨S2048, .f32⟩ : BufTy).Contents (Elt Ideal))
  (x2 x3 : (⟨S1x2048, .f32⟩ : BufTy).Contents (Elt Ideal)) (x4 : (⟨S2048x3072, .f32⟩ : BufTy).Contents (Elt Ideal))
  (x5 x6 : (⟨S128, .f32⟩ : BufTy).Contents (Elt Ideal))

/-- A row of the modulated normalization. -/
def row (b : Fin 32) (r : Fin 256) : Fin 2048 → EReal :=
  adaln (fun j => x0 (ix3 b r j)) (fun j => x1 (ix1 j)) (fun j => x3 (ix2 0 j)) (fun j => x2 (ix2 0 j))

/-- The reference's normalized and modulated rows. -/
theorem v20_eq (b : Fin 32) (r : Fin 256) (k : Fin 2048) :
    val_main_v20 (F := Ideal) x0 x1 x2 x3 (ix3 b r k) = row x0 x1 x2 x3 b r k := by
  unfold row adaln
  rw [val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply]
  refine Ideal.add_congr (Ideal.mul_congr (Ideal.mul_congr (Ideal.mul_congr rfl (congrArg Ideal.rsqrt (Ideal.add_congr
    (congrArg₂ Ideal.div ?_ rfl) rfl))) ?_) (Ideal.add_congr Ideal.ofBits_one_f32 ?_)) ?_
  · refine (Ideal.add_congr Ideal.ofBits_zero_f32 (Finset.sum_congr rfl fun j _ => ?_)).trans (zero_add _)
    refine Ideal.mul_congr (congrArg x0 (funext fun a => ?_)) (congrArg x0 (funext fun a => ?_)) <;>
      (match a with | ⟨0, _⟩ => rfl | ⟨1, _⟩ => rfl | ⟨2, _⟩ => rfl)
  · exact congrArg x1 (funext fun a => match a with | ⟨0, _⟩ => rfl)
  · exact congrArg x3 (funext fun a => match a with | ⟨0, _⟩ => rfl | ⟨1, _⟩ => rfl)
  · exact congrArg x2 (funext fun a => match a with | ⟨0, _⟩ => rfl | ⟨1, _⟩ => rfl)

/-- A row times the projection. -/
def proj (b : Fin 32) (r : Fin 256) (n : Fin 3072) : EReal := ∑ k, row x0 x1 x2 x3 b r k * x4 (ix2 k n)

/-- The reference's projection. -/
theorem v21_eq (b : Fin 32) (r : Fin 256) (n : Fin 3072) :
    val_main_v21 (F := Ideal) x0 x1 x2 x3 x4 (ix3 b r n) = proj x0 x1 x2 x3 x4 b r n := by
  rw [val_main_v21_apply]
  refine Finset.sum_congr rfl fun k _ => Ideal.mul_congr ?_ (congrArg x4 (funext fun a => match a with | ⟨0, _⟩ => rfl | ⟨1, _⟩ => rfl))
  rw [← v20_eq]
  exact congrArg _ (funext fun a => match a with | ⟨0, _⟩ => rfl | ⟨1, _⟩ => rfl | ⟨2, _⟩ => rfl)

/-- A query's lane, before its normalization. -/
theorem v25_eq (b : Fin 32) (r : Fin 256) (h : Fin 16) (k : Fin 128) :
    val_main_v25 (F := Ideal) x0 x1 x2 x3 x4 (ix4 b r h k) = proj x0 x1 x2 x3 x4 b r ⟨h.val * 128 + k.val, by omega⟩ := by
  have hb := b.isLt
  have hr := r.isLt
  have hh := h.isLt
  have hk := k.isLt
  rw [val_main_v25_apply, val_main_v22_apply, ← v21_eq]
  refine congrArg _ (funext fun a => Fin.ext ?_)
  match a with
  | ⟨0, _⟩ => exact (show (((b.val * 256 + r.val) * 16 + h.val) * 128 + k.val) / 524288 = b.val by omega)
  | ⟨1, _⟩ => exact (show (((b.val * 256 + r.val) * 16 + h.val) * 128 + k.val) / 2048 % 256 = r.val by omega)
  | ⟨2, _⟩ => exact (show (((b.val * 256 + r.val) * 16 + h.val) * 128 + k.val) % 2048 = h.val * 128 + k.val by omega)

/-- A query's normalized row. -/
def headQ (b : Fin 32) (r : Fin 256) (h : Fin 16) (k : Fin 128) : EReal :=
  rms (fun j => proj x0 x1 x2 x3 x4 b r ⟨h.val * 128 + j.val, by omega⟩) k * x5 (ix1 k)

/-- The reference's normalized row of a query. -/
theorem v38_eq (b : Fin 32) (r : Fin 256) (h : Fin 16) (k : Fin 128) :
    val_main_v38 (F := Ideal) x0 x1 x2 x3 x4 x5 (ix4 b r h k) = headQ x0 x1 x2 x3 x4 x5 b r h k := by
  unfold headQ rms
  rw [val_main_v38_apply, val_main_v37_apply, val_main_v36_apply, val_main_v35_apply, val_main_v34_apply, val_main_v33_apply, val_main_v32_apply, val_main_v31_apply, val_main_v30_apply, val_main_v29_apply, val_main_v28_apply, val_main_v27_apply]
  refine Ideal.mul_congr (Ideal.mul_congr (v25_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v27 (idx_main_v28 (idx_main_v34 (ix4 b r h k))) j = ix4 b r h j :=
      funext fun a => match a with | ⟨0, _⟩ => rfl | ⟨1, _⟩ => rfl | ⟨2, _⟩ => rfl | ⟨3, _⟩ => rfl
    rw [val_main_v26_apply, e]
    exact Ideal.mul_congr (v25_eq x0 x1 x2 x3 x4 b r h j) (v25_eq x0 x1 x2 x3 x4 b r h j)
  · exact congrArg x5 (funext fun a => match a with | ⟨0, _⟩ => rfl)

/-- A key's lane, before its normalization. -/
theorem v41_eq (b : Fin 32) (r : Fin 256) (h : Fin 4) (k : Fin 128) :
    val_main_v41 (F := Ideal) x0 x1 x2 x3 x4 (ix4 b r h k) = proj x0 x1 x2 x3 x4 b r ⟨2048 + (h.val * 128 + k.val), by omega⟩ := by
  have hb := b.isLt
  have hr := r.isLt
  have hh := h.isLt
  have hk := k.isLt
  rw [val_main_v41_apply, val_main_v23_apply, ← v21_eq]
  refine congrArg _ (funext fun a => Fin.ext ?_)
  match a with
  | ⟨0, _⟩ => exact (show (((b.val * 256 + r.val) * 4 + h.val) * 128 + k.val) / 131072 = b.val by omega)
  | ⟨1, _⟩ => exact (show (((b.val * 256 + r.val) * 4 + h.val) * 128 + k.val) / 512 % 256 = r.val by omega)
  | ⟨2, _⟩ => exact (show 2048 + (((b.val * 256 + r.val) * 4 + h.val) * 128 + k.val) % 512 = 2048 + (h.val * 128 + k.val) by omega)

/-- A key's normalized row. -/
def headK (b : Fin 32) (r : Fin 256) (h : Fin 4) (k : Fin 128) : EReal :=
  rms (fun j => proj x0 x1 x2 x3 x4 b r ⟨2048 + (h.val * 128 + j.val), by omega⟩) k * x6 (ix1 k)

/-- The reference's normalized row of a key. -/
theorem v54_eq (b : Fin 32) (r : Fin 256) (h : Fin 4) (k : Fin 128) :
    val_main_v54 (F := Ideal) x0 x1 x2 x3 x4 x6 (ix4 b r h k) = headK x0 x1 x2 x3 x4 x6 b r h k := by
  unfold headK rms
  rw [val_main_v54_apply, val_main_v53_apply, val_main_v52_apply, val_main_v51_apply, val_main_v50_apply, val_main_v49_apply, val_main_v48_apply, val_main_v47_apply, val_main_v46_apply, val_main_v45_apply, val_main_v44_apply, val_main_v43_apply]
  refine Ideal.mul_congr (Ideal.mul_congr (v41_eq x0 x1 x2 x3 x4 b r h k) (congrArg Ideal.rsqrt (Ideal.add_congr (congrArg₂ Ideal.div ?_ rfl) rfl))) ?_
  · refine (Ideal.add_congr Ideal.ofBits_zero_f32 (Finset.sum_congr rfl fun j _ => ?_)).trans (zero_add _)
    have e : idx_main_v43 (idx_main_v44 (idx_main_v50 (ix4 b r h k))) j = ix4 b r h j :=
      funext fun a => match a with | ⟨0, _⟩ => rfl | ⟨1, _⟩ => rfl | ⟨2, _⟩ => rfl | ⟨3, _⟩ => rfl
    rw [val_main_v42_apply, e]
    exact Ideal.mul_congr (v41_eq x0 x1 x2 x3 x4 b r h j) (v41_eq x0 x1 x2 x3 x4 b r h j)
  · exact congrArg x6 (funext fun a => match a with | ⟨0, _⟩ => rfl)

/-- The reference's result before its flattening. -/
theorem v58_flat (i : S8192x3072.Idx) (b : Fin 32) (r : Fin 256) (n : Fin 3072)
    (h0 : (i 0).val = b.val * 256 + r.val) (h1 : (i 1).val = n.val) :
    val_main_v58 (F := Ideal) x0 x1 x2 x3 x4 x5 x6 i = val_main_v57 (F := Ideal) x0 x1 x2 x3 x4 x5 x6 (ix3 b r n) := by
  have hb := b.isLt
  have hr := r.isLt
  have hn := n.isLt
  have ei : idx_main_v58 i = ix3 b r n := by
    refine funext fun a => Fin.ext ?_
    match a with
    | ⟨0, _⟩ => exact (show ((i 0).val * 3072 + (i 1).val) / 786432 = b.val by omega)
    | ⟨1, _⟩ => exact (show ((i 0).val * 3072 + (i 1).val) / 3072 % 256 = r.val by omega)
    | ⟨2, _⟩ => exact (show ((i 0).val * 3072 + (i 1).val) % 3072 = n.val by omega)
  rw [val_main_v58_apply, ei]

/-- A query's column of the result. -/
theorem out_q (i : S8192x3072.Idx) (b : Fin 32) (r : Fin 256) (h : Fin 16) (k : Fin 128)
    (h0 : (i 0).val = b.val * 256 + r.val) (h1 : (i 1).val = h.val * 128 + k.val) :
    val_main_v58 (F := Ideal) x0 x1 x2 x3 x4 x5 x6 i
      = headQ x0 x1 x2 x3 x4 x5 b r h k * scale := by
  have hb := b.isLt
  have hr := r.isLt
  have hh := h.isLt
  have hk := k.isLt
  have ei : idx_main_v55 (ix3 b r ⟨h.val * 128 + k.val, by omega⟩) = ix4 b r h k := by
    refine funext fun a => Fin.ext ?_
    match a with
    | ⟨0, _⟩ => exact (show ((b.val * 256 + r.val) * 2048 + (h.val * 128 + k.val)) / 524288 = b.val by omega)
    | ⟨1, _⟩ => exact (show ((b.val * 256 + r.val) * 2048 + (h.val * 128 + k.val)) / 2048 % 256 = r.val by omega)
    | ⟨2, _⟩ => exact (show ((b.val * 256 + r.val) * 2048 + (h.val * 128 + k.val)) / 128 % 16 = h.val by omega)
    | ⟨3, _⟩ => exact (show ((b.val * 256 + r.val) * 2048 + (h.val * 128 + k.val)) % 128 = k.val by omega)
  rw [v58_flat x0 x1 x2 x3 x4 x5 x6 i b r ⟨h.val * 128 + k.val, by omega⟩ h0 h1]
  unfold val_main_v57
  refine Eq.trans (concatenate_apply_piece (t := S32x256x3072) 2 _ _ _ 0 (by exact (by decide : (0 : ℕ) < 3)) S32x256x2048 (val_main_v55 (F := Ideal) x0 x1 x2 x3 x4 x5) rfl rfl 0 rfl (ix3 b r ⟨h.val * 128 + k.val, by omega⟩) (fun a => match a with
    | ⟨0, _⟩ => fun _ => rfl | ⟨1, _⟩ => fun _ => rfl | ⟨2, _⟩ => fun hn => absurd rfl hn) (Nat.zero_add _)) ?_
  rw [val_main_v55_apply, ei, val_main_v40_apply, v38_eq, val_main_v39_apply]
  rfl

/-- A key's column of the result. -/
theorem out_k (i : S8192x3072.Idx) (b : Fin 32) (r : Fin 256) (h : Fin 4) (k : Fin 128)
    (h0 : (i 0).val = b.val * 256 + r.val) (h1 : (i 1).val = 2048 + (h.val * 128 + k.val)) :
    val_main_v58 (F := Ideal) x0 x1 x2 x3 x4 x5 x6 i
      = headK x0 x1 x2 x3 x4 x6 b r h k := by
  have hb := b.isLt
  have hr := r.isLt
  have hh := h.isLt
  have hk := k.isLt
  have ei : idx_main_v56 (ix3 b r ⟨h.val * 128 + k.val, by omega⟩) = ix4 b r h k := by
    refine funext fun a => Fin.ext ?_
    match a with
    | ⟨0, _⟩ => exact (show ((b.val * 256 + r.val) * 512 + (h.val * 128 + k.val)) / 131072 = b.val by omega)
    | ⟨1, _⟩ => exact (show ((b.val * 256 + r.val) * 512 + (h.val * 128 + k.val)) / 512 % 256 = r.val by omega)
    | ⟨2, _⟩ => exact (show ((b.val * 256 + r.val) * 512 + (h.val * 128 + k.val)) / 128 % 4 = h.val by omega)
    | ⟨3, _⟩ => exact (show ((b.val * 256 + r.val) * 512 + (h.val * 128 + k.val)) % 128 = k.val by omega)
  rw [v58_flat x0 x1 x2 x3 x4 x5 x6 i b r ⟨2048 + (h.val * 128 + k.val), by omega⟩ h0 h1]
  unfold val_main_v57
  refine Eq.trans (concatenate_apply_piece (t := S32x256x3072) 2 _ _ _ 1 (by exact (by decide : (1 : ℕ) < 3)) S32x256x512 (val_main_v56 (F := Ideal) x0 x1 x2 x3 x4 x6) rfl rfl 2048 rfl (ix3 b r ⟨h.val * 128 + k.val, by omega⟩) (fun a => match a with
    | ⟨0, _⟩ => fun _ => rfl | ⟨1, _⟩ => fun _ => rfl | ⟨2, _⟩ => fun hn => absurd rfl hn) rfl) ?_
  rw [val_main_v56_apply, ei, v54_eq]

/-- A value's column of the result. -/
theorem out_v (i : S8192x3072.Idx) (b : Fin 32) (r : Fin 256) (j : Fin 512)
    (h0 : (i 0).val = b.val * 256 + r.val) (h1 : (i 1).val = 2560 + j.val) :
    val_main_v58 (F := Ideal) x0 x1 x2 x3 x4 x5 x6 i = proj x0 x1 x2 x3 x4 b r ⟨2560 + j.val, by omega⟩ := by
  rw [v58_flat x0 x1 x2 x3 x4 x5 x6 i b r ⟨2560 + j.val, by omega⟩ h0 h1]
  unfold val_main_v57
  refine Eq.trans (concatenate_apply_piece (t := S32x256x3072) 2 _ _ _ 2 (by exact (by decide : (2 : ℕ) < 3)) S32x256x512 (val_main_v24 (F := Ideal) x0 x1 x2 x3 x4) rfl rfl 2560 rfl (ix3 b r j) (fun a => match a with
    | ⟨0, _⟩ => fun _ => rfl | ⟨1, _⟩ => fun _ => rfl | ⟨2, _⟩ => fun hn => absurd rfl hn) rfl) ?_
  rw [val_main_v24_apply, ← v21_eq]
  exact congrArg _ (funext fun a => match a with | ⟨0, _⟩ => rfl | ⟨1, _⟩ => rfl | ⟨2, _⟩ => rfl)

end Cert.CtxARefIdeal.Rows

end
-- ==== Proof.CtxA.Blocks.lean ====
/- The prompt's projection for the windowed attention: the blocks that the kernel stages, read from the arguments. -/
module

public import proofs.«01_k».proof.Proof.Gen.CtxAIdeal.Frame
public import proofs.«01_k».proof.Proof.CtxA.Ref
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CtxAIdeal.RefValue

open Cert.CtxAIdeal Cert.CtxAIdeal.Gen Cert.ProjRows

variable (m : (ℓ : Loc nD τ sig) → Buf (Elt Ideal) ℓ)

/-- The block that each window stages at a grid point, as arithmetic on the point's number: six column blocks inside
    each tile of rows. -/
theorem idx : ∀ t : Fin cfg0.N, (win0_0.index t = ![t.val / 6, 0] ∧ win0_1.index t = ![0, 0]
    ∧ win0_2.index t = ![0, 0, 0] ∧ win0_3.index t = ![0, 0, 0] ∧ win0_4.index t = ![0, t.val % 6])
    ∧ win0_5.index t = ![0, t.val % 6]
    ∧ win0_6.index t = ![t.val / 6, t.val % 6] :=
  (by decide +kernel : ∀ t : Fin grid0.N, _)

/-- The flattened residual stream at an index, from its place by sequence. -/
theorem flat (c : Dev nD) (e : S8192x2048.Idx) (i : S32x256x2048.Idx)
    (h0 : (i 0).val * 256 + (i 1).val = (e 0).val) (h1 : (i 2).val = (e 1).val) :
    V m c main_v0 e = m ((c : Thread nD τ).loc main_arg0) i := by
  entry_read
  have hi : (i 1).val < 256 := (i 1).isLt
  generalize m _ = A
  pointwise
  refine congrArg _ (funext fun a => Fin.ext ?_)
  match a with
  | ⟨0, _⟩ => exact (show (e 0).val / 256 = (i 0).val by omega)
  | ⟨1, _⟩ => exact (show (e 0).val % 256 = (i 1).val by omega)
  | ⟨2, _⟩ => exact h1.symm

/-- The rows of a tile. -/
theorem blk0 (c : Dev nD) (t : Fin cfg0.N) (y : S512x2048.Idx) (i : S32x256x2048.Idx)
    (h0 : (i 0).val * 256 + (i 1).val = t.val / 6 * 512 + (y 0).val) (h1 : (i 2).val = (y 1).val) :
    iblk m c 0 t y = m ((c : Thread nD τ).loc main_arg0) i := by
  show V m c main_v0 (((cfg0.win 0).blk t).view.emb y) = _
  refine flat m c _ i ?_ ?_
  · blk_simp [idx t]; exact h0
  · blk_simp [idx t]; exact h1

/-- The gain. -/
theorem blk1 (c : Dev nD) (t : Fin cfg0.N) (j : Fin 2048) :
    iblk m c 1 t (ix2 0 j) = m ((c : Thread nD τ).loc main_arg1) (ix1 j) := by
  show V m c main_v1 (((cfg0.win 1).blk t).view.emb (ix2 0 j)) = _
  entry_read
  generalize he : ((cfg0.win 1).blk t).view.emb (ix2 0 j) = e
  have e1 : (e 1).val = j.val := by rw [← he]; blk_simp [idx t]
  clear he
  generalize m _ = A
  pointwise
  exact congrArg _ (funext fun a => Fin.ext (match a with | ⟨0, _⟩ => e1))

/-- The shift. -/
theorem blk2 (c : Dev nD) (t : Fin cfg0.N) (j : Fin 2048) :
    iblk m c 2 t (ix3 0 0 j) = m ((c : Thread nD τ).loc main_arg2) (ix2 0 j) := by
  show V m c main_v14 (((cfg0.win 2).blk t).view.emb (ix3 0 0 j)) = _
  entry_read
  generalize he : ((cfg0.win 2).blk t).view.emb (ix3 0 0 j) = e
  have e1 : (e 2).val = j.val := by rw [← he]; blk_simp [idx t]
  clear he
  generalize m _ = A
  pointwise
  exact congrArg _ (funext fun a => Fin.ext (match a with | ⟨0, _⟩ => rfl | ⟨1, _⟩ => e1))

/-- The scale. -/
theorem blk3 (c : Dev nD) (t : Fin cfg0.N) (j : Fin 2048) :
    iblk m c 3 t (ix3 0 0 j) = m ((c : Thread nD τ).loc main_arg3) (ix2 0 j) := by
  show V m c main_v15 (((cfg0.win 3).blk t).view.emb (ix3 0 0 j)) = _
  entry_read
  generalize he : ((cfg0.win 3).blk t).view.emb (ix3 0 0 j) = e
  have e1 : (e 2).val = j.val := by rw [← he]; blk_simp [idx t]
  clear he
  generalize m _ = A
  pointwise
  exact congrArg _ (funext fun a => Fin.ext (match a with | ⟨0, _⟩ => rfl | ⟨1, _⟩ => e1))

/-- The columns of the projection; the narrowing changes nothing over the extended reals. -/
theorem blk4 (c : Dev nD) (t : Fin cfg0.N) (y : S2048x512.Idx) (i : S2048x3072.Idx)
    (h0 : (i 0).val = (y 0).val) (h1 : (i 1).val = t.val % 6 * 512 + (y 1).val) :
    iblk m c 4 t y = m ((c : Thread nD τ).loc main_arg4) i := by
  show V m c main_v2 (((cfg0.win 4).blk t).view.emb y) = _
  entry_read
  refine congrArg (m ((c : Thread nD τ).loc main_arg4)) (funext fun a => Fin.ext ?_)
  match a with
  | ⟨0, _⟩ => blk_simp [idx t]; exact h0.symm
  | ⟨1, _⟩ => blk_simp [idx t]; exact h1.symm

/-- The queries' gain. -/
abbrev gainQ (c : Dev nD) : S128.Idx → EReal := m ((c : Thread nD τ).loc main_arg5)

/-- The keys' gain. -/
abbrev gainK (c : Dev nD) : S128.Idx → EReal := m ((c : Thread nD τ).loc main_arg6)

/-- A query column's gain, with the scale. -/
theorem gain_q (c : Dev nD) (e : S1x3072.Idx) (k : Fin 128) (hn : (e 1).val < 2048) (hk : (e 1).val % 128 = k.val) :
    V m c main_v13 e = gainQ m c (ix1 k) * scale := by
  unfold V hostOps0
  after_reads_simp
  refine Eq.trans (congrArg (concatenate S3072 0 _ _) (?_ : _ = ix1 (⟨(e 1).val, (e 1).isLt⟩ : Fin 3072))) ?_
  · exact funext fun a => match a with | ⟨0, _⟩ => rfl
  refine Eq.trans (concatenate_apply_piece (t := S3072) 0 _ _ _ 0 (by exact (by decide : (0 : ℕ) < 3)) S2048 _ rfl rfl 0 rfl (ix1 ⟨(e 1).val - 0, by omega⟩) ?_ ?_) ?_
  · intro b hb; exact absurd (Subsingleton.elim (α := Fin 1) _ _) hb
  · exact (show 0 + ((e 1).val - 0) = (e 1).val by omega)
  try simp only [Matrix.cons_val]
  after_reads_simp
  unfold gainQ
  generalize m _ = A
  pointwise
  exact Ideal.mul_congr (congrArg A (funext fun a => Fin.ext (match a with | ⟨0, _⟩ => (show ((e 1).val - 0) % 128 = k.val by omega)))) rfl

/-- A key column's gain. -/
theorem gain_k (c : Dev nD) (e : S1x3072.Idx) (k : Fin 128) (hl : 2048 ≤ (e 1).val) (hn : (e 1).val < 2560) (hk : (e 1).val % 128 = k.val) :
    V m c main_v13 e = gainK m c (ix1 k) := by
  unfold V hostOps0
  after_reads_simp
  refine Eq.trans (congrArg (concatenate S3072 0 _ _) (?_ : _ = ix1 (⟨(e 1).val, (e 1).isLt⟩ : Fin 3072))) ?_
  · exact funext fun a => match a with | ⟨0, _⟩ => rfl
  refine Eq.trans (concatenate_apply_piece (t := S3072) 0 _ _ _ 1 (by exact (by decide : (1 : ℕ) < 3)) S512 _ rfl rfl 2048 rfl (ix1 ⟨(e 1).val - 2048, by omega⟩) ?_ ?_) ?_
  · intro b hb; exact absurd (Subsingleton.elim (α := Fin 1) _ _) hb
  · exact (show 2048 + ((e 1).val - 2048) = (e 1).val by omega)
  try simp only [Matrix.cons_val]
  after_reads_simp
  unfold gainK
  generalize m _ = A
  pointwise
  exact congrArg A (funext fun a => Fin.ext (match a with | ⟨0, _⟩ => (show ((e 1).val - 2048) % 128 = k.val by omega)))

/-- A query column's staged gain. -/
theorem blk5_q (c : Dev nD) (t : Fin cfg0.N) (y : S1x512.Idx) (k : Fin 128) (hn : t.val % 6 * 512 + (y 1).val < 2048) (hk : (y 1).val % 128 = k.val) :
    iblk m c 5 t y = gainQ m c (ix1 k) * scale := by
  show V m c main_v13 (((cfg0.win 5).blk t).view.emb y) = _
  generalize he : ((cfg0.win 5).blk t).view.emb y = e
  have e1 : (e 1).val = t.val % 6 * 512 + (y 1).val := by rw [← he]; blk_simp [idx t]
  exact gain_q m c e k (by omega) (by omega)

/-- A key column's staged gain. -/
theorem blk5_k (c : Dev nD) (t : Fin cfg0.N) (y : S1x512.Idx) (k : Fin 128) (hl : 2048 ≤ t.val % 6 * 512 + (y 1).val) (hn : t.val % 6 * 512 + (y 1).val < 2560)
    (hk : (y 1).val % 128 = k.val) :
    iblk m c 5 t y = gainK m c (ix1 k) := by
  show V m c main_v13 (((cfg0.win 5).blk t).view.emb y) = _
  generalize he : ((cfg0.win 5).blk t).view.emb y = e
  have e1 : (e 1).val = t.val % 6 * 512 + (y 1).val := by rw [← he]; blk_simp [idx t]
  exact gain_k m c e k (by omega) (by omega) (by omega)

end Cert.CtxAIdeal.RefValue

end
-- ==== Proof.CtxA.Value.lean ====
/- The prompt's projection for the windowed attention: each point of a tile finds the tile's normalized rows, projects them
   to its 512 columns and normalizes its four heads, and the array that the kernel writes is the reference's. -/
module

public import proofs.«01_k».proof.Proof.CtxB.Value
public import proofs.«01_k».proof.Proof.CtxA.Kernel
public import proofs.«01_k».proof.Proof.CtxA.Blocks
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.CtxAIdeal.RefValue

open Cert.CtxAIdeal Cert.CtxAIdeal.Gen Cert.FfnRows Cert.ProjRows
open Cert.CtxBIdeal.RefValue (canon_cols stretch0 stretch1 stretch2 stretch3 heads_of)
open Cert.CtxARefIdeal.Rows (row proj headQ headK out_q out_k out_v)
open Cert.CtxARefIdeal.Read (val_main_v58)

variable (m : (ℓ : Loc nD τ sig) → Buf (Elt Ideal) ℓ)

/-- The sequence of a tile's row. -/
def sampleOf (t : Fin cfg0.N) (p : Fin 512) : Fin 32 :=
  ⟨(t.val / 6 * 512 + p.val) / 256, by have := lt_of_lt_of_eq t.isLt N_0; have := p.isLt; omega⟩

/-- The row in its sequence of a tile's row. -/
def posOf (t : Fin cfg0.N) (p : Fin 512) : Fin 256 := ⟨(t.val / 6 * 512 + p.val) % 256, Nat.mod_lt _ (by omega)⟩

theorem place (t : Fin cfg0.N) (p : Fin 512) :
    (sampleOf t p).val * 256 + (posOf t p).val = t.val / 6 * 512 + p.val := by
  show (t.val / 6 * 512 + p.val) / 256 * 256 + (t.val / 6 * 512 + p.val) % 256 = _
  omega

/-- A row of the modulated normalization of the arguments. -/
abbrev rowOf (c : Dev nD) (b : Fin 32) (r : Fin 256) (k : Fin 2048) : EReal :=
  row (m ((c : Thread nD τ).loc main_arg0)) (m ((c : Thread nD τ).loc main_arg1)) (m ((c : Thread nD τ).loc main_arg2))
    (m ((c : Thread nD τ).loc main_arg3)) b r k

/-- A row of the projection of the arguments. -/
abbrev projOf (c : Dev nD) (b : Fin 32) (r : Fin 256) (n : Fin 3072) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) b r n

/-- The rows that a tile's first point keeps. -/
theorem stored (c : Dev nD) (t : Fin cfg0.N) (p : Fin 512) (k : Fin 2048) :
    k0_pay1 (iblk m c 0 t) (iblk m c 1 t) (iblk m c 2 t) (iblk m c 3 t) (ix2 p k) = rowOf m c (sampleOf t p) (posOf t p) k := by
  rw [pay1_apply]
  unfold rowOf row
  rw [show (fun j => iblk m c 0 t (ix2 p j)) = _ from funext fun j => blk0 m c t (ix2 p j) (ix3 (sampleOf t p) (posOf t p) j) (place t p) rfl,
    show (fun j => iblk m c 1 t (ix2 0 j)) = _ from funext fun j => blk1 m c t j,
    show (fun j => iblk m c 3 t (ix3 0 0 j)) = _ from funext fun j => blk3 m c t j,
    show (fun j => iblk m c 2 t (ix3 0 0 j)) = _ from funext fun j => blk2 m c t j]

/-- Every later point of a tile finds the rows as they were. -/
theorem hold (c : Dev nD) (t : Fin cfg0.N) (h0 : ¬t.val % 6 = 0) :
    (outsAt0 m c t.val t.isLt).2 = (outsAt0 m c (t.val - 1) (Nat.lt_of_le_of_lt (Nat.sub_le _ _) t.isLt)).2 := by
  by_cases h1 : t.val % 6 ≤ 4
  · rw [outsAt0_B m c t h0 h1 (by omega)]; rfl
  · rw [outsAt0_C m c t h0 h1 (by omega)]; rfl

/-- The kept rows after a tile's first point. -/
theorem first (c : Dev nD) (t : Fin cfg0.N) (h : t.val % 6 = 0) (p : Fin 512) (k : Fin 2048) :
    (outsAt0 m c t.val t.isLt).2 (ix2 p k) = rowOf m c (sampleOf t p) (posOf t p) k := by
  rw [outsAt0_A m c t h (by omega) (by omega)]
  frame_out
  exact stored m c t p k

/-- The kept rows after any point of a tile. -/
theorem kept (c : Dev nD) (t : Fin cfg0.N) (p : Fin 512) (k : Fin 2048) :
    (outsAt0 m c t.val t.isLt).2 (ix2 p k) = rowOf m c (sampleOf t p) (posOf t p) k := by
  rw [Pipeline.eq_of_write_hold (fun n h => (outsAt0 m c n h).2) 6 (fun t => (outsAt0 m c t.val t.isLt).2)
    (fun _ _ => rfl) (fun t h => hold m c t h) t]
  refine (first m c ⟨6 * (t.val / 6), _⟩ (Nat.mul_mod_right 6 _) p k).trans ?_
  have e : 6 * (t.val / 6) / 6 = t.val / 6 := by omega
  refine congrArg₂ (fun b r => rowOf m c b r k) (Fin.ext ?_) (Fin.ext ?_)
  · show (6 * (t.val / 6) / 6 * 512 + p.val) / 256 = (t.val / 6 * 512 + p.val) / 256
    rw [e]
  · show (6 * (t.val / 6) / 6 * 512 + p.val) % 256 = (t.val / 6 * 512 + p.val) % 256
    rw [e]

/-- The gain of a point's column, as staged. -/
abbrev gainAt (c : Dev nD) (t : Fin cfg0.N) (n : Fin 512) : EReal := iblk m c 5 t (ix2 0 n)

/-- A head's projected row times the staged gain, normalized. -/
abbrev headAt (c : Dev nD) (t : Fin cfg0.N) (p : Fin 512) (d : Fin 4) (k : Fin 128) : EReal :=
  rms (fun j => projOf m c (sampleOf t p) (posOf t p) ⟨t.val % 6 * 512 + (d.val * 128 + j.val), by omega⟩) k
    * gainAt m c t ⟨d.val * 128 + k.val, by omega⟩

/-- A point's columns of the projection. -/
theorem projected (c : Dev nD) (t : Fin cfg0.N) (H : S512x2048.Idx → EReal) (p : Fin 512) (n : Fin 512)
    (hH : ∀ k, H (ix2 p k) = rowOf m c (sampleOf t p) (posOf t p) k) :
    k0_pay2 H (iblk m c 4 t) (ix2 p n) = projOf m c (sampleOf t p) (posOf t p) ⟨t.val % 6 * 512 + n.val, by omega⟩ := by
  rw [pay2_apply]
  unfold projOf proj
  refine Finset.sum_congr rfl fun k _ => ?_
  rw [hH k]
  exact Ideal.mul_congr rfl (blk4 m c t _ _ rfl rfl)

/-- The four heads that a point of the queries or keys stores. -/
theorem heads (c : Dev nD) (t : Fin cfg0.N) (H : S512x2048.Idx → EReal) (p : Fin 512) (d : Fin 4) (k : Fin 128)
    (hH : ∀ k, H (ix2 p k) = rowOf m c (sampleOf t p) (posOf t p) k) :
    View.canon (Val := Elt Ideal) (s := S512x512) (e := .f32)
      [⟨Rect.unit ![0, 384] ![512, 128] inb_S512x512_S512x128_0_384, k0_pay4 H (iblk m c 4 t) (View.ld (iblk m c 5 t) (Rect.unit ![0, 384] ![1, 128] inb_S1x512_S1x128_0_384))⟩,
        ⟨Rect.unit ![0, 256] ![512, 128] inb_S512x512_S512x128_0_256, k0_pay3 (k0_pay7 (k0_pay2 H (iblk m c 4 t))) (k0_pay8 (k0_pay2 H (iblk m c 4 t)))
          (View.ld (iblk m c 5 t) (Rect.unit ![0, 256] ![1, 128] inb_S1x512_S1x128_0_256))⟩,
        ⟨Rect.unit ![0, 128] ![512, 128] inb_S512x512_S512x128_0_128, k0_pay6 (k0_pay2 H (iblk m c 4 t)) (View.ld (iblk m c 5 t) (Rect.unit ![0, 128] ![1, 128] inb_S1x512_S1x128_0_128))⟩,
        ⟨Rect.unit ![0, 0] ![512, 128] inb_S512x512_S512x128_0_0, k0_pay5 (k0_pay2 H (iblk m c 4 t)) (View.ld (iblk m c 5 t) (Rect.unit ![0, 0] ![1, 128] inb_S1x512_S1x128_0_0))⟩]
      (ix2 p ⟨d.val * 128 + k.val, by omega⟩)
      = headAt m c t p d k := by
  refine canon_cols _ _ _ _ p d k _ (fun hd => ?_) (fun hd => ?_) (fun hd => ?_) (fun hd => ?_)
  · obtain rfl : d = 0 := Fin.ext hd
    refine (pay5_apply _ _ p k).trans (Ideal.mul_congr ?_ (stretch0 _ k))
    refine congrArg (fun f => rms f k) (funext fun j => (projected m c t H p _ hH).trans ?_)
    exact congrArg _ (Fin.ext (show t.val % 6 * 512 + j.val = t.val % 6 * 512 + (0 * 128 + j.val) by omega))
  · obtain rfl : d = 1 := Fin.ext hd
    refine (pay6_apply _ _ p k).trans (Ideal.mul_congr ?_ (stretch1 _ k))
    exact congrArg (fun f => rms f k) (funext fun j => projected m c t H p _ hH)
  · obtain rfl : d = 2 := Fin.ext hd
    refine (pay3_apply _ _ p k).trans (Ideal.mul_congr ?_ (stretch2 _ k))
    exact congrArg (fun f => rms f k) (funext fun j => projected m c t H p _ hH)
  · obtain rfl : d = 3 := Fin.ext hd
    refine (pay4_apply _ _ _ p k).trans (Ideal.mul_congr ?_ (stretch3 _ k))
    exact congrArg (fun f => rms f k) (funext fun j => projected m c t H p _ hH)

/-- What a point of the queries or keys writes. -/
theorem out_heads (c : Dev nD) (t : Fin cfg0.N) (ht : t.val % 6 ≤ 4) (p : Fin 512) (d : Fin 4) (k : Fin 128) :
    (outsAt0 m c t.val t.isLt).1 (ix2 p ⟨d.val * 128 + k.val, by omega⟩)
      = headAt m c t p d k := by
  by_cases h : t.val % 6 = 0
  · rw [outsAt0_A m c t h (by omega) (by omega)]
    frame_out
    exact heads m c t _ p d k (stored m c t p)
  · have hk := fun k => (congrFun (hold m c t h) (ix2 p k)).symm.trans (kept m c t p k)
    rw [outsAt0_B m c t h ht (by omega)]
    revert hk
    generalize (outsAt0 m c (t.val - 1) (Nat.lt_of_le_of_lt (Nat.sub_le _ _) t.isLt)).2 = H
    intro hk
    frame_out
    rw [read_unread_whole]
    exact heads m c t H p d k hk

/-- What a point of the values writes. -/
theorem out_values (c : Dev nD) (t : Fin cfg0.N) (ht : 5 ≤ t.val % 6) (p : Fin 512) (n : Fin 512) :
    (outsAt0 m c t.val t.isLt).1 (ix2 p n)
      = projOf m c (sampleOf t p) (posOf t p) ⟨t.val % 6 * 512 + n.val, by omega⟩ := by
  have hk := fun k => (congrFun (hold m c t (by omega)) (ix2 p k)).symm.trans (kept m c t p k)
  rw [outsAt0_C m c t (by omega) (by omega) (by omega)]
  revert hk
  generalize (outsAt0 m c (t.val - 1) (Nat.lt_of_le_of_lt (Nat.sub_le _ _) t.isLt)).2 = H
  intro hk
  frame_out
  rw [read_unread_whole]
  exact projected m c t H p n hk

/-- A head of the queries carries the scale in its gain. -/
theorem headAt_q (c : Dev nD) (t : Fin cfg0.N) (ht : t.val % 6 < 4) (p : Fin 512) (d : Fin 4) (h : Fin 16)
    (hh : h.val = t.val % 6 * 4 + d.val) (k : Fin 128) :
    headAt m c t p d k = headQ (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (sampleOf t p) (posOf t p) h k * scale := by
  have hk := k.isLt
  have hd := d.isLt
  unfold headAt headQ
  refine (Ideal.mul_congr (congrArg (fun f => rms f k) (funext fun j => congrArg _ (Fin.ext ?_)))
    (blk5_q m c t _ k ?_ ?_)).trans (mul_assoc _ _ _).symm
  · show t.val % 6 * 512 + (d.val * 128 + j.val) = h.val * 128 + j.val
    omega
  · show t.val % 6 * 512 + (d.val * 128 + k.val) < 2048
    omega
  · show (d.val * 128 + k.val) % 128 = k.val
    omega

/-- A head of the keys. -/
theorem headAt_k (c : Dev nD) (t : Fin cfg0.N) (ht : 4 ≤ t.val % 6) (ht' : t.val % 6 ≤ 4) (p : Fin 512) (d : Fin 4) (h : Fin 4)
    (hh : h.val + 16 = t.val % 6 * 4 + d.val) (k : Fin 128) :
    headAt m c t p d k = headK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (sampleOf t p) (posOf t p) h k := by
  have hk := k.isLt
  have hd := d.isLt
  unfold headAt headK
  refine Ideal.mul_congr (congrArg (fun f => rms f k) (funext fun j => congrArg _ (Fin.ext ?_)))
    (blk5_k m c t _ k ?_ ?_ ?_)
  · show t.val % 6 * 512 + (d.val * 128 + j.val) = 2048 + (h.val * 128 + j.val)
    omega
  · show 2048 ≤ t.val % 6 * 512 + (d.val * 128 + k.val)
    omega
  · show t.val % 6 * 512 + (d.val * 128 + k.val) < 2560
    omega
  · show (d.val * 128 + k.val) % 128 = k.val
    omega

/-- What a point writes is the reference's, at the point's rows and columns. -/
theorem written (c : Dev nD) (t : Fin cfg0.N) (p : Fin 512) (n : Fin 512) (i : S8192x3072.Idx)
    (h0 : (i 0).val = t.val / 6 * 512 + p.val) (h1 : (i 1).val = t.val % 6 * 512 + n.val) :
    (outsAt0 m c t.val t.isLt).1 (ix2 p n)
      = val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) i := by
  have hn := n.isLt
  have hr := h0.trans (place t p).symm
  by_cases ht : t.val % 6 ≤ 4
  · obtain ⟨d, k, rfl⟩ := heads_of n
    have hd := d.isLt
    have hk := k.isLt
    replace h1 : (i 1).val = t.val % 6 * 512 + (d.val * 128 + k.val) := h1
    rw [out_heads m c t ht p d k]
    by_cases hq : t.val % 6 < 4
    · rw [out_q _ _ _ _ _ _ _ i (sampleOf t p) (posOf t p) ⟨t.val % 6 * 4 + d.val, by omega⟩ k hr (by rw [h1]; dsimp only; omega)]
      exact headAt_q m c t hq p d _ rfl k
    · rw [out_k _ _ _ _ _ _ _ i (sampleOf t p) (posOf t p) ⟨t.val % 6 * 4 + d.val - 16, by omega⟩ k hr (by rw [h1]; dsimp only; omega)]
      exact headAt_k m c t (by omega) ht p d _ (by dsimp only; omega) k
  · rw [out_values m c t (by omega) p n,
      out_v _ _ _ _ _ _ _ i (sampleOf t p) (posOf t p) ⟨t.val % 6 * 512 + n.val - 2560, by omega⟩ hr (by rw [h1]; dsimp only; omega)]
    exact congrArg _ (Fin.ext (show t.val % 6 * 512 + n.val = 2560 + (t.val % 6 * 512 + n.val - 2560) by omega))

/-- The array that the kernel writes is the reference's. -/
theorem final (c : Dev nD) : (dats m 0 c).arrAt 6 (cfgs 0).N
    = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 6 _ (by decide +kernel) fun t hf y => ?_
  obtain ⟨p, j, rfl⟩ : ∃ (p : Fin 512) (j : Fin 512), y = ix2 p j := ⟨y 0, y 1, eq_ix2 y⟩
  have e0 : ((((cfg0.win 6).blk t).view.emb (ix2 p j)) 0).val = t.val / 6 * 512 + p.val := by blk_simp [idx t]
  have e1 : ((((cfg0.win 6).blk t).view.emb (ix2 p j)) 1).val = t.val % 6 * 512 + j.val := by blk_simp [idx t]
  have e := written m c t p j _ e0 e1
  blk_simp
  rw [after0_6]
  exact e

end Cert.CtxAIdeal.RefValue

end
-- ==== Proof.lean ====
module

public import proofs.«01_k».proof.Defs
public import proofs.«01_k».proof.Proof.Gen.AttnB
public import proofs.«01_k».proof.Proof.Gen.AttnB.Skeleton
public import proofs.«01_k».proof.Proof.Gen.AttnB.Launch
public import proofs.«01_k».proof.Proof.Gen.AttnB.Points
public import proofs.«01_k».proof.Proof.Gen.AttnB.Frame
public import proofs.«01_k».proof.Proof.Gen.AttnBIdeal
public import proofs.«01_k».proof.Proof.Gen.AttnBIdeal.Skeleton
public import proofs.«01_k».proof.Proof.Gen.AttnBIdeal.Launch
public import proofs.«01_k».proof.Proof.Gen.AttnBIdeal.Points
public import proofs.«01_k».proof.Proof.Gen.AttnBIdeal.Frame
public import proofs.«01_k».proof.Proof.Gen.AttnBRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.AttnBIdeal.Value
public import proofs.«01_k».proof.Proof.Gen.AttnBRefIdeal.Run
public import proofs.«01_k».proof.Proof.Gen.AttnBRefIdeal.Read
public import proofs.«01_k».proof.Proof.Gen.FfnRefIdeal.Run
public import proofs.«01_k».proof.Proof.Gen.FfnRefIdeal.Read
public import proofs.«01_k».proof.Proof.Gen.ProjBRefIdeal.Run
public import proofs.«01_k».proof.Proof.Gen.ProjBRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjARefIdeal
public import proofs.«01_k».proof.Proof.Gen.ProjARefIdeal.Run
public import proofs.«01_k».proof.Proof.Gen.ProjARefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModRefIdeal.Run
public import proofs.«01_k».proof.Proof.Gen.ModRefIdeal.Read
public import proofs.«01_k».proof.Proof.Gen.ModIdeal.Value
public import proofs.«01_k».proof.Proof.Gen.CtxB
public import proofs.«01_k».proof.Proof.Gen.CtxB.Skeleton
public import proofs.«01_k».proof.Proof.Gen.CtxB.Launch
public import proofs.«01_k».proof.Proof.Gen.CtxB.Points
public import proofs.«01_k».proof.Proof.Gen.CtxB.Frame
public import proofs.«01_k».proof.Proof.Gen.CtxBIdeal
public import proofs.«01_k».proof.Proof.Gen.CtxBIdeal.Skeleton
public import proofs.«01_k».proof.Proof.Gen.CtxBIdeal.Launch
public import proofs.«01_k».proof.Proof.Gen.CtxBIdeal.Points
public import proofs.«01_k».proof.Proof.Gen.CtxBIdeal.Frame
public import proofs.«01_k».proof.Proof.Gen.CtxBRefIdeal
public import proofs.«01_k».proof.Proof.Gen.CtxBRefIdeal.Run
public import proofs.«01_k».proof.Proof.Gen.CtxBRefIdeal.Read
public import proofs.«01_k».proof.Proof.Gen.CtxA
public import proofs.«01_k».proof.Proof.Gen.CtxA.Skeleton
public import proofs.«01_k».proof.Proof.Gen.CtxA.Launch
public import proofs.«01_k».proof.Proof.Gen.CtxA.Points
public import proofs.«01_k».proof.Proof.Gen.CtxA.Frame
public import proofs.«01_k».proof.Proof.Gen.CtxAIdeal
public import proofs.«01_k».proof.Proof.Gen.CtxAIdeal.Skeleton
public import proofs.«01_k».proof.Proof.Gen.CtxAIdeal.Launch
public import proofs.«01_k».proof.Proof.Gen.CtxAIdeal.Points
public import proofs.«01_k».proof.Proof.Gen.CtxAIdeal.Frame
public import proofs.«01_k».proof.Proof.Gen.CtxARefIdeal
public import proofs.«01_k».proof.Proof.Gen.CtxARefIdeal.Run
public import proofs.«01_k».proof.Proof.Gen.CtxARefIdeal.Read
public import proofs.«01_k».proof.Proof.AttnB.Pre
public import proofs.«01_k».proof.Proof.OutProj.Value
public import proofs.«01_k».proof.Proof.Ffn.Value
public import proofs.«01_k».proof.Proof.ProjB.Value
public import proofs.«01_k».proof.Proof.ProjA.Value
public import proofs.«01_k».proof.Proof.Mod.Value
public import proofs.«01_k».proof.Proof.CtxB.Value
public import proofs.«01_k».proof.Proof.CtxA.Value
public import Idealize.ShloMosaic.Adequacy
public import Idealize.ShloMosaic.Init
public import Idealize.ShloMosaic.Lib.Quiescent

@[expose] public section

noncomputable section

namespace Cert.Proof

open Idealize.ShloMosaic Idealize.SL.Sem

/-- The reference of the differential attention runs and leaves its arguments as they were. -/
theorem frame_AttnBRef : Cert.quiescent_AttnBRefIdeal (hAttnBRefIdeal := Cert.AttnBRefIdeal.Gen.facts) := by
  intro m g _
  exact θ_run_mono (Cert.AttnBRefIdeal.Value.run m g) fun r hr => ⟨fun c => (hr c).2, sem_eq_zero_of_no_sems rfl _⟩

/-- The same, under the precondition. -/
theorem frame_AttnBRef_pre : Cert.quiescent_AttnBRefIdeal_pre_finite_scores (hAttnBRefIdeal := Cert.AttnBRefIdeal.Gen.facts)
    (hPre_finite_scores := Cert.AttnBIdeal.Pre.facts) := by
  intro m g _
  exact θ_run_mono (Cert.AttnBRefIdeal.Value.run m g) fun r hr => ⟨fun c => (hr c).2, sem_eq_zero_of_no_sems rfl _⟩

/-- The reference of the feed-forward network runs and leaves its arguments as they were. -/
theorem frame_FfnRef : Cert.quiescent_FfnRefIdeal (hFfnRefIdeal := Cert.FfnRefIdeal.Gen.facts) := by
  intro m g _
  exact θ_run_mono (Cert.FfnRefIdeal.Value.run m g) fun r hr => ⟨fun c => (hr c).2, sem_eq_zero_of_no_sems rfl _⟩

/-- The reference of the differential attention's projection runs and leaves its arguments as they were. -/
theorem frame_ProjBRef : Cert.quiescent_ProjBRefIdeal (hProjBRefIdeal := Cert.ProjBRefIdeal.Gen.facts) := by
  intro m g _
  exact θ_run_mono (Cert.ProjBRefIdeal.Value.run m g) fun r hr => ⟨fun c => (hr c).2, sem_eq_zero_of_no_sems rfl _⟩

/-- The reference of the windowed attention's projection runs and leaves its arguments as they were. -/
theorem frame_ProjARef : Cert.quiescent_ProjARefIdeal (hProjARefIdeal := Cert.ProjARefIdeal.Gen.facts) := by
  intro m g _
  exact θ_run_mono (Cert.ProjARefIdeal.Value.run m g) fun r hr => ⟨fun c => (hr c).2, sem_eq_zero_of_no_sems rfl _⟩

/-- The reference of the output projection runs and leaves its arguments as they were. -/
theorem frame_OutProjRef : Cert.quiescent_OutProjRefIdeal (hOutProjRefIdeal := Cert.OutProjRefIdeal.Gen.facts) := by
  intro m g _
  exact θ_run_mono (Cert.OutProjRefIdeal.Value.run m g) fun r hr => ⟨fun c => (hr c).2, sem_eq_zero_of_no_sems rfl _⟩

/-- The reference of the modulation runs and leaves its arguments as they were. -/
theorem frame_ModRef : Cert.quiescent_ModRefIdeal (hModRefIdeal := Cert.ModRefIdeal.Gen.facts) := by
  intro m g _
  exact θ_run_mono (Cert.ModRefIdeal.Value.run m g) fun r hr => ⟨fun c => (hr c).2, sem_eq_zero_of_no_sems rfl _⟩

/-- The reference of the prompt's projection for the differential attention runs and leaves its arguments as they were. -/
theorem frame_CtxBRef : Cert.quiescent_CtxBRefIdeal (hCtxBRefIdeal := Cert.CtxBRefIdeal.Gen.facts) := by
  intro m g _
  exact θ_run_mono (Cert.CtxBRefIdeal.Value.run m g) fun r hr => ⟨fun c => (hr c).2, sem_eq_zero_of_no_sems rfl _⟩

/-- The reference of the prompt's projection for the windowed attention runs and leaves its arguments as they were. -/
theorem frame_CtxARef : Cert.quiescent_CtxARefIdeal (hCtxARefIdeal := Cert.CtxARefIdeal.Gen.facts) := by
  intro m g _
  exact θ_run_mono (Cert.CtxARefIdeal.Value.run m g) fun r hr => ⟨fun c => (hr c).2, sem_eq_zero_of_no_sems rfl _⟩

/-- The differential attention's kernel computes what its reference computes, wherever the scores are finite. -/
theorem algebraic_AttnB : Cert.algebraic_AttnBIdeal_AttnBRefIdeal_pre_finite_scores (hAttnBIdeal := Cert.AttnBIdeal.Gen.facts)
    (hAttnBRefIdeal := Cert.AttnBRefIdeal.Gen.facts) (hPre_finite_scores := Cert.AttnBIdeal.Pre.facts) := by
  pair_intro
  · run_from Cert.AttnBIdeal.Gen.run_main m g
  · run_from Cert.AttnBRefIdeal.Value.run m' g'
    refine (Cert.AttnBRefIdeal.Read.val_main_v55_eq m' c).trans ?_
    obtain ⟨a0, a1, a2, a3, a4, a5, a6, a7⟩ := hagree c
    rw [a0, a1, a2, a3, a4, a5, a6, a7]
    exact (Cert.AttnBIdeal.RefValue.final m c (Cert.AttnBIdeal.Pre.finite hpre c)).symm

/-- The feed-forward network's kernel computes what its reference computes. -/
theorem algebraic_Ffn : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    refine (Cert.FfnRefIdeal.Read.val_main_v55_eq m' c).trans ?_
    obtain ⟨a0, a1, a2, a3, a4, a5, a6, a7, a8⟩ := hagree c
    rw [a0, a1, a2, a3, a4, a5, a6, a7, a8]
    exact (Cert.FfnIdeal.RefValue.final m c).symm

/-- The kernel of the differential attention's projection to queries, keys and values computes what its reference computes. -/
theorem algebraic_ProjB : Cert.algebraic_ProjBIdeal_ProjBRefIdeal (hProjBIdeal := Cert.ProjBIdeal.Gen.facts)
    (hProjBRefIdeal := Cert.ProjBRefIdeal.Gen.facts) := by
  pair_intro
  · run_from Cert.ProjBIdeal.Gen.run_main m g
  · run_from Cert.ProjBRefIdeal.Value.run m' g'
    refine (Cert.ProjBRefIdeal.Read.val_main_v163_eq _).trans ?_
    obtain ⟨a0, a1, a2, a3, a4, a5, a6⟩ := hagree c
    refine Eq.trans ?_ (Cert.ProjBIdeal.RefValue.final m c).symm
    rw [← a0, ← a1, ← a2, ← a3, ← a4, ← a5, ← a6]

/-- The kernel of the windowed attention's projection to queries, keys and values computes what its reference computes. -/
theorem algebraic_ProjA : Cert.algebraic_ProjAIdeal_ProjARefIdeal (hProjAIdeal := Cert.ProjAIdeal.Gen.facts)
    (hProjARefIdeal := Cert.ProjARefIdeal.Gen.facts) := by
  pair_intro
  · run_from Cert.ProjAIdeal.Gen.run_main m g
  · run_from Cert.ProjARefIdeal.Value.run m' g'
    refine (Cert.ProjARefIdeal.Read.val_main_v163_eq _).trans ?_
    obtain ⟨a0, a1, a2, a3, a4, a5, a6⟩ := hagree c
    refine Eq.trans ?_ (Cert.ProjAIdeal.RefValue.final m c).symm
    rw [← a0, ← a1, ← a2, ← a3, ← a4, ← a5, ← a6]

/-- The output projection's kernel computes what its reference computes. -/
theorem algebraic_OutProj : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Gen.run_main m g
  · run_from Cert.OutProjRefIdeal.Value.run m' g'
    exact (Cert.OutProjIdeal.RefValue.final m c).symm

/-- The modulation's kernel computes what its reference computes. -/
theorem algebraic_Mod : Cert.algebraic_ModIdeal_ModRefIdeal (hModIdeal := Cert.ModIdeal.Gen.facts)
    (hModRefIdeal := Cert.ModRefIdeal.Gen.facts) := by
  pair_intro
  · run_from Cert.ModIdeal.Gen.run_main m g
  · run_from Cert.ModRefIdeal.Value.run m' g'
    exact (Cert.ModIdeal.RefValue.final m c).symm

/-- The kernel of the prompt's projection for the differential attention computes what its reference computes. -/
theorem algebraic_CtxB : Cert.algebraic_CtxBIdeal_CtxBRefIdeal (hCtxBIdeal := Cert.CtxBIdeal.Gen.facts)
    (hCtxBRefIdeal := Cert.CtxBRefIdeal.Gen.facts) := by
  pair_intro
  · run_from Cert.CtxBIdeal.Gen.run_main m g
  · run_from Cert.CtxBRefIdeal.Value.run m' g'
    refine (Cert.CtxBRefIdeal.Read.val_main_v58_eq _ _).trans ?_
    obtain ⟨a0, a1, a2, a3, a4, a5, a6⟩ := hagree c
    refine Eq.trans ?_ (Cert.CtxBIdeal.RefValue.final m c).symm
    rw [← a0, ← a1, ← a2, ← a3, ← a4, ← a5, ← a6]

/-- The kernel of the prompt's projection for the windowed attention computes what its reference computes. -/
theorem algebraic_CtxA : Cert.algebraic_CtxAIdeal_CtxARefIdeal (hCtxAIdeal := Cert.CtxAIdeal.Gen.facts)
    (hCtxARefIdeal := Cert.CtxARefIdeal.Gen.facts) := by
  pair_intro
  · run_from Cert.CtxAIdeal.Gen.run_main m g
  · run_from Cert.CtxARefIdeal.Value.run m' g'
    refine (Cert.CtxARefIdeal.Read.val_main_v58_eq _ _).trans ?_
    obtain ⟨a0, a1, a2, a3, a4, a5, a6⟩ := hagree c
    refine Eq.trans ?_ (Cert.CtxAIdeal.RefValue.final m c).symm
    rw [← a0, ← a1, ← a2, ← a3, ← a4, ← a5, ← a6]

/-- All claims. -/
theorem claim : Cert.Claim :=
  ⟨Cert.AttnB.Gen.facts, Cert.AttnBIdeal.Gen.facts, Cert.AttnBRefIdeal.Gen.facts, Cert.Ffn.Gen.facts, Cert.FfnIdeal.Gen.facts,
    Cert.FfnRefIdeal.Gen.facts, Cert.ProjB.Gen.facts, Cert.ProjBIdeal.Gen.facts, Cert.ProjBRefIdeal.Gen.facts,
    Cert.OutProj.Gen.facts, Cert.OutProjIdeal.Gen.facts, Cert.OutProjRefIdeal.Gen.facts, Cert.ProjA.Gen.facts,
    Cert.ProjAIdeal.Gen.facts, Cert.ProjARefIdeal.Gen.facts, Cert.Mod.Gen.facts, Cert.ModIdeal.Gen.facts,
    Cert.ModRefIdeal.Gen.facts, Cert.CtxB.Gen.facts, Cert.CtxBIdeal.Gen.facts, Cert.CtxBRefIdeal.Gen.facts,
    Cert.CtxA.Gen.facts, Cert.CtxAIdeal.Gen.facts, Cert.CtxARefIdeal.Gen.facts, Cert.AttnBIdeal.Pre.facts,
    fun m g _ => Cert.AttnB.Gen.frame m g, fun m g _ => Cert.AttnBIdeal.Gen.frame m g, fun m g _ => Cert.AttnBIdeal.Gen.frame m g,
    frame_AttnBRef, frame_AttnBRef_pre,
    fun m g _ => Cert.Ffn.Gen.frame m g, fun m g _ => Cert.FfnIdeal.Gen.frame m g, frame_FfnRef,
    fun m g _ => Cert.ProjB.Gen.frame m g, fun m g _ => Cert.ProjBIdeal.Gen.frame m g, frame_ProjBRef,
    fun m g _ => Cert.OutProj.Gen.frame m g, fun m g _ => Cert.OutProjIdeal.Gen.frame m g, frame_OutProjRef,
    fun m g _ => Cert.ProjA.Gen.frame m g, fun m g _ => Cert.ProjAIdeal.Gen.frame m g, frame_ProjARef,
    fun m g _ => Cert.Mod.Gen.frame m g, fun m g _ => Cert.ModIdeal.Gen.frame m g, frame_ModRef,
    fun m g _ => Cert.CtxB.Gen.frame m g, fun m g _ => Cert.CtxBIdeal.Gen.frame m g, frame_CtxBRef,
    fun m g _ => Cert.CtxA.Gen.frame m g, fun m g _ => Cert.CtxAIdeal.Gen.frame m g, frame_CtxARef,
    trivial, algebraic_AttnB, trivial, algebraic_Ffn, trivial, algebraic_ProjB, trivial, algebraic_OutProj,
    trivial, algebraic_ProjA, trivial, algebraic_Mod,
    trivial, algebraic_CtxB, trivial, algebraic_CtxA⟩

end Cert.Proof

end
